-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextRefIdeal (m : (ℓ : Loc Cert.NextRefIdeal.nD Cert.NextRefIdeal.τ Cert.NextRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3)
      ∧ r.2.mem ((c.tc : Thread Cert.Next.nD Cert.Next.τ).loc Cert.Next.main_arg4) = m ((c.tc : Thread Cert.Next.nD Cert.Next.τ).loc Cert.Next.main_arg4)
      ∧ r.2.mem ((c.tc : Thread Cert.Next.nD Cert.Next.τ).loc Cert.Next.main_arg5) = m ((c.tc : Thread Cert.Next.nD Cert.Next.τ).loc Cert.Next.main_arg5))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
      ∧ r.2.mem ((c.tc : Thread Cert.NextIdeal.nD Cert.NextIdeal.τ).loc Cert.NextIdeal.main_arg5) = m ((c.tc : Thread Cert.NextIdeal.nD Cert.NextIdeal.τ).loc Cert.NextIdeal.main_arg5))
      ∧ r.2.sem = fun _ => 0)

def quiescent_NextRefIdeal [hNextRefIdeal : Cert.NextRefIdeal.Facts] : Prop :=
  ∀ (m : (ℓ : Loc Cert.NextRefIdeal.nD Cert.NextRefIdeal.τ Cert.NextRefIdeal.sig) → Buf (Elt Ideal) ℓ) (g : Dev Cert.NextRefIdeal.nD → PrngReg), Pre_NextRefIdeal m →
    θ_run (Cert.NextRefIdeal.defs (F := Ideal)) (onTc (τ := Cert.NextRefIdeal.τ) (Cert.NextRefIdeal.main (F := Ideal))) ⟨m, fun _ => 0, g⟩ (fun r => (∀ c : Dev Cert.NextRefIdeal.nD,
      r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3)
      ∧ r.2.mem ((c.tc : Thread Cert.NextRefIdeal.nD Cert.NextRefIdeal.τ).loc Cert.NextRefIdeal.main_arg4) = m ((c.tc : Thread Cert.NextRefIdeal.nD Cert.NextRefIdeal.τ).loc Cert.NextRefIdeal.main_arg4)
      ∧ r.2.mem ((c.tc : Thread Cert.NextRefIdeal.nD Cert.NextRefIdeal.τ).loc Cert.NextRefIdeal.main_arg5) = m ((c.tc : Thread Cert.NextRefIdeal.nD Cert.NextRefIdeal.τ).loc Cert.NextRefIdeal.main_arg5))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e_scale" .f32 0x3DD53B95#32 (((Real.log 2)⁻¹ * (Real.sqrt 192)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v64)) (v1 : (c : Dev Cert.ProjIdeal.nD) → Buf (Elt Ideal) ((c.tc : Thread Cert.ProjIdeal.nD Cert.ProjIdeal.τ).loc Cert.ProjIdeal.main_v67)) (v2 : (c : Dev Cert.ProjIdeal.nD) → Buf (Elt Ideal) ((c.tc : Thread Cert.ProjIdeal.nD Cert.ProjIdeal.τ).loc Cert.ProjIdeal.main_v68)) (v3 : (c : Dev Cert.ProjIdeal.nD) → Buf (Elt Ideal) ((c.tc : Thread Cert.ProjIdeal.nD Cert.ProjIdeal.τ).loc Cert.ProjIdeal.main_v69)) (v4 : (c : Dev Cert.ProjIdeal.nD) → Buf (Elt Ideal) ((c.tc : Thread Cert.ProjIdeal.nD Cert.ProjIdeal.τ).loc Cert.ProjIdeal.main_v70)) (v5 : (c : Dev Cert.ProjIdeal.nD) → Buf (Elt Ideal) ((c.tc : Thread Cert.ProjIdeal.nD Cert.ProjIdeal.τ).loc Cert.ProjIdeal.main_v19)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v64) = v0 c
          ∧ r.2.mem ((c.tc : Thread Cert.ProjIdeal.nD Cert.ProjIdeal.τ).loc Cert.ProjIdeal.main_v67) = v1 c
          ∧ r.2.mem ((c.tc : Thread Cert.ProjIdeal.nD Cert.ProjIdeal.τ).loc Cert.ProjIdeal.main_v68) = v2 c
          ∧ r.2.mem ((c.tc : Thread Cert.ProjIdeal.nD Cert.ProjIdeal.τ).loc Cert.ProjIdeal.main_v69) = v3 c
          ∧ r.2.mem ((c.tc : Thread Cert.ProjIdeal.nD Cert.ProjIdeal.τ).loc Cert.ProjIdeal.main_v70) = v4 c
          ∧ r.2.mem ((c.tc : Thread Cert.ProjIdeal.nD Cert.ProjIdeal.τ).loc Cert.ProjIdeal.main_v19) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v129) = v0 c
          ∧ r.2.mem ((c.tc : Thread Cert.ProjRefIdeal.nD Cert.ProjRefIdeal.τ).loc Cert.ProjRefIdeal.main_v130) = v1 c
          ∧ r.2.mem ((c.tc : Thread Cert.ProjRefIdeal.nD Cert.ProjRefIdeal.τ).loc Cert.ProjRefIdeal.main_v131) = v2 c
          ∧ r.2.mem ((c.tc : Thread Cert.ProjRefIdeal.nD Cert.ProjRefIdeal.τ).loc Cert.ProjRefIdeal.main_v132) = v3 c
          ∧ r.2.mem ((c.tc : Thread Cert.ProjRefIdeal.nD Cert.ProjRefIdeal.τ).loc Cert.ProjRefIdeal.main_v133) = v4 c
          ∧ r.2.mem ((c.tc : Thread Cert.ProjRefIdeal.nD Cert.ProjRefIdeal.τ).loc Cert.ProjRefIdeal.main_v117) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Next_NextIdeal : Prop :=
  True

def algebraic_NextIdeal_NextRefIdeal [hNextIdeal : Cert.NextIdeal.Facts] [hNextRefIdeal : Cert.NextRefIdeal.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextRefIdeal.nD Cert.NextRefIdeal.τ Cert.NextRefIdeal.sig) → Buf (Elt Ideal) ℓ) (g' : Dev Cert.NextRefIdeal.nD → PrngReg), Pre_NextIdeal m →
    (∀ c : Dev Cert.NextIdeal.nD,
      m' ((c.tc : Thread Cert.NextRefIdeal.nD Cert.NextRefIdeal.τ).loc Cert.NextRefIdeal.main_arg0) = m ((c.tc : Thread Cert.NextIdeal.nD Cert.NextIdeal.τ).loc Cert.NextIdeal.main_arg0)
      ∧ m' ((c.tc : Thread Cert.NextRefIdeal.nD Cert.NextRefIdeal.τ).loc Cert.NextRefIdeal.main_arg1) = m ((c.tc : Thread Cert.NextIdeal.nD Cert.NextIdeal.τ).loc Cert.NextIdeal.main_arg1)
      ∧ m' ((c.tc : Thread Cert.NextRefIdeal.nD Cert.NextRefIdeal.τ).loc Cert.NextRefIdeal.main_arg2) = m ((c.tc : Thread Cert.NextIdeal.nD Cert.NextIdeal.τ).loc Cert.NextIdeal.main_arg2)
      ∧ m' ((c.tc : Thread Cert.NextRefIdeal.nD Cert.NextRefIdeal.τ).loc Cert.NextRefIdeal.main_arg3) = m ((c.tc : Thread Cert.NextIdeal.nD Cert.NextIdeal.τ).loc Cert.NextIdeal.main_arg3)
      ∧ m' ((c.tc : Thread Cert.NextRefIdeal.nD Cert.NextRefIdeal.τ).loc Cert.NextRefIdeal.main_arg4) = m ((c.tc : Thread Cert.NextIdeal.nD Cert.NextIdeal.τ).loc Cert.NextIdeal.main_arg4)
      ∧ m' ((c.tc : Thread Cert.NextRefIdeal.nD Cert.NextRefIdeal.τ).loc Cert.NextRefIdeal.main_arg5) = m ((c.tc : Thread Cert.NextIdeal.nD Cert.NextIdeal.τ).loc Cert.NextIdeal.main_arg5)) →
    ∃ (v0 : (c : Dev Cert.NextIdeal.nD) → Buf (Elt Ideal) ((c.tc : Thread Cert.NextIdeal.nD Cert.NextIdeal.τ).loc Cert.NextIdeal.main_v59)) (v1 : (c : Dev Cert.NextIdeal.nD) → Buf (Elt Ideal) ((c.tc : Thread Cert.NextIdeal.nD Cert.NextIdeal.τ).loc Cert.NextIdeal.main_v62)) (v2 : (c : Dev Cert.NextIdeal.nD) → Buf (Elt Ideal) ((c.tc : Thread Cert.NextIdeal.nD Cert.NextIdeal.τ).loc Cert.NextIdeal.main_v57_0)) (v3 : (c : Dev Cert.NextIdeal.nD) → Buf (Elt Ideal) ((c.tc : Thread Cert.NextIdeal.nD Cert.NextIdeal.τ).loc Cert.NextIdeal.main_v19)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v59) = v0 c
          ∧ r.2.mem ((c.tc : Thread Cert.NextIdeal.nD Cert.NextIdeal.τ).loc Cert.NextIdeal.main_v62) = v1 c
          ∧ r.2.mem ((c.tc : Thread Cert.NextIdeal.nD Cert.NextIdeal.τ).loc Cert.NextIdeal.main_v57_0) = v2 c
          ∧ r.2.mem ((c.tc : Thread Cert.NextIdeal.nD Cert.NextIdeal.τ).loc Cert.NextIdeal.main_v19) = v3 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
          ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
          ∧ r.2.mem ((c.tc : Thread Cert.NextIdeal.nD Cert.NextIdeal.τ).loc Cert.NextIdeal.main_arg5) = m ((c.tc : Thread Cert.NextIdeal.nD Cert.NextIdeal.τ).loc Cert.NextIdeal.main_arg5))
      ∧ θ_run (Cert.NextRefIdeal.defs (F := Ideal)) (onTc (τ := Cert.NextRefIdeal.τ) (Cert.NextRefIdeal.main (F := Ideal))) ⟨m', fun _ => 0, g'⟩ (fun r => ∀ c : Dev Cert.NextRefIdeal.nD,
          r.2.mem ((c.tc : Thread Cert.NextRefIdeal.nD Cert.NextRefIdeal.τ).loc Cert.NextRefIdeal.main_v118) = v0 c
          ∧ r.2.mem ((c.tc : Thread Cert.NextRefIdeal.nD Cert.NextRefIdeal.τ).loc Cert.NextRefIdeal.main_v119) = v1 c
          ∧ r.2.mem ((c.tc : Thread Cert.NextRefIdeal.nD Cert.NextRefIdeal.τ).loc Cert.NextRefIdeal.main_v120) = v2 c
          ∧ r.2.mem ((c.tc : Thread Cert.NextRefIdeal.nD Cert.NextRefIdeal.τ).loc Cert.NextRefIdeal.main_v117) = v3 c
          ∧ r.2.mem ((c.tc : Thread Cert.NextRefIdeal.nD Cert.NextRefIdeal.τ).loc Cert.NextRefIdeal.main_arg0) = m' ((c.tc : Thread Cert.NextRefIdeal.nD Cert.NextRefIdeal.τ).loc Cert.NextRefIdeal.main_arg0)
          ∧ r.2.mem ((c.tc : Thread Cert.NextRefIdeal.nD Cert.NextRefIdeal.τ).loc Cert.NextRefIdeal.main_arg1) = m' ((c.tc : Thread Cert.NextRefIdeal.nD Cert.NextRefIdeal.τ).loc Cert.NextRefIdeal.main_arg1)
          ∧ r.2.mem ((c.tc : Thread Cert.NextRefIdeal.nD Cert.NextRefIdeal.τ).loc Cert.NextRefIdeal.main_arg2) = m' ((c.tc : Thread Cert.NextRefIdeal.nD Cert.NextRefIdeal.τ).loc Cert.NextRefIdeal.main_arg2)
          ∧ r.2.mem ((c.tc : Thread Cert.NextRefIdeal.nD Cert.NextRefIdeal.τ).loc Cert.NextRefIdeal.main_arg3) = m' ((c.tc : Thread Cert.NextRefIdeal.nD Cert.NextRefIdeal.τ).loc Cert.NextRefIdeal.main_arg3)
          ∧ r.2.mem ((c.tc : Thread Cert.NextRefIdeal.nD Cert.NextRefIdeal.τ).loc Cert.NextRefIdeal.main_arg4) = m' ((c.tc : Thread Cert.NextRefIdeal.nD Cert.NextRefIdeal.τ).loc Cert.NextRefIdeal.main_arg4)
          ∧ r.2.mem ((c.tc : Thread Cert.NextRefIdeal.nD Cert.NextRefIdeal.τ).loc Cert.NextRefIdeal.main_arg5) = m' ((c.tc : Thread Cert.NextRefIdeal.nD Cert.NextRefIdeal.τ).loc Cert.NextRefIdeal.main_arg5))

def preserves_Gla_GlaIdeal : Prop :=
  IdealRules.named_const.Statement Cert.GlaIdeal.κ "log2e" .f32 0x3FB8AA3B#32 (((Real.log 2)⁻¹ : ℝ) : EReal)

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)) →
    ∃ (v0 : (c : Dev Cert.GlaIdeal.nD) → Buf (Elt Ideal) ((c.tc : Thread Cert.GlaIdeal.nD Cert.GlaIdeal.τ).loc Cert.GlaIdeal.main_v29)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v29) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v78) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5)
          ∧ r.2.mem ((c.tc : Thread Cert.GlaRefIdeal.nD Cert.GlaRefIdeal.τ).loc Cert.GlaRefIdeal.main_arg6) = m' ((c.tc : Thread Cert.GlaRefIdeal.nD Cert.GlaRefIdeal.τ).loc Cert.GlaRefIdeal.main_arg6))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v14_0)) (v1 : (c : Dev Cert.MixIdeal.nD) → Buf (Elt Ideal) ((c.tc : Thread Cert.MixIdeal.nD Cert.MixIdeal.τ).loc Cert.MixIdeal.main_v14_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v14_0) = v0 c
          ∧ r.2.mem ((c.tc : Thread Cert.MixIdeal.nD Cert.MixIdeal.τ).loc Cert.MixIdeal.main_v14_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v20) = v0 c
          ∧ r.2.mem ((c.tc : Thread Cert.MixRefIdeal.nD Cert.MixRefIdeal.τ).loc Cert.MixRefIdeal.main_v34) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hNext : Cert.Next.Facts) (hNextIdeal : Cert.NextIdeal.Facts) (hNextRefIdeal : Cert.NextRefIdeal.Facts) (hGla : Cert.Gla.Facts) (hGlaIdeal : Cert.GlaIdeal.Facts) (hGlaRefIdeal : Cert.GlaRefIdeal.Facts) (hMix : Cert.Mix.Facts) (hMixIdeal : Cert.MixIdeal.Facts) (hMixRefIdeal : Cert.MixRefIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Proj (hProj := hProj)
    ∧ quiescent_ProjIdeal (hProjIdeal := hProjIdeal)
    ∧ quiescent_ProjRefIdeal (hProjRefIdeal := hProjRefIdeal)
    ∧ quiescent_Next (hNext := hNext)
    ∧ quiescent_NextIdeal (hNextIdeal := hNextIdeal)
    ∧ quiescent_NextRefIdeal (hNextRefIdeal := hNextRefIdeal)
    ∧ quiescent_Gla (hGla := hGla)
    ∧ quiescent_GlaIdeal (hGlaIdeal := hGlaIdeal)
    ∧ quiescent_GlaRefIdeal (hGlaRefIdeal := hGlaRefIdeal)
    ∧ quiescent_Mix (hMix := hMix)
    ∧ quiescent_MixIdeal (hMixIdeal := hMixIdeal)
    ∧ quiescent_MixRefIdeal (hMixRefIdeal := hMixRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Proj_ProjIdeal
    ∧ algebraic_ProjIdeal_ProjRefIdeal (hProjIdeal := hProjIdeal) (hProjRefIdeal := hProjRefIdeal)
    ∧ preserves_Next_NextIdeal
    ∧ algebraic_NextIdeal_NextRefIdeal (hNextIdeal := hNextIdeal) (hNextRefIdeal := hNextRefIdeal)
    ∧ preserves_Gla_GlaIdeal
    ∧ algebraic_GlaIdeal_GlaRefIdeal (hGlaIdeal := hGlaIdeal) (hGlaRefIdeal := hGlaRefIdeal)
    ∧ preserves_Mix_MixIdeal
    ∧ algebraic_MixIdeal_MixRefIdeal (hMixIdeal := hMixIdeal) (hMixRefIdeal := hMixRefIdeal)
-- ==== Pre_finite_qk.lean ====
abbrev S2x8192x2048 : Shape := ⟨3, ![2, 8192, 2048]⟩
abbrev S2x8192x1024 : Shape := ⟨3, ![2, 8192, 1024]⟩
abbrev S_ : Shape := ⟨0, ![]⟩

class Facts : Prop where
  bitsLt_bf16_f32 : FTy.bits .bf16 < FTy.bits .f32
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel

variable [Facts]

def fn {F : FTy → Type} [FloatOps F] (main_arg0 : FVec F S2x8192x2048 .bf16) (main_arg1 : FVec F S2x8192x2048 .bf16) (main_arg2 : FVec F S2x8192x1024 .bf16) : IVec S_ 1 :=
  let main_v0 : FVec F S2x8192x2048 .f32 := (extf .f32 · bitsLt_bf16_f32) main_arg0
  let main_v1 : FVec F S2x8192x2048 .f32 := Host.absf main_v0
  let main_cst : FVec F S_ .f32 := constant S_ .f32 0x7F800000#32
  let main_v2 : FVec F S2x8192x2048 .f32 := broadcastInDim S2x8192x2048 ![] bcast_S_S2x8192x2048 main_cst
  let main_v3 : IVec S2x8192x2048 1 := cmpf .olt main_v1 main_v2
  let main_c : IVec S_ 1 := constantI S_ 1 1#1
  let main_v4 : IVec S_ 1 := (fun x v => Host.reduce IntOp.andi x v reducesTo_S2x8192x2048_S_d0_1_2 h_S_) main_v3 main_c
  let main_v5 : FVec F S2x8192x2048 .f32 := (extf .f32 · bitsLt_bf16_f32) main_arg1
  let main_v6 : FVec F S2x8192x2048 .f32 := Host.absf main_v5
  let main_cst_0 : FVec F S_ .f32 := constant S_ .f32 0x7F800000#32
  let main_v7 : FVec F S2x8192x2048 .f32 := broadcastInDim S2x8192x2048 ![] bcast_S_S2x8192x2048 main_cst_0
  let main_v8 : IVec S2x8192x2048 1 := cmpf .olt main_v6 main_v7
  let main_c_1 : IVec S_ 1 := constantI S_ 1 1#1
  let main_v9 : IVec S_ 1 := (fun x v => Host.reduce IntOp.andi x v reducesTo_S2x8192x2048_S_d0_1_2 h_S_) main_v8 main_c_1
  let main_v10 : IVec S_ 1 := andi main_v4 main_v9
  main_v10
-- ==== Kernel.lean ====
abbrev S2x8192x2048 : Shape := ⟨3, ![2, 8192, 2048]⟩
abbrev S2x8192x1024 : Shape := ⟨3, ![2, 8192, 1024]⟩
abbrev S1x1024x512 : Shape := ⟨3, ![1, 1024, 512]⟩
abbrev S1x8192x512 : Shape := ⟨3, ![1, 8192, 512]⟩
abbrev S1x8192x256 : Shape := ⟨3, ![1, 8192, 256]⟩
abbrev S1x1024x256 : Shape := ⟨3, ![1, 1024, 256]⟩
abbrev S1024x1 : Shape := ⟨2, ![1024, 1]⟩
abbrev S1024x256 : Shape := ⟨2, ![1024, 256]⟩
abbrev S1024x128 : Shape := ⟨2, ![1024, 128]⟩
abbrev S1x1024x128 : Shape := ⟨3, ![1, 1024, 128]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S2x8192x1024, .bf16⟩
  | .hbm, ⟨3, _⟩ => ⟨S2x8192x1024, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x1024x256, .bf16⟩
  | .local _ .vmem, ⟨7, _⟩ => ⟨S1x1024x256, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

@[reducible] def k0_t1_loop (i : grid0.Coords) : Scf.Loop 32 :=
  let c0_i32_27 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let v56 : BitVec 32 := Scalar.subi v45 c0_i32_27
  let c1_i32_28 : BitVec 32 := 1#32
  let v58 : BitVec 32 := Scalar.divsi v56 c1_i32_28
  let v59 : BitVec 32 := Scalar.muli v58 c1_i32_28
  let v60 : BitVec 32 := Scalar.addi c0_i32_27 v59
  let c1_i32_29 : BitVec 32 := 1#32
  ⟨c0_i32_27, v60, c1_i32_29⟩
def k0_mult1 (i : grid0.Coords) (k0_t1 : Fin (k0_t1_loop i).trips) : BitVec 32 :=
  let c0_i32_27 : BitVec 32 := 0#32
  let c1_i32_29 : BitVec 32 := 1#32
  let arg7 : BitVec 32 := Scf.iv c0_i32_27 c1_i32_29 k0_t1
  let c1024_i32_39 : BitVec 32 := 1024#32
  let v82 : BitVec 32 := Scalar.muli arg7 c1024_i32_39
  v82
def k0_off1 (i : grid0.Coords) (k0_t1 : Fin (k0_t1_loop i).trips) : Fin 3 → Nat :=
  let c0_40 : Index := 0#32
  let c0_i32_27 : BitVec 32 := 0#32
  let c1_i32_29 : BitVec 32 := 1#32
  let arg7 : BitVec 32 := Scf.iv c0_i32_27 c1_i32_29 k0_t1
  let c1024_i32_39 : BitVec 32 := 1024#32
  let v82 : BitVec 32 := Scalar.muli arg7 c1024_i32_39
  let v83 : BitVec 32 := v82
  let v84 : Index := Scalar.indexCast v83
  let c0_41 : Index := 0#32
  ![0, v84.toNat, 0]
def k0_off2 (i : grid0.Coords) (k0_t1 : Fin (k0_t1_loop i).trips) : Fin 3 → Nat :=
  let c0_42 : Index := 0#32
  let c0_i32_27 : BitVec 32 := 0#32
  let c1_i32_29 : BitVec 32 := 1#32
  let arg7 : BitVec 32 := Scf.iv c0_i32_27 c1_i32_29 k0_t1
  let c1024_i32_39 : BitVec 32 := 1024#32
  let v82 : BitVec 32 := Scalar.muli arg7 c1024_i32_39
  let v83 : BitVec 32 := v82
  let v87 : Index := Scalar.indexCast v83
  let c0_43 : Index := 0#32
  ![0, v87.toNat, 0]
def k0_off3 (i : grid0.Coords) (k0_t1 : Fin (k0_t1_loop i).trips) : Fin 3 → Nat :=
  let c0_49 : Index := 0#32
  let c0_i32_27 : BitVec 32 := 0#32
  let c1_i32_29 : BitVec 32 := 1#32
  let arg7 : BitVec 32 := Scf.iv c0_i32_27 c1_i32_29 k0_t1
  let c1024_i32_39 : BitVec 32 := 1024#32
  let v82 : BitVec 32 := Scalar.muli arg7 c1024_i32_39
  let v83 : BitVec 32 := v82
  let v110 : Index := Scalar.indexCast v83
  let c256_50 : Index := 256#32
  ![0, v110.toNat, 256]
def k0_off4 (i : grid0.Coords) (k0_t1 : Fin (k0_t1_loop i).trips) : Fin 3 → Nat :=
  let c0_51 : Index := 0#32
  let c0_i32_27 : BitVec 32 := 0#32
  let c1_i32_29 : BitVec 32 := 1#32
  let arg7 : BitVec 32 := Scf.iv c0_i32_27 c1_i32_29 k0_t1
  let c1024_i32_39 : BitVec 32 := 1024#32
  let v82 : BitVec 32 := Scalar.muli arg7 c1024_i32_39
  let v83 : BitVec 32 := v82
  let v113 : Index := Scalar.indexCast v83
  let c128_52 : Index := 128#32
  ![0, v113.toNat, 128]
@[reducible] def k0_t2_loop (i : grid0.Coords) : Scf.Loop 32 :=
  let c0_i32_27 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let v56 : BitVec 32 := Scalar.subi v45 c0_i32_27
  let c1_i32_28 : BitVec 32 := 1#32
  let v58 : BitVec 32 := Scalar.divsi v56 c1_i32_28
  let v59 : BitVec 32 := Scalar.muli v58 c1_i32_28
  let v60 : BitVec 32 := Scalar.addi c0_i32_27 v59
  let v57 : BitVec 32 := Scalar.addi c0_i32_27 v56
  let c1_i32_30 : BitVec 32 := 1#32
  ⟨v60, v57, c1_i32_30⟩
def k0_mult2 (i : grid0.Coords) (k0_t2 : Fin (k0_t2_loop i).trips) : BitVec 32 :=
  let c0_i32_27 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let v56 : BitVec 32 := Scalar.subi v45 c0_i32_27
  let c1_i32_28 : BitVec 32 := 1#32
  let v58 : BitVec 32 := Scalar.divsi v56 c1_i32_28
  let v59 : BitVec 32 := Scalar.muli v58 c1_i32_28
  let v60 : BitVec 32 := Scalar.addi c0_i32_27 v59
  let c1_i32_30 : BitVec 32 := 1#32
  let arg7 : BitVec 32 := Scf.iv v60 c1_i32_30 k0_t2
  let c1024_i32_39 : BitVec 32 := 1024#32
  let v82 : BitVec 32 := Scalar.muli arg7 c1024_i32_39
  v82
def k0_off5 (i : grid0.Coords) (k0_t2 : Fin (k0_t2_loop i).trips) : Fin 3 → Nat :=
  let c0_40 : Index := 0#32
  let c0_i32_27 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let v56 : BitVec 32 := Scalar.subi v45 c0_i32_27
  let c1_i32_28 : BitVec 32 := 1#32
  let v58 : BitVec 32 := Scalar.divsi v56 c1_i32_28
  let v59 : BitVec 32 := Scalar.muli v58 c1_i32_28
  let v60 : BitVec 32 := Scalar.addi c0_i32_27 v59
  let c1_i32_30 : BitVec 32 := 1#32
  let arg7 : BitVec 32 := Scf.iv v60 c1_i32_30 k0_t2
  let c1024_i32_39 : BitVec 32 := 1024#32
  let v82 : BitVec 32 := Scalar.muli arg7 c1024_i32_39
  let v83 : BitVec 32 := v82
  let v84 : Index := Scalar.indexCast v83
  let c0_41 : Index := 0#32
  ![0, v84.toNat, 0]
def k0_off6 (i : grid0.Coords) (k0_t2 : Fin (k0_t2_loop i).trips) : Fin 3 → Nat :=
  let c0_42 : Index := 0#32
  let c0_i32_27 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let v56 : BitVec 32 := Scalar.subi v45 c0_i32_27
  let c1_i32_28 : BitVec 32 := 1#32
  let v58 : BitVec 32 := Scalar.divsi v56 c1_i32_28
  let v59 : BitVec 32 := Scalar.muli v58 c1_i32_28
  let v60 : BitVec 32 := Scalar.addi c0_i32_27 v59
  let c1_i32_30 : BitVec 32 := 1#32
  let arg7 : BitVec 32 := Scf.iv v60 c1_i32_30 k0_t2
  let c1024_i32_39 : BitVec 32 := 1024#32
  let v82 : BitVec 32 := Scalar.muli arg7 c1024_i32_39
  let v83 : BitVec 32 := v82
  let v87 : Index := Scalar.indexCast v83
  let c0_43 : Index := 0#32
  ![0, v87.toNat, 0]
def k0_off7 (i : grid0.Coords) (k0_t2 : Fin (k0_t2_loop i).trips) : Fin 3 → Nat :=
  let c0_49 : Index := 0#32
  let c0_i32_27 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let v56 : BitVec 32 := Scalar.subi v45 c0_i32_27
  let c1_i32_28 : BitVec 32 := 1#32
  let v58 : BitVec 32 := Scalar.divsi v56 c1_i32_28
  let v59 : BitVec 32 := Scalar.muli v58 c1_i32_28
  let v60 : BitVec 32 := Scalar.addi c0_i32_27 v59
  let c1_i32_30 : BitVec 32 := 1#32
  let arg7 : BitVec 32 := Scf.iv v60 c1_i32_30 k0_t2
  let c1024_i32_39 : BitVec 32 := 1024#32
  let v82 : BitVec 32 := Scalar.muli arg7 c1024_i32_39
  let v83 : BitVec 32 := v82
  let v110 : Index := Scalar.indexCast v83
  let c256_50 : Index := 256#32
  ![0, v110.toNat, 256]
def k0_off8 (i : grid0.Coords) (k0_t2 : Fin (k0_t2_loop i).trips) : Fin 3 → Nat :=
  let c0_51 : Index := 0#32
  let c0_i32_27 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let v56 : BitVec 32 := Scalar.subi v45 c0_i32_27
  let c1_i32_28 : BitVec 32 := 1#32
  let v58 : BitVec 32 := Scalar.divsi v56 c1_i32_28
  let v59 : BitVec 32 := Scalar.muli v58 c1_i32_28
  let v60 : BitVec 32 := Scalar.addi c0_i32_27 v59
  let c1_i32_30 : BitVec 32 := 1#32
  let arg7 : BitVec 32 := Scf.iv v60 c1_i32_30 k0_t2
  let c1024_i32_39 : BitVec 32 := 1024#32
  let v82 : BitVec 32 := Scalar.muli arg7 c1024_i32_39
  let v83 : BitVec 32 := v82
  let v113 : Index := Scalar.indexCast v83
  let c128_52 : Index := 128#32
  ![0, v113.toNat, 128]
@[reducible] def k0_t3_loop (i : grid0.Coords) : Scf.Loop 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let c1024_i32_0 : BitVec 32 := 1024#32
  let v7 : BitVec 32 := Scalar.addi v1 c1024_i32_0
  let c1024_i32_1 : BitVec 32 := 1024#32
  let v8 : BitVec 32 := Scalar.addi v7 c1024_i32_1
  let c1_i32 : BitVec 32 := 1#32
  let v9 : BitVec 32 := Scalar.subi v8 c1_i32
  let c0_i32_3 : BitVec 32 := 0#32
  let v11 : BitVec 1 := Scalar.cmpi .sgt v9 c0_i32_3
  let v12 : BitVec 32 := Scalar.extui v11
  let c0_i32_4 : BitVec 32 := 0#32
  let v13 : BitVec 1 := Scalar.cmpi .slt v9 c0_i32_4
  let v14 : BitVec 32 := Scalar.extui v13
  let v15 : BitVec 32 := Scalar.subi v12 v14
  let c1024_i32_2 : BitVec 32 := 1024#32
  let c0_i32_5 : BitVec 32 := 0#32
  let v16 : BitVec 1 := Scalar.cmpi .sgt c1024_i32_2 c0_i32_5
  let v17 : BitVec 32 := Scalar.extui v16
  let c0_i32_6 : BitVec 32 := 0#32
  let v18 : BitVec 1 := Scalar.cmpi .slt c1024_i32_2 c0_i32_6
  let v19 : BitVec 32 := Scalar.extui v18
  let v20 : BitVec 32 := Scalar.subi v17 v19
  let v21 : BitVec 1 := Scalar.cmpi .ne v15 v20
  let v22 : BitVec 32 := Scalar.remsi v9 c1024_i32_2
  let c0_i32_7 : BitVec 32 := 0#32
  let v23 : BitVec 1 := Scalar.cmpi .ne v22 c0_i32_7
  let v24 : BitVec 1 := Scalar.andi v21 v23
  let v10 : BitVec 32 := Scalar.divsi v9 c1024_i32_2
  let c1_i32_8 : BitVec 32 := 1#32
  let v25 : BitVec 32 := Scalar.subi v10 c1_i32_8
  let v26 : BitVec 32 := Scalar.select v24 v25 v10
  let v63 : BitVec 32 := Scalar.subi v26 v45
  let c1_i32_31 : BitVec 32 := 1#32
  let v65 : BitVec 32 := Scalar.divsi v63 c1_i32_31
  let v66 : BitVec 32 := Scalar.muli v65 c1_i32_31
  let v67 : BitVec 32 := Scalar.addi v45 v66
  let c1_i32_32 : BitVec 32 := 1#32
  ⟨v45, v67, c1_i32_32⟩
def k0_mult3 (i : grid0.Coords) (k0_t3 : Fin (k0_t3_loop i).trips) : BitVec 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let c1_i32_32 : BitVec 32 := 1#32
  let arg7 : BitVec 32 := Scf.iv v45 c1_i32_32 k0_t3
  let c1024_i32_39 : BitVec 32 := 1024#32
  let v82 : BitVec 32 := Scalar.muli arg7 c1024_i32_39
  v82
def k0_off9 (i : grid0.Coords) (k0_t3 : Fin (k0_t3_loop i).trips) : Fin 3 → Nat :=
  let c0_41 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let c1_i32_32 : BitVec 32 := 1#32
  let arg7 : BitVec 32 := Scf.iv v45 c1_i32_32 k0_t3
  let c1024_i32_39 : BitVec 32 := 1024#32
  let v82 : BitVec 32 := Scalar.muli arg7 c1024_i32_39
  let v83 : BitVec 32 := v82
  let v89 : Index := Scalar.indexCast v83
  let c0_42 : Index := 0#32
  ![0, v89.toNat, 0]
def k0_off10 (i : grid0.Coords) (k0_t3 : Fin (k0_t3_loop i).trips) : Fin 3 → Nat :=
  let c0_43 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let c1_i32_32 : BitVec 32 := 1#32
  let arg7 : BitVec 32 := Scf.iv v45 c1_i32_32 k0_t3
  let c1024_i32_39 : BitVec 32 := 1024#32
  let v82 : BitVec 32 := Scalar.muli arg7 c1024_i32_39
  let v83 : BitVec 32 := v82
  let v92 : Index := Scalar.indexCast v83
  let c0_44 : Index := 0#32
  ![0, v92.toNat, 0]
def k0_off11 (i : grid0.Coords) (k0_t3 : Fin (k0_t3_loop i).trips) : Fin 3 → Nat :=
  let c0_51 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let c1_i32_32 : BitVec 32 := 1#32
  let arg7 : BitVec 32 := Scf.iv v45 c1_i32_32 k0_t3
  let c1024_i32_39 : BitVec 32 := 1024#32
  let v82 : BitVec 32 := Scalar.muli arg7 c1024_i32_39
  let v83 : BitVec 32 := v82
  let v120 : Index := Scalar.indexCast v83
  let c256_52 : Index := 256#32
  ![0, v120.toNat, 256]
def k0_off12 (i : grid0.Coords) (k0_t3 : Fin (k0_t3_loop i).trips) : Fin 3 → Nat :=
  let c0_53 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let c1_i32_32 : BitVec 32 := 1#32
  let arg7 : BitVec 32 := Scf.iv v45 c1_i32_32 k0_t3
  let c1024_i32_39 : BitVec 32 := 1024#32
  let v82 : BitVec 32 := Scalar.muli arg7 c1024_i32_39
  let v83 : BitVec 32 := v82
  let v123 : Index := Scalar.indexCast v83
  let c128_54 : Index := 128#32
  ![0, v123.toNat, 128]
@[reducible] def k0_t4_loop (i : grid0.Coords) : Scf.Loop 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let c1024_i32_0 : BitVec 32 := 1024#32
  let v7 : BitVec 32 := Scalar.addi v1 c1024_i32_0
  let c1024_i32_1 : BitVec 32 := 1024#32
  let v8 : BitVec 32 := Scalar.addi v7 c1024_i32_1
  let c1_i32 : BitVec 32 := 1#32
  let v9 : BitVec 32 := Scalar.subi v8 c1_i32
  let c0_i32_3 : BitVec 32 := 0#32
  let v11 : BitVec 1 := Scalar.cmpi .sgt v9 c0_i32_3
  let v12 : BitVec 32 := Scalar.extui v11
  let c0_i32_4 : BitVec 32 := 0#32
  let v13 : BitVec 1 := Scalar.cmpi .slt v9 c0_i32_4
  let v14 : BitVec 32 := Scalar.extui v13
  let v15 : BitVec 32 := Scalar.subi v12 v14
  let c1024_i32_2 : BitVec 32 := 1024#32
  let c0_i32_5 : BitVec 32 := 0#32
  let v16 : BitVec 1 := Scalar.cmpi .sgt c1024_i32_2 c0_i32_5
  let v17 : BitVec 32 := Scalar.extui v16
  let c0_i32_6 : BitVec 32 := 0#32
  let v18 : BitVec 1 := Scalar.cmpi .slt c1024_i32_2 c0_i32_6
  let v19 : BitVec 32 := Scalar.extui v18
  let v20 : BitVec 32 := Scalar.subi v17 v19
  let v21 : BitVec 1 := Scalar.cmpi .ne v15 v20
  let v22 : BitVec 32 := Scalar.remsi v9 c1024_i32_2
  let c0_i32_7 : BitVec 32 := 0#32
  let v23 : BitVec 1 := Scalar.cmpi .ne v22 c0_i32_7
  let v24 : BitVec 1 := Scalar.andi v21 v23
  let v10 : BitVec 32 := Scalar.divsi v9 c1024_i32_2
  let c1_i32_8 : BitVec 32 := 1#32
  let v25 : BitVec 32 := Scalar.subi v10 c1_i32_8
  let v26 : BitVec 32 := Scalar.select v24 v25 v10
  let v63 : BitVec 32 := Scalar.subi v26 v45
  let c1_i32_31 : BitVec 32 := 1#32
  let v65 : BitVec 32 := Scalar.divsi v63 c1_i32_31
  let v66 : BitVec 32 := Scalar.muli v65 c1_i32_31
  let v67 : BitVec 32 := Scalar.addi v45 v66
  let v64 : BitVec 32 := Scalar.addi v45 v63
  let c1_i32_33 : BitVec 32 := 1#32
  ⟨v67, v64, c1_i32_33⟩
def k0_mult4 (i : grid0.Coords) (k0_t4 : Fin (k0_t4_loop i).trips) : BitVec 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let c1024_i32_0 : BitVec 32 := 1024#32
  let v7 : BitVec 32 := Scalar.addi v1 c1024_i32_0
  let c1024_i32_1 : BitVec 32 := 1024#32
  let v8 : BitVec 32 := Scalar.addi v7 c1024_i32_1
  let c1_i32 : BitVec 32 := 1#32
  let v9 : BitVec 32 := Scalar.subi v8 c1_i32
  let c0_i32_3 : BitVec 32 := 0#32
  let v11 : BitVec 1 := Scalar.cmpi .sgt v9 c0_i32_3
  let v12 : BitVec 32 := Scalar.extui v11
  let c0_i32_4 : BitVec 32 := 0#32
  let v13 : BitVec 1 := Scalar.cmpi .slt v9 c0_i32_4
  let v14 : BitVec 32 := Scalar.extui v13
  let v15 : BitVec 32 := Scalar.subi v12 v14
  let c1024_i32_2 : BitVec 32 := 1024#32
  let c0_i32_5 : BitVec 32 := 0#32
  let v16 : BitVec 1 := Scalar.cmpi .sgt c1024_i32_2 c0_i32_5
  let v17 : BitVec 32 := Scalar.extui v16
  let c0_i32_6 : BitVec 32 := 0#32
  let v18 : BitVec 1 := Scalar.cmpi .slt c1024_i32_2 c0_i32_6
  let v19 : BitVec 32 := Scalar.extui v18
  let v20 : BitVec 32 := Scalar.subi v17 v19
  let v21 : BitVec 1 := Scalar.cmpi .ne v15 v20
  let v22 : BitVec 32 := Scalar.remsi v9 c1024_i32_2
  let c0_i32_7 : BitVec 32 := 0#32
  let v23 : BitVec 1 := Scalar.cmpi .ne v22 c0_i32_7
  let v24 : BitVec 1 := Scalar.andi v21 v23
  let v10 : BitVec 32 := Scalar.divsi v9 c1024_i32_2
  let c1_i32_8 : BitVec 32 := 1#32
  let v25 : BitVec 32 := Scalar.subi v10 c1_i32_8
  let v26 : BitVec 32 := Scalar.select v24 v25 v10
  let v63 : BitVec 32 := Scalar.subi v26 v45
  let c1_i32_31 : BitVec 32 := 1#32
  let v65 : BitVec 32 := Scalar.divsi v63 c1_i32_31
  let v66 : BitVec 32 := Scalar.muli v65 c1_i32_31
  let v67 : BitVec 32 := Scalar.addi v45 v66
  let c1_i32_33 : BitVec 32 := 1#32
  let arg7 : BitVec 32 := Scf.iv v67 c1_i32_33 k0_t4
  let c1024_i32_39 : BitVec 32 := 1024#32
  let v82 : BitVec 32 := Scalar.muli arg7 c1024_i32_39
  v82
def k0_off13 (i : grid0.Coords) (k0_t4 : Fin (k0_t4_loop i).trips) : Fin 3 → Nat :=
  let c0_41 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let c1024_i32_0 : BitVec 32 := 1024#32
  let v7 : BitVec 32 := Scalar.addi v1 c1024_i32_0
  let c1024_i32_1 : BitVec 32 := 1024#32
  let v8 : BitVec 32 := Scalar.addi v7 c1024_i32_1
  let c1_i32 : BitVec 32 := 1#32
  let v9 : BitVec 32 := Scalar.subi v8 c1_i32
  let c0_i32_3 : BitVec 32 := 0#32
  let v11 : BitVec 1 := Scalar.cmpi .sgt v9 c0_i32_3
  let v12 : BitVec 32 := Scalar.extui v11
  let c0_i32_4 : BitVec 32 := 0#32
  let v13 : BitVec 1 := Scalar.cmpi .slt v9 c0_i32_4
  let v14 : BitVec 32 := Scalar.extui v13
  let v15 : BitVec 32 := Scalar.subi v12 v14
  let c1024_i32_2 : BitVec 32 := 1024#32
  let c0_i32_5 : BitVec 32 := 0#32
  let v16 : BitVec 1 := Scalar.cmpi .sgt c1024_i32_2 c0_i32_5
  let v17 : BitVec 32 := Scalar.extui v16
  let c0_i32_6 : BitVec 32 := 0#32
  let v18 : BitVec 1 := Scalar.cmpi .slt c1024_i32_2 c0_i32_6
  let v19 : BitVec 32 := Scalar.extui v18
  let v20 : BitVec 32 := Scalar.subi v17 v19
  let v21 : BitVec 1 := Scalar.cmpi .ne v15 v20
  let v22 : BitVec 32 := Scalar.remsi v9 c1024_i32_2
  let c0_i32_7 : BitVec 32 := 0#32
  let v23 : BitVec 1 := Scalar.cmpi .ne v22 c0_i32_7
  let v24 : BitVec 1 := Scalar.andi v21 v23
  let v10 : BitVec 32 := Scalar.divsi v9 c1024_i32_2
  let c1_i32_8 : BitVec 32 := 1#32
  let v25 : BitVec 32 := Scalar.subi v10 c1_i32_8
  let v26 : BitVec 32 := Scalar.select v24 v25 v10
  let v63 : BitVec 32 := Scalar.subi v26 v45
  let c1_i32_31 : BitVec 32 := 1#32
  let v65 : BitVec 32 := Scalar.divsi v63 c1_i32_31
  let v66 : BitVec 32 := Scalar.muli v65 c1_i32_31
  let v67 : BitVec 32 := Scalar.addi v45 v66
  let c1_i32_33 : BitVec 32 := 1#32
  let arg7 : BitVec 32 := Scf.iv v67 c1_i32_33 k0_t4
  let c1024_i32_39 : BitVec 32 := 1024#32
  let v82 : BitVec 32 := Scalar.muli arg7 c1024_i32_39
  let v83 : BitVec 32 := v82
  let v89 : Index := Scalar.indexCast v83
  let c0_42 : Index := 0#32
  ![0, v89.toNat, 0]
def k0_off14 (i : grid0.Coords) (k0_t4 : Fin (k0_t4_loop i).trips) : Fin 3 → Nat :=
  let c0_43 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let c1024_i32_0 : BitVec 32 := 1024#32
  let v7 : BitVec 32 := Scalar.addi v1 c1024_i32_0
  let c1024_i32_1 : BitVec 32 := 1024#32
  let v8 : BitVec 32 := Scalar.addi v7 c1024_i32_1
  let c1_i32 : BitVec 32 := 1#32
  let v9 : BitVec 32 := Scalar.subi v8 c1_i32
  let c0_i32_3 : BitVec 32 := 0#32
  let v11 : BitVec 1 := Scalar.cmpi .sgt v9 c0_i32_3
  let v12 : BitVec 32 := Scalar.extui v11
  let c0_i32_4 : BitVec 32 := 0#32
  let v13 : BitVec 1 := Scalar.cmpi .slt v9 c0_i32_4
  let v14 : BitVec 32 := Scalar.extui v13
  let v15 : BitVec 32 := Scalar.subi v12 v14
  let c1024_i32_2 : BitVec 32 := 1024#32
  let c0_i32_5 : BitVec 32 := 0#32
  let v16 : BitVec 1 := Scalar.cmpi .sgt c1024_i32_2 c0_i32_5
  let v17 : BitVec 32 := Scalar.extui v16
  let c0_i32_6 : BitVec 32 := 0#32
  let v18 : BitVec 1 := Scalar.cmpi .slt c1024_i32_2 c0_i32_6
  let v19 : BitVec 32 := Scalar.extui v18
  let v20 : BitVec 32 := Scalar.subi v17 v19
  let v21 : BitVec 1 := Scalar.cmpi .ne v15 v20
  let v22 : BitVec 32 := Scalar.remsi v9 c1024_i32_2
  let c0_i32_7 : BitVec 32 := 0#32
  let v23 : BitVec 1 := Scalar.cmpi .ne v22 c0_i32_7
  let v24 : BitVec 1 := Scalar.andi v21 v23
  let v10 : BitVec 32 := Scalar.divsi v9 c1024_i32_2
  let c1_i32_8 : BitVec 32 := 1#32
  let v25 : BitVec 32 := Scalar.subi v10 c1_i32_8
  let v26 : BitVec 32 := Scalar.select v24 v25 v10
  let v63 : BitVec 32 := Scalar.subi v26 v45
  let c1_i32_31 : BitVec 32 := 1#32
  let v65 : BitVec 32 := Scalar.divsi v63 c1_i32_31
  let v66 : BitVec 32 := Scalar.muli v65 c1_i32_31
  let v67 : BitVec 32 := Scalar.addi v45 v66
  let c1_i32_33 : BitVec 32 := 1#32
  let arg7 : BitVec 32 := Scf.iv v67 c1_i32_33 k0_t4
  let c1024_i32_39 : BitVec 32 := 1024#32
  let v82 : BitVec 32 := Scalar.muli arg7 c1024_i32_39
  let v83 : BitVec 32 := v82
  let v92 : Index := Scalar.indexCast v83
  let c0_44 : Index := 0#32
  ![0, v92.toNat, 0]
def k0_off15 (i : grid0.Coords) (k0_t4 : Fin (k0_t4_loop i).trips) : Fin 3 → Nat :=
  let c0_51 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let c1024_i32_0 : BitVec 32 := 1024#32
  let v7 : BitVec 32 := Scalar.addi v1 c1024_i32_0
  let c1024_i32_1 : BitVec 32 := 1024#32
  let v8 : BitVec 32 := Scalar.addi v7 c1024_i32_1
  let c1_i32 : BitVec 32 := 1#32
  let v9 : BitVec 32 := Scalar.subi v8 c1_i32
  let c0_i32_3 : BitVec 32 := 0#32
  let v11 : BitVec 1 := Scalar.cmpi .sgt v9 c0_i32_3
  let v12 : BitVec 32 := Scalar.extui v11
  let c0_i32_4 : BitVec 32 := 0#32
  let v13 : BitVec 1 := Scalar.cmpi .slt v9 c0_i32_4
  let v14 : BitVec 32 := Scalar.extui v13
  let v15 : BitVec 32 := Scalar.subi v12 v14
  let c1024_i32_2 : BitVec 32 := 1024#32
  let c0_i32_5 : BitVec 32 := 0#32
  let v16 : BitVec 1 := Scalar.cmpi .sgt c1024_i32_2 c0_i32_5
  let v17 : BitVec 32 := Scalar.extui v16
  let c0_i32_6 : BitVec 32 := 0#32
  let v18 : BitVec 1 := Scalar.cmpi .slt c1024_i32_2 c0_i32_6
  let v19 : BitVec 32 := Scalar.extui v18
  let v20 : BitVec 32 := Scalar.subi v17 v19
  let v21 : BitVec 1 := Scalar.cmpi .ne v15 v20
  let v22 : BitVec 32 := Scalar.remsi v9 c1024_i32_2
  let c0_i32_7 : BitVec 32 := 0#32
  let v23 : BitVec 1 := Scalar.cmpi .ne v22 c0_i32_7
  let v24 : BitVec 1 := Scalar.andi v21 v23
  let v10 : BitVec 32 := Scalar.divsi v9 c1024_i32_2
  let c1_i32_8 : BitVec 32 := 1#32
  let v25 : BitVec 32 := Scalar.subi v10 c1_i32_8
  let v26 : BitVec 32 := Scalar.select v24 v25 v10
  let v63 : BitVec 32 := Scalar.subi v26 v45
  let c1_i32_31 : BitVec 32 := 1#32
  let v65 : BitVec 32 := Scalar.divsi v63 c1_i32_31
  let v66 : BitVec 32 := Scalar.muli v65 c1_i32_31
  let v67 : BitVec 32 := Scalar.addi v45 v66
  let c1_i32_33 : BitVec 32 := 1#32
  let arg7 : BitVec 32 := Scf.iv v67 c1_i32_33 k0_t4
  let c1024_i32_39 : BitVec 32 := 1024#32
  let v82 : BitVec 32 := Scalar.muli arg7 c1024_i32_39
  let v83 : BitVec 32 := v82
  let v120 : Index := Scalar.indexCast v83
  let c256_52 : Index := 256#32
  ![0, v120.toNat, 256]
def k0_off16 (i : grid0.Coords) (k0_t4 : Fin (k0_t4_loop i).trips) : Fin 3 → Nat :=
  let c0_53 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32_9 : BitVec 32 := 6#32
  let v27 : BitVec 32 := Scalar.shrsi v1 c6_i32_9
  let c6_i32_10 : BitVec 32 := 6#32
  let v28 : BitVec 32 := Scalar.shli v27 c6_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c1024_i32_11 : BitVec 32 := 1024#32
  let c0_i32_14 : BitVec 32 := 0#32
  let v35 : BitVec 1 := Scalar.cmpi .sgt c1024_i32_11 c0_i32_14
  let v36 : BitVec 32 := Scalar.extui v35
  let c0_i32_15 : BitVec 32 := 0#32
  let v37 : BitVec 1 := Scalar.cmpi .slt c1024_i32_11 c0_i32_15
  let v38 : BitVec 32 := Scalar.extui v37
  let v39 : BitVec 32 := Scalar.subi v36 v38
  let v40 : BitVec 1 := Scalar.cmpi .ne v34 v39
  let v41 : BitVec 32 := Scalar.remsi v28 c1024_i32_11
  let c0_i32_16 : BitVec 32 := 0#32
  let v42 : BitVec 1 := Scalar.cmpi .ne v41 c0_i32_16
  let v43 : BitVec 1 := Scalar.andi v40 v42
  let v29 : BitVec 32 := Scalar.divsi v28 c1024_i32_11
  let c1_i32_17 : BitVec 32 := 1#32
  let v44 : BitVec 32 := Scalar.subi v29 c1_i32_17
  let v45 : BitVec 32 := Scalar.select v43 v44 v29
  let c1024_i32_0 : BitVec 32 := 1024#32
  let v7 : BitVec 32 := Scalar.addi v1 c1024_i32_0
  let c1024_i32_1 : BitVec 32 := 1024#32
  let v8 : BitVec 32 := Scalar.addi v7 c1024_i32_1
  let c1_i32 : BitVec 32 := 1#32
  let v9 : BitVec 32 := Scalar.subi v8 c1_i32
  let c0_i32_3 : BitVec 32 := 0#32
  let v11 : BitVec 1 := Scalar.cmpi .sgt v9 c0_i32_3
  let v12 : BitVec 32 := Scalar.extui v11
  let c0_i32_4 : BitVec 32 := 0#32
  let v13 : BitVec 1 := Scalar.cmpi .slt v9 c0_i32_4
  let v14 : BitVec 32 := Scalar.extui v13
  let v15 : BitVec 32 := Scalar.subi v12 v14
  let c1024_i32_2 : BitVec 32 := 1024#32
  let c0_i32_5 : BitVec 32 := 0#32
  let v16 : BitVec 1 := Scalar.cmpi .sgt c1024_i32_2 c0_i32_5
  let v17 : BitVec 32 := Scalar.extui v16
  let c0_i32_6 : BitVec 32 := 0#32
  let v18 : BitVec 1 := Scalar.cmpi .slt c1024_i32_2 c0_i32_6
  let v19 : BitVec 32 := Scalar.extui v18
  let v20 : BitVec 32 := Scalar.subi v17 v19
  let v21 : BitVec 1 := Scalar.cmpi .ne v15 v20
  let v22 : BitVec 32 := Scalar.remsi v9 c1024_i32_2
  let c0_i32_7 : BitVec 32 := 0#32
  let v23 : BitVec 1 := Scalar.cmpi .ne v22 c0_i32_7
  let v24 : BitVec 1 := Scalar.andi v21 v23
  let v10 : BitVec 32 := Scalar.divsi v9 c1024_i32_2
  let c1_i32_8 : BitVec 32 := 1#32
  let v25 : BitVec 32 := Scalar.subi v10 c1_i32_8
  let v26 : BitVec 32 := Scalar.select v24 v25 v10
  let v63 : BitVec 32 := Scalar.subi v26 v45
  let c1_i32_31 : BitVec 32 := 1#32
  let v65 : BitVec 32 := Scalar.divsi v63 c1_i32_31
  let v66 : BitVec 32 := Scalar.muli v65 c1_i32_31
  let v67 : BitVec 32 := Scalar.addi v45 v66
  let c1_i32_33 : BitVec 32 := 1#32
  let arg7 : BitVec 32 := Scf.iv v67 c1_i32_33 k0_t4
  let c1024_i32_39 : BitVec 32 := 1024#32
  let v82 : BitVec 32 := Scalar.muli arg7 c1024_i32_39
  let v83 : BitVec 32 := v82
  let v123 : Index := Scalar.indexCast v83
  let c128_54 : Index := 128#32
  ![0, v123.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e_scale" => some (((Real.log 2)⁻¹ * (Real.sqrt 192)⁻¹ : ℝ) : EReal)
  | "mask" => some ⊥
  | _ => none
-- ==== ReferenceIdeal.lean ====
abbrev S2x8192x2048 : Shape := ⟨3, ![2, 8192, 2048]⟩
abbrev S2x8192x1024 : Shape := ⟨3, ![2, 8192, 1024]⟩
abbrev S2x8192x8x256 : Shape := ⟨4, ![2, 8192, 8, 256]⟩
abbrev S2x8192x8x128 : Shape := ⟨4, ![2, 8192, 8, 128]⟩
abbrev S2x8x8192x8192 : Shape := ⟨4, ![2, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩

abbrev nBuf : Space → Nat
  | .hbm => 80
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S2x8192x1024, .bf16⟩
  | .hbm, ⟨3, _⟩ => ⟨S2x8192x2048, .f32⟩
  | .hbm, ⟨4, _⟩ => ⟨S2x8192x8x256, .f32⟩
  | .hbm, ⟨5, _⟩ => ⟨S2x8192x2048, .f32⟩
  | .hbm, ⟨6, _⟩ => ⟨S2x8192x8x256, .f32⟩
  | .hbm, ⟨7, _⟩ => ⟨S2x8192x1024, .f32⟩
  | .hbm, ⟨8, _⟩ => ⟨S2x8192x8x128, .f32⟩
  | .hbm, ⟨9, _⟩ => ⟨S2x8x8192x8192, .f32⟩
  | .hbm, ⟨10, _⟩ => ⟨S_, .f32⟩
  | .hbm, ⟨11, _⟩ => ⟨S_, .f32⟩
  | .hbm, ⟨12, _⟩ => ⟨S2x8x8192x8192, .f32⟩
  | .hbm, ⟨13, _⟩ => ⟨S2x8x8192x8192, .f32⟩
  | .hbm, ⟨14, _⟩ => ⟨S8192, .i32⟩
  | .hbm, ⟨15, _⟩ => ⟨S1x8192, .i32⟩
  | .hbm, ⟨16, _⟩ => ⟨S_, .i32⟩
  | .hbm, ⟨17, _⟩ => ⟨S_, .i32⟩
  | .hbm, ⟨18, _⟩ => ⟨S1x8192, .i32⟩
  | .hbm, ⟨19, _⟩ => ⟨S1x8192, .i32⟩
  | .hbm, ⟨20, _⟩ => ⟨S1x8192, .i32⟩
  | .hbm, ⟨21, _⟩ => ⟨S_, .i32⟩
  | .hbm, ⟨22, _⟩ => ⟨S1x8192, .i32⟩
  | .hbm, ⟨23, _⟩ => ⟨S1x8192, .i1⟩
  | .hbm, ⟨24, _⟩ => ⟨S1x8192, .i32⟩
  | .hbm, ⟨25, _⟩ => ⟨S1x8192, .i32⟩
  | .hbm, ⟨26, _⟩ => ⟨S_, .i32⟩
  | .hbm, ⟨27, _⟩ => ⟨S1x8192, .i32⟩
  | .hbm, ⟨28, _⟩ => ⟨S1x8192, .i1⟩
  | .hbm, ⟨29, _⟩ => ⟨S1x8192, .i1⟩
  | .hbm, ⟨30, _⟩ => ⟨S_, .i32⟩
  | .hbm, ⟨31, _⟩ => ⟨S1x8192, .i32⟩
  | .hbm, ⟨32, _⟩ => ⟨S1x8192, .i32⟩
  | .hbm, ⟨33, _⟩ => ⟨S1x8192, .i32⟩
  | .hbm, ⟨34, _⟩ => ⟨S8192x1, .i32⟩
  | .hbm, ⟨35, _⟩ => ⟨S_, .i32⟩
  | .hbm, ⟨36, _⟩ => ⟨S_, .i32⟩
  | .hbm, ⟨37, _⟩ => ⟨S8192x1, .i32⟩
  | .hbm, ⟨38, _⟩ => ⟨S8192x1, .i32⟩
  | .hbm, ⟨39, _⟩ => ⟨S8192x1, .i32⟩
  | .hbm, ⟨40, _⟩ => ⟨S_, .i32⟩
  | .hbm, ⟨41, _⟩ => ⟨S8192x1, .i32⟩
  | .hbm, ⟨42, _⟩ => ⟨S8192x1, .i1⟩
  | .hbm, ⟨43, _⟩ => ⟨S8192x1, .i32⟩
  | .hbm, ⟨44, _⟩ => ⟨S8192x1, .i32⟩
  | .hbm, ⟨45, _⟩ => ⟨S_, .i32⟩
  | .hbm, ⟨46, _⟩ => ⟨S8192x1, .i32⟩
  | .hbm, ⟨47, _⟩ => ⟨S8192x1, .i1⟩
  | .hbm, ⟨48, _⟩ => ⟨S8192x1, .i1⟩
  | .hbm, ⟨49, _⟩ => ⟨S_, .i32⟩
  | .hbm, ⟨50, _⟩ => ⟨S8192x1, .i32⟩
  | .hbm, ⟨51, _⟩ => ⟨S8192x1, .i32⟩
  | .hbm, ⟨52, _⟩ => ⟨S8192x1, .i32⟩
  | .hbm, ⟨53, _⟩ => ⟨S8192x8192, .i32⟩
  | .hbm, ⟨54, _⟩ => ⟨S8192x8192, .i32⟩
  | .hbm, ⟨55, _⟩ => ⟨S8192x8192, .i1⟩
  | .hbm, ⟨56, _⟩ => ⟨S1x1x8192x8192, .i1⟩
  | .hbm, ⟨57, _⟩ => ⟨S_, .f32⟩
  | .hbm, ⟨58, _⟩ => ⟨S_, .f32⟩
  | .hbm, ⟨59, _⟩ => ⟨S2x8x8192x8192, .i1⟩
  | .hbm, ⟨60, _⟩ => ⟨S2x8x8192x8192, .f32⟩
  | .hbm, ⟨61, _⟩ => ⟨S2x8x8192x8192, .f32⟩
  | .hbm, ⟨62, _⟩ => ⟨S_, .f32⟩
  | .hbm, ⟨63, _⟩ => ⟨S2x8x8192, .f32⟩
  | .hbm, ⟨64, _⟩ => ⟨S_, .f32⟩
  | .hbm, ⟨65, _⟩ => ⟨S2x8x8192, .f32⟩
  | .hbm, ⟨66, _⟩ => ⟨S2x8x8192, .f32⟩
  | .hbm, ⟨67, _⟩ => ⟨S2x8x8192x1, .f32⟩
  | .hbm, ⟨68, _⟩ => ⟨S2x8x8192x8192, .f32⟩
  | .hbm, ⟨69, _⟩ => ⟨S2x8x8192x8192, .f32⟩
  | .hbm, ⟨70, _⟩ => ⟨S2x8x8192x8192, .f32⟩
  | .hbm, ⟨71, _⟩ => ⟨S_, .f32⟩
  | .hbm, ⟨72, _⟩ => ⟨S2x8x8192, .f32⟩
  | .hbm, ⟨73, _⟩ => ⟨S2x8x8192x1, .f32⟩
  | .hbm, ⟨74, _⟩ => ⟨S2x8x8192x8192, .f32⟩
  | .hbm, ⟨75, _⟩ => ⟨S2x8x8192x8192, .f32⟩
  | .hbm, ⟨76, _⟩ => ⟨S2x8x128x8192, .f32⟩
  | .hbm, ⟨77, _⟩ => ⟨S2x8192x8x128, .f32⟩
  | .hbm, ⟨78, _⟩ => ⟨S2x8192x1024, .f32⟩
  | .hbm, ⟨79, _⟩ => ⟨S2x8192x1024, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_cst_1 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v19 : Ref sig .tc := ⟨.hbm, 61, rfl⟩
abbrev main_cst_2 : Ref sig .tc := ⟨.hbm, 62, rfl⟩
abbrev main_v20 : Ref sig .tc := ⟨.hbm, 63, rfl⟩
abbrev main_cst_3 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_4 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩

abbrev nD : Nat := 1
abbrev τ : Topo := Topo.v7x

variable {F : FTy → Type} [FloatOps F]
-- ==== Proj.lean ====
abbrev S2x8192x1024 : Shape := ⟨3, ![2, 8192, 1024]⟩
abbrev S1x1024 : Shape := ⟨2, ![1, 1024]⟩
abbrev S1x1024x5968 : Shape := ⟨3, ![1, 1024, 5968]⟩
abbrev S1x512 : Shape := ⟨2, ![1, 512]⟩
abbrev S1x256 : Shape := ⟨2, ![1, 256]⟩
abbrev S1x512x1536 : Shape := ⟨3, ![1, 512, 1536]⟩
abbrev S1x256x2048 : Shape := ⟨3, ![1, 256, 2048]⟩
abbrev S16384x1024 : Shape := ⟨2, ![16384, 1024]⟩
abbrev S1024 : Shape := ⟨1, ![1024]⟩
abbrev S1024x5968 : Shape := ⟨2, ![1024, 5968]⟩
abbrev S1024x512 : Shape := ⟨2, ![1024, 512]⟩
abbrev S1024x256 : Shape := ⟨2, ![1024, 256]⟩
abbrev S1024x64 : Shape := ⟨2, ![1024, 64]⟩
abbrev S1024x1024 : Shape := ⟨2, ![1024, 1024]⟩
abbrev S1024x16 : Shape := ⟨2, ![1024, 16]⟩
abbrev S1024x2048 : Shape := ⟨2, ![1024, 2048]⟩
abbrev S1024x32 : Shape := ⟨2, ![1024, 32]⟩
abbrev S_ : Shape := ⟨0, ![]⟩
abbrev S1024x112 : Shape := ⟨2, ![1024, 112]⟩
abbrev S1024x6144 : Shape := ⟨2, ![1024, 6144]⟩
abbrev S16384x6144 : Shape := ⟨2, ![16384, 6144]⟩
abbrev S256x1024 : Shape := ⟨2, ![256, 1024]⟩
abbrev S256x6144 : Shape := ⟨2, ![256, 6144]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S512 : Shape := ⟨1, ![512]⟩
abbrev S16384x896 : Shape := ⟨2, ![16384, 896]⟩
abbrev S512x1536 : Shape := ⟨2, ![512, 1536]⟩
abbrev S512x8x192 : Shape := ⟨3, ![512, 8, 192]⟩
abbrev S512x8x128 : Shape := ⟨3, ![512, 8, 128]⟩
abbrev S512x8x64 : Shape := ⟨3, ![512, 8, 64]⟩
abbrev S512x8x32 : Shape := ⟨3, ![512, 8, 32]⟩
abbrev S512x8x256 : Shape := ⟨3, ![512, 8, 256]⟩
abbrev S512x2048 : Shape := ⟨2, ![512, 2048]⟩
abbrev S256x2048 : Shape := ⟨2, ![256, 2048]⟩
abbrev S256x8x256 : Shape := ⟨3, ![256, 8, 256]⟩
abbrev S256x8x128 : Shape := ⟨3, ![256, 8, 128]⟩
abbrev S16384x2048 : Shape := ⟨2, ![16384, 2048]⟩
abbrev S16384x256 : Shape := ⟨2, ![16384, 256]⟩
abbrev S16384x128 : Shape := ⟨2, ![16384, 128]⟩
abbrev S512x896 : Shape := ⟨2, ![512, 896]⟩
abbrev S512x128 : Shape := ⟨2, ![512, 128]⟩
abbrev S512x256 : Shape := ⟨2, ![512, 256]⟩
abbrev S512x1024 : Shape := ⟨2, ![512, 1024]⟩
abbrev S512x512 : Shape := ⟨2, ![512, 512]⟩
abbrev S512x1 : Shape := ⟨2, ![512, 1]⟩
abbrev S2x8192x256 : Shape := ⟨3, ![2, 8192, 256]⟩
abbrev S1x2x8192x256 : Shape := ⟨4, ![1, 2, 8192, 256]⟩
abbrev S16384x64 : Shape := ⟨2, ![16384, 64]⟩
abbrev S2x8192x64 : Shape := ⟨3, ![2, 8192, 64]⟩
abbrev S1x2x8192x64 : Shape := ⟨4, ![1, 2, 8192, 64]⟩
abbrev S2x8192x2048 : Shape := ⟨3, ![2, 8192, 2048]⟩

abbrev nBuf : Space → Nat
  | .hbm => 86
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5968, .f32⟩
  | .hbm, ⟨3, _⟩ => ⟨S1x512, .f32⟩
  | .hbm, ⟨4, _⟩ => ⟨S1x256, .f32⟩
  | .hbm, ⟨5, _⟩ => ⟨S1x512x1536, .f32⟩
  | .hbm, ⟨6, _⟩ => ⟨S1x256x2048, .f32⟩
  | .hbm, ⟨7, _⟩ => ⟨S16384x1024, .f32⟩
  | .hbm, ⟨8, _⟩ => ⟨S1024, .f32⟩
  | .hbm, ⟨9, _⟩ => ⟨S1x1024, .f32⟩
  | .hbm, ⟨10, _⟩ => ⟨S1024x5968, .f32⟩
  | .hbm, ⟨11, _⟩ => ⟨S1024x512, .f32⟩
  | .hbm, ⟨12, _⟩ => ⟨S1024x256, .f32⟩
  | .hbm, ⟨13, _⟩ => ⟨S1024x64, .f32⟩
  | .hbm, ⟨14, _⟩ => ⟨S1024x512, .f32⟩
  | .hbm, ⟨15, _⟩ => ⟨S1024x512, .f32⟩
  | .hbm, ⟨16, _⟩ => ⟨S1024x1024, .f32⟩
  | .hbm, ⟨17, _⟩ => ⟨S1024x16, .f32⟩
  | .hbm, ⟨18, _⟩ => ⟨S1024x1024, .f32⟩
  | .hbm, ⟨19, _⟩ => ⟨S1024x2048, .f32⟩
  | .hbm, ⟨20, _⟩ => ⟨S1024x32, .f32⟩
  | .hbm, ⟨21, _⟩ => ⟨S1024x32, .f32⟩
  | .hbm, ⟨22, _⟩ => ⟨S1024x64, .f32⟩
  | .hbm, ⟨23, _⟩ => ⟨S_, .f32⟩
  | .hbm, ⟨24, _⟩ => ⟨S1024x112, .f32⟩
  | .hbm, ⟨25, _⟩ => ⟨S1024x6144, .f32⟩
  | .hbm, ⟨26, _⟩ => ⟨S1024x6144, .bf16⟩
  | .hbm, ⟨27, _⟩ => ⟨S16384x6144, .f32⟩
  | .hbm, ⟨28, _⟩ => ⟨S8192, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S8192, .f32⟩
  | .hbm, ⟨41, _⟩ => ⟨S8192x1, .f32⟩
  | .hbm, ⟨42, _⟩ => ⟨S1x32, .f32⟩
  | .hbm, ⟨43, _⟩ => ⟨S8192x32, .f32⟩
  | .hbm, ⟨44, _⟩ => ⟨S8192x32, .f32⟩
  | .hbm, ⟨45, _⟩ => ⟨S8192x32, .f32⟩
  | .hbm, ⟨46, _⟩ => ⟨S8192x32, .f32⟩
  | .hbm, ⟨47, _⟩ => ⟨S8192x32, .f32⟩
  | .hbm, ⟨48, _⟩ => ⟨S8192x32, .f32⟩
  | .hbm, ⟨49, _⟩ => ⟨S8192x128, .f32⟩
  | .hbm, ⟨50, _⟩ => ⟨S512, .f32⟩
  | .hbm, ⟨51, _⟩ => ⟨S1x512, .f32⟩
  | .hbm, ⟨52, _⟩ => ⟨S256, .f32⟩
  | .hbm, ⟨53, _⟩ => ⟨S1x256, .f32⟩
  | .hbm, ⟨54, _⟩ => ⟨S16384x896, .f32⟩
  | .hbm, ⟨55, _⟩ => ⟨S512x1536, .f32⟩
  | .hbm, ⟨56, _⟩ => ⟨S512x8x192, .f32⟩
  | .hbm, ⟨57, _⟩ => ⟨S512x8x128, .f32⟩
  | .hbm, ⟨58, _⟩ => ⟨S512x8x64, .f32⟩
  | .hbm, ⟨59, _⟩ => ⟨S512x8x32, .f32⟩
  | .hbm, ⟨60, _⟩ => ⟨S512x8x32, .f32⟩
  | .hbm, ⟨61, _⟩ => ⟨S512x8x64, .f32⟩
  | .hbm, ⟨62, _⟩ => ⟨S512x8x256, .f32⟩
  | .hbm, ⟨63, _⟩ => ⟨S512x2048, .f32⟩
  | .hbm, ⟨64, _⟩ => ⟨S512x2048, .bf16⟩
  | .hbm, ⟨65, _⟩ => ⟨S256x2048, .f32⟩
  | .hbm, ⟨66, _⟩ => ⟨S256x8x256, .f32⟩
  | .hbm, ⟨67, _⟩ => ⟨S256x8x128, .f32⟩
  | .hbm, ⟨68, _⟩ => ⟨S256x1024, .f32⟩
  | .hbm, ⟨69, _⟩ => ⟨S256x8x128, .f32⟩
  | .hbm, ⟨70, _⟩ => ⟨S256x1024, .f32⟩
  | .hbm, ⟨71, _⟩ => ⟨S256x2048, .f32⟩
  | .hbm, ⟨72, _⟩ => ⟨S256x2048, .bf16⟩
  | .hbm, ⟨73, _⟩ => ⟨S16384x2048, .bf16⟩
  | .hbm, ⟨74, _⟩ => ⟨S16384x256, .f32⟩
  | .hbm, ⟨75, _⟩ => ⟨S16384x128, .f32⟩
  | .hbm, ⟨76, _⟩ => ⟨S16384x2048, .bf16⟩
  | .hbm, ⟨77, _⟩ => ⟨S16384x1024, .bf16⟩
  | .hbm, ⟨78, _⟩ => ⟨S2x8192x256, .f32⟩
  | .hbm, ⟨79, _⟩ => ⟨S1x2x8192x256, .f32⟩
  | .hbm, ⟨80, _⟩ => ⟨S16384x64, .f32⟩
  | .hbm, ⟨81, _⟩ => ⟨S2x8192x64, .f32⟩
  | .hbm, ⟨82, _⟩ => ⟨S1x2x8192x64, .f32⟩
  | .hbm, ⟨83, _⟩ => ⟨S2x8192x2048, .bf16⟩
  | .hbm, ⟨84, _⟩ => ⟨S2x8192x2048, .bf16⟩
  | .hbm, ⟨85, _⟩ => ⟨S2x8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S256x6144, .f32⟩
  | .local _ .vmem, ⟨5, _⟩ => ⟨S256x6144, .f32⟩
  | .local _ .vmem, ⟨6, _⟩ => ⟨S512x896, .f32⟩
  | .local _ .vmem, ⟨7, _⟩ => ⟨S512x896, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x256, .f32⟩
  | .local _ .vmem, ⟨12, _⟩ => ⟨S512x2048, .bf16⟩
  | .local _ .vmem, ⟨13, _⟩ => ⟨S256x2048, .bf16⟩
  | .local _ .vmem, ⟨14, _⟩ => ⟨S512x2048, .bf16⟩
  | .local _ .vmem, ⟨15, _⟩ => ⟨S512x2048, .bf16⟩
  | .local _ .vmem, ⟨16, _⟩ => ⟨S512x256, .f32⟩
  | .local _ .vmem, ⟨17, _⟩ => ⟨S512x256, .f32⟩
  | .local _ .vmem, ⟨18, _⟩ => ⟨S512x128, .f32⟩
  | .local _ .vmem, ⟨19, _⟩ => ⟨S512x128, .f32⟩
  | .local _ .vmem, ⟨20, _⟩ => ⟨S512x2048, .bf16⟩
  | .local _ .vmem, ⟨21, _⟩ => ⟨S512x2048, .bf16⟩
  | .local _ .vmem, ⟨22, _⟩ => ⟨S512x1024, .bf16⟩
  | .local _ .vmem, ⟨23, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62_0 : Ref sig .tc := ⟨.hbm, 73, rfl⟩
abbrev main_v62_1 : Ref sig .tc := ⟨.hbm, 74, rfl⟩
abbrev main_v62_2 : Ref sig .tc := ⟨.hbm, 75, rfl⟩
abbrev main_v62_3 : Ref sig .tc := ⟨.hbm, 76, rfl⟩
abbrev main_v62_4 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x896 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x2048 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== ProjRefIdeal.lean ====
abbrev S2x8192x1024 : Shape := ⟨3, ![2, 8192, 1024]⟩
abbrev S1x1024 : Shape := ⟨2, ![1, 1024]⟩
abbrev S1x1024x5968 : Shape := ⟨3, ![1, 1024, 5968]⟩
abbrev S1x512 : Shape := ⟨2, ![1, 512]⟩
abbrev S1x256 : Shape := ⟨2, ![1, 256]⟩
abbrev S1x512x1536 : Shape := ⟨3, ![1, 512, 1536]⟩
abbrev S1x256x2048 : Shape := ⟨3, ![1, 256, 2048]⟩
abbrev S8192 : Shape := ⟨1, ![8192]⟩
abbrev S_ : Shape := ⟨0, ![]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1024x5968 : Shape := ⟨2, ![1024, 5968]⟩
abbrev S2x8192x5968 : Shape := ⟨3, ![2, 8192, 5968]⟩
abbrev S2x8192x512 : Shape := ⟨3, ![2, 8192, 512]⟩
abbrev S2x8192x256 : Shape := ⟨3, ![2, 8192, 256]⟩
abbrev S2x8192x64 : Shape := ⟨3, ![2, 8192, 64]⟩
abbrev S2x8192x16 : Shape := ⟨3, ![2, 8192, 16]⟩
abbrev S2x8192x2048 : Shape := ⟨3, ![2, 8192, 2048]⟩
abbrev S2x8192x32 : Shape := ⟨3, ![2, 8192, 32]⟩
abbrev S2x8192x112 : Shape := ⟨3, ![2, 8192, 112]⟩
abbrev S2x8192x6144 : Shape := ⟨3, ![2, 8192, 6144]⟩
abbrev S512 : Shape := ⟨1, ![512]⟩
abbrev S1x1x512 : Shape := ⟨3, ![1, 1, 512]⟩
abbrev S512x1536 : Shape := ⟨2, ![512, 1536]⟩
abbrev S2x8192x1536 : Shape := ⟨3, ![2, 8192, 1536]⟩
abbrev S2x8192x8x192 : Shape := ⟨4, ![2, 8192, 8, 192]⟩
abbrev S2x8192x8x128 : Shape := ⟨4, ![2, 8192, 8, 128]⟩
abbrev S2x8192x8x64 : Shape := ⟨4, ![2, 8192, 8, 64]⟩
abbrev S8192x1x32 : Shape := ⟨3, ![8192, 1, 32]⟩
abbrev S2x8192x8x32 : Shape := ⟨4, ![2, 8192, 8, 32]⟩
abbrev S1x8192x1x32 : Shape := ⟨4, ![1, 8192, 1, 32]⟩
abbrev S256 : Shape := ⟨1, ![256]⟩
abbrev S1x1x256 : Shape := ⟨3, ![1, 1, 256]⟩
abbrev S1x8192x32 : Shape := ⟨3, ![1, 8192, 32]⟩
abbrev S2x8192x8x256 : Shape := ⟨4, ![2, 8192, 8, 256]⟩
abbrev S16384x6144 : Shape := ⟨2, ![16384, 6144]⟩
abbrev S256x2048 : Shape := ⟨2, ![256, 2048]⟩
abbrev S2x8192x1x64 : Shape := ⟨4, ![2, 8192, 1, 64]⟩
abbrev S1x2x8192x256 : Shape := ⟨4, ![1, 2, 8192, 256]⟩
abbrev S1x2x8192x64 : Shape := ⟨4, ![1, 2, 8192, 64]⟩

abbrev nBuf : Space → Nat
  | .hbm => 155
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x5968, .f32⟩
  | 3 => ⟨S1x512, .f32⟩
  | 4 => ⟨S1x256, .f32⟩
  | 5 => ⟨S1x512x1536, .f32⟩
  | 6 => ⟨S1x256x2048, .f32⟩
  | 7 => ⟨S8192, .i32⟩
  | 8 => ⟨S_, .i32⟩
  | 9 => ⟨S8192, .i32⟩
  | 10 => ⟨S8192, .i32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S8192, .f32⟩
  | 20 => ⟨S8192x1, .f32⟩
  | 21 => ⟨S1x32, .f32⟩
  | 22 => ⟨S8192x32, .f32⟩
  | 23 => ⟨S8192x32, .f32⟩
  | 24 => ⟨S8192x32, .f32⟩
  | 25 => ⟨S8192x32, .f32⟩
  | 26 => ⟨S8192x32, .f32⟩
  | 27 => ⟨S1024, .f32⟩
  | 28 => ⟨S2x8192x1024, .f32⟩
  | 29 => ⟨S_, .f32⟩
  | 30 => ⟨S2x8192, .f32⟩
  | 31 => ⟨S2x8192x1, .f32⟩
  | 32 => ⟨S_, .f32⟩
  | 33 => ⟨S2x8192x1, .f32⟩
  | 34 => ⟨S2x8192x1, .f32⟩
  | 35 => ⟨S_, .f32⟩
  | 36 => ⟨S2x8192x1, .f32⟩
  | 37 => ⟨S2x8192x1, .f32⟩
  | 38 => ⟨S2x8192x1, .f32⟩
  | 39 => ⟨S2x8192x1024, .f32⟩
  | 40 => ⟨S2x8192x1024, .f32⟩
  | 41 => ⟨S1x1x1024, .f32⟩
  | 42 => ⟨S2x8192x1024, .f32⟩
  | 43 => ⟨S2x8192x1024, .f32⟩
  | 44 => ⟨S1024x5968, .f32⟩
  | 45 => ⟨S2x8192x5968, .f32⟩
  | 46 => ⟨S2x8192x512, .f32⟩
  | 47 => ⟨S2x8192x256, .f32⟩
  | 48 => ⟨S2x8192x64, .f32⟩
  | 49 => ⟨S2x8192x512, .f32⟩
  | 50 => ⟨S2x8192x512, .f32⟩
  | 51 => ⟨S2x8192x1024, .f32⟩
  | 52 => ⟨S2x8192x16, .f32⟩
  | 53 => ⟨S2x8192x1024, .f32⟩
  | 54 => ⟨S2x8192x2048, .f32⟩
  | 55 => ⟨S2x8192x32, .f32⟩
  | 56 => ⟨S2x8192x32, .f32⟩
  | 57 => ⟨S_, .f32⟩
  | 58 => ⟨S2x8192x112, .f32⟩
  | 59 => ⟨S2x8192x6144, .f32⟩
  | 60 => ⟨S512, .f32⟩
  | 61 => ⟨S2x8192x512, .f32⟩
  | 62 => ⟨S_, .f32⟩
  | 63 => ⟨S2x8192, .f32⟩
  | 64 => ⟨S2x8192x1, .f32⟩
  | 65 => ⟨S_, .f32⟩
  | 66 => ⟨S2x8192x1, .f32⟩
  | 67 => ⟨S2x8192x1, .f32⟩
  | 68 => ⟨S_, .f32⟩
  | 69 => ⟨S2x8192x1, .f32⟩
  | 70 => ⟨S2x8192x1, .f32⟩
  | 71 => ⟨S2x8192x1, .f32⟩
  | 72 => ⟨S2x8192x512, .f32⟩
  | 73 => ⟨S2x8192x512, .f32⟩
  | 74 => ⟨S1x1x512, .f32⟩
  | 75 => ⟨S2x8192x512, .f32⟩
  | 76 => ⟨S2x8192x512, .f32⟩
  | 77 => ⟨S512x1536, .f32⟩
  | 78 => ⟨S2x8192x1536, .f32⟩
  | 79 => ⟨S2x8192x8x192, .f32⟩
  | 80 => ⟨S2x8192x8x128, .f32⟩
  | 81 => ⟨S2x8192x8x64, .f32⟩
  | 82 => ⟨S8192x1x32, .f32⟩
  | 83 => ⟨S8192x1x32, .f32⟩
  | 84 => ⟨S2x8192x8x32, .f32⟩
  | 85 => ⟨S2x8192x8x32, .f32⟩
  | 86 => ⟨S1x8192x1x32, .f32⟩
  | 87 => ⟨S2x8192x8x32, .f32⟩
  | 88 => ⟨S2x8192x8x32, .f32⟩
  | 89 => ⟨S1x8192x1x32, .f32⟩
  | 90 => ⟨S2x8192x8x32, .f32⟩
  | 91 => ⟨S2x8192x8x32, .f32⟩
  | 92 => ⟨S2x8192x8x32, .f32⟩
  | 93 => ⟨S1x8192x1x32, .f32⟩
  | 94 => ⟨S2x8192x8x32, .f32⟩
  | 95 => ⟨S2x8192x8x32, .f32⟩
  | 96 => ⟨S1x8192x1x32, .f32⟩
  | 97 => ⟨S2x8192x8x32, .f32⟩
  | 98 => ⟨S2x8192x8x32, .f32⟩
  | 99 => ⟨S2x8192x8x32, .f32⟩
  | 100 => ⟨S2x8192x8x64, .f32⟩
  | 101 => ⟨S256, .f32⟩
  | 102 => ⟨S2x8192x256, .f32⟩
  | 103 => ⟨S_, .f32⟩
  | 104 => ⟨S2x8192, .f32⟩
  | 105 => ⟨S2x8192x1, .f32⟩
  | 106 => ⟨S_, .f32⟩
  | 107 => ⟨S2x8192x1, .f32⟩
  | 108 => ⟨S2x8192x1, .f32⟩
  | 109 => ⟨S_, .f32⟩
  | 110 => ⟨S2x8192x1, .f32⟩
  | 111 => ⟨S2x8192x1, .f32⟩
  | 112 => ⟨S2x8192x1, .f32⟩
  | 113 => ⟨S2x8192x256, .f32⟩
  | 114 => ⟨S2x8192x256, .f32⟩
  | 115 => ⟨S1x1x256, .f32⟩
  | 116 => ⟨S2x8192x256, .f32⟩
  | 117 => ⟨S2x8192x256, .f32⟩
  | 118 => ⟨S2x8192x32, .f32⟩
  | 119 => ⟨S2x8192x32, .f32⟩
  | 120 => ⟨S1x8192x32, .f32⟩
  | 121 => ⟨S2x8192x32, .f32⟩
  | 122 => ⟨S2x8192x32, .f32⟩
  | 123 => ⟨S1x8192x32, .f32⟩
  | 124 => ⟨S2x8192x32, .f32⟩
  | 125 => ⟨S2x8192x32, .f32⟩
  | 126 => ⟨S2x8192x32, .f32⟩
  | 127 => ⟨S1x8192x32, .f32⟩
  | _ => ⟨S2x8192x1024, .f32⟩

abbrev hbmTy0_1 (i : Nat) : BufTy := match i % 128 with
  | 0 => ⟨S2x8192x32, .f32⟩
  | 1 => ⟨S2x8192x32, .f32⟩
  | 2 => ⟨S1x8192x32, .f32⟩
  | 3 => ⟨S2x8192x32, .f32⟩
  | 4 => ⟨S2x8192x32, .f32⟩
  | 5 => ⟨S2x8192x32, .f32⟩
  | 6 => ⟨S2x8192x64, .f32⟩
  | 7 => ⟨S2x8192x8x256, .f32⟩
  | 8 => ⟨S2x8192x8x256, .bf16⟩
  | 9 => ⟨S16384x6144, .f32⟩
  | 10 => ⟨S256x2048, .f32⟩
  | 11 => ⟨S2x8192x2048, .f32⟩
  | 12 => ⟨S2x8192x8x256, .f32⟩
  | 13 => ⟨S2x8192x1x64, .f32⟩
  | 14 => ⟨S2x8192x8x64, .f32⟩
  | 15 => ⟨S2x8192x8x128, .f32⟩
  | 16 => ⟨S_, .f32⟩
  | 17 => ⟨S2x8192x8x64, .f32⟩
  | 18 => ⟨S2x8192x8x256, .f32⟩
  | 19 => ⟨S2x8192x8x256, .bf16⟩
  | 20 => ⟨S2x8192x8x128, .f32⟩
  | 21 => ⟨S2x8192x8x128, .bf16⟩
  | 22 => ⟨S1x2x8192x256, .f32⟩
  | 23 => ⟨S1x2x8192x64, .f32⟩
  | 24 => ⟨S2x8192x2048, .bf16⟩
  | 25 => ⟨S2x8192x2048, .bf16⟩
  | 26 => ⟨S2x8192x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_8 : Ref sig .tc := ⟨.hbm, 103, rfl⟩
abbrev main_v86 : Ref sig .tc := ⟨.hbm, 104, rfl⟩
abbrev main_v87 : Ref sig .tc := ⟨.hbm, 105, rfl⟩
abbrev main_cst_9 : Ref sig .tc := ⟨.hbm, 106, rfl⟩
abbrev main_v88 : Ref sig .tc := ⟨.hbm, 107, rfl⟩
abbrev main_v89 : Ref sig .tc := ⟨.hbm, 108, rfl⟩
abbrev main_cst_10 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_cst_11 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩

abbrev nD : Nat := 1
abbrev τ : Topo := Topo.v7x

variable {F : FTy → Type} [FloatOps F]
-- ==== Next.lean ====
abbrev S16x32x1024 : Shape := ⟨3, ![16, 32, 1024]⟩
abbrev S1x1024 : Shape := ⟨2, ![1, 1024]⟩
abbrev S1x1024x5968 : Shape := ⟨3, ![1, 1024, 5968]⟩
abbrev S1x512 : Shape := ⟨2, ![1, 512]⟩
abbrev S1x256 : Shape := ⟨2, ![1, 256]⟩
abbrev S1x512x1536 : Shape := ⟨3, ![1, 512, 1536]⟩
abbrev S512x1024 : Shape := ⟨2, ![512, 1024]⟩
abbrev S1024 : Shape := ⟨1, ![1024]⟩
abbrev S1024x5968 : Shape := ⟨2, ![1024, 5968]⟩
abbrev S1024x512 : Shape := ⟨2, ![1024, 512]⟩
abbrev S1024x256 : Shape := ⟨2, ![1024, 256]⟩
abbrev S1024x64 : Shape := ⟨2, ![1024, 64]⟩
abbrev S1024x1024 : Shape := ⟨2, ![1024, 1024]⟩
abbrev S1024x16 : Shape := ⟨2, ![1024, 16]⟩
abbrev S1024x2048 : Shape := ⟨2, ![1024, 2048]⟩
abbrev S1024x32 : Shape := ⟨2, ![1024, 32]⟩
abbrev S_ : Shape := ⟨0, ![]⟩
abbrev S1024x112 : Shape := ⟨2, ![1024, 112]⟩
abbrev S1024x6144 : Shape := ⟨2, ![1024, 6144]⟩
abbrev S512x6144 : Shape := ⟨2, ![512, 6144]⟩
abbrev S256x1024 : Shape := ⟨2, ![256, 1024]⟩
abbrev S256x6144 : Shape := ⟨2, ![256, 6144]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x128 : Shape := ⟨2, ![32, 128]⟩
abbrev S1x32x1x128 : Shape := ⟨4, ![1, 32, 1, 128]⟩
abbrev S16x32x1x128 : Shape := ⟨4, ![16, 32, 1, 128]⟩
abbrev S512x128 : Shape := ⟨2, ![512, 128]⟩
abbrev S512 : Shape := ⟨1, ![512]⟩
abbrev S512x896 : Shape := ⟨2, ![512, 896]⟩
abbrev S512x1536 : Shape := ⟨2, ![512, 1536]⟩
abbrev S512x8x192 : Shape := ⟨3, ![512, 8, 192]⟩
abbrev S512x8x128 : Shape := ⟨3, ![512, 8, 128]⟩
abbrev S512x8x64 : Shape := ⟨3, ![512, 8, 64]⟩
abbrev S512x8x32 : Shape := ⟨3, ![512, 8, 32]⟩
abbrev S512x8x256 : Shape := ⟨3, ![512, 8, 256]⟩
abbrev S512x2048 : Shape := ⟨2, ![512, 2048]⟩
abbrev S512x256 : Shape := ⟨2, ![512, 256]⟩
abbrev S512x512 : Shape := ⟨2, ![512, 512]⟩
abbrev S512x1 : Shape := ⟨2, ![512, 1]⟩
abbrev S16x32x256 : Shape := ⟨3, ![16, 32, 256]⟩
abbrev S1x16x32x256 : Shape := ⟨4, ![1, 16, 32, 256]⟩
abbrev S512x64 : Shape := ⟨2, ![512, 64]⟩
abbrev S16x32x64 : Shape := ⟨3, ![16, 32, 64]⟩
abbrev S1x16x32x64 : Shape := ⟨4, ![1, 16, 32, 64]⟩

abbrev nBuf : Space → Nat
  | .hbm => 75
  | .vmem => 14
  | .smem => 0
  | _ => 0

abbrev bufTy : (tb : Table) → Fin (tcTables nBuf tb) → BufTy
  | .hbm, ⟨0, _⟩ => ⟨S16x32x1024, .f32⟩
  | .hbm, ⟨1, _⟩ => ⟨S1x1024, .f32⟩
  | .hbm, ⟨2, _⟩ => ⟨S1x1024x5968, .f32⟩
  | .hbm, ⟨3, _⟩ => ⟨S1x512, .f32⟩
  | .hbm, ⟨4, _⟩ => ⟨S1x256, .f32⟩
  | .hbm, ⟨5, _⟩ => ⟨S1x512x1536, .f32⟩
  | .hbm, ⟨6, _⟩ => ⟨S512x1024, .f32⟩
  | .hbm, ⟨7, _⟩ => ⟨S1024, .f32⟩
  | .hbm, ⟨8, _⟩ => ⟨S1x1024, .f32⟩
  | .hbm, ⟨9, _⟩ => ⟨S1024x5968, .f32⟩
  | .hbm, ⟨10, _⟩ => ⟨S1024x512, .f32⟩
  | .hbm, ⟨11, _⟩ => ⟨S1024x256, .f32⟩
  | .hbm, ⟨12, _⟩ => ⟨S1024x64, .f32⟩
  | .hbm, ⟨13, _⟩ => ⟨S1024x512, .f32⟩
  | .hbm, ⟨14, _⟩ => ⟨S1024x512, .f32⟩
  | .hbm, ⟨15, _⟩ => ⟨S1024x1024, .f32⟩
  | .hbm, ⟨16, _⟩ => ⟨S1024x16, .f32⟩
  | .hbm, ⟨17, _⟩ => ⟨S1024x1024, .f32⟩
  | .hbm, ⟨18, _⟩ => ⟨S1024x2048, .f32⟩
  | .hbm, ⟨19, _⟩ => ⟨S1024x32, .f32⟩
  | .hbm, ⟨20, _⟩ => ⟨S1024x32, .f32⟩
  | .hbm, ⟨21, _⟩ => ⟨S1024x64, .f32⟩
  | .hbm, ⟨22, _⟩ => ⟨S_, .f32⟩
  | .hbm, ⟨23, _⟩ => ⟨S1024x112, .f32⟩
  | .hbm, ⟨24, _⟩ => ⟨S1024x6144, .f32⟩
  | .hbm, ⟨25, _⟩ => ⟨S1024x6144, .bf16⟩
  | .hbm, ⟨26, _⟩ => ⟨S512x6144, .f32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S32, .f32⟩
  | .hbm, ⟨40, _⟩ => ⟨S32x1, .f32⟩
  | .hbm, ⟨41, _⟩ => ⟨S1x32, .f32⟩
  | .hbm, ⟨42, _⟩ => ⟨S32x32, .f32⟩
  | .hbm, ⟨43, _⟩ => ⟨S32x32, .f32⟩
  | .hbm, ⟨44, _⟩ => ⟨S32x32, .f32⟩
  | .hbm, ⟨45, _⟩ => ⟨S32x32, .f32⟩
  | .hbm, ⟨46, _⟩ => ⟨S32x32, .f32⟩
  | .hbm, ⟨47, _⟩ => ⟨S32x32, .f32⟩
  | .hbm, ⟨48, _⟩ => ⟨S32x128, .f32⟩
  | .hbm, ⟨49, _⟩ => ⟨S1x32x1x128, .f32⟩
  | .hbm, ⟨50, _⟩ => ⟨S16x32x1x128, .f32⟩
  | .hbm, ⟨51, _⟩ => ⟨S512x128, .f32⟩
  | .hbm, ⟨52, _⟩ => ⟨S512, .f32⟩
  | .hbm, ⟨53, _⟩ => ⟨S1x512, .f32⟩
  | .hbm, ⟨54, _⟩ => ⟨S256, .f32⟩
  | .hbm, ⟨55, _⟩ => ⟨S1x256, .f32⟩
  | .hbm, ⟨56, _⟩ => ⟨S512x896, .f32⟩
  | .hbm, ⟨57, _⟩ => ⟨S512x1536, .f32⟩
  | .hbm, ⟨58, _⟩ => ⟨S512x8x192, .f32⟩
  | .hbm, ⟨59, _⟩ => ⟨S512x8x128, .f32⟩
  | .hbm, ⟨60, _⟩ => ⟨S512x8x64, .f32⟩
  | .hbm, ⟨61, _⟩ => ⟨S512x8x32, .f32⟩
  | .hbm, ⟨62, _⟩ => ⟨S512x8x32, .f32⟩
  | .hbm, ⟨63, _⟩ => ⟨S512x8x64, .f32⟩
  | .hbm, ⟨64, _⟩ => ⟨S512x8x256, .f32⟩
  | .hbm, ⟨65, _⟩ => ⟨S512x2048, .f32⟩
  | .hbm, ⟨66, _⟩ => ⟨S512x2048, .bf16⟩
  | .hbm, ⟨67, _⟩ => ⟨S512x2048, .bf16⟩
  | .hbm, ⟨68, _⟩ => ⟨S512x256, .f32⟩
  | .hbm, ⟨69, _⟩ => ⟨S512x128, .f32⟩
  | .hbm, ⟨70, _⟩ => ⟨S16x32x256, .f32⟩
  | .hbm, ⟨71, _⟩ => ⟨S1x16x32x256, .f32⟩
  | .hbm, ⟨72, _⟩ => ⟨S512x64, .f32⟩
  | .hbm, ⟨73, _⟩ => ⟨S16x32x64, .f32⟩
  | .hbm, ⟨74, _⟩ => ⟨S1x16x32x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S256x6144, .f32⟩
  | .local _ .vmem, ⟨5, _⟩ => ⟨S256x6144, .f32⟩
  | .local _ .vmem, ⟨6, _⟩ => ⟨S512x896, .f32⟩
  | .local _ .vmem, ⟨7, _⟩ => ⟨S512x128, .f32⟩
  | .local _ .vmem, ⟨8, _⟩ => ⟨S1x512, .f32⟩
  | .local _ .vmem, ⟨9, _⟩ => ⟨S1x256, .f32⟩
  | .local _ .vmem, ⟨10, _⟩ => ⟨S512x2048, .bf16⟩
  | .local _ .vmem, ⟨11, _⟩ => ⟨S512x2048, .bf16⟩
  | .local _ .vmem, ⟨12, _⟩ => ⟨S512x256, .f32⟩
  | .local _ .vmem, ⟨13, _⟩ => ⟨S512x128, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57_0 : Ref sig .tc := ⟨.hbm, 67, rfl⟩
abbrev main_v57_1 : Ref sig .tc := ⟨.hbm, 68, rfl⟩
abbrev main_v57_2 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S512x896 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S512x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S512x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== NextRefIdeal.lean ====
abbrev S16x32x1024 : Shape := ⟨3, ![16, 32, 1024]⟩
abbrev S1x1024 : Shape := ⟨2, ![1, 1024]⟩
abbrev S1x1024x5968 : Shape := ⟨3, ![1, 1024, 5968]⟩
abbrev S1x512 : Shape := ⟨2, ![1, 512]⟩
abbrev S1x256 : Shape := ⟨2, ![1, 256]⟩
abbrev S1x512x1536 : Shape := ⟨3, ![1, 512, 1536]⟩
abbrev S32 : Shape := ⟨1, ![32]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S1024 : Shape := ⟨1, ![1024]⟩
abbrev S16x32 : Shape := ⟨2, ![16, 32]⟩
abbrev S16x32x1 : Shape := ⟨3, ![16, 32, 1]⟩
abbrev S1x1x1024 : Shape := ⟨3, ![1, 1, 1024]⟩
abbrev S1024x5968 : Shape := ⟨2, ![1024, 5968]⟩
abbrev S16x32x5968 : Shape := ⟨3, ![16, 32, 5968]⟩
abbrev S16x32x512 : Shape := ⟨3, ![16, 32, 512]⟩
abbrev S16x32x256 : Shape := ⟨3, ![16, 32, 256]⟩
abbrev S16x32x64 : Shape := ⟨3, ![16, 32, 64]⟩
abbrev S16x32x16 : Shape := ⟨3, ![16, 32, 16]⟩
abbrev S16x32x2048 : Shape := ⟨3, ![16, 32, 2048]⟩
abbrev S16x32x32 : Shape := ⟨3, ![16, 32, 32]⟩
abbrev S16x32x112 : Shape := ⟨3, ![16, 32, 112]⟩
abbrev S16x32x6144 : Shape := ⟨3, ![16, 32, 6144]⟩
abbrev S512 : Shape := ⟨1, ![512]⟩
abbrev S1x1x512 : Shape := ⟨3, ![1, 1, 512]⟩
abbrev S512x1536 : Shape := ⟨2, ![512, 1536]⟩
abbrev S16x32x1536 : Shape := ⟨3, ![16, 32, 1536]⟩
abbrev S16x32x8x192 : Shape := ⟨4, ![16, 32, 8, 192]⟩
abbrev S16x32x8x128 : Shape := ⟨4, ![16, 32, 8, 128]⟩
abbrev S16x32x8x64 : Shape := ⟨4, ![16, 32, 8, 64]⟩
abbrev S32x1x32 : Shape := ⟨3, ![32, 1, 32]⟩
abbrev S16x32x8x32 : Shape := ⟨4, ![16, 32, 8, 32]⟩
abbrev S1x32x1x32 : Shape := ⟨4, ![1, 32, 1, 32]⟩
abbrev S256 : Shape := ⟨1, ![256]⟩
abbrev S1x1x256 : Shape := ⟨3, ![1, 1, 256]⟩
abbrev S1x32x32 : Shape := ⟨3, ![1, 32, 32]⟩
abbrev S16x32x8x256 : Shape := ⟨4, ![16, 32, 8, 256]⟩
abbrev S512x6144 : Shape := ⟨2, ![512, 6144]⟩
abbrev S1x16x32x256 : Shape := ⟨4, ![1, 16, 32, 256]⟩
abbrev S1x16x32x64 : Shape := ⟨4, ![1, 16, 32, 64]⟩
abbrev S512x2048 : Shape := ⟨2, ![512, 2048]⟩

abbrev nBuf : Space → Nat
  | .hbm => 140
  | .vmem => 0
  | .smem => 0
  | _ => 0

abbrev hbmTy0_0 (i : Nat) : BufTy := match i % 128 with
  | 0 => ⟨S16x32x1024, .f32⟩
  | 1 => ⟨S1x1024, .f32⟩
  | 2 => ⟨S1x1024x5968, .f32⟩
  | 3 => ⟨S1x512, .f32⟩
  | 4 => ⟨S1x256, .f32⟩
  | 5 => ⟨S1x512x1536, .f32⟩
  | 6 => ⟨S32, .i32⟩
  | 7 => ⟨S_, .i32⟩
  | 8 => ⟨S32, .i32⟩
  | 9 => ⟨S32, .i32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S32x1, .f32⟩
  | 20 => ⟨S1x32, .f32⟩
  | 21 => ⟨S32x32, .f32⟩
  | 22 => ⟨S32x32, .f32⟩
  | 23 => ⟨S32x32, .f32⟩
  | 24 => ⟨S32x32, .f32⟩
  | 25 => ⟨S32x32, .f32⟩
  | 26 => ⟨S1024, .f32⟩
  | 27 => ⟨S16x32x1024, .f32⟩
  | 28 => ⟨S_, .f32⟩
  | 29 => ⟨S16x32, .f32⟩
  | 30 => ⟨S16x32x1, .f32⟩
  | 31 => ⟨S_, .f32⟩
  | 32 => ⟨S16x32x1, .f32⟩
  | 33 => ⟨S16x32x1, .f32⟩
  | 34 => ⟨S_, .f32⟩
  | 35 => ⟨S16x32x1, .f32⟩
  | 36 => ⟨S16x32x1, .f32⟩
  | 37 => ⟨S16x32x1, .f32⟩
  | 38 => ⟨S16x32x1024, .f32⟩
  | 39 => ⟨S16x32x1024, .f32⟩
  | 40 => ⟨S1x1x1024, .f32⟩
  | 41 => ⟨S16x32x1024, .f32⟩
  | 42 => ⟨S16x32x1024, .f32⟩
  | 43 => ⟨S1024x5968, .f32⟩
  | 44 => ⟨S16x32x5968, .f32⟩
  | 45 => ⟨S16x32x512, .f32⟩
  | 46 => ⟨S16x32x256, .f32⟩
  | 47 => ⟨S16x32x64, .f32⟩
  | 48 => ⟨S16x32x512, .f32⟩
  | 49 => ⟨S16x32x512, .f32⟩
  | 50 => ⟨S16x32x1024, .f32⟩
  | 51 => ⟨S16x32x16, .f32⟩
  | 52 => ⟨S16x32x1024, .f32⟩
  | 53 => ⟨S16x32x2048, .f32⟩
  | 54 => ⟨S16x32x32, .f32⟩
  | 55 => ⟨S16x32x32, .f32⟩
  | 56 => ⟨S_, .f32⟩
  | 57 => ⟨S16x32x112, .f32⟩
  | 58 => ⟨S16x32x6144, .f32⟩
  | 59 => ⟨S512, .f32⟩
  | 60 => ⟨S16x32x512, .f32⟩
  | 61 => ⟨S_, .f32⟩
  | 62 => ⟨S16x32, .f32⟩
  | 63 => ⟨S16x32x1, .f32⟩
  | 64 => ⟨S_, .f32⟩
  | 65 => ⟨S16x32x1, .f32⟩
  | 66 => ⟨S16x32x1, .f32⟩
  | 67 => ⟨S_, .f32⟩
  | 68 => ⟨S16x32x1, .f32⟩
  | 69 => ⟨S16x32x1, .f32⟩
  | 70 => ⟨S16x32x1, .f32⟩
  | 71 => ⟨S16x32x512, .f32⟩
  | 72 => ⟨S16x32x512, .f32⟩
  | 73 => ⟨S1x1x512, .f32⟩
  | 74 => ⟨S16x32x512, .f32⟩
  | 75 => ⟨S16x32x512, .f32⟩
  | 76 => ⟨S512x1536, .f32⟩
  | 77 => ⟨S16x32x1536, .f32⟩
  | 78 => ⟨S16x32x8x192, .f32⟩
  | 79 => ⟨S16x32x8x128, .f32⟩
  | 80 => ⟨S16x32x8x64, .f32⟩
  | 81 => ⟨S32x1x32, .f32⟩
  | 82 => ⟨S32x1x32, .f32⟩
  | 83 => ⟨S16x32x8x32, .f32⟩
  | 84 => ⟨S16x32x8x32, .f32⟩
  | 85 => ⟨S1x32x1x32, .f32⟩
  | 86 => ⟨S16x32x8x32, .f32⟩
  | 87 => ⟨S16x32x8x32, .f32⟩
  | 88 => ⟨S1x32x1x32, .f32⟩
  | 89 => ⟨S16x32x8x32, .f32⟩
  | 90 => ⟨S16x32x8x32, .f32⟩
  | 91 => ⟨S16x32x8x32, .f32⟩
  | 92 => ⟨S1x32x1x32, .f32⟩
  | 93 => ⟨S16x32x8x32, .f32⟩
  | 94 => ⟨S16x32x8x32, .f32⟩
  | 95 => ⟨S1x32x1x32, .f32⟩
  | 96 => ⟨S16x32x8x32, .f32⟩
  | 97 => ⟨S16x32x8x32, .f32⟩
  | 98 => ⟨S16x32x8x32, .f32⟩
  | 99 => ⟨S16x32x8x64, .f32⟩
  | 100 => ⟨S256, .f32⟩
  | 101 => ⟨S16x32x256, .f32⟩
  | 102 => ⟨S_, .f32⟩
  | 103 => ⟨S16x32, .f32⟩
  | 104 => ⟨S16x32x1, .f32⟩
  | 105 => ⟨S_, .f32⟩
  | 106 => ⟨S16x32x1, .f32⟩
  | 107 => ⟨S16x32x1, .f32⟩
  | 108 => ⟨S_, .f32⟩
  | 109 => ⟨S16x32x1, .f32⟩
  | 110 => ⟨S16x32x1, .f32⟩
  | 111 => ⟨S16x32x1, .f32⟩
  | 112 => ⟨S16x32x256, .f32⟩
  | 113 => ⟨S16x32x256, .f32⟩
  | 114 => ⟨S1x1x256, .f32⟩
  | 115 => ⟨S16x32x256, .f32⟩
  | 116 => ⟨S16x32x256, .f32⟩
  | 117 => ⟨S16x32x32, .f32⟩
  | 118 => ⟨S16x32x32, .f32⟩
  | 119 => ⟨S1x32x32, .f32⟩
  | 120 => ⟨S16x32x32, .f32⟩
  | 121 => ⟨S16x32x32, .f32⟩
  | 122 => ⟨S1x32x32, .f32⟩
  | 123 => ⟨S16x32x32, .f32⟩
  | 124 => ⟨S16x32x32, .f32⟩
  | 125 => ⟨S16x32x32, .f32⟩
  | 126 => ⟨S1x32x32, .f32⟩
  | 127 => ⟨S16x32x32, .f32⟩
  | _ => ⟨S16x32x1024, .f32⟩

abbrev hbmTy0_1 (i : Nat) : BufTy := match i % 128 with
  | 0 => ⟨S16x32x32, .f32⟩
  | 1 => ⟨S1x32x32, .f32⟩
  | 2 => ⟨S16x32x32, .f32⟩
  | 3 => ⟨S16x32x32, .f32⟩
  | 4 => ⟨S16x32x32, .f32⟩
  | 5 => ⟨S16x32x64, .f32⟩
  | 6 => ⟨S16x32x8x256, .f32⟩
  | 7 => ⟨S16x32x8x256, .bf16⟩
  | 8 => ⟨S512x6144, .f32⟩
  | 9 => ⟨S1x16x32x256, .f32⟩
  | 10 => ⟨S1x16x32x64, .f32⟩
  | 11 => ⟨S512x2048, .bf16⟩
  | _ => ⟨S16x32x1024, .f32⟩

abbrev hbmTy (i : Nat) : BufTy := match i / 128 with
  | 0 => hbmTy0_0 i
  | 1 => hbmTy0_1 i
  | _ => ⟨S16x32x1024, .f32⟩

abbrev bufTy : (tb : Table) → Fin (tcTables nBuf tb) → BufTy
  | .hbm, ⟨i, _⟩ => hbmTy i
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_8 : Ref sig .tc := ⟨.hbm, 102, rfl⟩
abbrev main_v86 : Ref sig .tc := ⟨.hbm, 103, rfl⟩
abbrev main_v87 : Ref sig .tc := ⟨.hbm, 104, rfl⟩
abbrev main_cst_9 : Ref sig .tc := ⟨.hbm, 105, rfl⟩
abbrev main_v88 : Ref sig .tc := ⟨.hbm, 106, rfl⟩
abbrev main_v89 : Ref sig .tc := ⟨.hbm, 107, rfl⟩
abbrev main_cst_10 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩

abbrev nD : Nat := 1
abbrev τ : Topo := Topo.v7x

variable {F : FTy → Type} [FloatOps F]
-- ==== Gla.lean ====
abbrev S16x32x1024 : Shape := ⟨3, ![16, 32, 1024]⟩
abbrev S1x1024 : Shape := ⟨2, ![1, 1024]⟩
abbrev S1x1024x5968 : Shape := ⟨3, ![1, 1024, 5968]⟩
abbrev S1x16x512 : Shape := ⟨3, ![1, 16, 512]⟩
abbrev S1x512 : Shape := ⟨2, ![1, 512]⟩
abbrev S1x256 : Shape := ⟨2, ![1, 256]⟩
abbrev S1x16x4x128x256 : Shape := ⟨5, ![1, 16, 4, 128, 256]⟩
abbrev S512x1024 : Shape := ⟨2, ![512, 1024]⟩
abbrev S1024 : Shape := ⟨1, ![1024]⟩
abbrev S1024x5968 : Shape := ⟨2, ![1024, 5968]⟩
abbrev S1024x512 : Shape := ⟨2, ![1024, 512]⟩
abbrev S1024x256 : Shape := ⟨2, ![1024, 256]⟩
abbrev S1024x64 : Shape := ⟨2, ![1024, 64]⟩
abbrev S1024x1024 : Shape := ⟨2, ![1024, 1024]⟩
abbrev S1024x16 : Shape := ⟨2, ![1024, 16]⟩
abbrev S1024x2048 : Shape := ⟨2, ![1024, 2048]⟩
abbrev S1024x32 : Shape := ⟨2, ![1024, 32]⟩
abbrev S_ : Shape := ⟨0, ![]⟩
abbrev S1024x112 : Shape := ⟨2, ![1024, 112]⟩
abbrev S1024x6144 : Shape := ⟨2, ![1024, 6144]⟩
abbrev S512x6144 : Shape := ⟨2, ![512, 6144]⟩
abbrev S256x1024 : Shape := ⟨2, ![256, 1024]⟩
abbrev S256x6144 : Shape := ⟨2, ![256, 6144]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S16x512 : Shape := ⟨2, ![16, 512]⟩
abbrev S128x512 : Shape := ⟨2, ![128, 512]⟩
abbrev S512 : Shape := ⟨1, ![512]⟩
abbrev S16x4x128x256 : Shape := ⟨4, ![16, 4, 128, 256]⟩
abbrev S32x1024 : Shape := ⟨2, ![32, 1024]⟩
abbrev S32x512 : Shape := ⟨2, ![32, 512]⟩
abbrev S32x128 : Shape := ⟨2, ![32, 128]⟩
abbrev S1x4x128x256 : Shape := ⟨4, ![1, 4, 128, 256]⟩
abbrev S4x256x128 : Shape := ⟨3, ![4, 256, 128]⟩
abbrev S1x1x128x256 : Shape := ⟨4, ![1, 1, 128, 256]⟩
abbrev S128x256 : Shape := ⟨2, ![128, 256]⟩
abbrev S256x128 : Shape := ⟨2, ![256, 128]⟩
abbrev S1x256x128 : Shape := ⟨3, ![1, 256, 128]⟩
abbrev S16x32 : Shape := ⟨2, ![16, 32]⟩
abbrev S32x256 : Shape := ⟨2, ![32, 256]⟩
abbrev S16x128 : Shape := ⟨2, ![16, 128]⟩
abbrev S1x128 : Shape := ⟨2, ![1, 128]⟩
abbrev S16 : Shape := ⟨1, ![16]⟩
abbrev S16x1 : Shape := ⟨2, ![16, 1]⟩
abbrev S32x32 : Shape := ⟨2, ![32, 32]⟩
abbrev S256x32 : Shape := ⟨2, ![256, 32]⟩
abbrev S32 : Shape := ⟨1, ![32]⟩
abbrev S32x1 : Shape := ⟨2, ![32, 1]⟩

abbrev nBuf : Space → Nat
  | .hbm => 41
  | .vmem => 26
  | .smem => 0
  | _ => 0

abbrev bufTy : (tb : Table) → Fin (tcTables nBuf tb) → BufTy
  | .hbm, ⟨0, _⟩ => ⟨S16x32x1024, .f32⟩
  | .hbm, ⟨1, _⟩ => ⟨S1x1024, .f32⟩
  | .hbm, ⟨2, _⟩ => ⟨S1x1024x5968, .f32⟩
  | .hbm, ⟨3, _⟩ => ⟨S1x16x512, .f32⟩
  | .hbm, ⟨4, _⟩ => ⟨S1x512, .f32⟩
  | .hbm, ⟨5, _⟩ => ⟨S1x256, .f32⟩
  | .hbm, ⟨6, _⟩ => ⟨S1x16x4x128x256, .f32⟩
  | .hbm, ⟨7, _⟩ => ⟨S512x1024, .f32⟩
  | .hbm, ⟨8, _⟩ => ⟨S1024, .f32⟩
  | .hbm, ⟨9, _⟩ => ⟨S1x1024, .f32⟩
  | .hbm, ⟨10, _⟩ => ⟨S1024x5968, .f32⟩
  | .hbm, ⟨11, _⟩ => ⟨S1024x512, .f32⟩
  | .hbm, ⟨12, _⟩ => ⟨S1024x256, .f32⟩
  | .hbm, ⟨13, _⟩ => ⟨S1024x64, .f32⟩
  | .hbm, ⟨14, _⟩ => ⟨S1024x512, .f32⟩
  | .hbm, ⟨15, _⟩ => ⟨S1024x512, .f32⟩
  | .hbm, ⟨16, _⟩ => ⟨S1024x1024, .f32⟩
  | .hbm, ⟨17, _⟩ => ⟨S1024x16, .f32⟩
  | .hbm, ⟨18, _⟩ => ⟨S1024x1024, .f32⟩
  | .hbm, ⟨19, _⟩ => ⟨S1024x2048, .f32⟩
  | .hbm, ⟨20, _⟩ => ⟨S1024x32, .f32⟩
  | .hbm, ⟨21, _⟩ => ⟨S1024x32, .f32⟩
  | .hbm, ⟨22, _⟩ => ⟨S1024x64, .f32⟩
  | .hbm, ⟨23, _⟩ => ⟨S_, .f32⟩
  | .hbm, ⟨24, _⟩ => ⟨S1024x112, .f32⟩
  | .hbm, ⟨25, _⟩ => ⟨S1024x6144, .f32⟩
  | .hbm, ⟨26, _⟩ => ⟨S1024x6144, .bf16⟩
  | .hbm, ⟨27, _⟩ => ⟨S512x6144, .f32⟩
  | .hbm, ⟨28, _⟩ => ⟨S16x512, .f32⟩
  | .hbm, ⟨29, _⟩ => ⟨S_, .i32⟩
  | .hbm, ⟨30, _⟩ => ⟨S_, .f32⟩
  | .hbm, ⟨31, _⟩ => ⟨S128x512, .f32⟩
  | .hbm, ⟨32, _⟩ => ⟨S128x512, .bf16⟩
  | .hbm, ⟨33, _⟩ => ⟨S512, .f32⟩
  | .hbm, ⟨34, _⟩ => ⟨S1x512, .f32⟩
  | .hbm, ⟨35, _⟩ => ⟨S256, .f32⟩
  | .hbm, ⟨36, _⟩ => ⟨S1x256, .f32⟩
  | .hbm, ⟨37, _⟩ => ⟨S16x4x128x256, .f32⟩
  | .hbm, ⟨38, _⟩ => ⟨S512x1024, .bf16⟩
  | .hbm, ⟨39, _⟩ => ⟨S16x4x128x256, .f32⟩
  | .hbm, ⟨40, _⟩ => ⟨S1x16x4x128x256, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S256x6144, .f32⟩
  | .local _ .vmem, ⟨5, _⟩ => ⟨S256x6144, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S32x128, .f32⟩
  | .local _ .vmem, ⟨15, _⟩ => ⟨S32x128, .f32⟩
  | .local _ .vmem, ⟨16, _⟩ => ⟨S128x512, .bf16⟩
  | .local _ .vmem, ⟨17, _⟩ => ⟨S1x512, .f32⟩
  | .local _ .vmem, ⟨18, _⟩ => ⟨S1x256, .f32⟩
  | .local _ .vmem, ⟨19, _⟩ => ⟨S1x4x128x256, .f32⟩
  | .local _ .vmem, ⟨20, _⟩ => ⟨S1x4x128x256, .f32⟩
  | .local _ .vmem, ⟨21, _⟩ => ⟨S32x1024, .bf16⟩
  | .local _ .vmem, ⟨22, _⟩ => ⟨S32x1024, .bf16⟩
  | .local _ .vmem, ⟨23, _⟩ => ⟨S1x4x128x256, .f32⟩
  | .local _ .vmem, ⟨24, _⟩ => ⟨S1x4x128x256, .f32⟩
  | .local _ .vmem, ⟨25, _⟩ => ⟨S4x256x128, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20
abbrev cc1_sem9_0 : DmaSem sig := 21
abbrev cc1_sem9_1 : DmaSem sig := 22
abbrev cc1_sem10_0 : DmaSem sig := 23
abbrev cc1_sem10_1 : DmaSem sig := 24

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 1], ![false, false]⟩

def k1_mult1 : BitVec 32 :=
  let c0_i32_6 : BitVec 32 := 0#32
  let c32_i32 : BitVec 32 := 32#32
  let v11 : BitVec 32 := Scalar.muli c0_i32_6 c32_i32
  v11
def k1_off1 : Fin 2 → Nat :=
  let c0_i32_6 : BitVec 32 := 0#32
  let c32_i32 : BitVec 32 := 32#32
  let v11 : BitVec 32 := Scalar.muli c0_i32_6 c32_i32
  let v12 : BitVec 32 := v11
  let v13 : Index := Scalar.indexCast v12
  let c0_7 : Index := 0#32
  ![v13.toNat, 0]
def k1_off2 : Fin 2 → Nat :=
  let c0_i32_6 : BitVec 32 := 0#32
  let c32_i32 : BitVec 32 := 32#32
  let v11 : BitVec 32 := Scalar.muli c0_i32_6 c32_i32
  let v12 : BitVec 32 := v11
  let v74 : Index := Scalar.indexCast v12
  let c0_24 : Index := 0#32
  ![v74.toNat, 0]
def k1_off3 : Fin 2 → Nat :=
  let c0_i32_6 : BitVec 32 := 0#32
  let c32_i32 : BitVec 32 := 32#32
  let v11 : BitVec 32 := Scalar.muli c0_i32_6 c32_i32
  let v12 : BitVec 32 := v11
  let v82 : Index := Scalar.indexCast v12
  let c0_27 : Index := 0#32
  ![v82.toNat, 0]
def k1_off4 : Fin 2 → Nat :=
  let c0_i32_6 : BitVec 32 := 0#32
  let c32_i32 : BitVec 32 := 32#32
  let v11 : BitVec 32 := Scalar.muli c0_i32_6 c32_i32
  let v12 : BitVec 32 := v11
  let v646 : Index := Scalar.indexCast v12
  let c128 : Index := 128#32
  ![v646.toNat, 128]
def k1_off5 : Fin 2 → Nat :=
  let c0_i32_6 : BitVec 32 := 0#32
  let c32_i32 : BitVec 32 := 32#32
  let v11 : BitVec 32 := Scalar.muli c0_i32_6 c32_i32
  let v12 : BitVec 32 := v11
  let v654 : Index := Scalar.indexCast v12
  let c256 : Index := 256#32
  ![v654.toNat, 256]
def k1_off6 : Fin 2 → Nat :=
  let c0_i32_6 : BitVec 32 := 0#32
  let c32_i32 : BitVec 32 := 32#32
  let v11 : BitVec 32 := Scalar.muli c0_i32_6 c32_i32
  let v12 : BitVec 32 := v11
  let v1218 : Index := Scalar.indexCast v12
  let c256_173 : Index := 256#32
  ![v1218.toNat, 256]
def k1_off7 : Fin 2 → Nat :=
  let c0_i32_6 : BitVec 32 := 0#32
  let c32_i32 : BitVec 32 := 32#32
  let v11 : BitVec 32 := Scalar.muli c0_i32_6 c32_i32
  let v12 : BitVec 32 := v11
  let v1226 : Index := Scalar.indexCast v12
  let c512 : Index := 512#32
  ![v1226.toNat, 512]
def k1_off8 : Fin 2 → Nat :=
  let c0_i32_6 : BitVec 32 := 0#32
  let c32_i32 : BitVec 32 := 32#32
  let v11 : BitVec 32 := Scalar.muli c0_i32_6 c32_i32
  let v12 : BitVec 32 := v11
  let v1790 : Index := Scalar.indexCast v12
  let c384 : Index := 384#32
  ![v1790.toNat, 384]
def k1_off9 : Fin 2 → Nat :=
  let c0_i32_6 : BitVec 32 := 0#32
  let c32_i32 : BitVec 32 := 32#32
  let v11 : BitVec 32 := Scalar.muli c0_i32_6 c32_i32
  let v12 : BitVec 32 := v11
  let v1798 : Index := Scalar.indexCast v12
  let c768 : Index := 768#32
  ![v1798.toNat, 768]
def k1_cond2 (i : grid1.Coords) : BitVec 1 :=
  let arg1 : BitVec 32 := BitVec.ofNat 32 (i 1).val
  let c0_i32_347 : BitVec 32 := 0#32
  let v2361 : BitVec 1 := Scalar.cmpi .eq arg1 c0_i32_347
  let v2362 : BitVec 32 := Scalar.extui v2361
  let c0_i32_348 : BitVec 32 := 0#32
  let v2363 : BitVec 1 := Scalar.cmpi .ne v2362 c0_i32_348
  v2363

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c6_i32 : BitVec 32 := 6#32
  let c0_i32 : BitVec 32 := 0#32
  ![v1.toNat, c6_i32.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c7_i32 : BitVec 32 := 7#32
  let c0_i32 : BitVec 32 := 0#32
  ![v1.toNat, c7_i32.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c7_i32 : BitVec 32 := 7#32
  let c0_i32 : BitVec 32 := 0#32
  ![v1.toNat, c7_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_9 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S32x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S32x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S32x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S128x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x4x128x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S32x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x4x128x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]
-- ==== GlaIdeal.lean ====
variable {F : FTy → Type} [FloatOps F] [Named F]
def κ : String → Option EReal := fun
  | "log2e" => some (((Real.log 2)⁻¹ : ℝ) : EReal)
  | _ => none
-- ==== GlaRefIdeal.lean ====
abbrev S16x32x1024 : Shape := ⟨3, ![16, 32, 1024]⟩
abbrev S1x1024 : Shape := ⟨2, ![1, 1024]⟩
abbrev S1x1024x5968 : Shape := ⟨3, ![1, 1024, 5968]⟩
abbrev S1x16x512 : Shape := ⟨3, ![1, 16, 512]⟩
abbrev S1x512 : Shape := ⟨2, ![1, 512]⟩
abbrev S1x256 : Shape := ⟨2, ![1, 256]⟩
abbrev S1x16x4x128x256 : Shape := ⟨5, ![1, 16, 4, 128, 256]⟩
abbrev S1024 : Shape := ⟨1, ![1024]⟩
abbrev S_ : Shape := ⟨0, ![]⟩
abbrev S16x32 : Shape := ⟨2, ![16, 32]⟩
abbrev S16x32x1 : Shape := ⟨3, ![16, 32, 1]⟩
abbrev S1x1x1024 : Shape := ⟨3, ![1, 1, 1024]⟩
abbrev S1024x5968 : Shape := ⟨2, ![1024, 5968]⟩
abbrev S16x32x5968 : Shape := ⟨3, ![16, 32, 5968]⟩
abbrev S16x32x512 : Shape := ⟨3, ![16, 32, 512]⟩
abbrev S16x32x256 : Shape := ⟨3, ![16, 32, 256]⟩
abbrev S16x32x64 : Shape := ⟨3, ![16, 32, 64]⟩
abbrev S16x32x16 : Shape := ⟨3, ![16, 32, 16]⟩
abbrev S16x32x2048 : Shape := ⟨3, ![16, 32, 2048]⟩
abbrev S16x512 : Shape := ⟨2, ![16, 512]⟩
abbrev S512 : Shape := ⟨1, ![512]⟩
abbrev S1x1x512 : Shape := ⟨3, ![1, 1, 512]⟩
abbrev S16x32x4x128 : Shape := ⟨4, ![16, 32, 4, 128]⟩
abbrev S16x4x32x128 : Shape := ⟨4, ![16, 4, 32, 128]⟩
abbrev S16x32x4x256 : Shape := ⟨4, ![16, 32, 4, 256]⟩
abbrev S16x4x32x256 : Shape := ⟨4, ![16, 4, 32, 256]⟩
abbrev S32 : Shape := ⟨1, ![32]⟩
abbrev S1x32 : Shape := ⟨2, ![1, 32]⟩
abbrev S32x1 : Shape := ⟨2, ![32, 1]⟩
abbrev S32x32 : Shape := ⟨2, ![32, 32]⟩
abbrev S1x1x32x32x1 : Shape := ⟨5, ![1, 1, 32, 32, 1]⟩
abbrev S16x4x1x32x128 : Shape := ⟨5, ![16, 4, 1, 32, 128]⟩
abbrev S16x4x32x32x128 : Shape := ⟨5, ![16, 4, 32, 32, 128]⟩
abbrev S16x4x1x128 : Shape := ⟨4, ![16, 4, 1, 128]⟩
abbrev S16x4x128 : Shape := ⟨3, ![16, 4, 128]⟩
abbrev S16x4x128x1 : Shape := ⟨4, ![16, 4, 128, 1]⟩
abbrev S16x4x128x256 : Shape := ⟨4, ![16, 4, 128, 256]⟩

abbrev nBuf : Space → Nat
  | .hbm => 97
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S1x1024, .f32⟩
  | .hbm, ⟨2, _⟩ => ⟨S1x1024x5968, .f32⟩
  | .hbm, ⟨3, _⟩ => ⟨S1x16x512, .f32⟩
  | .hbm, ⟨4, _⟩ => ⟨S1x512, .f32⟩
  | .hbm, ⟨5, _⟩ => ⟨S1x256, .f32⟩
  | .hbm, ⟨6, _⟩ => ⟨S1x16x4x128x256, .f32⟩
  | .hbm, ⟨7, _⟩ => ⟨S1024, .f32⟩
  | .hbm, ⟨8, _⟩ => ⟨S16x32x1024, .f32⟩
  | .hbm, ⟨9, _⟩ => ⟨S_, .f32⟩
  | .hbm, ⟨10, _⟩ => ⟨S16x32, .f32⟩
  | .hbm, ⟨11, _⟩ => ⟨S16x32x1, .f32⟩
  | .hbm, ⟨12, _⟩ => ⟨S_, .f32⟩
  | .hbm, ⟨13, _⟩ => ⟨S16x32x1, .f32⟩
  | .hbm, ⟨14, _⟩ => ⟨S16x32x1, .f32⟩
  | .hbm, ⟨15, _⟩ => ⟨S_, .f32⟩
  | .hbm, ⟨16, _⟩ => ⟨S16x32x1, .f32⟩
  | .hbm, ⟨17, _⟩ => ⟨S16x32x1, .f32⟩
  | .hbm, ⟨18, _⟩ => ⟨S16x32x1, .f32⟩
  | .hbm, ⟨19, _⟩ => ⟨S16x32x1024, .f32⟩
  | .hbm, ⟨20, _⟩ => ⟨S16x32x1024, .f32⟩
  | .hbm, ⟨21, _⟩ => ⟨S1x1x1024, .f32⟩
  | .hbm, ⟨22, _⟩ => ⟨S16x32x1024, .f32⟩
  | .hbm, ⟨23, _⟩ => ⟨S16x32x1024, .f32⟩
  | .hbm, ⟨24, _⟩ => ⟨S1024x5968, .f32⟩
  | .hbm, ⟨25, _⟩ => ⟨S16x32x5968, .f32⟩
  | .hbm, ⟨26, _⟩ => ⟨S16x32x512, .f32⟩
  | .hbm, ⟨27, _⟩ => ⟨S16x32x256, .f32⟩
  | .hbm, ⟨28, _⟩ => ⟨S16x32x64, .f32⟩
  | .hbm, ⟨29, _⟩ => ⟨S16x32x512, .f32⟩
  | .hbm, ⟨30, _⟩ => ⟨S16x32x512, .f32⟩
  | .hbm, ⟨31, _⟩ => ⟨S16x32x1024, .f32⟩
  | .hbm, ⟨32, _⟩ => ⟨S16x32x16, .f32⟩
  | .hbm, ⟨33, _⟩ => ⟨S16x32x1024, .f32⟩
  | .hbm, ⟨34, _⟩ => ⟨S16x32x2048, .f32⟩
  | .hbm, ⟨35, _⟩ => ⟨S16x512, .f32⟩
  | .hbm, ⟨36, _⟩ => ⟨S16x32x512, .f32⟩
  | .hbm, ⟨37, _⟩ => ⟨S512, .f32⟩
  | .hbm, ⟨38, _⟩ => ⟨S1x1x512, .f32⟩
  | .hbm, ⟨39, _⟩ => ⟨S16x32x512, .f32⟩
  | .hbm, ⟨40, _⟩ => ⟨S16x32x512, .f32⟩
  | .hbm, ⟨41, _⟩ => ⟨S16x32x512, .f32⟩
  | .hbm, ⟨42, _⟩ => ⟨S_, .f32⟩
  | .hbm, ⟨43, _⟩ => ⟨S16x32x512, .f32⟩
  | .hbm, ⟨44, _⟩ => ⟨S16x32x512, .f32⟩
  | .hbm, ⟨45, _⟩ => ⟨S16x32x512, .f32⟩
  | .hbm, ⟨46, _⟩ => ⟨S16x32x512, .f32⟩
  | .hbm, ⟨47, _⟩ => ⟨S16x32x512, .i1⟩
  | .hbm, ⟨48, _⟩ => ⟨S16x32x512, .f32⟩
  | .hbm, ⟨49, _⟩ => ⟨S16x32x512, .f32⟩
  | .hbm, ⟨50, _⟩ => ⟨S16x32x512, .f32⟩
  | .hbm, ⟨51, _⟩ => ⟨S16x32x512, .f32⟩
  | .hbm, ⟨52, _⟩ => ⟨S16x32x512, .f32⟩
  | .hbm, ⟨53, _⟩ => ⟨S16x32x512, .f32⟩
  | .hbm, ⟨54, _⟩ => ⟨S16x32x512, .f32⟩
  | .hbm, ⟨55, _⟩ => ⟨S16x32x512, .f32⟩
  | .hbm, ⟨56, _⟩ => ⟨S16x32x512, .f32⟩
  | .hbm, ⟨57, _⟩ => ⟨S_, .f32⟩
  | .hbm, ⟨58, _⟩ => ⟨S16x32x512, .f32⟩
  | .hbm, ⟨59, _⟩ => ⟨S16x32x512, .f32⟩
  | .hbm, ⟨60, _⟩ => ⟨S16x32x4x128, .f32⟩
  | .hbm, ⟨61, _⟩ => ⟨S16x4x32x128, .f32⟩
  | .hbm, ⟨62, _⟩ => ⟨S16x32x4x256, .f32⟩
  | .hbm, ⟨63, _⟩ => ⟨S16x4x32x256, .f32⟩
  | .hbm, ⟨64, _⟩ => ⟨S16x32x4x128, .f32⟩
  | .hbm, ⟨65, _⟩ => ⟨S16x4x32x128, .f32⟩
  | .hbm, ⟨66, _⟩ => ⟨S32, .i32⟩
  | .hbm, ⟨67, _⟩ => ⟨S1x32, .i32⟩
  | .hbm, ⟨68, _⟩ => ⟨S32, .i32⟩
  | .hbm, ⟨69, _⟩ => ⟨S32x1, .i32⟩
  | .hbm, ⟨70, _⟩ => ⟨S32x32, .i32⟩
  | .hbm, ⟨71, _⟩ => ⟨S32x32, .i32⟩
  | .hbm, ⟨72, _⟩ => ⟨S32x32, .i1⟩
  | .hbm, ⟨73, _⟩ => ⟨S1x1x32x32x1, .i1⟩
  | .hbm, ⟨74, _⟩ => ⟨S16x4x1x32x128, .f32⟩
  | .hbm, ⟨75, _⟩ => ⟨S_, .f32⟩
  | .hbm, ⟨76, _⟩ => ⟨S_, .f32⟩
  | .hbm, ⟨77, _⟩ => ⟨S16x4x32x32x128, .i1⟩
  | .hbm, ⟨78, _⟩ => ⟨S16x4x32x32x128, .f32⟩
  | .hbm, ⟨79, _⟩ => ⟨S16x4x32x32x128, .f32⟩
  | .hbm, ⟨80, _⟩ => ⟨S16x4x32x32x128, .f32⟩
  | .hbm, ⟨81, _⟩ => ⟨S_, .f32⟩
  | .hbm, ⟨82, _⟩ => ⟨S16x4x32x128, .f32⟩
  | .hbm, ⟨83, _⟩ => ⟨S16x4x1x128, .f32⟩
  | .hbm, ⟨84, _⟩ => ⟨S16x4x128, .f32⟩
  | .hbm, ⟨85, _⟩ => ⟨S16x4x128, .f32⟩
  | .hbm, ⟨86, _⟩ => ⟨S16x4x128x1, .f32⟩
  | .hbm, ⟨87, _⟩ => ⟨S16x4x128x256, .f32⟩
  | .hbm, ⟨88, _⟩ => ⟨S16x4x128x256, .f32⟩
  | .hbm, ⟨89, _⟩ => ⟨S16x4x128x256, .f32⟩
  | .hbm, ⟨90, _⟩ => ⟨S16x4x32x128, .f32⟩
  | .hbm, ⟨91, _⟩ => ⟨S16x4x32x128, .f32⟩
  | .hbm, ⟨92, _⟩ => ⟨S16x4x32x128, .f32⟩
  | .hbm, ⟨93, _⟩ => ⟨S16x4x32x128, .f32⟩
  | .hbm, ⟨94, _⟩ => ⟨S16x4x128x256, .f32⟩
  | .hbm, ⟨95, _⟩ => ⟨S16x4x128x256, .f32⟩
  | .hbm, ⟨96, _⟩ => ⟨S1x16x4x128x256, .f32⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_3 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_4 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_v63 : Ref sig .tc := ⟨.hbm, 80, rfl⟩
abbrev main_cst_5 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]
-- ==== Mix.lean ====
abbrev S16384x1024 : Shape := ⟨2, ![16384, 1024]⟩
abbrev S16384x6144 : Shape := ⟨2, ![16384, 6144]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x32 : Shape := ⟨2, ![1024, 32]⟩
abbrev S_ : Shape := ⟨0, ![]⟩
abbrev S1024x128 : Shape := ⟨2, ![1024, 128]⟩
abbrev S32 : Shape := ⟨1, ![32]⟩
abbrev S128 : Shape := ⟨1, ![128]⟩
abbrev S1x128 : Shape := ⟨2, ![1, 128]⟩
abbrev S1024x1024 : Shape := ⟨2, ![1024, 1024]⟩
abbrev S1024 : Shape := ⟨1, ![1024]⟩
abbrev S16384x128 : Shape := ⟨2, ![16384, 128]⟩
abbrev S16384x4 : Shape := ⟨2, ![16384, 4]⟩
abbrev S512x1024 : Shape := ⟨2, ![512, 1024]⟩
abbrev S512x128 : Shape := ⟨2, ![512, 128]⟩
abbrev S512x4 : Shape := ⟨2, ![512, 4]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S256x4 : Shape := ⟨2, ![256, 4]⟩

abbrev nBuf : Space → Nat
  | .hbm => 33
  | .vmem => 25
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x6144, .f32⟩
  | .hbm, ⟨3, _⟩ => ⟨S16384x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024x32, .f32⟩
  | .hbm, ⟨9, _⟩ => ⟨S1x32, .f32⟩
  | .hbm, ⟨10, _⟩ => ⟨S1024x32, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S32, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x128, .f32⟩
  | .hbm, ⟨31, _⟩ => ⟨S16384x4, .f32⟩
  | .hbm, ⟨32, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x128, .f32⟩
  | .local _ .vmem, ⟨21, _⟩ => ⟨S512x128, .f32⟩
  | .local _ .vmem, ⟨22, _⟩ => ⟨S512x4, .f32⟩
  | .local _ .vmem, ⟨23, _⟩ => ⟨S512x4, .f32⟩
  | .local _ .vmem, ⟨24, _⟩ => ⟨S1x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v14_3 : Ref sig .tc := ⟨.hbm, 31, rfl⟩
abbrev main_v14_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x4 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MixRefIdeal.lean ====
abbrev S16384x1024 : Shape := ⟨2, ![16384, 1024]⟩
abbrev S16384x6144 : Shape := ⟨2, ![16384, 6144]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x1024 : Shape := ⟨2, ![1024, 1024]⟩
abbrev S16384x2048 : Shape := ⟨2, ![16384, 2048]⟩
abbrev S_ : Shape := ⟨0, ![]⟩
abbrev S1024 : Shape := ⟨1, ![1024]⟩
abbrev S16384 : Shape := ⟨1, ![16384]⟩
abbrev S16384x1 : Shape := ⟨2, ![16384, 1]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x6144, .f32⟩
  | .hbm, ⟨3, _⟩ => ⟨S16384x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024x32, .f32⟩
  | .hbm, ⟨9, _⟩ => ⟨S1x32, .f32⟩
  | .hbm, ⟨10, _⟩ => ⟨S16384x1024, .f32⟩
  | .hbm, ⟨11, _⟩ => ⟨S1024x1024, .f32⟩
  | .hbm, ⟨12, _⟩ => ⟨S16384x1024, .f32⟩
  | .hbm, ⟨13, _⟩ => ⟨S16384x1024, .f32⟩
  | .hbm, ⟨14, _⟩ => ⟨S1024x1024, .f32⟩
  | .hbm, ⟨15, _⟩ => ⟨S16384x1024, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1024x1024, .f32⟩
  | .hbm, ⟨31, _⟩ => ⟨S16384x1024, .f32⟩
  | .hbm, ⟨32, _⟩ => ⟨S16384x1024, .f32⟩
  | .hbm, ⟨33, _⟩ => ⟨S1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Proof.Consts.lean ====
module
public import proofs.«01_k».proof.KernelIdeal
public import Idealize.ShloMosaic.PureOps.Ideal

/-!
The float constants of the programs, as the extended reals they denote.
-/

@[expose] public section

noncomputable section

namespace Cert.Flash

open Idealize.ShloMosaic

/-- The pattern of minus infinity. -/
theorem ofBits_minf : Ideal.ofBits .f32 0xFF800000#32 = ⊥ := by
  simp [Ideal.ofBits, Ideal.ieee]

/-- The pattern of plus infinity. -/
theorem ofBits_pinf : Ideal.ofBits .f32 0x7F800000#32 = ⊤ := by
  simp [Ideal.ofBits, Ideal.ieee]

/-- The width of a head's scores, which the reference takes the root of. -/
theorem ofBits_192 : Ideal.ofBits .f32 0x43400000#32 = ((192 : ℝ) : EReal) := by
  simp [Ideal.ofBits, Ideal.ieee, -EReal.coe_mul]; norm_num

/-- The kernel's named scale. -/
theorem named_scale : (Named.named Cert.KernelIdeal.κ "log2e_scale" 0x3DD53B95#32 : Ideal .f32)
    = (((Real.log 2)⁻¹ * (Real.sqrt 192)⁻¹ : ℝ) : EReal) := rfl

/-- The kernel's named mask. -/
theorem named_mask : (Named.named Cert.KernelIdeal.κ "mask" 0xF149F2CA#32 : Ideal .f32) = ⊥ := rfl

end Cert.Flash

end
-- ==== Proof.Finite.lean ====
module
public import proofs.«01_k».proof.Defs
public import proofs.«01_k».proof.Proof.Gen.Pre_finite_qk
public import proofs.«01_k».proof.Proof.Consts
public import Idealize.ShloMosaic.Lib.ReduceAll

/-!
What the precondition says: every query and every key entry is a real number.
-/

@[expose] public section

noncomputable section

open Idealize.ShloMosaic

namespace Cert.Flash

/-- A value whose magnitude lies below plus infinity is a real number. -/
theorem real_of_abs_lt (x : EReal) (h : Ideal.cmp .olt (max x (-x)) ⊤ = 1#1) : x = ((x.toReal : ℝ) : EReal) := by
  have h' : max x (-x) < ⊤ := by
    by_contra hn
    simp [Ideal.cmp, hn] at h
  refine (EReal.coe_toReal ?_ ?_).symm
  · rintro rfl
    simp at h'
  · rintro rfl
    simp at h'

/-- The scalar shape has one index. -/
instance scalar_idx : Subsingleton (Shape.mk 0 ![]).Idx := ⟨fun a b => funext fun d => d.elim0⟩

open Cert.Pre_finite_qk in
/-- The precondition's function came out true: both arrays are real everywhere. -/
theorem real_of_fn (q k : FVec Ideal S2x8192x2048 .bf16) (v : FVec Ideal S2x8192x1024 .bf16)
    (h : Cert.Pre_finite_qk.fn (F := Ideal) q k v = fun _ => 1#1) :
    (∀ y, q y = ((q y : EReal).toReal : EReal)) ∧ ∀ y, k y = ((k y : EReal).toReal : EReal) := by
  have h0 := congrFun h (fun d => d.elim0)
  obtain ⟨h1, h2⟩ := IntOp.andi_eq_one.1 h0
  refine ⟨fun y => real_of_abs_lt _ ?_, fun y => real_of_abs_lt _ ?_⟩
  · rw [← ofBits_pinf]
    exact Host.reduce_andi_all _ _ _ _ _ h1 y
  · rw [← ofBits_pinf]
    exact Host.reduce_andi_all _ _ _ _ _ h2 y

end Cert.Flash

end
-- ==== Proof.Online.lean ====
module
public import Idealize.ShloMosaic.PureOps.Ideal
public import Idealize.ShloMosaic.Lib.Pointwise

/-!
The online softmax, one row and one output column at a time, over the extended reals.

A row's keys carry a nonnegative real weight each (`0` for a masked key).  The running maximum, the running sum and the
running output are described WITHOUT naming the maximum: they are the total weight and the weighted sum of the values,
both scaled by two to minus some real number.  What the scale is does not matter, because the last division cancels it.
-/

@[expose] public section

noncomputable section

open Idealize.ShloMosaic

namespace Cert.Flash

/-- Two to a real power, as a real. -/
def two (x : ℝ) : ℝ := (2 : ℝ) ^ x

theorem two_pos (x : ℝ) : 0 < two x := Real.rpow_pos_of_pos (by norm_num) x

theorem two_add (x y : ℝ) : two (x + y) = two x * two y := Real.rpow_add (by norm_num) x y

/-- A nonnegative real factor goes into a sum of extended reals. -/
theorem coe_mul_sum {ι : Type*} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top r) _ _

/-- A sum of reals read in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A score and its weight agree: the score is real and the weight is two to it, or the score is masked and the weight is zero. -/
def Weighs (s : EReal) (w : ℝ) : Prop := (∃ x : ℝ, s = x ∧ w = two x) ∨ (s = ⊥ ∧ w = 0)

theorem Weighs.ne_top {s : EReal} {w : ℝ} (h : Weighs s w) : s ≠ ⊤ := by
  rcases h with ⟨x, rfl, -⟩ | ⟨rfl, -⟩
  · exact EReal.coe_ne_top x
  · exact bot_ne_top

/-- The exponential of a score less a real number is the score's weight, scaled. -/
theorem Weighs.exp {s : EReal} {w : ℝ} (h : Weighs s w) (μ : ℝ) :
    Ideal.exp2 (s - (μ : EReal)) = ((two (-μ) * w : ℝ) : EReal) := by
  rcases h with ⟨x, rfl, rfl⟩ | ⟨rfl, rfl⟩
  · rw [← EReal.coe_sub, Ideal.exp2_coe, ← two_add]
    congr 2
    show x - μ = -μ + x
    ring
  · rw [EReal.bot_sub, Ideal.exp2_bot, mul_zero, EReal.coe_zero]

/-- The maximum of a family of scores, none of them plus infinity and one of them real, is real. -/
theorem fold_max_real {n : ℕ} (s : Fin n → EReal) (hne : ∀ k, s k ≠ ⊤) (hex : ∃ k, s k ≠ ⊥) (z : EReal) (hz : z ≠ ⊤) :
    ∃ μ : ℝ, max z (Finset.univ.fold max ⊥ s) = (μ : EReal) := by
  have hlt : ∀ t : Finset (Fin n), t.fold max ⊥ s ≠ ⊤ := by
    intro t
    induction t using Finset.induction_on with
    | empty => simp
    | insert a t ha ih =>
      rw [Finset.fold_insert ha]
      intro h
      rcases max_choice (s a) (t.fold max ⊥ s) with hc | hc
      · exact hne a (hc ▸ h)
      · exact ih (hc ▸ h)
  obtain ⟨k, hk⟩ := hex
  have hge : s k ≤ Finset.univ.fold max ⊥ s := by
    rw [Finset.le_fold_max]
    exact Or.inr ⟨k, Finset.mem_univ k, le_rfl⟩
  set M := max z (Finset.univ.fold max ⊥ s) with hM
  have hMtop : M ≠ ⊤ := by
    intro h
    rcases max_choice z (Finset.univ.fold max ⊥ s) with hc | hc
    · exact hz (hc ▸ hM ▸ h)
    · exact hlt _ (hc ▸ hM ▸ h)
  have hMbot : M ≠ ⊥ := by
    intro h
    have : s k ≤ M := hge.trans (le_max_right _ _)
    rw [h] at this
    exact hk (le_bot_iff.mp this)
  exact ⟨M.toReal, (EReal.coe_toReal hMtop hMbot).symm⟩

/-- The running maximum, sum and output of one row and one column, after keys of total weight `W` and weighted sum of values `A`. -/
def Running (W : ℝ) (A m l a : EReal) : Prop :=
  ∃ μ : ℝ, m = μ ∧ l = ((two (-μ) * W : ℝ) : EReal) ∧ a = ((two (-μ) : ℝ) : EReal) * A

/-- The same, or nothing taken in yet. -/
def State (W : ℝ) (A m l a : EReal) : Prop :=
  (W = 0 ∧ A = 0 ∧ m = ⊥ ∧ l = 0 ∧ a = 0) ∨ Running W A m l a

/-- ONE BLOCK OF KEYS: the step of the online softmax adds the block's weights and weighted values. -/
theorem step {n : ℕ} (s : Fin n → EReal) (w : Fin n → ℝ) (v : Fin n → EReal) (hs : ∀ k, Weighs (s k) (w k))
    (hex : ∃ k, s k ≠ ⊥) {W : ℝ} {A m l a : EReal} (h : State W A m l a) :
    Running (W + ∑ k, w k) (A + ∑ k, (w k : EReal) * v k)
      (max m (Finset.univ.fold max ⊥ s))
      (Ideal.exp2 (m - max m (Finset.univ.fold max ⊥ s)) * l
        + ∑ k, Ideal.exp2 (s k - max m (Finset.univ.fold max ⊥ s)))
      (Ideal.exp2 (m - max m (Finset.univ.fold max ⊥ s)) * a
        + ∑ k, Ideal.exp2 (s k - max m (Finset.univ.fold max ⊥ s)) * v k) := by
  have hmt : m ≠ ⊤ := by
    rcases h with ⟨-, -, rfl, -⟩ | ⟨μ, rfl, -⟩
    · exact bot_ne_top
    · exact EReal.coe_ne_top μ
  obtain ⟨ν, hν⟩ := fold_max_real s (fun k => (hs k).ne_top) hex m hmt
  rw [hν]
  have hsum : (∑ k, Ideal.exp2 (s k - (ν : EReal))) = ((two (-ν) * ∑ k, w k : ℝ) : EReal) := by
    rw [Finset.mul_sum, coe_sum]
    exact Finset.sum_congr rfl fun k _ => (hs k).exp ν
  have hsumv : (∑ k, Ideal.exp2 (s k - (ν : EReal)) * v k)
      = ((two (-ν) : ℝ) : EReal) * ∑ k, (w k : EReal) * v k := by
    rw [coe_mul_sum _ _ (two_pos _).le]
    refine Finset.sum_congr rfl fun k _ => ?_
    rw [(hs k).exp ν, EReal.coe_mul, mul_assoc]
  refine ⟨ν, rfl, ?_, ?_⟩
  · rw [hsum]
    rcases h with ⟨rfl, rfl, rfl, rfl, rfl⟩ | ⟨μ, rfl, rfl, rfl⟩
    · rw [mul_zero, zero_add, zero_add]
    · rw [← EReal.coe_sub, Ideal.exp2_coe, ← EReal.coe_mul, ← EReal.coe_add]
      congr 1
      have : two (-ν) = two (μ - ν) * two (-μ) := by rw [← two_add]; congr 1; ring
      show two (μ - ν) * (two (-μ) * W) + two (-ν) * _ = _
      rw [this]; ring
  · rw [hsumv, EReal.left_distrib_of_nonneg_of_ne_top (EReal.coe_nonneg.mpr (two_pos _).le) (EReal.coe_ne_top _)]
    congr 1
    rcases h with ⟨rfl, rfl, rfl, rfl, rfl⟩ | ⟨μ, rfl, rfl, rfl⟩
    · rw [mul_zero, mul_zero]
    · rw [← EReal.coe_sub, Ideal.exp2_coe, ← mul_assoc, ← EReal.coe_mul]
      congr 2
      show two (μ - ν) * two (-μ) = two (-ν)
      rw [← two_add]; congr 1; ring

/-- THE LAST DIVISION cancels the scale. -/
theorem Running.div {W : ℝ} {A m l a : EReal} (hW : 0 < W) (h : Running W A m l a) :
    a * l⁻¹ = A * ((W⁻¹ : ℝ) : EReal) := by
  obtain ⟨μ, rfl, rfl, rfl⟩ := h
  rw [← EReal.coe_inv, mul_comm ((two (-μ) : ℝ) : EReal) A, mul_assoc, ← EReal.coe_mul]
  congr 2
  have := two_pos (-μ)
  field_simp

theorem Running.ne_zero {W : ℝ} {A m l a : EReal} (hW : 0 < W) (h : Running W A m l a) : l ≠ 0 := by
  obtain ⟨μ, rfl, rfl, rfl⟩ := h
  have := mul_pos (two_pos (-μ)) hW
  exact_mod_cast this.ne'

end Cert.Flash

end
-- ==== Proof.Head.lean ====
module
public import proofs.«01_k».proof.Proof.Gen.KernelIdeal.Skeleton
public import proofs.«01_k».proof.Proof.Online
public import proofs.«01_k».proof.Proof.Consts
public import Idealize.ShloMosaic.Lib.Pointwise

/-!
One head's part of a trip of the kernel's loop, as functions of the block's scores and of the carried value, and these
functions read at an index.
-/

@[expose] public section

set_option maxRecDepth 16384

noncomputable section

open Idealize.ShloMosaic Idealize.SL.Sem

namespace Cert.Flash

open Cert.KernelIdeal Cert.KernelIdeal.Gen

section
variable {F : FTy → Type} [FloatOps F] [Named F]

/-- The new running maximum. -/
def hM (sc : FVec F S1024x1024 .f32) (m : FVec F S1024x1 .f32) : FVec F S1024x1 .f32 :=
  maximumf m (shapeCast S1024x1
    (multiReduction .maximumf [1] S1024 sc 0xFF800000#32 reduces_S1024x1024_S1024 (.inl rfl) rfl) shapeCasts_S1024_S1024x1)

/-- The factor that brings the carried sum and output to the new maximum. -/
def hE (sc : FVec F S1024x1024 .f32) (m : FVec F S1024x1 .f32) : FVec F S1024x1 .f32 :=
  exp2 (subf m (hM sc m))

/-- The block's exponentials. -/
def hP (sc : FVec F S1024x1024 .f32) (m : FVec F S1024x1 .f32) : FVec F S1024x1024 .f32 :=
  exp2 (subf sc (broadcastTo S1024x1024 (hM sc m) broadcasts_S1024x1_S1024x1024))

/-- The new running sum. -/
def hL (sc : FVec F S1024x1024 .f32) (m l : FVec F S1024x1 .f32) : FVec F S1024x1 .f32 :=
  addf (mulf (hE sc m) l) (shapeCast S1024x1
    (multiReduction .add [1] S1024 (hP sc m) 0x00000000#32 reduces_S1024x1024_S1024 (.inl rfl) rfl) shapeCasts_S1024_S1024x1)

/-- The new running output. -/
def hA (sc : FVec F S1024x1024 .f32) (m : FVec F S1024x1 .f32) (a : FVec F S1024x128 .f32) (v : FVec F S1024x128 .bf16) :
    FVec F S1024x128 .f32 :=
  addf (mulf (broadcastTo S1024x128 (hE sc m) broadcasts_S1024x1_S1024x128) a)
    (matmul dot_S1024x1024_S1024x128_S1024x128_1_0_0_1_n_n none (truncf .bf16 (hP sc m) bitsLt_bf16_f32) v
      (constant S1024x128 .f32 0x00000000#32))

/-- The block's scores, every key seen. -/
def scF (q k : FVec F S1024x256 .bf16) : FVec F S1024x1024 .f32 :=
  mulf (matmul dot_S1024x256_S1024x256_S1024x1024_1_1_0_0_n_n none q k (constant S1024x1024 .f32 0x00000000#32))
    (broadcast S1024x1024 (Named.named κ "log2e_scale" 0x3DD53B95#32))

/-- The block's scores, the keys of later chunks masked. -/
def scD (qc : IVec S1024x1 32) (kc : IVec S1x1024 32) (q k : FVec F S1024x256 .bf16) : FVec F S1024x1024 .f32 :=
  select (cmpi .sle (broadcastTo S1024x1024 kc broadcasts_S1x1024_S1024x1024)
      (broadcastTo S1024x1024 qc broadcasts_S1024x1_S1024x1024))
    (scF q k) (broadcast S1024x1024 (Named.named κ "mask" 0xF149F2CA#32))

end

theorem hM_at (sc : FVec Ideal S1024x1024 .f32) (m : FVec Ideal S1024x1 .f32) (r : Fin 1024) :
    hM sc m (ix2 r 0) = max (m (ix2 r 0)) (Finset.univ.fold max ⊥ fun k : Fin 1024 => sc (ix2 r k)) := by
  pointwise [hM]
  rw [ofBits_minf]

theorem hE_at (sc : FVec Ideal S1024x1024 .f32) (m : FVec Ideal S1024x1 .f32) (r : Fin 1024) :
    hE sc m (ix2 r 0) = Ideal.exp2 (m (ix2 r 0) - hM sc m (ix2 r 0)) := by
  pointwise [hE]
  rfl

theorem hP_at (sc : FVec Ideal S1024x1024 .f32) (m : FVec Ideal S1024x1 .f32) (r k : Fin 1024) :
    hP sc m (ix2 r k) = Ideal.exp2 (sc (ix2 r k) - hM sc m (ix2 r 0)) := by
  pointwise [hP]
  rfl

theorem hL_at (sc : FVec Ideal S1024x1024 .f32) (m l : FVec Ideal S1024x1 .f32) (r : Fin 1024) :
    hL sc m l (ix2 r 0) = hE sc m (ix2 r 0) * l (ix2 r 0) + ∑ k : Fin 1024, hP sc m (ix2 r k) := by
  pointwise [hL]

theorem hA_at (sc : FVec Ideal S1024x1024 .f32) (m : FVec Ideal S1024x1 .f32) (a : FVec Ideal S1024x128 .f32)
    (v : FVec Ideal S1024x128 .bf16) (r : Fin 1024) (d : Fin 128) :
    hA sc m a v (ix2 r d) = hE sc m (ix2 r 0) * a (ix2 r d) + ∑ k : Fin 1024, hP sc m (ix2 r k) * v (ix2 k d) := by
  pointwise [hA]

theorem scF_at (q k : FVec Ideal S1024x256 .bf16) (r c : Fin 1024) :
    scF q k (ix2 r c) = (∑ d : Fin 256, q (ix2 r d) * k (ix2 c d)) * (((Real.log 2)⁻¹ * (Real.sqrt 192)⁻¹ : ℝ) : EReal) := by
  pointwise [scF]
  rw [named_scale]

theorem scD_at (qc : IVec S1024x1 32) (kc : IVec S1x1024 32) (q k : FVec Ideal S1024x256 .bf16) (r c : Fin 1024) :
    scD qc kc q k (ix2 r c) = Scalar.select (IntOp.cmpi .sle (kc (ix2 0 c)) (qc (ix2 r 0))) (scF q k (ix2 r c)) ⊥ := by
  pointwise [scD]
  rw [named_mask]

end Cert.Flash

end
-- ==== Proof.Trips.lean ====
module
public import proofs.«01_k».proof.Proof.Gen.KernelIdeal.Value
public import proofs.«01_k».proof.Proof.Head

/-!
What one trip of the two loops that run yields, as the head functions of the carried value and of the blocks loaded.
-/

@[expose] public section

set_option maxRecDepth 16384

noncomputable section

open Idealize.ShloMosaic Idealize.ShloMosaic.TcCoe Idealize.SL.Sem

namespace Cert.Flash

open Cert.KernelIdeal Cert.KernelIdeal.Gen

variable {F : FTy → Type} [FloatOps F] [Named F]

/-- The six carried vectors: maximum, sum and output of the first head, then of the second. -/
abbrev Carry (F : FTy → Type) := FVec F S1024x1 .f32 × FVec F S1024x1 .f32 × FVec F S1024x128 .f32 × FVec F S1024x1 .f32 × FVec F S1024x1 .f32 × FVec F S1024x128 .f32

/-- One trip over both heads: their scores, their values, the carried vectors. -/
def both (s0 s1 : FVec F S1024x1024 .f32) (v0 v1 : FVec F S1024x128 .bf16) (a : Carry F) : Carry F :=
  (hM s0 a.1, hL s0 a.1 a.2.1, hA s0 a.1 a.2.2.1 v0, hM s1 a.2.2.2.1, hL s1 a.2.2.2.1 a.2.2.2.2.1, hA s1 a.2.2.2.1 a.2.2.2.2.2 v1)

/-- A query half-block loaded, without its leading axis. -/
def cQ (x : Vec F S1x1024x256 .bf16) : FVec F S1024x256 .bf16 := shapeCast S1024x256 x shapeCasts_S1x1024x256_S1024x256

/-- A value half-block loaded, without its leading axis. -/
def cV (x : Vec F S1x1024x128 .bf16) : FVec F S1024x128 .bf16 := shapeCast S1024x128 x shapeCasts_S1x1024x128_S1024x128

/-- A trip of the loop over the blocks every key of which is seen. -/
theorem trip1 (𝒱 : Variants) (c : Dev nD) (bd : Option 𝒱.V) (i : grid0.Coords) (arg3 : Memref sig .tc .vmem S1x1024x512 .bf16) (harg3 : arg3.IsWhole) (arg4 : Memref sig .tc .vmem S1x8192x512 .bf16) (harg4 : arg4.IsWhole) (arg5 : Memref sig .tc .vmem S1x8192x256 .bf16) (harg5 : arg5.IsWhole) (arg6 : Memref sig .tc .vmem S1x1024x256 .bf16) (harg6 : arg6.IsWhole) (v6 : IVec S1024x1 32) (v26 : BitVec 32) (v28 : BitVec 32) (c1024_i32_11 : BitVec 32) (v29 : BitVec 32) (v34 : BitVec 32) (v36 : BitVec 32) (c0_i32_15 : BitVec 32) (v46 : Vec F S1x1024x256 .bf16) (v48 : Vec F S1x1024x256 .bf16) (X_arg4 : BufTy.Contents (Elt F) arg4.view.ty) (X_arg5 : BufTy.Contents (Elt F) arg5.view.ty) (k : Fin (k0_t1_loop i).trips) (a : Carry F) :
    tripR_k0_t1 (F := F) 𝒱 c bd i arg3 harg3 arg4 harg4 arg5 harg5 arg6 harg6 v6 v26 v28 c1024_i32_11 v29 v34 v36 c0_i32_15 v46 v48 X_arg4 X_arg5 k a
      = both (scF (cQ v46) (cQ (View.readAt (Elt F) arg4.view (Rect.unit (s := S1x8192x512) (k0_off1 i k) S1x1024x256.size (k0_off1_inb i k)).toLoadRect X_arg4)))
          (scF (cQ v48) (cQ (View.readAt (Elt F) arg4.view (Rect.unit (s := S1x8192x512) (k0_off3 i k) S1x1024x256.size (k0_off3_inb i k)).toLoadRect X_arg4)))
          (cV (View.readAt (Elt F) arg5.view (Rect.unit (s := S1x8192x256) (k0_off2 i k) S1x1024x128.size (k0_off2_inb i k)).toLoadRect X_arg5))
          (cV (View.readAt (Elt F) arg5.view (Rect.unit (s := S1x8192x256) (k0_off4 i k) S1x1024x128.size (k0_off4_inb i k)).toLoadRect X_arg5)) a := by
  unfold tripR_k0_t1 trip_k0_t1
  rfl

/-- The trip over the block that holds the diagonal. -/
theorem trip3 (𝒱 : Variants) (c : Dev nD) (bd : Option 𝒱.V) (i : grid0.Coords) (arg3 : Memref sig .tc .vmem S1x1024x512 .bf16) (harg3 : arg3.IsWhole) (arg4 : Memref sig .tc .vmem S1x8192x512 .bf16) (harg4 : arg4.IsWhole) (arg5 : Memref sig .tc .vmem S1x8192x256 .bf16) (harg5 : arg5.IsWhole) (arg6 : Memref sig .tc .vmem S1x1024x256 .bf16) (harg6 : arg6.IsWhole) (v6 : IVec S1024x1 32) (v26 : BitVec 32) (v28 : BitVec 32) (c1024_i32_11 : BitVec 32) (v29 : BitVec 32) (v34 : BitVec 32) (v36 : BitVec 32) (c0_i32_15 : BitVec 32) (v45 : BitVec 32) (v46 : Vec F S1x1024x256 .bf16) (v48 : Vec F S1x1024x256 .bf16) (X_arg4 : BufTy.Contents (Elt F) arg4.view.ty) (X_arg5 : BufTy.Contents (Elt F) arg5.view.ty) (k : Fin (k0_t3_loop i).trips) (a : Carry F) :
    tripR_k0_t3 (F := F) 𝒱 c bd i arg3 harg3 arg4 harg4 arg5 harg5 arg6 harg6 v6 v26 v28 c1024_i32_11 v29 v34 v36 c0_i32_15 v45 v46 v48 X_arg4 X_arg5 k a
      = both (scD v6 (k0_pay23 i v45 1#32 k) (cQ v46) (cQ (View.readAt (Elt F) arg4.view (Rect.unit (s := S1x8192x512) (k0_off9 i k) S1x1024x256.size (k0_off9_inb i k)).toLoadRect X_arg4)))
          (scD v6 (k0_pay23 i v45 1#32 k) (cQ v48) (cQ (View.readAt (Elt F) arg4.view (Rect.unit (s := S1x8192x512) (k0_off11 i k) S1x1024x256.size (k0_off11_inb i k)).toLoadRect X_arg4)))
          (cV (View.readAt (Elt F) arg5.view (Rect.unit (s := S1x8192x256) (k0_off10 i k) S1x1024x128.size (k0_off10_inb i k)).toLoadRect X_arg5))
          (cV (View.readAt (Elt F) arg5.view (Rect.unit (s := S1x8192x256) (k0_off12 i k) S1x1024x128.size (k0_off12_inb i k)).toLoadRect X_arg5)) a := by
  unfold tripR_k0_t3 trip_k0_t3
  rfl

end Cert.Flash

end
-- ==== Proof.Carried.lean ====
module
public import proofs.«01_k».proof.Proof.Trips
public import Idealize.ShloMosaic.Lib.Pipeline.ValueKit

/-!
What a grid point leaves in its output block, in terms of what the four loops carry, and the loops' trip counts: the second
and the fourth loop have none.
-/

@[expose] public section

set_option maxRecDepth 16384

noncomputable section

open Idealize.ShloMosaic Idealize.ShloMosaic.TcCoe Idealize.SL.Sem

namespace Cert.Flash

open Cert.KernelIdeal Cert.KernelIdeal.Gen

variable {F : FTy → Type} [FloatOps F] [Named F]

/-- The first head's queries, loaded. -/
abbrev ldQ0 (arg3 : Memref sig .tc .vmem S1x1024x512 .bf16) (harg3 : arg3.IsWhole) (x0 : Vec F S1x1024x512 .bf16) : Vec F S1x1024x256 .bf16 :=
  View.readAt (Elt F) arg3.view (Rect.unit (s := S1x1024x512) ![0, 0, 0] S1x1024x256.size inb_S1x1024x512_S1x1024x256_0_0_0).toLoadRect (harg3.unread x0)

/-- The second head's queries, loaded. -/
abbrev ldQ1 (arg3 : Memref sig .tc .vmem S1x1024x512 .bf16) (harg3 : arg3.IsWhole) (x0 : Vec F S1x1024x512 .bf16) : Vec F S1x1024x256 .bf16 :=
  View.readAt (Elt F) arg3.view (Rect.unit (s := S1x1024x512) ![0, 0, 256] S1x1024x256.size inb_S1x1024x512_S1x1024x256_0_0_256).toLoadRect (harg3.unread x0)

/-- What loop 1 carries before its trip `k`. -/
def carry1 (c : Dev nD) (i : grid0.Coords) (arg3 : Memref sig .tc .vmem S1x1024x512 .bf16) (harg3 : arg3.IsWhole) (arg4 : Memref sig .tc .vmem S1x8192x512 .bf16) (harg4 : arg4.IsWhole) (arg5 : Memref sig .tc .vmem S1x8192x256 .bf16) (harg5 : arg5.IsWhole) (arg6 : Memref sig .tc .vmem S1x1024x256 .bf16) (harg6 : arg6.IsWhole)
    (x0 : Vec F S1x1024x512 .bf16) (x1 : Vec F S1x8192x512 .bf16) (x2 : Vec F S1x8192x256 .bf16) (k : ℕ) : Carry F :=
  st_k0_t1 (F := F) Variants.none c none i arg3 harg3 arg4 harg4 arg5 harg5 arg6 harg6 (k0_pay39 i) (kernelRun0_A.sl.v26 i) (kernelRun0_A.sl.v28 i) 1024#32 (kernelRun0_A.sl.v29 i) (kernelRun0_A.sl.v34 i) 1#32 0#32 (ldQ0 arg3 harg3 x0) (ldQ1 arg3 harg3 x0) (harg4.unread x1) (harg5.unread x2) (k0_pay42 (F := F), k0_pay43 (F := F), k0_pay44 (F := F), k0_pay45 (F := F), k0_pay46 (F := F), k0_pay47 (F := F)) k

/-- What loop 2 carries before its trip `k`. -/
def carry2 (c : Dev nD) (i : grid0.Coords) (arg3 : Memref sig .tc .vmem S1x1024x512 .bf16) (harg3 : arg3.IsWhole) (arg4 : Memref sig .tc .vmem S1x8192x512 .bf16) (harg4 : arg4.IsWhole) (arg5 : Memref sig .tc .vmem S1x8192x256 .bf16) (harg5 : arg5.IsWhole) (arg6 : Memref sig .tc .vmem S1x1024x256 .bf16) (harg6 : arg6.IsWhole)
    (x0 : Vec F S1x1024x512 .bf16) (x1 : Vec F S1x8192x512 .bf16) (x2 : Vec F S1x8192x256 .bf16) (k : ℕ) : Carry F :=
  st_k0_t2 (F := F) Variants.none c none i arg3 harg3 arg4 harg4 arg5 harg5 arg6 harg6 (k0_pay39 i) (kernelRun0_A.sl.v26 i) (kernelRun0_A.sl.v28 i) 1024#32 (kernelRun0_A.sl.v29 i) (kernelRun0_A.sl.v34 i) 1#32 0#32 (ldQ0 arg3 harg3 x0) (ldQ1 arg3 harg3 x0) (kernelRun0_A.sl.v60 i) (harg4.unread x1) (harg5.unread x2) (carry1 c i arg3 harg3 arg4 harg4 arg5 harg5 arg6 harg6 x0 x1 x2 (k0_t1_loop i).trips) k

/-- What loop 3 carries before its trip `k`. -/
def carry3 (c : Dev nD) (i : grid0.Coords) (arg3 : Memref sig .tc .vmem S1x1024x512 .bf16) (harg3 : arg3.IsWhole) (arg4 : Memref sig .tc .vmem S1x8192x512 .bf16) (harg4 : arg4.IsWhole) (arg5 : Memref sig .tc .vmem S1x8192x256 .bf16) (harg5 : arg5.IsWhole) (arg6 : Memref sig .tc .vmem S1x1024x256 .bf16) (harg6 : arg6.IsWhole)
    (x0 : Vec F S1x1024x512 .bf16) (x1 : Vec F S1x8192x512 .bf16) (x2 : Vec F S1x8192x256 .bf16) (k : ℕ) : Carry F :=
  st_k0_t3 (F := F) Variants.none c none i arg3 harg3 arg4 harg4 arg5 harg5 arg6 harg6 (k0_pay39 i) (kernelRun0_A.sl.v26 i) (kernelRun0_A.sl.v28 i) 1024#32 (kernelRun0_A.sl.v29 i) (kernelRun0_A.sl.v34 i) 1#32 0#32 (kernelRun0_A.sl.v45 i) (ldQ0 arg3 harg3 x0) (ldQ1 arg3 harg3 x0) (harg4.unread x1) (harg5.unread x2) (carry2 c i arg3 harg3 arg4 harg4 arg5 harg5 arg6 harg6 x0 x1 x2 (k0_t2_loop i).trips) k

/-- What loop 4 carries before its trip `k`. -/
def carry4 (c : Dev nD) (i : grid0.Coords) (arg3 : Memref sig .tc .vmem S1x1024x512 .bf16) (harg3 : arg3.IsWhole) (arg4 : Memref sig .tc .vmem S1x8192x512 .bf16) (harg4 : arg4.IsWhole) (arg5 : Memref sig .tc .vmem S1x8192x256 .bf16) (harg5 : arg5.IsWhole) (arg6 : Memref sig .tc .vmem S1x1024x256 .bf16) (harg6 : arg6.IsWhole)
    (x0 : Vec F S1x1024x512 .bf16) (x1 : Vec F S1x8192x512 .bf16) (x2 : Vec F S1x8192x256 .bf16) (k : ℕ) : Carry F :=
  st_k0_t4 (F := F) Variants.none c none i arg3 harg3 arg4 harg4 arg5 harg5 arg6 harg6 (k0_pay39 i) (kernelRun0_A.sl.v26 i) (kernelRun0_A.sl.v28 i) 1024#32 (kernelRun0_A.sl.v29 i) (kernelRun0_A.sl.v34 i) 1#32 0#32 (ldQ0 arg3 harg3 x0) (ldQ1 arg3 harg3 x0) (kernelRun0_A.sl.v67 i) (harg4.unread x1) (harg5.unread x2) (carry3 c i arg3 harg3 arg4 harg4 arg5 harg5 arg6 harg6 x0 x1 x2 (k0_t3_loop i).trips) k

/-- The two stores of a grid point: each head's output over its sum. -/
theorem pieces (c : Dev nD) (i : grid0.Coords) (arg3 : Memref sig .tc .vmem S1x1024x512 .bf16) (harg3 : arg3.IsWhole) (arg4 : Memref sig .tc .vmem S1x8192x512 .bf16) (harg4 : arg4.IsWhole) (arg5 : Memref sig .tc .vmem S1x8192x256 .bf16) (harg5 : arg5.IsWhole) (arg6 : Memref sig .tc .vmem S1x1024x256 .bf16) (harg6 : arg6.IsWhole)
    (x0 : Vec F S1x1024x512 .bf16) (x1 : Vec F S1x8192x512 .bf16) (x2 : Vec F S1x8192x256 .bf16) :
    (kernelRun0_A c i arg3 harg3 arg4 harg4 arg5 harg5 arg6 harg6 x0 x1 x2).1
      = [⟨Rect.unit ![0, 0, 128] ![1, 1024, 128] inb_S1x1024x256_S1x1024x128_0_0_128, k0_pay2 (carry4 c i arg3 harg3 arg4 harg4 arg5 harg5 arg6 harg6 x0 x1 x2 (k0_t4_loop i).trips).2.2.2.2.1 (carry4 c i arg3 harg3 arg4 harg4 arg5 harg5 arg6 harg6 x0 x1 x2 (k0_t4_loop i).trips).2.2.2.2.2⟩,
         ⟨Rect.unit ![0, 0, 0] ![1, 1024, 128] inb_S1x1024x256_S1x1024x128_0_0_0, k0_pay1 (k0_pay66 (carry4 c i arg3 harg3 arg4 harg4 arg5 harg5 arg6 harg6 x0 x1 x2 (k0_t4_loop i).trips).2.1 (carry4 c i arg3 harg3 arg4 harg4 arg5 harg5 arg6 harg6 x0 x1 x2 (k0_t4_loop i).trips).2.2.1)⟩] := by
  unfold kernelRun0_A
  unfold kernelRun0_A.sl.r kernelRun0_A.sl.r_1 kernelRun0_A.sl.r_2 carry4 carry3 carry2 carry1
  simp only [Prod.mk.eta]

/-- The trip counts, and where the third loop's only trip starts. -/
theorem counts : ∀ t : Fin grid0.N,
    (k0_t1_loop (grid0.coords t)).trips = (grid0.coords t 2).val ∧ (k0_t2_loop (grid0.coords t)).trips = 0
      ∧ (k0_t3_loop (grid0.coords t)).trips = 1 ∧ (k0_t4_loop (grid0.coords t)).trips = 0
      ∧ kernelRun0_A.sl.v45 (grid0.coords t) = BitVec.ofNat 32 (grid0.coords t 2).val := by decide +kernel

/-- Where a trip of the first loop loads. -/
theorem offs1 : ∀ t : Fin grid0.N, ∀ k : Fin (k0_t1_loop (grid0.coords t)).trips,
    k0_off1 (grid0.coords t) k = ![0, 1024 * k.val, 0] ∧ k0_off2 (grid0.coords t) k = ![0, 1024 * k.val, 0]
      ∧ k0_off3 (grid0.coords t) k = ![0, 1024 * k.val, 256] ∧ k0_off4 (grid0.coords t) k = ![0, 1024 * k.val, 128] := by decide +kernel

/-- Where the third loop's trip loads. -/
theorem offs3 : ∀ t : Fin grid0.N, ∀ k : Fin (k0_t3_loop (grid0.coords t)).trips,
    k0_off9 (grid0.coords t) k = ![0, 1024 * (grid0.coords t 2).val, 0] ∧ k0_off10 (grid0.coords t) k = ![0, 1024 * (grid0.coords t 2).val, 0]
      ∧ k0_off11 (grid0.coords t) k = ![0, 1024 * (grid0.coords t 2).val, 256] ∧ k0_off12 (grid0.coords t) k = ![0, 1024 * (grid0.coords t 2).val, 128] := by decide +kernel

end Cert.Flash

end
-- ==== Proof.Loads.lean ====
module
public import proofs.«01_k».proof.Proof.Carried
public import Idealize.ShloMosaic.Lib.WholeRead

/-!
The blocks a trip loads, read at an index.
-/

@[expose] public section

set_option maxRecDepth 16384

noncomputable section

open Idealize.ShloMosaic Idealize.ShloMosaic.TcCoe Idealize.SL.Sem

namespace Cert.Flash

open Cert.KernelIdeal Cert.KernelIdeal.Gen

theorem cQ_at (x : Vec Ideal S1x1024x256 .bf16) (r : Fin 1024) (d : Fin 256) : cQ x (ix2 r d) = x (ix3 0 r d) := by
  pointwise [cQ]

theorem cV_at (x : Vec Ideal S1x1024x128 .bf16) (r : Fin 1024) (d : Fin 128) : cV x (ix2 r d) = x (ix3 0 r d) := by
  pointwise [cV]

theorem ldK_at (arg4 : Memref sig .tc .vmem S1x8192x512 .bf16) (harg4 : arg4.IsWhole) (x1 : Vec Ideal S1x8192x512 .bf16)
    (n c0 : ℕ) (off : Fin 3 → ℕ) (hoff : off = ![0, n, c0]) (inb) (k : Fin 1024) (d : Fin 256) (hn : n + k.val < 8192) (hc : c0 + d.val < 512) :
    View.readAt (Elt Ideal) arg4.view (Rect.unit (s := S1x8192x512) off S1x1024x256.size inb).toLoadRect (harg4.unread x1) (ix3 0 k d)
      = x1 (ix3 0 ⟨n + k.val, hn⟩ ⟨c0 + d.val, hc⟩) := by
  subst hoff
  rw [harg4.readAt_unread]
  congr 1
  ext a
  fin_cases a <;> simp [ix3]

theorem ldQ_at (arg3 : Memref sig .tc .vmem S1x1024x512 .bf16) (harg3 : arg3.IsWhole) (x0 : Vec Ideal S1x1024x512 .bf16)
    (c0 : ℕ) (inb) (k : Fin 1024) (d : Fin 256) (hc : c0 + d.val < 512) :
    View.readAt (Elt Ideal) arg3.view (Rect.unit (s := S1x1024x512) ![0, 0, c0] S1x1024x256.size inb).toLoadRect (harg3.unread x0) (ix3 0 k d)
      = x0 (ix3 0 k ⟨c0 + d.val, hc⟩) := by
  rw [harg3.readAt_unread]
  congr 1
  ext a
  fin_cases a <;> simp [ix3]

theorem ldV_at (arg5 : Memref sig .tc .vmem S1x8192x256 .bf16) (harg5 : arg5.IsWhole) (x2 : Vec Ideal S1x8192x256 .bf16)
    (n c0 : ℕ) (off : Fin 3 → ℕ) (hoff : off = ![0, n, c0]) (inb) (k : Fin 1024) (d : Fin 128) (hn : n + k.val < 8192) (hc : c0 + d.val < 256) :
    View.readAt (Elt Ideal) arg5.view (Rect.unit (s := S1x8192x256) off S1x1024x128.size inb).toLoadRect (harg5.unread x2) (ix3 0 k d)
      = x2 (ix3 0 ⟨n + k.val, hn⟩ ⟨c0 + d.val, hc⟩) := by
  subst hoff
  rw [harg5.readAt_unread]
  congr 1
  ext a
  fin_cases a <;> simp [ix3]

/-- What a vector of six holds before any key: nothing. -/
theorem init_at (r : Fin 1024) (d : Fin 128) :
    k0_pay42 (F := Ideal) (ix2 r 0) = ⊥ ∧ k0_pay43 (F := Ideal) (ix2 r 0) = 0 ∧ k0_pay44 (F := Ideal) (ix2 r d) = 0
      ∧ k0_pay45 (F := Ideal) (ix2 r 0) = ⊥ ∧ k0_pay46 (F := Ideal) (ix2 r 0) = 0 ∧ k0_pay47 (F := Ideal) (ix2 r d) = 0 := by
  refine ⟨?_, ?_, ?_, ?_, ?_, ?_⟩
  · pointwise [k0_pay42]; rw [named_mask]
  · pointwise [k0_pay43]
  · pointwise [k0_pay44]
  · pointwise [k0_pay45]; rw [named_mask]
  · pointwise [k0_pay46]
  · pointwise [k0_pay47]

/-- The chunk of a key of the diagonal block and of a query: the position over 64. -/
theorem chunk_word : ∀ q : Fin 8, ∀ r : Fin 1024,
    IntOp.shrsi .vector (IntOp.addi (Scalar.muli (BitVec.ofNat 32 q.val) 1024#32) (BitVec.ofNat 32 r.val)) 6#32
      = BitVec.ofNat 32 ((1024 * q.val + r.val) / 64) := by decide +kernel

theorem pay39_at (i : grid0.Coords) (r : Fin 1024) :
    k0_pay39 i (ix2 r 0) = BitVec.ofNat 32 ((1024 * (i 2).val + r.val) / 64) := by
  rw [← chunk_word (i 2) r]
  pointwise [k0_pay39]
  rw [show Scalar.addi 0#32 (Scalar.muli (BitVec.ofNat 32 (i 2).val) 1024#32) = Scalar.muli (BitVec.ofNat 32 (i 2).val) 1024#32 from BitVec.zero_add _]

theorem pay23_at (i : grid0.Coords) (k : Fin (k0_t3_loop i).trips) (hk : k.val = 0) (kk : Fin 1024) :
    k0_pay23 i (BitVec.ofNat 32 (i 2).val) 1#32 k (ix2 0 kk) = BitVec.ofNat 32 ((1024 * (i 2).val + kk.val) / 64) := by
  rw [← chunk_word (i 2) kk]
  pointwise [k0_pay23]
  rw [hk, show Scf.iv (BitVec.ofNat 32 (i 2).val) 1#32 0 = BitVec.ofNat 32 (i 2).val by simp [Scf.iv]]

end Cert.Flash

end
-- ==== Proof.States.lean ====
module
public import proofs.«01_k».proof.Proof.Trips

/-!
What the carried vectors hold, per row, column and head, and that a trip over both heads keeps it.
-/

@[expose] public section

set_option maxRecDepth 16384

noncomputable section

open Idealize.ShloMosaic Idealize.ShloMosaic.TcCoe Idealize.SL.Sem

namespace Cert.Flash

open Cert.KernelIdeal Cert.KernelIdeal.Gen

/-- One head's three vectors, at every row and column, after keys of weight `W` and weighted values `A`. -/
def HeadHolds (W : Fin 1024 → ℝ) (A : Fin 1024 → Fin 128 → EReal) (m l : FVec Ideal S1024x1 .f32) (a : FVec Ideal S1024x128 .f32) : Prop :=
  ∀ r d, State (W r) (A r d) (m (ix2 r 0)) (l (ix2 r 0)) (a (ix2 r d))

/-- A block of keys taken in by one head. -/
theorem head_step (s : FVec Ideal S1024x1024 .f32) (v : FVec Ideal S1024x128 .bf16) (w : Fin 1024 → Fin 1024 → ℝ)
    (hs : ∀ r k, Weighs (s (ix2 r k)) (w r k)) (hex : ∀ r, ∃ k, s (ix2 r k) ≠ ⊥)
    {W : Fin 1024 → ℝ} {A : Fin 1024 → Fin 128 → EReal} {m l : FVec Ideal S1024x1 .f32} {a : FVec Ideal S1024x128 .f32}
    (h : HeadHolds W A m l a) (r : Fin 1024) (d : Fin 128) :
    Running (W r + ∑ k, w r k) (A r d + ∑ k, (w r k : EReal) * v (ix2 k d))
      (hM s m (ix2 r 0)) (hL s m l (ix2 r 0)) (hA s m a v (ix2 r d)) := by
  have := step (fun k => s (ix2 r k)) (w r) (fun k => v (ix2 k d)) (hs r) (hex r) (h r d)
  rw [hL_at, hA_at]
  simp only [hE_at, hP_at, hM_at]
  exact this

end Cert.Flash

end
-- ==== Proof.Weights.lean ====
module
public import proofs.«01_k».proof.Proof.Loads
public import proofs.«01_k».proof.Proof.States

/-!
The weight of a key for a query within one head of a grid point's blocks, and its agreement with the scores the two loops form.
-/

@[expose] public section

set_option maxRecDepth 16384

noncomputable section

open Idealize.ShloMosaic Idealize.ShloMosaic.TcCoe Idealize.SL.Sem

namespace Cert.Flash

open Cert.KernelIdeal Cert.KernelIdeal.Gen

/-- The inner product of a query and a key of a head whose columns start at `c`, over the root of 192, in base two. -/
def dotB (x0 : Vec Ideal S1x1024x512 .bf16) (x1 : Vec Ideal S1x8192x512 .bf16) (c : Fin 257) (r : Fin 1024) (j : Fin 8192) : ℝ :=
  (∑ d : Fin 256, (x0 (ix3 0 r ⟨c.val + d.val, by omega⟩)).toReal * (x1 (ix3 0 j ⟨c.val + d.val, by omega⟩)).toReal)
    * ((Real.log 2)⁻¹ * (Real.sqrt 192)⁻¹)

/-- The weight of a key at any position: zero in later chunks and past the last key. -/
def wtB (q : ℕ) (x0 : Vec Ideal S1x1024x512 .bf16) (x1 : Vec Ideal S1x8192x512 .bf16) (c : Fin 257) (r : Fin 1024) (n : ℕ) : ℝ :=
  if h : n < 8192 then (if n / 64 ≤ (1024 * q + r.val) / 64 then two (dotB x0 x1 c r ⟨n, h⟩) else 0) else 0

/-- A value at any position, zero past the last key. -/
def vlB (x2 : Vec Ideal S1x8192x256 .bf16) (c : Fin 129) (d : Fin 128) (n : ℕ) : EReal :=
  if h : n < 8192 then x2 (ix3 0 ⟨n, h⟩ ⟨c.val + d.val, by omega⟩) else 0

/-- An inner product of real numbers, read in the extended reals. -/
theorem dot_real {n : ℕ} (x y : Fin n → EReal) (hx : ∀ d, x d = ((x d).toReal : EReal)) (hy : ∀ d, y d = ((y d).toReal : EReal)) (z : ℝ) :
    (∑ d, x d * y d) * (z : EReal) = (((∑ d, (x d).toReal * (y d).toReal) * z : ℝ) : EReal) := by
  rw [EReal.coe_mul, coe_sum]
  congr 1
  refine Finset.sum_congr rfl fun d _ => ?_
  rw [EReal.coe_mul, ← hx d, ← hy d]

/-- The printed comparison of two chunks is the comparison of the numbers. -/
theorem sle_word : ∀ a b : Fin 128, IntOp.cmpi .sle (BitVec.ofNat 32 a.val) (BitVec.ofNat 32 b.val) = if a.val ≤ b.val then 1#1 else 0#1 := by
  decide +kernel

theorem scF_weighs (q : ℕ) (x0 : Vec Ideal S1x1024x512 .bf16) (x1 : Vec Ideal S1x8192x512 .bf16) (c : Fin 257)
    (hx0 : ∀ y, x0 y = ((x0 y).toReal : EReal)) (hx1 : ∀ y, x1 y = ((x1 y).toReal : EReal))
    (Q K : FVec Ideal S1024x256 .bf16) (n : ℕ) (hn : n + 1024 ≤ 8192)
    (hQ : ∀ r d, Q (ix2 r d) = x0 (ix3 0 r ⟨c.val + d.val, by omega⟩))
    (hK : ∀ (k : Fin 1024) d, K (ix2 k d) = x1 (ix3 0 ⟨n + k.val, by omega⟩ ⟨c.val + d.val, by omega⟩)) (r k : Fin 1024) :
    scF Q K (ix2 r k) = ((dotB x0 x1 c r ⟨n + k.val, by omega⟩ : ℝ) : EReal) := by
  rw [scF_at]
  simp only [hQ, hK]
  exact dot_real _ _ (fun _ => hx0 _) (fun _ => hx1 _) _

theorem full_weighs (q : ℕ) (x0 : Vec Ideal S1x1024x512 .bf16) (x1 : Vec Ideal S1x8192x512 .bf16) (c : Fin 257)
    (hx0 : ∀ y, x0 y = ((x0 y).toReal : EReal)) (hx1 : ∀ y, x1 y = ((x1 y).toReal : EReal))
    (Q K : FVec Ideal S1024x256 .bf16) (n : ℕ) (hn : n + 1024 ≤ 8192) (hnq : n + 1024 ≤ 1024 * q)
    (hQ : ∀ r d, Q (ix2 r d) = x0 (ix3 0 r ⟨c.val + d.val, by omega⟩))
    (hK : ∀ (k : Fin 1024) d, K (ix2 k d) = x1 (ix3 0 ⟨n + k.val, by omega⟩ ⟨c.val + d.val, by omega⟩)) (r k : Fin 1024) :
    Weighs (scF Q K (ix2 r k)) (wtB q x0 x1 c r (n + k.val)) ∧ scF Q K (ix2 r k) ≠ ⊥ := by
  rw [scF_weighs q x0 x1 c hx0 hx1 Q K n hn hQ hK]
  refine ⟨Or.inl ⟨_, rfl, ?_⟩, EReal.coe_ne_bot _⟩
  rw [wtB, dif_pos (by omega), if_pos (by omega)]

theorem diag_weighs (q : ℕ) (hq : q < 8) (x0 : Vec Ideal S1x1024x512 .bf16) (x1 : Vec Ideal S1x8192x512 .bf16) (c : Fin 257)
    (hx0 : ∀ y, x0 y = ((x0 y).toReal : EReal)) (hx1 : ∀ y, x1 y = ((x1 y).toReal : EReal))
    (Q K : FVec Ideal S1024x256 .bf16) (qc : IVec S1024x1 32) (kc : IVec S1x1024 32)
    (hqc : ∀ r : Fin 1024, qc (ix2 r 0) = BitVec.ofNat 32 ((1024 * q + r.val) / 64))
    (hkc : ∀ r : Fin 1024, kc (ix2 0 r) = BitVec.ofNat 32 ((1024 * q + r.val) / 64))
    (hQ : ∀ r d, Q (ix2 r d) = x0 (ix3 0 r ⟨c.val + d.val, by omega⟩))
    (hK : ∀ (k : Fin 1024) d, K (ix2 k d) = x1 (ix3 0 ⟨1024 * q + k.val, by omega⟩ ⟨c.val + d.val, by omega⟩)) (r : Fin 1024) :
    (∀ k : Fin 1024, Weighs (scD qc kc Q K (ix2 r k)) (wtB q x0 x1 c r (1024 * q + k.val))) ∧ ∃ k : Fin 1024, scD qc kc Q K (ix2 r k) ≠ ⊥ := by
  have key : ∀ k : Fin 1024, scD qc kc Q K (ix2 r k)
      = if (1024 * q + k.val) / 64 ≤ (1024 * q + r.val) / 64 then ((dotB x0 x1 c r ⟨1024 * q + k.val, by omega⟩ : ℝ) : EReal) else ⊥ := by
    intro k
    rw [scD_at, hqc, hkc, sle_word ⟨(1024 * q + k.val) / 64, by omega⟩ ⟨(1024 * q + r.val) / 64, by omega⟩,
      scF_weighs q x0 x1 c hx0 hx1 Q K (1024 * q) (by omega) hQ hK]
    by_cases h : (1024 * q + k.val) / 64 ≤ (1024 * q + r.val) / 64
    · simp only [h, if_true]; rfl
    · simp only [h, if_false]; rfl
  refine ⟨fun k => ?_, r, ?_⟩
  · rw [key, wtB, dif_pos (by omega)]
    by_cases h : (1024 * q + k.val) / 64 ≤ (1024 * q + r.val) / 64
    · rw [if_pos h, if_pos h]; exact Or.inl ⟨_, rfl, rfl⟩
    · rw [if_neg h, if_neg h]; exact Or.inr ⟨rfl, rfl⟩
  · rw [key, if_pos le_rfl]; exact EReal.coe_ne_bot _

end Cert.Flash

end
-- ==== Proof.Loops.lean ====
module
public import proofs.«01_k».proof.Proof.Weights

/-!
The loops, one block of keys at a time: before a trip the carried vectors hold the keys of the blocks taken in, after the last loop
those of every block up to the diagonal one.
-/

@[expose] public section

set_option maxRecDepth 16384

noncomputable section

open Idealize.ShloMosaic Idealize.ShloMosaic.TcCoe Idealize.SL.Sem

namespace Cert.Flash

open Cert.KernelIdeal Cert.KernelIdeal.Gen

/-- The weight of the first `n` keys. -/
def sumW (q : ℕ) (x0 : Vec Ideal S1x1024x512 .bf16) (x1 : Vec Ideal S1x8192x512 .bf16) (c : Fin 257) (n : ℕ) (r : Fin 1024) : ℝ :=
  ∑ j ∈ Finset.range n, wtB q x0 x1 c r j

/-- The weighted sum of the first `n` values. -/
def sumA (q : ℕ) (x0 : Vec Ideal S1x1024x512 .bf16) (x1 : Vec Ideal S1x8192x512 .bf16) (x2 : Vec Ideal S1x8192x256 .bf16)
    (c : Fin 257) (cv : Fin 129) (n : ℕ) (r : Fin 1024) (d : Fin 128) : EReal :=
  ∑ j ∈ Finset.range n, (wtB q x0 x1 c r j : EReal) * vlB x2 cv d j

theorem sumW_add (q : ℕ) (x0 : Vec Ideal S1x1024x512 .bf16) (x1 : Vec Ideal S1x8192x512 .bf16) (c : Fin 257) (n : ℕ) (r : Fin 1024) :
    sumW q x0 x1 c (n + 1024) r = sumW q x0 x1 c n r + ∑ k : Fin 1024, wtB q x0 x1 c r (n + k.val) := by
  rw [sumW, Finset.sum_range_add, Finset.sum_range (fun k => wtB q x0 x1 c r (n + k))]; rfl

theorem sumA_add (q : ℕ) (x0 : Vec Ideal S1x1024x512 .bf16) (x1 : Vec Ideal S1x8192x512 .bf16) (x2 : Vec Ideal S1x8192x256 .bf16)
    (c : Fin 257) (cv : Fin 129) (n : ℕ) (r : Fin 1024) (d : Fin 128) :
    sumA q x0 x1 x2 c cv (n + 1024) r d
      = sumA q x0 x1 x2 c cv n r d + ∑ k : Fin 1024, (wtB q x0 x1 c r (n + k.val) : EReal) * vlB x2 cv d (n + k.val) := by
  rw [sumA, Finset.sum_range_add, Finset.sum_range (fun k => (wtB q x0 x1 c r (n + k) : EReal) * vlB x2 cv d (n + k))]; rfl

/-- Both heads after the first `n` keys. -/
def Holds (q : ℕ) (x0 : Vec Ideal S1x1024x512 .bf16) (x1 : Vec Ideal S1x8192x512 .bf16) (x2 : Vec Ideal S1x8192x256 .bf16) (n : ℕ) (a : Carry Ideal) : Prop :=
  HeadHolds (sumW q x0 x1 0 n) (sumA q x0 x1 x2 0 0 n) a.1 a.2.1 a.2.2.1
    ∧ HeadHolds (sumW q x0 x1 256 n) (sumA q x0 x1 x2 256 128 n) a.2.2.2.1 a.2.2.2.2.1 a.2.2.2.2.2

/-- The same once a key has been taken in. -/
def Full (q : ℕ) (x0 : Vec Ideal S1x1024x512 .bf16) (x1 : Vec Ideal S1x8192x512 .bf16) (x2 : Vec Ideal S1x8192x256 .bf16) (n : ℕ) (a : Carry Ideal) : Prop :=
  ∀ r d, Running (sumW q x0 x1 0 n r) (sumA q x0 x1 x2 0 0 n r d) (a.1 (ix2 r 0)) (a.2.1 (ix2 r 0)) (a.2.2.1 (ix2 r d))
    ∧ Running (sumW q x0 x1 256 n r) (sumA q x0 x1 x2 256 128 n r d) (a.2.2.2.1 (ix2 r 0)) (a.2.2.2.2.1 (ix2 r 0)) (a.2.2.2.2.2 (ix2 r d))

theorem Full.holds {q : ℕ} {x0 : Vec Ideal S1x1024x512 .bf16} {x1 : Vec Ideal S1x8192x512 .bf16} {x2 : Vec Ideal S1x8192x256 .bf16} {n : ℕ} {a : Carry Ideal}
    (h : Full q x0 x1 x2 n a) : Holds q x0 x1 x2 n a :=
  ⟨fun r d => Or.inr (h r d).1, fun r d => Or.inr (h r d).2⟩

/-- A block of 1024 keys taken in by both heads. -/
theorem both_full (q : ℕ) (x0 : Vec Ideal S1x1024x512 .bf16) (x1 : Vec Ideal S1x8192x512 .bf16) (x2 : Vec Ideal S1x8192x256 .bf16) (n : ℕ)
    (s0 s1 : FVec Ideal S1024x1024 .f32) (v0 v1 : FVec Ideal S1024x128 .bf16) (a : Carry Ideal)
    (h0 : ∀ r, (∀ k : Fin 1024, Weighs (s0 (ix2 r k)) (wtB q x0 x1 0 r (n + k.val))) ∧ ∃ k : Fin 1024, s0 (ix2 r k) ≠ ⊥)
    (h1 : ∀ r, (∀ k : Fin 1024, Weighs (s1 (ix2 r k)) (wtB q x0 x1 256 r (n + k.val))) ∧ ∃ k : Fin 1024, s1 (ix2 r k) ≠ ⊥)
    (hv0 : ∀ (k : Fin 1024) d, v0 (ix2 k d) = vlB x2 0 d (n + k.val)) (hv1 : ∀ (k : Fin 1024) d, v1 (ix2 k d) = vlB x2 128 d (n + k.val))
    (h : Holds q x0 x1 x2 n a) : Full q x0 x1 x2 (n + 1024) (both s0 s1 v0 v1 a) := by
  intro r d
  have e0 := head_step s0 v0 (fun r k => wtB q x0 x1 0 r (n + k.val)) (fun r => (h0 r).1) (fun r => (h0 r).2) h.1 r d
  have e1 := head_step s1 v1 (fun r k => wtB q x0 x1 256 r (n + k.val)) (fun r => (h1 r).1) (fun r => (h1 r).2) h.2 r d
  simp only [hv0] at e0
  simp only [hv1] at e1
  rw [← sumW_add, ← sumA_add] at e0 e1
  exact ⟨e0, e1⟩

section
variable (c : Dev nD) (t : Fin grid0.N) (arg3 : Memref sig .tc .vmem S1x1024x512 .bf16) (harg3 : arg3.IsWhole) (arg4 : Memref sig .tc .vmem S1x8192x512 .bf16) (harg4 : arg4.IsWhole) (arg5 : Memref sig .tc .vmem S1x8192x256 .bf16) (harg5 : arg5.IsWhole) (arg6 : Memref sig .tc .vmem S1x1024x256 .bf16) (harg6 : arg6.IsWhole)
    (x0 : Vec Ideal S1x1024x512 .bf16) (x1 : Vec Ideal S1x8192x512 .bf16) (x2 : Vec Ideal S1x8192x256 .bf16)
  (hx0 : ∀ y, x0 y = ((x0 y).toReal : EReal)) (hx1 : ∀ y, x1 y = ((x1 y).toReal : EReal))
include hx0 hx1

/-- The loop over the blocks before the diagonal. -/
theorem loop1 (n : ℕ) (hn : n ≤ (k0_t1_loop (grid0.coords t)).trips) :
    Holds ((grid0.coords t) 2).val x0 x1 x2 (1024 * n) (carry1 c (grid0.coords t) arg3 harg3 arg4 harg4 arg5 harg5 arg6 harg6 x0 x1 x2 n) := by
  have hq : ((grid0.coords t) 2).val < 8 := ((grid0.coords t) 2).isLt
  have htr := (counts t).1
  induction n with
  | zero =>
    rw [carry1, st_k0_t1_zero]
    refine ⟨fun r d => Or.inl ?_, fun r d => Or.inl ?_⟩
    · exact ⟨rfl, rfl, (init_at r d).1, (init_at r d).2.1, (init_at r d).2.2.1⟩
    · exact ⟨rfl, rfl, (init_at r d).2.2.2.1, (init_at r d).2.2.2.2.1, (init_at r d).2.2.2.2.2⟩
  | succ n ih =>
    have hlt : n < (k0_t1_loop (grid0.coords t)).trips := hn
    have hb : 1024 * n + 1024 ≤ 1024 * ((grid0.coords t) 2).val := by omega
    have hs := ih (Nat.le_of_lt hlt)
    obtain ⟨o1, o2, o3, o4⟩ := offs1 t ⟨n, hlt⟩
    rw [carry1, st_k0_t1_succ (k := ⟨n, hlt⟩), trip1]
    refine (both_full _ x0 x1 x2 (1024 * n) _ _ _ _ _ (fun r => ?_) (fun r => ?_) (fun k d => ?_) (fun k d => ?_) hs).holds
    · have := full_weighs ((grid0.coords t) 2).val x0 x1 0 hx0 hx1 (cQ (ldQ0 arg3 harg3 x0)) (cQ _) (1024 * n) (by omega) hb
        (fun r d => by rw [cQ_at]; exact ldQ_at arg3 harg3 x0 0 _ r d (by omega))
        (fun k d => by rw [cQ_at]; exact ldK_at arg4 harg4 x1 (1024 * n) 0 _ o1 (k0_off1_inb (grid0.coords t) ⟨n, hlt⟩) k d (by omega) (by omega)) r
      exact ⟨fun k => (this k).1, 0, (this 0).2⟩
    · have := full_weighs ((grid0.coords t) 2).val x0 x1 256 hx0 hx1 (cQ (ldQ1 arg3 harg3 x0)) (cQ _) (1024 * n) (by omega) hb
        (fun r d => by rw [cQ_at]; exact ldQ_at arg3 harg3 x0 256 _ r d (by omega))
        (fun k d => by rw [cQ_at]; exact ldK_at arg4 harg4 x1 (1024 * n) 256 _ o3 (k0_off3_inb (grid0.coords t) ⟨n, hlt⟩) k d (by omega) (by omega)) r
      exact ⟨fun k => (this k).1, 0, (this 0).2⟩
    · rw [cV_at, vlB, dif_pos (by omega)]
      exact ldV_at arg5 harg5 x2 (1024 * n) 0 _ o2 _ k d (by omega) (by omega)
    · rw [cV_at, vlB, dif_pos (by omega)]
      exact ldV_at arg5 harg5 x2 (1024 * n) 128 _ o4 _ k d (by omega) (by omega)

/-- After the last loop: the keys up to the end of the diagonal block. -/
theorem last : Full ((grid0.coords t) 2).val x0 x1 x2 (1024 * ((grid0.coords t) 2).val + 1024) (carry4 c (grid0.coords t) arg3 harg3 arg4 harg4 arg5 harg5 arg6 harg6 x0 x1 x2 (k0_t4_loop (grid0.coords t)).trips) := by
  have hq : ((grid0.coords t) 2).val < 8 := ((grid0.coords t) 2).isLt
  obtain ⟨c1, c2, c3, c4, hw⟩ := counts t
  have hs := loop1 c t arg3 harg3 arg4 harg4 arg5 harg5 arg6 harg6 x0 x1 x2 hx0 hx1 _ le_rfl
  rw [c1] at hs
  have h0 : 0 < (k0_t3_loop (grid0.coords t)).trips := by omega
  obtain ⟨o1, o2, o3, o4⟩ := offs3 t ⟨0, h0⟩
  rw [c4, carry4, st_k0_t4_zero, show (k0_t3_loop (grid0.coords t)).trips = (⟨0, h0⟩ : Fin (k0_t3_loop (grid0.coords t)).trips).val + 1 from c3,
    carry3, st_k0_t3_succ (k := ⟨0, h0⟩), trip3, st_k0_t3_zero, c2, carry2, st_k0_t2_zero, c1, hw]
  refine both_full _ x0 x1 x2 (1024 * ((grid0.coords t) 2).val) _ _ _ _ _ (fun r => ?_) (fun r => ?_) (fun k d => ?_) (fun k d => ?_) hs
  · exact diag_weighs ((grid0.coords t) 2).val hq x0 x1 0 hx0 hx1 (cQ (ldQ0 arg3 harg3 x0)) (cQ _) _ _ (pay39_at (grid0.coords t)) (pay23_at (grid0.coords t) ⟨0, h0⟩ rfl)
      (fun r d => by rw [cQ_at]; exact ldQ_at arg3 harg3 x0 0 _ r d (by omega))
      (fun k d => by rw [cQ_at]; exact ldK_at arg4 harg4 x1 (1024 * ((grid0.coords t) 2).val) 0 _ o1 (k0_off9_inb (grid0.coords t) ⟨0, h0⟩) k d (by omega) (by omega)) r
  · exact diag_weighs ((grid0.coords t) 2).val hq x0 x1 256 hx0 hx1 (cQ (ldQ1 arg3 harg3 x0)) (cQ _) _ _ (pay39_at (grid0.coords t)) (pay23_at (grid0.coords t) ⟨0, h0⟩ rfl)
      (fun r d => by rw [cQ_at]; exact ldQ_at arg3 harg3 x0 256 _ r d (by omega))
      (fun k d => by rw [cQ_at]; exact ldK_at arg4 harg4 x1 (1024 * ((grid0.coords t) 2).val) 256 _ o3 (k0_off11_inb (grid0.coords t) ⟨0, h0⟩) k d (by omega) (by omega)) r
  · rw [cV_at, vlB, dif_pos (by omega)]
    exact ldV_at arg5 harg5 x2 (1024 * ((grid0.coords t) 2).val) 0 _ o2 _ k d (by omega) (by omega)
  · rw [cV_at, vlB, dif_pos (by omega)]
    exact ldV_at arg5 harg5 x2 (1024 * ((grid0.coords t) 2).val) 128 _ o4 _ k d (by omega) (by omega)

end

end Cert.Flash

end
-- ==== Proof.OutBlock.lean ====
module
public import proofs.«01_k».proof.Proof.Loops

/-!
The output block a grid point leaves, at an index: the weighted mean of the values.
-/

@[expose] public section

set_option maxRecDepth 16384

noncomputable section

open Idealize.ShloMosaic Idealize.ShloMosaic.TcCoe Idealize.SL.Sem

namespace Cert.Flash

open Cert.KernelIdeal Cert.KernelIdeal.Gen

theorem wtB_nonneg (q : ℕ) (x0 : Vec Ideal S1x1024x512 .bf16) (x1 : Vec Ideal S1x8192x512 .bf16) (c : Fin 257) (r : Fin 1024) (n : ℕ) :
    0 ≤ wtB q x0 x1 c r n := by
  unfold wtB
  split
  · split
    · exact (two_pos _).le
    · exact le_rfl
  · exact le_rfl

/-- The first key is seen by every query, so the weights do not sum to zero. -/
theorem sumW_pos (q : ℕ) (x0 : Vec Ideal S1x1024x512 .bf16) (x1 : Vec Ideal S1x8192x512 .bf16) (c : Fin 257) (n : ℕ) (hn : 0 < n) (r : Fin 1024) :
    0 < sumW q x0 x1 c n r := by
  refine Finset.sum_pos' (fun k _ => wtB_nonneg q x0 x1 c r k) ⟨0, Finset.mem_range.mpr hn, ?_⟩
  rw [wtB, dif_pos (by omega), if_pos (by omega)]
  exact two_pos _

/-- Keys past the end of the diagonal block weigh nothing. -/
theorem sumW_all (q : ℕ) (hq : q < 8) (x0 : Vec Ideal S1x1024x512 .bf16) (x1 : Vec Ideal S1x8192x512 .bf16) (c : Fin 257) (r : Fin 1024) :
    sumW q x0 x1 c (1024 * q + 1024) r = sumW q x0 x1 c 8192 r := by
  refine Finset.sum_subset (fun k hk => Finset.mem_range.mpr (by have := Finset.mem_range.mp hk; omega)) fun k hk hk' => ?_
  have : 1024 * q + 1024 ≤ k := by simpa using hk'
  rw [wtB, dif_pos (Finset.mem_range.mp hk), if_neg (by omega)]

theorem sumA_all (q : ℕ) (hq : q < 8) (x0 : Vec Ideal S1x1024x512 .bf16) (x1 : Vec Ideal S1x8192x512 .bf16) (x2 : Vec Ideal S1x8192x256 .bf16)
    (c : Fin 257) (cv : Fin 129) (r : Fin 1024) (d : Fin 128) :
    sumA q x0 x1 x2 c cv (1024 * q + 1024) r d = sumA q x0 x1 x2 c cv 8192 r d := by
  refine Finset.sum_subset (fun k hk => Finset.mem_range.mpr (by have := Finset.mem_range.mp hk; omega)) fun k hk hk' => ?_
  have : 1024 * q + 1024 ≤ k := by simpa using hk'
  rw [wtB, dif_pos (Finset.mem_range.mp hk), if_neg (by omega), EReal.coe_zero, zero_mul]

/-- The weighted mean of one head's values. -/
def meanB (q : ℕ) (x0 : Vec Ideal S1x1024x512 .bf16) (x1 : Vec Ideal S1x8192x512 .bf16) (x2 : Vec Ideal S1x8192x256 .bf16)
    (c : Fin 257) (cv : Fin 129) (r : Fin 1024) (d : Fin 128) : EReal :=
  sumA q x0 x1 x2 c cv 8192 r d * (((sumW q x0 x1 c 8192 r)⁻¹ : ℝ) : EReal)

theorem mean_of_running (q : ℕ) (hq : q < 8) (x0 : Vec Ideal S1x1024x512 .bf16) (x1 : Vec Ideal S1x8192x512 .bf16) (x2 : Vec Ideal S1x8192x256 .bf16)
    (c : Fin 257) (cv : Fin 129) (r : Fin 1024) (d : Fin 128) (m l a : EReal)
    (h : Running (sumW q x0 x1 c (1024 * q + 1024) r) (sumA q x0 x1 x2 c cv (1024 * q + 1024) r d) m l a) :
    Ideal.div a l = meanB q x0 x1 x2 c cv r d := by
  have hp := sumW_pos q x0 x1 c (1024 * q + 1024) (by omega) r
  rw [Ideal.div, if_neg (h.ne_zero hp)]
  rw [h.div hp, sumW_all q hq, sumA_all q hq]
  rfl

theorem pay1_at (l : FVec Ideal S1024x1 .f32) (a : FVec Ideal S1024x128 .f32) (r : Fin 1024) (d : Fin 128) :
    k0_pay1 (k0_pay66 l a) (ix3 0 r d) = Ideal.div (a (ix2 r d)) (l (ix2 r 0)) := by
  pointwise [k0_pay1, k0_pay66]

theorem pay2_at (l : FVec Ideal S1024x1 .f32) (a : FVec Ideal S1024x128 .f32) (r : Fin 1024) (d : Fin 128) :
    k0_pay2 l a (ix3 0 r d) = Ideal.div (a (ix2 r d)) (l (ix2 r 0)) := by
  pointwise [k0_pay2]

theorem canon_low (P0 P1 : Vec Ideal S1x1024x128 .bf16) (r : Fin 1024) (d : Fin 128) :
    View.canon (Val := Elt Ideal) (s := S1x1024x256) (e := .bf16)
      [⟨Rect.unit ![0, 0, 128] ![1, 1024, 128] inb_S1x1024x256_S1x1024x128_0_0_128, P1⟩,
       ⟨Rect.unit ![0, 0, 0] ![1, 1024, 128] inb_S1x1024x256_S1x1024x128_0_0_0, P0⟩] (ix3 0 r ⟨d.val, by omega⟩) = P0 (ix3 0 r d) := by
  canon_tiles x h
  · have e2 : d.val = 128 + (x 2).val := h2
    omega
  · refine congrArg P0 (funext fun a => Fin.ext ?_)
    fin_cases a
    · exact h0.symm
    · exact h1.symm
    · exact h2.symm

theorem canon_high (P0 P1 : Vec Ideal S1x1024x128 .bf16) (r : Fin 1024) (d : Fin 128) :
    View.canon (Val := Elt Ideal) (s := S1x1024x256) (e := .bf16)
      [⟨Rect.unit ![0, 0, 128] ![1, 1024, 128] inb_S1x1024x256_S1x1024x128_0_0_128, P1⟩,
       ⟨Rect.unit ![0, 0, 0] ![1, 1024, 128] inb_S1x1024x256_S1x1024x128_0_0_0, P0⟩] (ix3 0 r ⟨128 + d.val, by omega⟩) = P1 (ix3 0 r d) := by
  canon_tiles x h
  · refine congrArg P1 (funext fun a => Fin.ext ?_)
    fin_cases a
    · exact h0.symm
    · exact h1.symm
    · have e2 : 128 + d.val = 128 + (x 2).val := h2
      exact (Nat.add_left_cancel e2).symm
  · have e2 : 128 + d.val = (x 2).val := h2
    omega

section
variable (c : Dev nD) (t : Fin grid0.N) (arg3 : Memref sig .tc .vmem S1x1024x512 .bf16) (harg3 : arg3.IsWhole) (arg4 : Memref sig .tc .vmem S1x8192x512 .bf16) (harg4 : arg4.IsWhole) (arg5 : Memref sig .tc .vmem S1x8192x256 .bf16) (harg5 : arg5.IsWhole) (arg6 : Memref sig .tc .vmem S1x1024x256 .bf16) (harg6 : arg6.IsWhole)
    (x0 : Vec Ideal S1x1024x512 .bf16) (x1 : Vec Ideal S1x8192x512 .bf16) (x2 : Vec Ideal S1x8192x256 .bf16)
  (hx0 : ∀ y, x0 y = ((x0 y).toReal : EReal)) (hx1 : ∀ y, x1 y = ((x1 y).toReal : EReal))
include hx0 hx1

theorem out_low (r : Fin 1024) (d : Fin 128) :
    out0_A_3 c (grid0.coords t) arg3 harg3 arg4 harg4 arg5 harg5 arg6 harg6 x0 x1 x2 (ix3 0 r ⟨d.val, by omega⟩)
      = meanB (grid0.coords t 2).val x0 x1 x2 0 0 r d := by
  have hq : (grid0.coords t 2).val < 8 := (grid0.coords t 2).isLt
  have h := last c t arg3 harg3 arg4 harg4 arg5 harg5 arg6 harg6 x0 x1 x2 hx0 hx1 r d
  rw [← mean_of_running _ hq x0 x1 x2 0 0 r d _ _ _ h.1, out0_A_3, View.read_writes_apply_eq_canon, pieces, canon_low, pay1_at]
  exact cover0_A_3 c _ arg3 harg3 arg4 harg4 arg5 harg5 arg6 harg6 x0 x1 x2 _

theorem out_high (r : Fin 1024) (d : Fin 128) :
    out0_A_3 c (grid0.coords t) arg3 harg3 arg4 harg4 arg5 harg5 arg6 harg6 x0 x1 x2 (ix3 0 r ⟨128 + d.val, by omega⟩)
      = meanB (grid0.coords t 2).val x0 x1 x2 256 128 r d := by
  have hq : (grid0.coords t 2).val < 8 := (grid0.coords t 2).isLt
  have h := last c t arg3 harg3 arg4 harg4 arg5 harg5 arg6 harg6 x0 x1 x2 hx0 hx1 r d
  rw [← mean_of_running _ hq x0 x1 x2 256 128 r d _ _ _ h.2, out0_A_3, View.read_writes_apply_eq_canon, pieces, canon_high, pay2_at]
  exact cover0_A_3 c _ arg3 harg3 arg4 harg4 arg5 harg5 arg6 harg6 x0 x1 x2 _

end

end Cert.Flash

end
-- ==== Proof.Spec.lean ====
module
public import proofs.«01_k».proof.Proof.Online
public import Idealize.ShloMosaic.Lib.Pointwise

/-!
The attention both programs compute: chunked causal softmax over whole rows, as reals and extended reals.
-/

@[expose] public section

noncomputable section

open Idealize.ShloMosaic Idealize.SL.Sem

namespace Cert.Flash

/-- The inner product of query `q` and key `k` of head `h`. -/
def dotS (Q K : (Shape.mk 3 ![2, 8192, 2048]).Idx → EReal) (b : Fin 2) (h : Fin 8) (q k : Fin 8192) : ℝ :=
  ∑ d : Fin 256, (Q (ix3 b q ⟨h.val * 256 + d.val, by omega⟩)).toReal * (K (ix3 b k ⟨h.val * 256 + d.val, by omega⟩)).toReal

/-- The weight of key `k` for query `q`: zero in later chunks. -/
def wS (Q K : (Shape.mk 3 ![2, 8192, 2048]).Idx → EReal) (b : Fin 2) (h : Fin 8) (q k : Fin 8192) : ℝ :=
  if k.val / 64 ≤ q.val / 64 then Real.exp (dotS Q K b h q k / Real.sqrt 192) else 0

/-- One element of the output: the weighted mean of a column of values. -/
def outAt (Q K : (Shape.mk 3 ![2, 8192, 2048]).Idx → EReal) (V : (Shape.mk 3 ![2, 8192, 1024]).Idx → EReal)
    (b : Fin 2) (q : Fin 8192) (h : Fin 8) (d : Fin 128) : EReal :=
  (∑ k : Fin 8192, (wS Q K b h q k : EReal) * V (ix3 b k ⟨h.val * 128 + d.val, by omega⟩)) * (((∑ k : Fin 8192, wS Q K b h q k)⁻¹ : ℝ) : EReal)

/-- The output array. -/
def outS (Q K : (Shape.mk 3 ![2, 8192, 2048]).Idx → EReal) (V : (Shape.mk 3 ![2, 8192, 1024]).Idx → EReal) :
    (Shape.mk 3 ![2, 8192, 1024]).Idx → EReal := fun i =>
  have h2 : (i 2).val < 1024 := (i 2).isLt
  outAt Q K V (i 0) (i 1) ⟨(i 2).val / 128, by omega⟩ ⟨(i 2).val % 128, by omega⟩

theorem outS_at (Q K : (Shape.mk 3 ![2, 8192, 2048]).Idx → EReal) (V : (Shape.mk 3 ![2, 8192, 1024]).Idx → EReal)
    (b : Fin 2) (q : Fin 8192) (e : Fin 1024) (h : Fin 8) (d : Fin 128) (he : e.val = h.val * 128 + d.val) :
    outS Q K V (ix3 b q e) = outAt Q K V b q h d := by
  show outAt Q K V b q ⟨e.val / 128, _⟩ ⟨e.val % 128, _⟩ = _
  congr 1
  · ext; simp only; omega
  · ext; simp only; omega

/-- Two to the base-two score is the exponential of the score. -/
theorem two_exp (x : ℝ) : two (x * ((Real.log 2)⁻¹ * (Real.sqrt 192)⁻¹)) = Real.exp (x / Real.sqrt 192) := by
  rw [two, Real.rpow_def_of_pos (by norm_num)]
  congr 1
  have : Real.log 2 ≠ 0 := (Real.log_pos (by norm_num)).ne'
  field_simp

theorem wS_nonneg (Q K : (Shape.mk 3 ![2, 8192, 2048]).Idx → EReal) (b : Fin 2) (h : Fin 8) (q k : Fin 8192) : 0 ≤ wS Q K b h q k := by
  unfold wS
  split
  · exact (Real.exp_pos _).le
  · exact le_rfl

theorem wS_pos (Q K : (Shape.mk 3 ![2, 8192, 2048]).Idx → EReal) (b : Fin 2) (h : Fin 8) (q : Fin 8192) : 0 < ∑ k, wS Q K b h q k := by
  refine Finset.sum_pos' (fun k _ => wS_nonneg Q K b h q k) ⟨0, Finset.mem_univ _, ?_⟩
  rw [wS, if_pos (by simp)]
  exact Real.exp_pos _

end Cert.Flash

end
-- ==== Proof.Final.lean ====
module
public import proofs.«01_k».proof.Proof.OutBlock
public import proofs.«01_k».proof.Proof.Spec

/-!
The kernel's output array is the attention of its arguments.
-/

@[expose] public section

set_option maxRecDepth 16384

noncomputable section

open Idealize.ShloMosaic Idealize.ShloMosaic.TcCoe Idealize.SL.Sem

namespace Cert.Flash

open Cert.KernelIdeal Cert.KernelIdeal.Gen

/-- Which block of each array a grid point works on. -/
theorem idx : ∀ t : Fin grid0.N, win0_0.index t = ![(grid0.coords t 0).val, (grid0.coords t 2).val, (grid0.coords t 1).val]
  ∧ win0_1.index t = ![(grid0.coords t 0).val, 0, (grid0.coords t 1).val] ∧ win0_2.index t = ![(grid0.coords t 0).val, 0, (grid0.coords t 1).val]
  ∧ win0_3.index t = ![(grid0.coords t 0).val, (grid0.coords t 2).val, (grid0.coords t 1).val] := by decide +kernel

variable (m : (ℓ : Loc nD τ sig) → Buf (Elt Ideal) ℓ)

theorem blk0_at (c : Dev nD) (t : Fin grid0.N) (b : Fin 2) (g : Fin 4) (q : Fin 8) (hb : (grid0.coords t 0).val = b.val) (hg : (grid0.coords t 1).val = g.val)
    (hq : (grid0.coords t 2).val = q.val) (r : Fin 1024) (d : Fin 512) :
    iblk m c 0 t (ix3 0 r d) = m ((c : Thread nD τ).loc main_arg0) (ix3 b ⟨q.val * 1024 + r.val, by omega⟩ ⟨g.val * 512 + d.val, by omega⟩) := by
  blk_point [iblk, V, (idx t).1, hb, hg, hq]

theorem blk1_at (c : Dev nD) (t : Fin grid0.N) (b : Fin 2) (g : Fin 4) (hb : (grid0.coords t 0).val = b.val) (hg : (grid0.coords t 1).val = g.val)
    (r : Fin 8192) (d : Fin 512) :
    iblk m c 1 t (ix3 0 r d) = m ((c : Thread nD τ).loc main_arg1) (ix3 b r ⟨g.val * 512 + d.val, by omega⟩) := by
  blk_point [iblk, V, (idx t).2.1, hb, hg]

theorem blk2_at (c : Dev nD) (t : Fin grid0.N) (b : Fin 2) (g : Fin 4) (hb : (grid0.coords t 0).val = b.val) (hg : (grid0.coords t 1).val = g.val)
    (r : Fin 8192) (d : Fin 256) :
    iblk m c 2 t (ix3 0 r d) = m ((c : Thread nD τ).loc main_arg2) (ix3 b r ⟨g.val * 256 + d.val, by omega⟩) := by
  blk_point [iblk, V, (idx t).2.2.1, hb, hg]

/-- The block's weighted mean, where the blocks are parts of whole arrays. -/
theorem mean_at (Q K : S2x8192x2048.Idx → EReal) (V : S2x8192x1024.Idx → EReal) (x0 : Vec Ideal S1x1024x512 .bf16) (x1 : Vec Ideal S1x8192x512 .bf16)
    (x2 : Vec Ideal S1x8192x256 .bf16) (b : Fin 2) (g : Fin 4) (q : Fin 8) (s : Fin 2)
    (h0 : ∀ (r : Fin 1024) (d : Fin 512), x0 (ix3 0 r d) = Q (ix3 b ⟨q.val * 1024 + r.val, by omega⟩ ⟨g.val * 512 + d.val, by omega⟩))
    (h1 : ∀ (r : Fin 8192) (d : Fin 512), x1 (ix3 0 r d) = K (ix3 b r ⟨g.val * 512 + d.val, by omega⟩))
    (h2 : ∀ (r : Fin 8192) (d : Fin 256), x2 (ix3 0 r d) = V (ix3 b r ⟨g.val * 256 + d.val, by omega⟩)) (r : Fin 1024) (d : Fin 128) :
    meanB q.val x0 x1 x2 ⟨s.val * 256, by omega⟩ ⟨s.val * 128, by omega⟩ r d
      = outAt Q K V b ⟨q.val * 1024 + r.val, by omega⟩ ⟨g.val * 2 + s.val, by omega⟩ d := by
  have hw : ∀ k : Fin 8192, wtB q.val x0 x1 ⟨s.val * 256, by omega⟩ r k.val = wS Q K b ⟨g.val * 2 + s.val, by omega⟩ ⟨q.val * 1024 + r.val, by omega⟩ k := by
    intro k
    rw [wtB, dif_pos k.isLt, wS, mul_comm 1024 q.val]
    split
    · rw [dotB, two_exp, dotS]
      congr 2
      refine Finset.sum_congr rfl fun e _ => ?_
      rw [h0, h1]
      congr 3
      · congr 1; ext; simp only; omega
      · congr 1; ext; simp only; omega
    · rfl
  rw [meanB, outAt, sumW, sumA, Finset.sum_range (fun j => wtB q.val x0 x1 ⟨s.val * 256, _⟩ r j),
    Finset.sum_range (fun j => (wtB q.val x0 x1 ⟨s.val * 256, _⟩ r j : EReal) * vlB x2 ⟨s.val * 128, _⟩ d j)]
  simp only [hw]
  congr 1
  refine Finset.sum_congr rfl fun k _ => ?_
  congr 1
  rw [vlB, dif_pos k.isLt, h2]
  congr 2; ext; simp only; omega

/-- THE ARRAY. -/
theorem final (c : Dev nD)
    (hQ : ∀ y, m ((c : Thread nD τ).loc main_arg0) y = ((m ((c : Thread nD τ).loc main_arg0) y : EReal).toReal : EReal))
    (hK : ∀ y, m ((c : Thread nD τ).loc main_arg1) y = ((m ((c : Thread nD τ).loc main_arg1) y : EReal).toReal : EReal)) :
    (dats m 0 c).arrAt 3 (cfgs 0).N
      = outS (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp [iblk]
  rw [after0_3]
  unfold outsAt0
  obtain ⟨b, hb⟩ : ∃ b : Fin 2, (grid0.coords t 0).val = b.val := ⟨grid0.coords t 0, rfl⟩
  obtain ⟨g, hg⟩ : ∃ b : Fin 4, (grid0.coords t 1).val = b.val := ⟨grid0.coords t 1, rfl⟩
  obtain ⟨q, hq⟩ : ∃ b : Fin 8, (grid0.coords t 2).val = b.val := ⟨grid0.coords t 2, rfl⟩
  have b0 := blk0_at m c t b g q hb hg hq
  have b1 := blk1_at m c t b g hb hg
  have b2 := blk2_at m c t b g hb hg
  have hx0 : ∀ y, iblk m c 0 t y = ((iblk m c 0 t y : EReal).toReal : EReal) := fun y => by
    obtain ⟨y0, y1, y2, rfl⟩ : ∃ (y0 : Fin 1) (y1 : Fin 1024) (y2 : Fin 512), y = ix3 y0 y1 y2 := ⟨y 0, y 1, y 2, eq_ix3 y⟩
    rw [Subsingleton.elim y0 0, b0]; exact hQ _
  have hx1 : ∀ y, iblk m c 1 t y = ((iblk m c 1 t y : EReal).toReal : EReal) := fun y => by
    obtain ⟨y0, y1, y2, rfl⟩ : ∃ (y0 : Fin 1) (y1 : Fin 8192) (y2 : Fin 512), y = ix3 y0 y1 y2 := ⟨y 0, y 1, y 2, eq_ix3 y⟩
    rw [Subsingleton.elim y0 0, b1]; exact hK _
  obtain ⟨y0, r, e, rfl⟩ : ∃ (y0 : Fin 1) (y1 : Fin 1024) (y2 : Fin 256), y = ix3 y0 y1 y2 := ⟨y 0, y 1, y 2, eq_ix3 y⟩
  rw [Subsingleton.elim y0 0]
  have he : (win0_3.blk t).view.emb (ix3 0 r e) = ix3 b ⟨q.val * 1024 + r.val, by omega⟩ ⟨g.val * 256 + e.val, by omega⟩ := by
    funext a
    apply Fin.ext
    fin_cases a <;> blk_simp [(idx t).2.2.2, hb, hg, hq] <;> rfl
  rw [he]
  by_cases hlt : e.val < 128
  · have hm := mean_at _ _ _ _ _ _ b g q 0 b0 b1 b2 r ⟨e.val, hlt⟩
    have ho := out_low c t _ (hs0_0 t) _ (hs0_1 t) _ (hs0_2 t) _ (hs0_3 t) _ _ (iblk m c 2 t) hx0 hx1 r ⟨e.val, hlt⟩
    rw [outS_at _ _ _ _ _ _ ⟨g.val * 2 + (0 : Fin 2).val, by omega⟩ ⟨e.val, hlt⟩ (by simp only [Fin.val_zero]; omega), ← hm, ← hq]
    exact ho
  · have hm := mean_at _ _ _ _ _ _ b g q 1 b0 b1 b2 r ⟨e.val - 128, by omega⟩
    have ho := out_high c t _ (hs0_0 t) _ (hs0_1 t) _ (hs0_2 t) _ (hs0_3 t) _ _ (iblk m c 2 t) hx0 hx1 r ⟨e.val - 128, by omega⟩
    rw [outS_at _ _ _ _ _ _ ⟨g.val * 2 + (1 : Fin 2).val, by omega⟩ ⟨e.val - 128, by omega⟩ (by simp only [Fin.val_one]; omega), ← hm, ← hq]
    refine Eq.trans (congrArg _ ?_) ho
    congr 1
    ext
    simp only
    omega

end Cert.Flash

end
-- ==== Proof.RefTerms.lean ====
module
public import proofs.«01_k».proof.Proof.Gen.ReferenceIdeal.Run
public import proofs.«01_k».proof.Proof.Consts
public import proofs.«01_k».proof.Proof.Spec
public import Idealize.ShloMosaic.Lib.Pointwise

/-!
The reference's result in four parts: chunks, masked scores, exponentials, output; each read at an index.
-/

@[expose] public section

set_option maxRecDepth 16384

noncomputable section

open Idealize.ShloMosaic Idealize.ShloMosaic.TcCoe Idealize.SL.Sem

namespace Cert.Flash

open Cert.ReferenceIdeal Cert.ReferenceIdeal.Gen

section
variable {F : FTy → Type} [FloatOps F]

/-- The chunk of every key. -/
def keyChunk : IVec S1x8192 32 :=
  select (andi (cmpi .ne (signi (broadcastInDim S1x8192 ![1] bcast_S8192_S1x8192_1 (iotaInDim S8192 32 0))) (broadcastInDim S1x8192 ![] bcast_S_S1x8192 (signi (id (constantI S_ 32 64#32))))) (cmpi .ne (Host.remsi (broadcastInDim S1x8192 ![1] bcast_S8192_S1x8192_1 (iotaInDim S8192 32 0)) (broadcastInDim S1x8192 ![] bcast_S_S1x8192 (id (constantI S_ 32 64#32)))) (broadcastInDim S1x8192 ![] bcast_S_S1x8192 (constantI S_ 32 0#32)))) (subi (Host.divsi (broadcastInDim S1x8192 ![1] bcast_S8192_S1x8192_1 (iotaInDim S8192 32 0)) (broadcastInDim S1x8192 ![] bcast_S_S1x8192 (id (constantI S_ 32 64#32)))) (broadcastInDim S1x8192 ![] bcast_S_S1x8192 (constantI S_ 32 1#32))) (Host.divsi (broadcastInDim S1x8192 ![1] bcast_S8192_S1x8192_1 (iotaInDim S8192 32 0)) (broadcastInDim S1x8192 ![] bcast_S_S1x8192 (id (constantI S_ 32 64#32))))

/-- The chunk of every query. -/
def queryChunk : IVec S8192x1 32 :=
  select (andi (cmpi .ne (signi (broadcastInDim S8192x1 ![0] bcast_S8192_S8192x1_0 (iotaInDim S8192 32 0))) (broadcastInDim S8192x1 ![] bcast_S_S8192x1 (signi (id (constantI S_ 32 64#32))))) (cmpi .ne (Host.remsi (broadcastInDim S8192x1 ![0] bcast_S8192_S8192x1_0 (iotaInDim S8192 32 0)) (broadcastInDim S8192x1 ![] bcast_S_S8192x1 (id (constantI S_ 32 64#32)))) (broadcastInDim S8192x1 ![] bcast_S_S8192x1 (constantI S_ 32 0#32)))) (subi (Host.divsi (broadcastInDim S8192x1 ![0] bcast_S8192_S8192x1_0 (iotaInDim S8192 32 0)) (broadcastInDim S8192x1 ![] bcast_S_S8192x1 (id (constantI S_ 32 64#32)))) (broadcastInDim S8192x1 ![] bcast_S_S8192x1 (constantI S_ 32 1#32))) (Host.divsi (broadcastInDim S8192x1 ![0] bcast_S8192_S8192x1_0 (iotaInDim S8192 32 0)) (broadcastInDim S8192x1 ![] bcast_S_S8192x1 (id (constantI S_ 32 64#32))))

/-- The scores, later chunks masked. -/
def rS (q k : FVec F S2x8192x2048 .bf16) : FVec F S2x8x8192x8192 .f32 :=
  select (broadcastInDim S2x8x8192x8192 ![0, 1, 2, 3] bcast_S1x1x8192x8192_S2x8x8192x8192_0_1_2_3 (broadcastInDim S1x1x8192x8192 ![2, 3] bcast_S8192x8192_S1x1x8192x8192_2_3 (cmpi .sle (broadcastInDim S8192x8192 ![0, 1] bcast_S1x8192_S8192x8192_0_1 keyChunk) (broadcastInDim S8192x8192 ![0, 1] bcast_S8192x1_S8192x8192_0_1 queryChunk)))) (Host.divf (Host.dotGeneral dot_S2x8192x8x256_S2x8192x8x256_S2x8x8192x8192_3_3_1_1_02_02 none (shapeCast _ (extf .f32 q bitsLt_bf16_f32) shapeCasts_S2x8192x2048_S2x8192x8x256) (shapeCast _ (extf .f32 k bitsLt_bf16_f32) shapeCasts_S2x8192x2048_S2x8192x8x256)) (broadcastInDim S2x8x8192x8192 ![] bcast_S_S2x8x8192x8192 (Host.sqrt (constant S_ .f32 0x43400000#32)))) (broadcastInDim S2x8x8192x8192 ![] bcast_S_S2x8x8192x8192 (id (constant S_ .f32 0xFF800000#32)))

/-- Their exponentials, less the row's maximum. -/
def rE (s : FVec F S2x8x8192x8192 .f32) : FVec F S2x8x8192x8192 .f32 :=
  Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 (maximumf (broadcastInDim S2x8x8192 ![] bcast_S_S2x8x8192 (constant S_ .f32 0xFF800000#32)) (Host.reduce FloatOps.maximumf s (constant S_ .f32 0xFF800000#32) reducesTo_S2x8x8192x8192_S2x8x8192_d3 h_S_)))))

/-- The output. -/
def rO (s : FVec F S2x8x8192x8192 .f32) (v : FVec F S2x8192x1024 .bf16) : FVec F S2x8192x1024 .bf16 :=
  truncf .bf16 (shapeCast _ (transpose S2x8192x8x128 [0, 3, 1, 2] (Host.dotGeneral dot_S2x8192x8x128_S2x8x8192x8192_S2x8x128x8192_1_3_3_2_02_01 none (shapeCast _ (extf .f32 v bitsLt_bf16_f32) shapeCasts_S2x8192x1024_S2x8192x8x128) (Host.divf (rE s) (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd (rE s) (constant S_ .f32 0x00000000#32) reducesTo_S2x8x8192x8192_S2x8x8192_d3 h_S_))))) transposes_S2x8x128x8192_S2x8192x8x128_0_3_1_2) shapeCasts_S2x8192x8x128_S2x8192x1024) bitsLt_bf16_f32

end

theorem res_eq (m : (ℓ : Loc nD τ sig) → Buf (Elt Ideal) ℓ) (c : Dev nD) :
    Cert.ReferenceIdeal.Value.res_main_v34 m c
      = rO (rS (F := Ideal) (m ((c.tc : Thread nD τ).loc main_arg0)) (m ((c.tc : Thread nD τ).loc main_arg1))) (m ((c.tc : Thread nD τ).loc main_arg2)) := by
  unfold Cert.ReferenceIdeal.Value.res_main_v34
  rfl

end Cert.Flash

end
-- ==== Proof.RefScores.lean ====
module
public import proofs.«01_k».proof.Proof.RefTerms

/-!
The reference's chunks and masked scores at an index.
-/

@[expose] public section

set_option maxRecDepth 16384

noncomputable section

open Idealize.ShloMosaic Idealize.ShloMosaic.TcCoe Idealize.SL.Sem

namespace Cert.Flash

open Cert.ReferenceIdeal Cert.ReferenceIdeal.Gen

/-- The printed flooring division of a position by 64 is the division of the number. -/
theorem chunk_div : ∀ n : Fin 8192,
    Scalar.select
      (IntOp.andi
        (IntOp.cmpi CmpIPredicate.ne
          (if BitVec.ofNat 32 n.val = 0 then 0 else if (BitVec.ofNat 32 n.val).msb = true then -1 else 1 : BitVec 32)
          (if (64#32) = 0 then 0 else if (64#32).msb = true then -1 else 1 : BitVec 32))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) = BitVec.ofNat 32 (n.val / 64) := by decide +kernel

theorem keyChunk_at (k : Fin 8192) : keyChunk (ix2 0 k) = BitVec.ofNat 32 (k.val / 64) := by
  pointwise [keyChunk]
  exact chunk_div k

theorem queryChunk_at (q : Fin 8192) : queryChunk (ix2 q 0) = BitVec.ofNat 32 (q.val / 64) := by
  pointwise [queryChunk]
  exact chunk_div q

theorem rS_at (Q K : FVec Ideal S2x8192x2048 .bf16) (b : Fin 2) (h : Fin 8) (q k : Fin 8192) :
    rS Q K (ix4 b h q k) = Scalar.select (IntOp.cmpi .sle (keyChunk (ix2 0 k)) (queryChunk (ix2 q 0)))
      (Ideal.div (∑ d : Fin 256, Q (ix3 b q ⟨h.val * 256 + d.val, by omega⟩) * K (ix3 b k ⟨h.val * 256 + d.val, by omega⟩)) ((Real.sqrt 192 : ℝ) : EReal)) ⊥ := by
  pointwise [rS]
  rw [ofBits_192, Ideal.sqrt_coe, if_neg (by norm_num), show id (constant (F := Ideal) S_ FTy.f32 4286578688#32) ix0 = ⊥ from ofBits_minf]

end Cert.Flash

end
-- ==== Proof.RefExp.lean ====
module
public import proofs.«01_k».proof.Proof.RefTerms

/-!
The reference's exponentials at an index.
-/

@[expose] public section

set_option maxRecDepth 16384

noncomputable section

open Idealize.ShloMosaic Idealize.ShloMosaic.TcCoe Idealize.SL.Sem

namespace Cert.Flash

open Cert.ReferenceIdeal Cert.ReferenceIdeal.Gen

/-- A maximum along the last of four axes, at an index. -/
theorem max4_at {n0 n1 n2 n3 : ℕ} (s : FVec Ideal ⟨4, ![n0, n1, n2, n3]⟩ .f32) (z : FVec Ideal S_ .f32)
    (h : (⟨4, ![n0, n1, n2, n3]⟩ : Shape).ReducesTo [3] ⟨3, ![n0, n1, n2]⟩) (hu : 0 < S_.numel) (a : Fin n0) (b : Fin n1) (c : Fin n2) :
    Host.reduce FloatOps.maximumf s z h hu (ix3 a b c) = Finset.univ.fold max (z ix0) fun j : Fin n3 => s (ix4 a b c j) := by
  pointwise
  rw [show Shape.Idx.first hu = ix0 from funext fun a => a.elim0]

/-- The exponentials for any row maxima. -/
def eOf {F : FTy → Type} [FloatOps F] (s : FVec F S2x8x8192x8192 .f32) (M : FVec F S2x8x8192 .f32) : FVec F S2x8x8192x8192 .f32 :=
  Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 (maximumf (broadcastInDim S2x8x8192 ![] bcast_S_S2x8x8192 (constant S_ .f32 0xFF800000#32)) M))))

theorem eOf_at (s : FVec Ideal S2x8x8192x8192 .f32) (M : FVec Ideal S2x8x8192 .f32) (b : Fin 2) (h : Fin 8) (q k : Fin 8192) :
    eOf s M (ix4 b h q k) = Ideal.exp (s (ix4 b h q k) - max ⊥ (M (ix3 b h q))) := by
  pointwise [eOf]
  rw [ofBits_minf]

theorem rE_at (s : FVec Ideal S2x8x8192x8192 .f32) (b : Fin 2) (h : Fin 8) (q k : Fin 8192) :
    rE s (ix4 b h q k) = Ideal.exp (s (ix4 b h q k) - max ⊥ (Finset.univ.fold max ⊥ fun j : Fin 8192 => s (ix4 b h q j))) := by
  rw [show rE s = eOf s (Host.reduce FloatOps.maximumf s (constant S_ .f32 0xFF800000#32) reducesTo_S2x8x8192x8192_S2x8x8192_d3 h_S_) from rfl,
    eOf_at, max4_at, show constant (F := Ideal) S_ .f32 0xFF800000#32 ix0 = ⊥ from ofBits_minf]

end Cert.Flash

end
-- ==== Proof.RefOut.lean ====
module
public import proofs.«01_k».proof.Proof.RefTerms

/-!
The reference's output at an index, from its exponentials.
-/

@[expose] public section

set_option maxRecDepth 16384

noncomputable section

open Idealize.ShloMosaic Idealize.ShloMosaic.TcCoe Idealize.SL.Sem

namespace Cert.Flash

open Cert.ReferenceIdeal Cert.ReferenceIdeal.Gen

theorem rO_at (s : FVec Ideal S2x8x8192x8192 .f32) (v : FVec Ideal S2x8192x1024 .bf16) (b : Fin 2) (q : Fin 8192) (h : Fin 8) (d : Fin 128) :
    rO s v (ix3 b q ⟨h.val * 128 + d.val, by omega⟩)
      = ∑ k : Fin 8192, v (ix3 b k ⟨h.val * 128 + d.val, by omega⟩) * Ideal.div (rE s (ix4 b h q k)) (∑ j : Fin 8192, rE s (ix4 b h q j)) := by
  pointwise [rO]

end Cert.Flash

end
-- ==== Proof.RefFinal.lean ====
module
public import proofs.«01_k».proof.Proof.RefScores
public import proofs.«01_k».proof.Proof.RefExp
public import proofs.«01_k».proof.Proof.RefOut

/-!
The reference's result is the attention of its arguments.
-/

@[expose] public section

set_option maxRecDepth 16384

noncomputable section

open Idealize.ShloMosaic Idealize.ShloMosaic.TcCoe Idealize.SL.Sem

namespace Cert.Flash

open Cert.ReferenceIdeal Cert.ReferenceIdeal.Gen

/-- The printed comparison of two chunks is the comparison of the numbers. -/
theorem sle_chunks : ∀ a b : Fin 128, IntOp.cmpi .sle (BitVec.ofNat 32 a.val) (BitVec.ofNat 32 b.val) = if a.val ≤ b.val then 1#1 else 0#1 := by
  decide +kernel

theorem div_of_ne (x y : EReal) (hy : y ≠ 0) : Ideal.div x y = x * y⁻¹ := by
  rw [Ideal.div, if_neg hy]

/-- A masked score: the inner product over the root of 192, or minus infinity. -/
theorem rS_real (Q K : FVec Ideal S2x8192x2048 .bf16) (hQ : ∀ y, Q y = ((Q y : EReal).toReal : EReal)) (hK : ∀ y, K y = ((K y : EReal).toReal : EReal))
    (b : Fin 2) (h : Fin 8) (q k : Fin 8192) :
    rS Q K (ix4 b h q k) = if k.val / 64 ≤ q.val / 64 then ((dotS Q K b h q k / Real.sqrt 192 : ℝ) : EReal) else ⊥ := by
  have h192 : (0 : ℝ) < Real.sqrt 192 := Real.sqrt_pos.mpr (by norm_num)
  rw [rS_at, keyChunk_at, queryChunk_at, sle_chunks ⟨k.val / 64, by omega⟩ ⟨q.val / 64, by omega⟩]
  have hd : Ideal.div (∑ d : Fin 256, (Q (ix3 b q ⟨h.val * 256 + d.val, by omega⟩) : EReal) * K (ix3 b k ⟨h.val * 256 + d.val, by omega⟩)) ((Real.sqrt 192 : ℝ) : EReal)
      = ((dotS Q K b h q k / Real.sqrt 192 : ℝ) : EReal) := by
    rw [div_of_ne _ _ (by exact_mod_cast h192.ne'), ← EReal.coe_inv, div_eq_mul_inv, EReal.coe_mul, dotS, coe_sum]
    congr 1
    refine Finset.sum_congr rfl fun d _ => ?_
    rw [EReal.coe_mul, ← hQ, ← hK]
  by_cases hc : k.val / 64 ≤ q.val / 64
  · simp only [hc, if_true]
    exact hd
  · simp only [hc, if_false]
    rfl

/-- The row's exponentials are the weights, scaled. -/
theorem rE_real (Q K : FVec Ideal S2x8192x2048 .bf16) (hQ : ∀ y, Q y = ((Q y : EReal).toReal : EReal)) (hK : ∀ y, K y = ((K y : EReal).toReal : EReal))
    (b : Fin 2) (h : Fin 8) (q : Fin 8192) :
    ∃ c : ℝ, 0 < c ∧ ∀ k : Fin 8192, rE (rS Q K) (ix4 b h q k) = ((c * wS Q K b h q k : ℝ) : EReal) := by
  obtain ⟨μ, hμ⟩ := fold_max_real (fun j : Fin 8192 => rS Q K (ix4 b h q j))
    (fun k => by
      simp only [rS_real Q K hQ hK]
      split
      · exact EReal.coe_ne_top _
      · exact bot_ne_top)
    ⟨q, by
      simp only [rS_real Q K hQ hK, le_refl, if_true]
      exact EReal.coe_ne_bot _⟩ ⊥ bot_ne_top
  refine ⟨Real.exp (-μ), Real.exp_pos _, fun k => ?_⟩
  rw [rE_at, hμ, rS_real Q K hQ hK, wS]
  split
  · rw [← EReal.coe_sub, Ideal.exp_coe, ← Real.exp_add]
    congr 2
    ring
  · rw [EReal.bot_sub, Ideal.exp_bot, mul_zero, EReal.coe_zero]

theorem ref_final (Q K : FVec Ideal S2x8192x2048 .bf16) (V : FVec Ideal S2x8192x1024 .bf16) (hQ : ∀ y, Q y = ((Q y : EReal).toReal : EReal))
    (hK : ∀ y, K y = ((K y : EReal).toReal : EReal)) : rO (rS Q K) V = outS Q K V := by
  funext i
  obtain ⟨b, q, e, rfl⟩ : ∃ (b : Fin 2) (q : Fin 8192) (e : Fin 1024), i = ix3 b q e := ⟨i 0, i 1, i 2, eq_ix3 i⟩
  obtain ⟨h, d, rfl⟩ : ∃ (h : Fin 8) (d : Fin 128), e = ⟨h.val * 128 + d.val, by omega⟩ :=
    ⟨⟨e.val / 128, by omega⟩, ⟨e.val % 128, by omega⟩, Fin.ext (by simp only; omega)⟩
  rw [rO_at, outS_at Q K V b q _ h d rfl, outAt]
  obtain ⟨c, hc, hE⟩ := rE_real Q K hQ hK b h q
  have hW := wS_pos Q K b h q
  have hsum : (∑ j : Fin 8192, rE (rS Q K) (ix4 b h q j) : EReal) = ((c * ∑ k, wS Q K b h q k : ℝ) : EReal) := by
    rw [Finset.mul_sum, coe_sum]
    exact Finset.sum_congr rfl fun j _ => hE j
  have hne : ((c * ∑ k, wS Q K b h q k : ℝ) : EReal) ≠ 0 := by exact_mod_cast (mul_pos hc hW).ne'
  rw [mul_comm (∑ k : Fin 8192, _) (((∑ k : Fin 8192, wS Q K b h q k)⁻¹ : ℝ) : EReal), coe_mul_sum _ _ (inv_pos.mpr hW).le]
  refine Finset.sum_congr rfl fun k _ => ?_
  rw [hsum, hE k, div_of_ne _ _ hne, ← EReal.coe_inv, ← EReal.coe_mul, mul_comm, ← mul_assoc, ← EReal.coe_mul]
  congr 2
  field_simp

end Cert.Flash

end
-- ==== Proof.Claims.lean ====
module
public import proofs.«01_k».proof.Proof.Finite
public import proofs.«01_k».proof.Proof.Final
public import proofs.«01_k».proof.Proof.RefFinal
public import proofs.«01_k».proof.Proof.Gen.Kernel.Frame
public import proofs.«01_k».proof.Proof.Gen.KernelIdeal.Frame
public import Idealize.ShloMosaic.Lib.Quiescent

/-!
The claims about the attention kernel.
-/

@[expose] public section

set_option maxRecDepth 16384

noncomputable section

open Idealize.ShloMosaic Idealize.SL.Sem

namespace Cert.Flash

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_finite_qk := fun m ρ _ => Cert.KernelIdeal.Gen.frame m ρ

theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

theorem frame_ri_pre : Cert.quiescent_ReferenceIdeal_pre_finite_qk := fun m ρ _ => frame_ri m ρ trivial

theorem preserves : Cert.preserves_Kernel_KernelIdeal :=
  ⟨IdealRules.named_const.statement _ _ _ _ _ rfl, IdealRules.named_const.statement _ _ _ _ _ rfl⟩

/-- From the same finite queries and keys and any values the kernel and the reference end with the same array. -/
theorem algebraic : Cert.algebraic_KernelIdeal_ReferenceIdeal_pre_finite_qk := by
  intro m g m' g' hpre hag
  refine ⟨fun c => outS (m ((c.tc : Thread _ _).loc Cert.KernelIdeal.main_arg0)) (m ((c.tc : Thread _ _).loc Cert.KernelIdeal.main_arg1))
    (m ((c.tc : Thread _ _).loc Cert.KernelIdeal.main_arg2)), ?_, ?_⟩
  · refine (θ_run Cert.KernelIdeal.defs _ _).mono (fun r h c => ?_) (Cert.KernelIdeal.Value.run_blocks m g)
    obtain ⟨hq, hk⟩ := real_of_fn _ _ _ (hpre c)
    exact ⟨(h c).1.trans (final m c hq hk), (h c).2⟩
  · refine (θ_run Cert.ReferenceIdeal.defs _ _).mono (fun r h c => ?_) (Cert.ReferenceIdeal.Value.run m' g')
    obtain ⟨hq, hk⟩ := real_of_fn _ _ _ (hpre c)
    obtain ⟨h0, h1, h2⟩ := hag c
    refine ⟨(h c).1.trans ((res_eq m' c).trans ?_), (h c).2⟩
    rw [h0, h1, h2]
    exact ref_final _ _ _ hq hk

end Cert.Flash

end
-- ==== Proof.ProjRun.lean ====
module
public import proofs.«01_k».proof.Proof.Gen.ProjIdeal.Frame

/-!
The run of `ProjIdeal`: every weakly fair execution ends with each buffer at what the last stretch of host operations
leaves, so the results can be read besides the arguments.
-/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.ProjX

open Cert.ProjIdeal Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The generated launch over the segments, with the whole last valuation kept. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.ProjX

end
-- ==== Proof.Rows.lean ====
module
public import Idealize.ShloMosaic.PureOps.Ideal
public import Idealize.ShloMosaic.Lib.Pointwise

/-!
The arithmetic of one token: the norm of a row, its products with a weight matrix, and the rotation of a pair of lanes.
-/

@[expose] public section

noncomputable section

namespace Cert.Row

open Idealize.ShloMosaic

/-- The constant added under the root. -/
def eps : EReal := Ideal.ofBits .f32 0x358637BD#32

/-- A row over the root of its mean square, times the gain. -/
def rn {n : ℕ} (c : EReal) (x g : Fin n → EReal) (k : Fin n) : EReal :=
  x k * Ideal.rsqrt (Ideal.div (∑ k, x k * x k) c + eps) * g k

/-- The normed row against one column of weights. -/
def rw1 {n : ℕ} (c : EReal) (x g w : Fin n → EReal) : EReal := ∑ k, rn c x g k * w k

theorem rn_congr {n : ℕ} (c : EReal) {x x' g g' : Fin n → EReal} (hx : ∀ k, x k = x' k) (hg : ∀ k, g k = g' k) (k : Fin n) :
    rn c x g k = rn c x' g' k := by
  rw [funext hx, funext hg]

theorem rw1_congr {n : ℕ} (c : EReal) {x x' g g' w w' : Fin n → EReal} (hx : ∀ k, x k = x' k) (hg : ∀ k, g k = g' k) (hw : ∀ k, w k = w' k) :
    rw1 c x g w = rw1 c x' g' w' := by
  rw [funext hx, funext hg, funext hw]

/-- Against a column of zeros nothing is left. -/
theorem rw1_zero {n : ℕ} (c : EReal) (x g w : Fin n → EReal) (hw : ∀ k, w k = 0) : rw1 c x g w = 0 := by
  rw [rw1]
  exact Finset.sum_eq_zero fun k _ => by rw [hw, mul_zero]

/-- A lane of `t` plus the lane half a row away. -/
def pair (t : Fin 128 → EReal) (l : Fin 128) : EReal := t l + t ⟨(l.val + 128 - 64) % 128, by omega⟩

/-- Width of the model, of the query latent and of the key-value latent. -/
def c1024 : EReal := Ideal.ofBits .f32 0x44800000#32
def c512 : EReal := Ideal.ofBits .f32 0x44000000#32
def c256 : EReal := Ideal.ofBits .f32 0x43800000#32

/-- The rotation a lane takes part in: the table holds cosines twice, then sines negated, then sines. -/
def rot (co si : Fin 32 → EReal) (a b : Fin 32 → EReal) (l : Fin 64) : EReal :=
  if h : l.val < 32 then a ⟨l.val, h⟩ * co ⟨l.val, h⟩ - b ⟨l.val, h⟩ * si ⟨l.val, h⟩
  else b ⟨l.val - 32, by omega⟩ * co ⟨l.val - 32, by omega⟩ + a ⟨l.val - 32, by omega⟩ * si ⟨l.val - 32, by omega⟩

/-- The table of a token's angles over a row of 128 lanes. -/
def tab (co si : Fin 32 → EReal) (l : Fin 128) : EReal :=
  if h : l.val < 32 then co ⟨l.val, h⟩
  else if h : l.val < 64 then co ⟨l.val - 32, by omega⟩
  else if h : l.val < 96 then - si ⟨l.val - 64, by omega⟩
  else si ⟨l.val - 96, by omega⟩

/-- The two halves of a row, then the halves swapped. -/
def twice (a b : Fin 32 → EReal) (l : Fin 128) : EReal :=
  if h : l.val < 32 then a ⟨l.val, h⟩
  else if h : l.val < 64 then b ⟨l.val - 32, by omega⟩
  else if h : l.val < 96 then b ⟨l.val - 64, by omega⟩
  else a ⟨l.val - 96, by omega⟩

theorem twice0 (a b : Fin 32 → EReal) (r : Fin 32) (h : 0 + r.val < 128) : twice a b ⟨0 + r.val, h⟩ = a r := by
  simp only [twice]
  rw [dif_pos (by omega)]
  exact congrArg a (Fin.ext (by simp only; omega))

theorem twice1 (a b : Fin 32 → EReal) (r : Fin 32) (h : 32 + r.val < 128) : twice a b ⟨32 + r.val, h⟩ = b r := by
  simp only [twice]
  rw [dif_neg (by omega), dif_pos (by omega)]
  exact congrArg b (Fin.ext (by simp only; omega))

theorem twice2 (a b : Fin 32 → EReal) (r : Fin 32) (h : 64 + r.val < 128) : twice a b ⟨64 + r.val, h⟩ = b r := by
  simp only [twice]
  rw [dif_neg (by omega), dif_neg (by omega), dif_pos (by omega)]
  exact congrArg b (Fin.ext (by simp only; omega))

theorem twice3 (a b : Fin 32 → EReal) (r : Fin 32) (h : 96 + r.val < 128) : twice a b ⟨96 + r.val, h⟩ = a r := by
  simp only [twice]
  rw [dif_neg (by omega), dif_neg (by omega), dif_neg (by omega)]
  exact congrArg a (Fin.ext (by simp only; omega))

theorem tab0 (co si : Fin 32 → EReal) (r : Fin 32) (h : 0 + r.val < 128) : tab co si ⟨0 + r.val, h⟩ = co r := by
  simp only [tab]
  rw [dif_pos (by omega)]
  exact congrArg co (Fin.ext (by simp only; omega))

theorem tab1 (co si : Fin 32 → EReal) (r : Fin 32) (h : 32 + r.val < 128) : tab co si ⟨32 + r.val, h⟩ = co r := by
  simp only [tab]
  rw [dif_neg (by omega), dif_pos (by omega)]
  exact congrArg co (Fin.ext (by simp only; omega))

theorem tab2 (co si : Fin 32 → EReal) (r : Fin 32) (h : 64 + r.val < 128) : tab co si ⟨64 + r.val, h⟩ = - si r := by
  simp only [tab]
  rw [dif_neg (by omega), dif_neg (by omega), dif_pos (by omega)]
  exact congrArg (fun x => - si x) (Fin.ext (by simp only; omega))

theorem tab3 (co si : Fin 32 → EReal) (r : Fin 32) (h : 96 + r.val < 128) : tab co si ⟨96 + r.val, h⟩ = si r := by
  simp only [tab]
  rw [dif_neg (by omega), dif_neg (by omega), dif_neg (by omega)]
  exact congrArg si (Fin.ext (by simp only; omega))

/-- Products with the table, paired, are the rotated row, twice over. -/
theorem pair_tab (co si a b : Fin 32 → EReal) (l : Fin 128) :
    pair (fun l => twice a b l * tab co si l) l = rot co si a b ⟨l.val % 64, by omega⟩ := by
  have hl : ∀ (i j : ℕ) (hi : i < 128) (hj : j < 128), i = j → (⟨i, hi⟩ : Fin 128) = ⟨j, hj⟩ := fun i j hi hj e => by subst e; rfl
  by_cases q0 : l.val < 32
  · obtain ⟨r, rfl⟩ : ∃ r : Fin 32, l = ⟨0 + r.val, Nat.lt_of_lt_of_le (Nat.add_lt_add_left r.isLt 0) (by decide)⟩ := ⟨⟨l.val, q0⟩, Fin.ext (by simp only; omega)⟩
    rw [pair, hl ((0 + r.val + 128 - 64) % 128) (64 + r.val) _ (by omega) (by omega), twice0, tab0, twice2, tab2]
    simp only [rot]
    rw [dif_pos (by omega), mul_neg, ← sub_eq_add_neg]
    congr 3 <;> exact Fin.ext (by simp only; omega)
  by_cases q1 : l.val < 64
  · obtain ⟨r, rfl⟩ : ∃ r : Fin 32, l = ⟨32 + r.val, Nat.lt_of_lt_of_le (Nat.add_lt_add_left r.isLt 32) (by decide)⟩ := ⟨⟨l.val - 32, by omega⟩, Fin.ext (by simp only; omega)⟩
    rw [pair, hl ((32 + r.val + 128 - 64) % 128) (96 + r.val) _ (by omega) (by omega), twice1, tab1, twice3, tab3]
    simp only [rot]
    rw [dif_neg (by omega)]
    congr 3 <;> exact Fin.ext (by simp only; omega)
  by_cases q2 : l.val < 96
  · obtain ⟨r, rfl⟩ : ∃ r : Fin 32, l = ⟨64 + r.val, Nat.lt_of_lt_of_le (Nat.add_lt_add_left r.isLt 64) (by decide)⟩ := ⟨⟨l.val - 64, by omega⟩, Fin.ext (by simp only; omega)⟩
    rw [pair, hl ((64 + r.val + 128 - 64) % 128) (0 + r.val) _ (by omega) (by omega), twice2, tab2, twice0, tab0, add_comm]
    simp only [rot]
    rw [dif_pos (by omega), mul_neg, ← sub_eq_add_neg]
    congr 3 <;> exact Fin.ext (by simp only; omega)
  · obtain ⟨r, rfl⟩ : ∃ r : Fin 32, l = ⟨96 + r.val, Nat.lt_of_lt_of_le (Nat.add_lt_add_left r.isLt 96) (by decide)⟩ := ⟨⟨l.val - 96, by omega⟩, Fin.ext (by simp only; omega)⟩
    rw [pair, hl ((96 + r.val + 128 - 64) % 128) (32 + r.val) _ (by omega) (by omega), twice3, tab3, twice1, tab1, add_comm]
    simp only [rot]
    rw [dif_neg (by omega)]
    congr 3 <;> exact Fin.ext (by simp only; omega)

/-- A head's 256 lanes of the queries: 128 products as they are, then 128 products with the table, paired. -/
def qBlk (A : Fin 2048 → EReal) (cs : Fin 128 → EReal) (j : Fin 2048) : EReal :=
  if j.val % 256 < 128 then A j else pair (fun l => A ⟨j.val / 256 * 256 + 128 + l.val, by omega⟩ * cs l) ⟨j.val % 128, by omega⟩

theorem qBlk_lo (A : Fin 2048 → EReal) (cs : Fin 128 → EReal) (o : ℕ) (ho : o % 256 = 0) (d : Fin 128) (h : o + d.val < 2048) :
    qBlk A cs ⟨o + d.val, h⟩ = A ⟨o + d.val, h⟩ := by
  rw [qBlk, if_pos (by simp only; omega)]

theorem qBlk_hi (A : Fin 2048 → EReal) (cs : Fin 128 → EReal) (o : ℕ) (ho : o % 256 = 128) (ho' : o + 127 < 2048) (d : Fin 128) (h : o + d.val < 2048) :
    qBlk A cs ⟨o + d.val, h⟩ = pair (fun l => A ⟨o + l.val, by omega⟩ * cs l) d := by
  rw [qBlk, if_neg (by simp only; omega)]
  have e1 : ∀ l : Fin 128, (⟨(o + d.val) / 256 * 256 + 128 + l.val, by omega⟩ : Fin 2048) = ⟨o + l.val, by omega⟩ := fun l => Fin.ext (by simp only; omega)
  have e2 : (⟨(o + d.val) % 128, by omega⟩ : Fin 128) = d := Fin.ext (by simp only; omega)
  simp only [e1, e2]

/-- A head's 256 lanes of the keys: its 128 products, then the rotated lanes every head shares. -/
def kBlk (B : Fin 2048 → EReal) (kr : Fin 128 → EReal) (j : Fin 2048) : EReal :=
  if j.val % 256 < 128 then B ⟨j.val / 256 * 128 + j.val % 128, by omega⟩ else kr ⟨j.val % 128, by omega⟩

theorem kBlk_lo (B : Fin 2048 → EReal) (kr : Fin 128 → EReal) (o p : ℕ) (ho : o % 256 = 0) (hp : p = o / 256 * 128) (d : Fin 128) (h : o + d.val < 2048) (h' : p + d.val < 2048) :
    kBlk B kr ⟨o + d.val, h⟩ = B ⟨p + d.val, h'⟩ := by
  rw [kBlk, if_pos (by simp only; omega)]
  exact congrArg B (Fin.ext (by simp only; omega))

theorem kBlk_hi (B : Fin 2048 → EReal) (kr : Fin 128 → EReal) (o : ℕ) (ho : o % 256 = 128) (d : Fin 128) (h : o + d.val < 2048) :
    kBlk B kr ⟨o + d.val, h⟩ = kr d := by
  rw [kBlk, if_neg (by simp only; omega)]
  exact congrArg kr (Fin.ext (by simp only; omega))

end Cert.Row

end
-- ==== Proof.ProjIn.lean ====
module
public import proofs.«01_k».proof.Proof.ProjRun
public import proofs.«01_k».proof.Proof.Rows
public import Idealize.ShloMosaic.Lib.Pipeline.ValueKit

/-!
The input projection of `ProjIdeal`: what its region leaves, at an index.
-/

@[expose] public section

set_option maxRecDepth 16384

noncomputable section

open Idealize.ShloMosaic Idealize.ShloMosaic.TcCoe Idealize.SL.Sem

namespace Cert.ProjX

open Cert.ProjIdeal Cert.ProjIdeal.Gen Cert.Row

/-- One token's normed row against one column. -/
def colOf {R : ℕ} (X : (⟨2, ![R, 1024]⟩ : Shape).Idx → EReal) (g : S1x1024.Idx → EReal) (W : S1024x6144.Idx → EReal) (r : Fin R) (j : Fin 6144) : EReal :=
  rw1 c1024 (fun k => X (ix2 r k)) (fun k => g (ix2 0 k)) (fun k => W (ix2 k j))

theorem pay_a (x0 : Vec Ideal S256x1024 .f32) (x1 : Vec Ideal S1x1024 .f32) (w : Vec Ideal S1024x1536 .bf16) (r : Fin 256) (d : Fin 1536) :
    k0_pay3 x0 x1 w (ix2 r d) = rw1 c1024 (fun k => x0 (ix2 r k)) (fun k => x1 (ix2 0 k)) (fun k => w (ix2 k d)) := by
  pointwise [k0_pay3, k0_pay2]
  rfl

theorem pay_b (x0 : Vec Ideal S256x1024 .f32) (x1 : Vec Ideal S1x1024 .f32) (w : Vec Ideal S1024x1536 .bf16) (r : Fin 256) (d : Fin 1536) :
    k0_pay4 x0 x1 w (ix2 r d) = rw1 c1024 (fun k => x0 (ix2 r k)) (fun k => x1 (ix2 0 k)) (fun k => w (ix2 k d)) := by
  pointwise [k0_pay4, k0_pay2]
  rfl

theorem pay_c (x0 : Vec Ideal S256x1024 .f32) (x1 : Vec Ideal S1x1024 .f32) (w : Vec Ideal S1024x1536 .bf16) (r : Fin 256) (d : Fin 1536) :
    k0_pay5 x0 x1 w (ix2 r d) = rw1 c1024 (fun k => x0 (ix2 r k)) (fun k => x1 (ix2 0 k)) (fun k => w (ix2 k d)) := by
  pointwise [k0_pay5, k0_pay2]
  rfl

theorem pay_d (x0 : Vec Ideal S256x1024 .f32) (x1 : Vec Ideal S1x1024 .f32) (w : Vec Ideal S1024x1536 .bf16) (r : Fin 256) (d : Fin 1536) :
    k0_pay1 (k0_pay2 x0 x1) (k0_pay6 w) (constant S256x1536 .f32 0x00000000#32) (ix2 r d)
      = rw1 c1024 (fun k => x0 (ix2 r k)) (fun k => x1 (ix2 0 k)) (fun k => w (ix2 k d)) := by
  pointwise [k0_pay1, k0_pay2, k0_pay6]
  rfl

/-- Four tiles of 1536 columns, each right, make the whole block right. -/
theorem canon4 (T : Fin 256 → Fin 6144 → EReal) (P0 P1 P2 P3 : Vec Ideal S256x1536 .f32)
    (h0 : ∀ (r : Fin 256) (d : Fin 1536), P0 (ix2 r d) = T r ⟨0 + d.val, by omega⟩)
    (h1 : ∀ (r : Fin 256) (d : Fin 1536), P1 (ix2 r d) = T r ⟨1536 + d.val, by omega⟩)
    (h2 : ∀ (r : Fin 256) (d : Fin 1536), P2 (ix2 r d) = T r ⟨3072 + d.val, by omega⟩)
    (h3 : ∀ (r : Fin 256) (d : Fin 1536), P3 (ix2 r d) = T r ⟨4608 + d.val, by omega⟩)
    (y : S256x6144.Idx) :
    View.canon (Val := Elt Ideal) (s := S256x6144) (e := .f32) [⟨r0_9, P3⟩, ⟨r0_7, P2⟩, ⟨r0_5, P1⟩, ⟨r0_3, P0⟩] y = T (y 0) (y 1) := by
  rename' h0 => k0, h1 => k1, h2 => k2, h3 => k3
  canon_tiles x h
  · have e := k3 (x 0) (x 1)
    rw [← eq_ix2 x] at e
    refine e.trans (congrArg₂ T (Fin.ext ?_) (Fin.ext ?_)) <;> simp only <;> omega
  · have e := k2 (x 0) (x 1)
    rw [← eq_ix2 x] at e
    refine e.trans (congrArg₂ T (Fin.ext ?_) (Fin.ext ?_)) <;> simp only <;> omega
  · have e := k1 (x 0) (x 1)
    rw [← eq_ix2 x] at e
    refine e.trans (congrArg₂ T (Fin.ext ?_) (Fin.ext ?_)) <;> simp only <;> omega
  · have e := k0 (x 0) (x 1)
    rw [← eq_ix2 x] at e
    refine e.trans (congrArg₂ T (Fin.ext ?_) (Fin.ext ?_)) <;> simp only <;> omega

/-- The block of the projection. -/
theorem out0_at (x0 : Vec Ideal S256x1024 .f32) (x1 : Vec Ideal S1x1024 .f32) (x2 : Vec Ideal S1024x6144 .bf16) (r : Fin 256) (j : Fin 6144) :
    out0_3 x0 x1 x2 (ix2 r j) = colOf x0 x1 x2 r j := by
  unfold out0_3
  refine canon4 (colOf x0 x1 x2) _ _ _ _ (fun r d => ?_) (fun r d => ?_) (fun r d => ?_) (fun r d => ?_) (ix2 r j)
  · rw [pay_a]; refine rw1_congr _ (fun k => ?_) (fun k => ?_) fun k => ?_ <;> refine View.ld_unit_apply_of _ _ _ _ _ _ (fun a => ?_) <;> fin_cases a <;> simp
  · rw [pay_b]; refine rw1_congr _ (fun k => ?_) (fun k => ?_) fun k => ?_ <;> refine View.ld_unit_apply_of _ _ _ _ _ _ (fun a => ?_) <;> fin_cases a <;> simp
  · rw [pay_c]; refine rw1_congr _ (fun k => ?_) (fun k => ?_) fun k => ?_ <;> refine View.ld_unit_apply_of _ _ _ _ _ _ (fun a => ?_) <;> fin_cases a <;> simp
  · rw [pay_d]; refine rw1_congr _ (fun k => ?_) (fun k => ?_) fun k => ?_ <;> refine View.ld_unit_apply_of _ _ _ _ _ _ (fun a => ?_) <;> fin_cases a <;> simp

theorem idx0 : ∀ t : Fin grid0.N, win0_0.index t = ![t.val, 0] ∧ win0_1.index t = ![0, 0] ∧ win0_2.index t = ![0, 0] ∧ win0_3.index t = ![t.val, 0] := by
  decide +kernel

variable (V : (c : Dev nD) → (b : Ref sig .tc) → Buf (Elt Ideal) ((c : Thread nD τ).loc b))

/-- The projection's array. -/
theorem hin_eq (c : Dev nD) :
    (dat0 V c).arrAt 3 cfg0.N = (fun i => colOf (R := 16384) (V c main_v0) (V c main_v2) (V c main_v18) (i 0) (i 1) : S16384x6144.Idx → EReal) := by
  refine (dat0 V c).arrAt_eq_of_covers 3 _ (by decide +kernel) fun t hf y => ?_
  blk_simp [iblk0]
  rw [after0_3]
  obtain ⟨r, e, rfl⟩ : ∃ (y1 : Fin 256) (y2 : Fin 6144), y = ix2 y1 y2 := ⟨y 0, y 1, eq_ix2 y⟩
  rw [out0_at]
  refine rw1_congr _ (fun k => ?_) (fun k => ?_) fun k => ?_
  · blk_point [iblk0, (idx0 t).1, (idx0 t).2.2.2]
  · blk_point [iblk0, (idx0 t).2.1, (idx0 t).2.2.2]
  · blk_point [iblk0, (idx0 t).2.2.1, (idx0 t).2.2.2]

end Cert.ProjX

end
-- ==== Proof.ProjPay.lean ====
module
public import proofs.«01_k».proof.Proof.ProjIn

/-!
The per-token kernel of `ProjIdeal`: what each value it stores is, at an index.
-/

@[expose] public section

set_option maxRecDepth 16384

noncomputable section

open Idealize.ShloMosaic Idealize.ShloMosaic.TcCoe Idealize.SL.Sem

namespace Cert.ProjX

open Cert.ProjIdeal Cert.ProjIdeal.Gen Cert.Row

theorem q_mat (v2 : Vec Ideal S512x512 .f32) (v4 : Vec Ideal S1x512 .f32) (w : Vec Ideal S512x2048 .bf16) (r : Fin 512) (j : Fin 2048) :
    k1_pay3 v2 v4 w (ix2 r j) = rw1 c512 (fun k => v2 (ix2 r k)) (fun k => v4 (ix2 0 k)) (fun k => w (ix2 k j)) := by
  pointwise [k1_pay3]
  rfl

theorem q0 (v2 : Vec Ideal S512x512 .f32) (v4 : Vec Ideal S1x512 .f32) (w : Vec Ideal S512x2048 .bf16) (r : Fin 512) (d : Fin 128) :
    k1_pay4 v2 v4 w (ix2 r d) = k1_pay3 v2 v4 w (ix2 r ⟨0 + d.val, by omega⟩) := by
  rw [k1_pay4]
  pointwise
  blk_ext

theorem q256 (v2 : Vec Ideal S512x512 .f32) (v4 : Vec Ideal S1x512 .f32) (w : Vec Ideal S512x2048 .bf16) (r : Fin 512) (d : Fin 128) :
    k1_pay6 v2 v4 w (ix2 r d) = k1_pay3 v2 v4 w (ix2 r ⟨256 + d.val, by omega⟩) := by
  rw [k1_pay6]
  pointwise
  blk_ext

theorem q128 (v0 : Vec Ideal S512x128 .f32) (v2 : Vec Ideal S512x512 .f32) (v4 : Vec Ideal S1x512 .f32) (w : Vec Ideal S512x2048 .bf16) (r : Fin 512) (d : Fin 128) :
    k1_pay5 v0 v2 v4 w (ix2 r d) = pair (fun l => k1_pay3 v2 v4 w (ix2 r ⟨128 + l.val, by omega⟩) * v0 (ix2 r l)) d := by
  rw [k1_pay5]
  generalize k1_pay3 v2 v4 w = v21
  pointwise [k1_pay2]
  rfl

theorem q384 (v0 : Vec Ideal S512x128 .f32) (v2 : Vec Ideal S512x512 .f32) (v4 : Vec Ideal S1x512 .f32) (w : Vec Ideal S512x2048 .bf16) (r : Fin 512) (d : Fin 128) :
    k1_pay8 (k1_pay7 v0 v2 v4 w) 64#32 (ix2 r d) = pair (fun l => k1_pay3 v2 v4 w (ix2 r ⟨384 + l.val, by omega⟩) * v0 (ix2 r l)) d := by
  rw [k1_pay7]
  generalize k1_pay3 v2 v4 w = v21
  pointwise [k1_pay8, k1_pay2]
  rfl

theorem q512 (v21 : FVec Ideal S512x2048 .f32) (r : Fin 512) (d : Fin 128) : k1_pay9 v21 (ix2 r d) = v21 (ix2 r ⟨512 + d.val, by omega⟩) := by
  pointwise [k1_pay9]

theorem q768 (v21 : FVec Ideal S512x2048 .f32) (r : Fin 512) (d : Fin 128) : k1_pay11 v21 (ix2 r d) = v21 (ix2 r ⟨768 + d.val, by omega⟩) := by
  pointwise [k1_pay11]

theorem q1024 (v21 : FVec Ideal S512x2048 .f32) (r : Fin 512) (d : Fin 128) : k1_pay13 v21 (ix2 r d) = v21 (ix2 r ⟨1024 + d.val, by omega⟩) := by
  pointwise [k1_pay13]

theorem q1280 (v21 : FVec Ideal S512x2048 .f32) (r : Fin 512) (d : Fin 128) : k1_pay15 v21 (ix2 r d) = v21 (ix2 r ⟨1280 + d.val, by omega⟩) := by
  pointwise [k1_pay15]

theorem q1536 (v21 : FVec Ideal S512x2048 .f32) (r : Fin 512) (d : Fin 128) : k1_pay17 v21 (ix2 r d) = v21 (ix2 r ⟨1536 + d.val, by omega⟩) := by
  pointwise [k1_pay17]

theorem q1792 (v21 : FVec Ideal S512x2048 .f32) (r : Fin 512) (d : Fin 128) : k1_pay19 v21 (ix2 r d) = v21 (ix2 r ⟨1792 + d.val, by omega⟩) := by
  pointwise [k1_pay19]

theorem q640 (v0 : Vec Ideal S512x128 .f32) (v21 : FVec Ideal S512x2048 .f32) (r : Fin 512) (d : Fin 128) :
    k1_pay10 (k1_pay2 v0) v21 (ix2 r d) = pair (fun l => v21 (ix2 r ⟨640 + l.val, by omega⟩) * v0 (ix2 r l)) d := by
  pointwise [k1_pay10, k1_pay2]
  rfl

theorem q896 (v0 : Vec Ideal S512x128 .f32) (v21 : FVec Ideal S512x2048 .f32) (r : Fin 512) (d : Fin 128) :
    k1_pay12 (k1_pay2 v0) v21 (ix2 r d) = pair (fun l => v21 (ix2 r ⟨896 + l.val, by omega⟩) * v0 (ix2 r l)) d := by
  pointwise [k1_pay12, k1_pay2]
  rfl

theorem q1152 (v0 : Vec Ideal S512x128 .f32) (v21 : FVec Ideal S512x2048 .f32) (r : Fin 512) (d : Fin 128) :
    k1_pay14 (k1_pay2 v0) v21 (ix2 r d) = pair (fun l => v21 (ix2 r ⟨1152 + l.val, by omega⟩) * v0 (ix2 r l)) d := by
  pointwise [k1_pay14, k1_pay2]
  rfl

theorem q1408 (v0 : Vec Ideal S512x128 .f32) (v21 : FVec Ideal S512x2048 .f32) (r : Fin 512) (d : Fin 128) :
    k1_pay16 (k1_pay2 v0) v21 (ix2 r d) = pair (fun l => v21 (ix2 r ⟨1408 + l.val, by omega⟩) * v0 (ix2 r l)) d := by
  pointwise [k1_pay16, k1_pay2]
  rfl

theorem q1664 (v0 : Vec Ideal S512x128 .f32) (v21 : FVec Ideal S512x2048 .f32) (r : Fin 512) (d : Fin 128) :
    k1_pay18 (k1_pay2 v0) v21 (ix2 r d) = pair (fun l => v21 (ix2 r ⟨1664 + l.val, by omega⟩) * v0 (ix2 r l)) d := by
  pointwise [k1_pay18, k1_pay2]
  rfl

theorem q1920 (v0 : Vec Ideal S512x128 .f32) (v21 : FVec Ideal S512x2048 .f32) (r : Fin 512) (d : Fin 128) :
    k1_pay20 (k1_pay2 v0) v21 (ix2 r d) = pair (fun l => v21 (ix2 r ⟨1920 + l.val, by omega⟩) * v0 (ix2 r l)) d := by
  pointwise [k1_pay20, k1_pay2]
  rfl

/-- The normed key-value latent. -/
theorem lat_pay (v94 : Vec Ideal S512x256 .f32) (v96 : Vec Ideal S1x256 .f32) (r : Fin 512) (e : Fin 256) :
    k1_pay25 (k1_pay21 v94) (k1_pay22 v96) (k1_pay23 v94) k1_pay24 (ix2 r e) = rn c256 (fun k => v94 (ix2 r k)) (fun k => v96 (ix2 0 k)) e := by
  pointwise [k1_pay25, k1_pay21, k1_pay22, k1_pay23, k1_pay24]
  rfl

/-- The rotated lanes of the shared key, zeros after. -/
theorem kr_pay (v0 v111 : Vec Ideal S512x128 .f32) (r : Fin 512) (l : Fin 128) :
    k1_pay26 (k1_pay2 v0) v111 (ix2 r l) = if l.val < 64 then pair (fun l => v111 (ix2 r l) * v0 (ix2 r l)) l else 0 := by
  pointwise [k1_pay26, k1_pay2]
  have hc : IntOp.cmpi CmpIPredicate.slt (BitVec.ofNat 32 l.val) 64#32 = BitVec.ofBool (decide (l.val < 64)) := by
    revert l; decide +kernel
  rw [hc]
  by_cases h : l.val < 64
  · simp only [h, decide_true, if_true]; rfl
  · simp only [h, decide_false, if_false]; rfl

theorem kv_mat (v122 : Vec Ideal S512x256 .f32) (w : Vec Ideal S256x2048 .bf16) (r : Fin 512) (j : Fin 2048) :
    k1_pay27 v122 w (ix2 r j) = ∑ k, v122 (ix2 r k) * w (ix2 k j) := by
  pointwise [k1_pay27]

theorem k0 (v122 : Vec Ideal S512x256 .f32) (w : Vec Ideal S256x2048 .bf16) (r : Fin 512) (d : Fin 128) :
    k1_pay29 v122 w (ix2 r d) = k1_pay27 v122 w (ix2 r ⟨0 + d.val, by omega⟩) := by
  rw [k1_pay29]
  pointwise
  blk_ext

theorem k256 (v122 : Vec Ideal S512x256 .f32) (w : Vec Ideal S256x2048 .bf16) (r : Fin 512) (d : Fin 128) :
    k1_pay30 v122 w (ix2 r d) = k1_pay27 v122 w (ix2 r ⟨128 + d.val, by omega⟩) := by
  rw [k1_pay30]
  pointwise
  blk_ext

theorem k512 (v127 : FVec Ideal S512x2048 .f32) (r : Fin 512) (d : Fin 128) : k1_pay31 v127 (ix2 r d) = v127 (ix2 r ⟨256 + d.val, by omega⟩) := by
  pointwise [k1_pay31]

theorem k768 (v127 : FVec Ideal S512x2048 .f32) (r : Fin 512) (d : Fin 128) : k1_pay32 v127 (ix2 r d) = v127 (ix2 r ⟨384 + d.val, by omega⟩) := by
  pointwise [k1_pay32]

theorem k1024 (v127 : FVec Ideal S512x2048 .f32) (r : Fin 512) (d : Fin 128) : k1_pay33 v127 (ix2 r d) = v127 (ix2 r ⟨512 + d.val, by omega⟩) := by
  pointwise [k1_pay33]

theorem k1280 (v127 : FVec Ideal S512x2048 .f32) (r : Fin 512) (d : Fin 128) : k1_pay34 v127 (ix2 r d) = v127 (ix2 r ⟨640 + d.val, by omega⟩) := by
  pointwise [k1_pay34]

theorem k1536 (v127 : FVec Ideal S512x2048 .f32) (r : Fin 512) (d : Fin 128) : k1_pay35 v127 (ix2 r d) = v127 (ix2 r ⟨768 + d.val, by omega⟩) := by
  pointwise [k1_pay35]

theorem k1792 (v127 : FVec Ideal S512x2048 .f32) (r : Fin 512) (d : Fin 128) : k1_pay36 v127 (ix2 r d) = v127 (ix2 r ⟨896 + d.val, by omega⟩) := by
  pointwise [k1_pay36]

theorem k_hi (v128 : Vec Ideal S512x128 .f32) (r : Fin 512) (d : Fin 128) : k1_pay28 v128 (ix2 r d) = v128 (ix2 r d) := by
  pointwise [k1_pay28]

theorem v_pay (v127 : FVec Ideal S512x2048 .f32) (r : Fin 512) (d : Fin 1024) : k1_pay1 v127 (ix2 r d) = v127 (ix2 r ⟨1024 + d.val, by omega⟩) := by
  pointwise [k1_pay1]

end Cert.ProjX

end
-- ==== Proof.ProjTiles.lean ====
module
public import proofs.«01_k».proof.Proof.ProjIn

/-!
Sixteen tiles of 128 columns make a block of 2048.
-/

@[expose] public section

set_option maxRecDepth 16384

noncomputable section

open Idealize.ShloMosaic Idealize.ShloMosaic.TcCoe Idealize.SL.Sem

namespace Cert.ProjX

open Cert.ProjIdeal Cert.ProjIdeal.Gen Cert.Row

/-- Sixteen tiles, each right, make the whole block right. -/
theorem canon16 (T : Fin 512 → Fin 2048 → EReal) (P0 P1 P2 P3 P4 P5 P6 P7 P8 P9 P10 P11 P12 P13 P14 P15 : Vec Ideal S512x128 .bf16)
    (h0 : ∀ (r : Fin 512) (d : Fin 128), P0 (ix2 r d) = T r ⟨0 + d.val, by omega⟩)
    (h1 : ∀ (r : Fin 512) (d : Fin 128), P1 (ix2 r d) = T r ⟨128 + d.val, by omega⟩)
    (h2 : ∀ (r : Fin 512) (d : Fin 128), P2 (ix2 r d) = T r ⟨256 + d.val, by omega⟩)
    (h3 : ∀ (r : Fin 512) (d : Fin 128), P3 (ix2 r d) = T r ⟨384 + d.val, by omega⟩)
    (h4 : ∀ (r : Fin 512) (d : Fin 128), P4 (ix2 r d) = T r ⟨512 + d.val, by omega⟩)
    (h5 : ∀ (r : Fin 512) (d : Fin 128), P5 (ix2 r d) = T r ⟨640 + d.val, by omega⟩)
    (h6 : ∀ (r : Fin 512) (d : Fin 128), P6 (ix2 r d) = T r ⟨768 + d.val, by omega⟩)
    (h7 : ∀ (r : Fin 512) (d : Fin 128), P7 (ix2 r d) = T r ⟨896 + d.val, by omega⟩)
    (h8 : ∀ (r : Fin 512) (d : Fin 128), P8 (ix2 r d) = T r ⟨1024 + d.val, by omega⟩)
    (h9 : ∀ (r : Fin 512) (d : Fin 128), P9 (ix2 r d) = T r ⟨1152 + d.val, by omega⟩)
    (h10 : ∀ (r : Fin 512) (d : Fin 128), P10 (ix2 r d) = T r ⟨1280 + d.val, by omega⟩)
    (h11 : ∀ (r : Fin 512) (d : Fin 128), P11 (ix2 r d) = T r ⟨1408 + d.val, by omega⟩)
    (h12 : ∀ (r : Fin 512) (d : Fin 128), P12 (ix2 r d) = T r ⟨1536 + d.val, by omega⟩)
    (h13 : ∀ (r : Fin 512) (d : Fin 128), P13 (ix2 r d) = T r ⟨1664 + d.val, by omega⟩)
    (h14 : ∀ (r : Fin 512) (d : Fin 128), P14 (ix2 r d) = T r ⟨1792 + d.val, by omega⟩)
    (h15 : ∀ (r : Fin 512) (d : Fin 128), P15 (ix2 r d) = T r ⟨1920 + d.val, by omega⟩)
    (y : S512x2048.Idx) :
    View.canon (Val := Elt Ideal) (s := S512x2048) (e := .bf16)
     [⟨Rect.unit ![0, 1920] ![512, 128] inb_S512x2048_S512x128_0_1920, P15⟩,
      ⟨Rect.unit ![0, 1792] ![512, 128] inb_S512x2048_S512x128_0_1792, P14⟩,
      ⟨Rect.unit ![0, 1664] ![512, 128] inb_S512x2048_S512x128_0_1664, P13⟩,
      ⟨Rect.unit ![0, 1536] ![512, 128] inb_S512x2048_S512x128_0_1536, P12⟩,
      ⟨Rect.unit ![0, 1408] ![512, 128] inb_S512x2048_S512x128_0_1408, P11⟩,
      ⟨Rect.unit ![0, 1280] ![512, 128] inb_S512x2048_S512x128_0_1280, P10⟩,
      ⟨Rect.unit ![0, 1152] ![512, 128] inb_S512x2048_S512x128_0_1152, P9⟩,
      ⟨Rect.unit ![0, 1024] ![512, 128] inb_S512x2048_S512x128_0_1024, P8⟩,
      ⟨Rect.unit ![0, 896] ![512, 128] inb_S512x2048_S512x128_0_896, P7⟩,
      ⟨Rect.unit ![0, 768] ![512, 128] inb_S512x2048_S512x128_0_768, P6⟩,
      ⟨Rect.unit ![0, 640] ![512, 128] inb_S512x2048_S512x128_0_640, P5⟩,
      ⟨Rect.unit ![0, 512] ![512, 128] inb_S512x2048_S512x128_0_512, P4⟩,
      ⟨Rect.unit ![0, 384] ![512, 128] inb_S512x2048_S512x128_0_384, P3⟩,
      ⟨Rect.unit ![0, 256] ![512, 128] inb_S512x2048_S512x128_0_256, P2⟩,
      ⟨Rect.unit ![0, 128] ![512, 128] inb_S512x2048_S512x128_0_128, P1⟩,
      ⟨Rect.unit ![0, 0] ![512, 128] inb_S512x2048_S512x128_0_0, P0⟩] y = T (y 0) (y 1) := by
  rename' h0 => k0, h1 => k1, h2 => k2, h3 => k3, h4 => k4, h5 => k5, h6 => k6, h7 => k7, h8 => k8, h9 => k9, h10 => k10, h11 => k11, h12 => k12, h13 => k13, h14 => k14, h15 => k15
  canon_tiles x h
  · have e := k15 (x 0) (x 1)
    rw [← eq_ix2 x] at e
    refine e.trans (congrArg₂ T (Fin.ext ?_) (Fin.ext ?_)) <;> simp only <;> omega
  · have e := k14 (x 0) (x 1)
    rw [← eq_ix2 x] at e
    refine e.trans (congrArg₂ T (Fin.ext ?_) (Fin.ext ?_)) <;> simp only <;> omega
  · have e := k13 (x 0) (x 1)
    rw [← eq_ix2 x] at e
    refine e.trans (congrArg₂ T (Fin.ext ?_) (Fin.ext ?_)) <;> simp only <;> omega
  · have e := k12 (x 0) (x 1)
    rw [← eq_ix2 x] at e
    refine e.trans (congrArg₂ T (Fin.ext ?_) (Fin.ext ?_)) <;> simp only <;> omega
  · have e := k11 (x 0) (x 1)
    rw [← eq_ix2 x] at e
    refine e.trans (congrArg₂ T (Fin.ext ?_) (Fin.ext ?_)) <;> simp only <;> omega
  · have e := k10 (x 0) (x 1)
    rw [← eq_ix2 x] at e
    refine e.trans (congrArg₂ T (Fin.ext ?_) (Fin.ext ?_)) <;> simp only <;> omega
  · have e := k9 (x 0) (x 1)
    rw [← eq_ix2 x] at e
    refine e.trans (congrArg₂ T (Fin.ext ?_) (Fin.ext ?_)) <;> simp only <;> omega
  · have e := k8 (x 0) (x 1)
    rw [← eq_ix2 x] at e
    refine e.trans (congrArg₂ T (Fin.ext ?_) (Fin.ext ?_)) <;> simp only <;> omega
  · have e := k7 (x 0) (x 1)
    rw [← eq_ix2 x] at e
    refine e.trans (congrArg₂ T (Fin.ext ?_) (Fin.ext ?_)) <;> simp only <;> omega
  · have e := k6 (x 0) (x 1)
    rw [← eq_ix2 x] at e
    refine e.trans (congrArg₂ T (Fin.ext ?_) (Fin.ext ?_)) <;> simp only <;> omega
  · have e := k5 (x 0) (x 1)
    rw [← eq_ix2 x] at e
    refine e.trans (congrArg₂ T (Fin.ext ?_) (Fin.ext ?_)) <;> simp only <;> omega
  · have e := k4 (x 0) (x 1)
    rw [← eq_ix2 x] at e
    refine e.trans (congrArg₂ T (Fin.ext ?_) (Fin.ext ?_)) <;> simp only <;> omega
  · have e := k3 (x 0) (x 1)
    rw [← eq_ix2 x] at e
    refine e.trans (congrArg₂ T (Fin.ext ?_) (Fin.ext ?_)) <;> simp only <;> omega
  · have e := k2 (x 0) (x 1)
    rw [← eq_ix2 x] at e
    refine e.trans (congrArg₂ T (Fin.ext ?_) (Fin.ext ?_)) <;> simp only <;> omega
  · have e := k1 (x 0) (x 1)
    rw [← eq_ix2 x] at e
    refine e.trans (congrArg₂ T (Fin.ext ?_) (Fin.ext ?_)) <;> simp only <;> omega
  · have e := k0 (x 0) (x 1)
    rw [← eq_ix2 x] at e
    refine e.trans (congrArg₂ T (Fin.ext ?_) (Fin.ext ?_)) <;> simp only <;> omega

end Cert.ProjX

end
-- ==== Proof.ProjBlk.lean ====
module
public import proofs.«01_k».proof.Proof.ProjPay
public import proofs.«01_k».proof.Proof.ProjTiles

/-!
The per-token call of `ProjIdeal`: the block of each output from the blocks it reads, and the arrays the call leaves.
-/

@[expose] public section

set_option maxRecDepth 16384

noncomputable section

open Idealize.ShloMosaic Idealize.ShloMosaic.TcCoe Idealize.SL.Sem

namespace Cert.ProjX

open Cert.ProjIdeal Cert.ProjIdeal.Gen Cert.Row

/-- The query products of row `r`: the normed query latent against the regrouped weight. -/
def qRow {R : ℕ} (H : (⟨2, ![R, 896]⟩ : Shape).Idx → EReal) (g : S1x512.Idx → EReal) (W : S512x2048.Idx → EReal) (r : Fin R) (j : Fin 2048) : EReal :=
  rw1 c512 (fun k : Fin 512 => H (ix2 r ⟨k.val, by omega⟩)) (fun k => g (ix2 0 k)) (fun k => W (ix2 k j))

/-- The key-value latent of row `r`. -/
def latRow {R : ℕ} (H : (⟨2, ![R, 896]⟩ : Shape).Idx → EReal) (g : S1x256.Idx → EReal) (r : Fin R) (e : Fin 256) : EReal :=
  rn c256 (fun k : Fin 256 => H (ix2 r ⟨512 + k.val, by omega⟩)) (fun k => g (ix2 0 k)) e

/-- The rotated lanes of row `r`, zeros from lane 64 on. -/
def krRow {R : ℕ} (H : (⟨2, ![R, 896]⟩ : Shape).Idx → EReal) (cs : Fin 128 → EReal) (r : Fin R) (l : Fin 128) : EReal :=
  if l.val < 64 then pair (fun l => H (ix2 r ⟨768 + l.val, by omega⟩) * cs l) l else 0

theorem rn_congr' {n : ℕ} (c : EReal) {x x' g g' : Fin n → EReal} (hx : ∀ k, x k = x' k) (hg : ∀ k, g k = g' k) (e : Fin n) : rn c x g e = rn c x' g' e := by
  rw [funext hx, funext hg]

theorem qBlk_congr {A A' : Fin 2048 → EReal} {cs cs' : Fin 128 → EReal} (hA : ∀ j, A j = A' j) (hc : ∀ l, cs l = cs' l) (j : Fin 2048) : qBlk A cs j = qBlk A' cs' j := by
  rw [funext hA, funext hc]

theorem pair_congr {t t' : Fin 128 → EReal} (h : ∀ l, t l = t' l) (l : Fin 128) : pair t l = pair t' l := by rw [funext h]

/-- The keys' and values' products of row `r`: the latent against the regrouped weight. -/
def kvRow {R : ℕ} (H : (⟨2, ![R, 896]⟩ : Shape).Idx → EReal) (g : S1x256.Idx → EReal) (W : S256x2048.Idx → EReal) (r : Fin R) (j : Fin 2048) : EReal :=
  rw1 c256 (fun k : Fin 256 => H (ix2 r ⟨512 + k.val, by omega⟩)) (fun k => g (ix2 0 k)) (fun k => W (ix2 k j))

theorem kBlk_congr {A A' : Fin 2048 → EReal} {cs cs' : Fin 128 → EReal} (hA : ∀ j, A j = A' j) (hc : ∀ l, cs l = cs' l) (j : Fin 2048) : kBlk A cs j = kBlk A' cs' j := by
  rw [funext hA, funext hc]

theorem ld_q (x0 : Vec Ideal S512x896 .f32) (r : Fin 512) (k : Fin 512) :
    View.ld x0 (Rect.unit ![0, 0] ![512, 512] inb_S512x896_S512x512_0_0) (ix2 r k) = x0 (ix2 r ⟨k.val, by omega⟩) := by
  refine View.ld_unit_apply_of _ _ _ _ _ _ (fun a => ?_) <;> fin_cases a <;> simp

theorem ld_lat (x0 : Vec Ideal S512x896 .f32) (r : Fin 512) (k : Fin 256) :
    View.ld x0 (Rect.unit ![0, 512] ![512, 256] inb_S512x896_S512x256_0_512) (ix2 r k) = x0 (ix2 r ⟨512 + k.val, by omega⟩) := by
  refine View.ld_unit_apply_of _ _ _ _ _ _ (fun a => ?_) <;> fin_cases a <;> simp

theorem ld_kr (x0 : Vec Ideal S512x896 .f32) (r : Fin 512) (k : Fin 128) :
    View.ld x0 (Rect.unit ![0, 768] ![512, 128] inb_S512x896_S512x128_0_768) (ix2 r k) = x0 (ix2 r ⟨768 + k.val, by omega⟩) := by
  refine View.ld_unit_apply_of _ _ _ _ _ _ (fun a => ?_) <;> fin_cases a <;> simp

variable (V : (c : Dev nD) → (b : Ref sig .tc) → Buf (Elt Ideal) ((c : Thread nD τ).loc b)) (c : Dev nD) (t : Fin cfg1.N)

/-- The queries' block. -/
theorem q_blk (r : Fin 512) (j : Fin 2048) :
    (outsAt1 V c t).1 (ix2 r j) = qBlk (qRow (R := 512) (iblk1 V c 0 t) (iblk1 V c 2 t) (iblk1 V c 4 t) r) (fun l => (iblk1 V c 1 t) (ix2 r l)) j := by
  unfold outsAt1
  generalize iblk1 V c 0 t = x0
  generalize iblk1 V c 1 t = x1
  generalize iblk1 V c 2 t = x2
  generalize iblk1 V c 3 t = x3
  generalize iblk1 V c 4 t = x4
  generalize iblk1 V c 5 t = x5
  frame_out
  have hm : ∀ r j', k1_pay3 (View.ld x0 (Rect.unit ![0, 0] ![512, 512] inb_S512x896_S512x512_0_0)) x2 x4 (ix2 r j') = qRow (R := 512) x0 x2 x4 r j' := fun r j' => by
    rw [q_mat]
    exact rw1_congr _ (fun k => ld_q x0 r k) (fun k => rfl) fun k => rfl
  refine canon16 (fun r j => qBlk (qRow (R := 512) x0 x2 x4 r) (fun l => x1 (ix2 r l)) j) _ _ _ _ _ _ _ _ _ _ _ _ _ _ _ _
    (fun r d => ?_) (fun r d => ?_) (fun r d => ?_) (fun r d => ?_) (fun r d => ?_) (fun r d => ?_) (fun r d => ?_) (fun r d => ?_) (fun r d => ?_) (fun r d => ?_) (fun r d => ?_) (fun r d => ?_) (fun r d => ?_) (fun r d => ?_) (fun r d => ?_) (fun r d => ?_) (ix2 r j)
  · exact (q0 _ _ _ _ _).trans ((hm _ _).trans (qBlk_lo _ _ 0 rfl _ _).symm)
  · exact (q128 _ _ _ _ _ _).trans ((pair_congr (fun l => congrArg (· * _) (hm _ _)) _).trans (qBlk_hi _ _ 128 rfl (by decide) _ _).symm)
  · exact (q256 _ _ _ _ _).trans ((hm _ _).trans (qBlk_lo _ _ 256 rfl _ _).symm)
  · exact (q384 _ _ _ _ _ _).trans ((pair_congr (fun l => congrArg (· * _) (hm _ _)) _).trans (qBlk_hi _ _ 384 rfl (by decide) _ _).symm)
  · exact (q512 _ _ _).trans ((hm _ _).trans (qBlk_lo _ _ 512 rfl _ _).symm)
  · exact (q640 _ _ _ _).trans ((pair_congr (fun l => congrArg (· * _) (hm _ _)) _).trans (qBlk_hi _ _ 640 rfl (by decide) _ _).symm)
  · exact (q768 _ _ _).trans ((hm _ _).trans (qBlk_lo _ _ 768 rfl _ _).symm)
  · exact (q896 _ _ _ _).trans ((pair_congr (fun l => congrArg (· * _) (hm _ _)) _).trans (qBlk_hi _ _ 896 rfl (by decide) _ _).symm)
  · exact (q1024 _ _ _).trans ((hm _ _).trans (qBlk_lo _ _ 1024 rfl _ _).symm)
  · exact (q1152 _ _ _ _).trans ((pair_congr (fun l => congrArg (· * _) (hm _ _)) _).trans (qBlk_hi _ _ 1152 rfl (by decide) _ _).symm)
  · exact (q1280 _ _ _).trans ((hm _ _).trans (qBlk_lo _ _ 1280 rfl _ _).symm)
  · exact (q1408 _ _ _ _).trans ((pair_congr (fun l => congrArg (· * _) (hm _ _)) _).trans (qBlk_hi _ _ 1408 rfl (by decide) _ _).symm)
  · exact (q1536 _ _ _).trans ((hm _ _).trans (qBlk_lo _ _ 1536 rfl _ _).symm)
  · exact (q1664 _ _ _ _).trans ((pair_congr (fun l => congrArg (· * _) (hm _ _)) _).trans (qBlk_hi _ _ 1664 rfl (by decide) _ _).symm)
  · exact (q1792 _ _ _).trans ((hm _ _).trans (qBlk_lo _ _ 1792 rfl _ _).symm)
  · exact (q1920 _ _ _ _).trans ((pair_congr (fun l => congrArg (· * _) (hm _ _)) _).trans (qBlk_hi _ _ 1920 rfl (by decide) _ _).symm)

/-- The latent's block. -/
theorem lat_blk (r : Fin 512) (e : Fin 256) :
    (outsAt1 V c t).2.1 (ix2 r e) = latRow (R := 512) (iblk1 V c 0 t) (iblk1 V c 3 t) r e := by
  unfold outsAt1
  generalize iblk1 V c 0 t = x0
  generalize iblk1 V c 1 t = x1
  generalize iblk1 V c 2 t = x2
  generalize iblk1 V c 3 t = x3
  generalize iblk1 V c 4 t = x4
  generalize iblk1 V c 5 t = x5
  frame_out
  rw [lat_pay]
  exact rn_congr' _ (fun k => ld_lat x0 r k) (fun k => rfl) e

/-- The rotated lanes' block. -/
theorem kr_blk (r : Fin 512) (l : Fin 128) :
    (outsAt1 V c t).2.2.1 (ix2 r l) = krRow (R := 512) (iblk1 V c 0 t) (fun l => (iblk1 V c 1 t) (ix2 r l)) r l := by
  unfold outsAt1
  generalize iblk1 V c 0 t = x0
  generalize iblk1 V c 1 t = x1
  generalize iblk1 V c 2 t = x2
  generalize iblk1 V c 3 t = x3
  generalize iblk1 V c 4 t = x4
  generalize iblk1 V c 5 t = x5
  frame_out
  rw [kr_pay]
  refine if_congr Iff.rfl (pair_congr (fun l => ?_) l) rfl
  rw [ld_kr]

/-- The keys' block. -/
theorem k_blk (r : Fin 512) (j : Fin 2048) :
    (outsAt1 V c t).2.2.2.1 (ix2 r j) = kBlk (kvRow (R := 512) (iblk1 V c 0 t) (iblk1 V c 3 t) (iblk1 V c 5 t) r) (krRow (R := 512) (iblk1 V c 0 t) (fun l => (iblk1 V c 1 t) (ix2 r l)) r) j := by
  unfold outsAt1
  generalize iblk1 V c 0 t = x0
  generalize iblk1 V c 1 t = x1
  generalize iblk1 V c 2 t = x2
  generalize iblk1 V c 3 t = x3
  generalize iblk1 V c 4 t = x4
  generalize iblk1 V c 5 t = x5
  frame_out
  have hm : ∀ r j', k1_pay27 (k1_pay25 (k1_pay21 (View.ld x0 (Rect.unit ![0, 512] ![512, 256] inb_S512x896_S512x256_0_512))) (k1_pay22 x3) (k1_pay23 (View.ld x0 (Rect.unit ![0, 512] ![512, 256] inb_S512x896_S512x256_0_512))) k1_pay24) x5 (ix2 r j') = kvRow (R := 512) x0 x3 x5 r j' := fun r j' => by
    rw [kv_mat]
    refine Finset.sum_congr rfl fun k _ => congrArg (· * _) ?_
    rw [lat_pay]
    exact rn_congr' _ (fun k => ld_lat x0 r k) (fun k => rfl) k
  have hk : ∀ r l, k1_pay26 (k1_pay2 x1) (View.ld x0 (Rect.unit ![0, 768] ![512, 128] inb_S512x896_S512x128_0_768)) (ix2 r l) = krRow (R := 512) x0 (fun l => x1 (ix2 r l)) r l := fun r l => by
    rw [kr_pay]
    refine if_congr Iff.rfl (pair_congr (fun l => ?_) l) rfl
    rw [ld_kr]
  refine canon16 (fun r j => kBlk (kvRow (R := 512) x0 x3 x5 r) (krRow (R := 512) x0 (fun l => x1 (ix2 r l)) r) j) _ _ _ _ _ _ _ _ _ _ _ _ _ _ _ _
    (fun r d => ?_) (fun r d => ?_) (fun r d => ?_) (fun r d => ?_) (fun r d => ?_) (fun r d => ?_) (fun r d => ?_) (fun r d => ?_) (fun r d => ?_) (fun r d => ?_) (fun r d => ?_) (fun r d => ?_) (fun r d => ?_) (fun r d => ?_) (fun r d => ?_) (fun r d => ?_) (ix2 r j)
  · exact (k0 _ _ _ _).trans ((hm _ _).trans (kBlk_lo _ _ 0 0 rfl rfl _ _ _).symm)
  · exact (k_hi _ _ _).trans ((hk _ _).trans (kBlk_hi _ _ 128 rfl _ _).symm)
  · exact (k256 _ _ _ _).trans ((hm _ _).trans (kBlk_lo _ _ 256 128 rfl rfl _ _ _).symm)
  · exact (k_hi _ _ _).trans ((hk _ _).trans (kBlk_hi _ _ 384 rfl _ _).symm)
  · exact (k512 _ _ _).trans ((hm _ _).trans (kBlk_lo _ _ 512 256 rfl rfl _ _ _).symm)
  · exact (k_hi _ _ _).trans ((hk _ _).trans (kBlk_hi _ _ 640 rfl _ _).symm)
  · exact (k768 _ _ _).trans ((hm _ _).trans (kBlk_lo _ _ 768 384 rfl rfl _ _ _).symm)
  · exact (k_hi _ _ _).trans ((hk _ _).trans (kBlk_hi _ _ 896 rfl _ _).symm)
  · exact (k1024 _ _ _).trans ((hm _ _).trans (kBlk_lo _ _ 1024 512 rfl rfl _ _ _).symm)
  · exact (k_hi _ _ _).trans ((hk _ _).trans (kBlk_hi _ _ 1152 rfl _ _).symm)
  · exact (k1280 _ _ _).trans ((hm _ _).trans (kBlk_lo _ _ 1280 640 rfl rfl _ _ _).symm)
  · exact (k_hi _ _ _).trans ((hk _ _).trans (kBlk_hi _ _ 1408 rfl _ _).symm)
  · exact (k1536 _ _ _).trans ((hm _ _).trans (kBlk_lo _ _ 1536 768 rfl rfl _ _ _).symm)
  · exact (k_hi _ _ _).trans ((hk _ _).trans (kBlk_hi _ _ 1664 rfl _ _).symm)
  · exact (k1792 _ _ _).trans ((hm _ _).trans (kBlk_lo _ _ 1792 896 rfl rfl _ _ _).symm)
  · exact (k_hi _ _ _).trans ((hk _ _).trans (kBlk_hi _ _ 1920 rfl _ _).symm)

/-- The values' block. -/
theorem v_blk (r : Fin 512) (j : Fin 1024) :
    (outsAt1 V c t).2.2.2.2 (ix2 r j) = kvRow (R := 512) (iblk1 V c 0 t) (iblk1 V c 3 t) (iblk1 V c 5 t) r ⟨1024 + j.val, by omega⟩ := by
  unfold outsAt1
  generalize iblk1 V c 0 t = x0
  generalize iblk1 V c 1 t = x1
  generalize iblk1 V c 2 t = x2
  generalize iblk1 V c 3 t = x3
  generalize iblk1 V c 4 t = x4
  generalize iblk1 V c 5 t = x5
  frame_out
  have hm : ∀ r j', k1_pay27 (k1_pay25 (k1_pay21 (View.ld x0 (Rect.unit ![0, 512] ![512, 256] inb_S512x896_S512x256_0_512))) (k1_pay22 x3) (k1_pay23 (View.ld x0 (Rect.unit ![0, 512] ![512, 256] inb_S512x896_S512x256_0_512))) k1_pay24) x5 (ix2 r j') = kvRow (R := 512) x0 x3 x5 r j' := fun r j' => by
    rw [kv_mat]
    refine Finset.sum_congr rfl fun k _ => congrArg (· * _) ?_
    rw [lat_pay]
    exact rn_congr' _ (fun k => ld_lat x0 r k) (fun k => rfl) k
  exact (v_pay _ _ _).trans (hm _ _)

theorem idx1 : ∀ t : Fin grid1.N, win1_0.index t = ![t.val, 0] ∧ win1_1.index t = ![t.val % 16, 0] ∧ win1_2.index t = ![0, 0] ∧ win1_3.index t = ![0, 0] ∧ win1_4.index t = ![0, 0] ∧ win1_5.index t = ![0, 0] ∧ win1_6.index t = ![t.val, 0] ∧ win1_7.index t = ![t.val, 0] ∧ win1_8.index t = ![t.val, 0] ∧ win1_9.index t = ![t.val, 0] ∧ win1_10.index t = ![t.val, 0] := by
  decide +kernel

theorem q_arr :
    (dat1 V c).arrAt 6 cfg1.N = (fun i => qBlk (qRow (R := 16384) (V c main_v43) (V c main_v40) (V c main_v53) (i 0)) (fun l => (V c main_v38) (ix2 ⟨(i 0).val % 8192, Nat.mod_lt _ (by decide)⟩ l)) (i 1) : S16384x2048.Idx → EReal) := by
  refine (dat1 V c).arrAt_eq_of_covers 6 _ (by decide +kernel) fun t hf y => ?_
  blk_simp
  rw [after1_6]
  obtain ⟨r, e, rfl⟩ : ∃ (y1 : Fin 512) (y2 : Fin 2048), y = ix2 y1 y2 := ⟨y 0, y 1, eq_ix2 y⟩
  rw [q_blk]
  refine (qBlk_congr (fun j => rw1_congr _ (fun k => ?_) (fun k => ?_) fun k => ?_) (fun l => ?_) e).trans (congrArg _ (Fin.ext ?_))
  · blk_point [iblk1, (idx1 t).1, (idx1 t).2.2.2.2.2.2.1]
  · blk_point [iblk1, (idx1 t).2.2.1, (idx1 t).2.2.2.2.2.2.1]
  · blk_point [iblk1, (idx1 t).2.2.2.2.1, (idx1 t).2.2.2.2.2.2.1]
  · blk_point [iblk1, (idx1 t).2.1, (idx1 t).2.2.2.2.2.2.1]
  · blk_simp [(idx1 t).2.2.2.2.2.2.1]

theorem lat_arr :
    (dat1 V c).arrAt 7 cfg1.N = (fun i => latRow (R := 16384) (V c main_v43) (V c main_v42) (i 0) (i 1) : S16384x256.Idx → EReal) := by
  refine (dat1 V c).arrAt_eq_of_covers 7 _ (by decide +kernel) fun t hf y => ?_
  blk_simp
  rw [after1_7]
  obtain ⟨r, e, rfl⟩ : ∃ (y1 : Fin 512) (y2 : Fin 256), y = ix2 y1 y2 := ⟨y 0, y 1, eq_ix2 y⟩
  rw [lat_blk]
  refine (rn_congr' _ (fun k => ?_) (fun k => ?_) e).trans (congrArg _ (Fin.ext ?_))
  · blk_point [iblk1, (idx1 t).1, (idx1 t).2.2.2.2.2.2.2.1]
  · blk_point [iblk1, (idx1 t).2.2.2.1, (idx1 t).2.2.2.2.2.2.2.1]
  · blk_simp [(idx1 t).2.2.2.2.2.2.2.1]

theorem krRow_congr {R R' : ℕ} {H : (⟨2, ![R, 896]⟩ : Shape).Idx → EReal} {H' : (⟨2, ![R', 896]⟩ : Shape).Idx → EReal} {cs cs' : Fin 128 → EReal} {r : Fin R} {r' : Fin R'}
    (hH : ∀ l : Fin 128, H (ix2 r ⟨768 + l.val, by omega⟩) = H' (ix2 r' ⟨768 + l.val, by omega⟩)) (hc : ∀ l, cs l = cs' l) (l : Fin 128) : krRow H cs r l = krRow H' cs' r' l :=
  if_congr Iff.rfl (pair_congr (fun l => congrArg₂ (· * ·) (hH l) (hc l)) l) rfl

theorem kr_arr :
    (dat1 V c).arrAt 8 cfg1.N = (fun i => krRow (R := 16384) (V c main_v43) (fun l => (V c main_v38) (ix2 ⟨(i 0).val % 8192, Nat.mod_lt _ (by decide)⟩ l)) (i 0) (i 1) : S16384x128.Idx → EReal) := by
  refine (dat1 V c).arrAt_eq_of_covers 8 _ (by decide +kernel) fun t hf y => ?_
  blk_simp
  rw [after1_8]
  obtain ⟨r, e, rfl⟩ : ∃ (y1 : Fin 512) (y2 : Fin 128), y = ix2 y1 y2 := ⟨y 0, y 1, eq_ix2 y⟩
  rw [kr_blk]
  refine (krRow_congr (fun l => ?_) (fun l => ?_) e).trans (congrArg _ (Fin.ext ?_))
  · blk_point [iblk1, (idx1 t).1, (idx1 t).2.2.2.2.2.2.2.2.1]
  · blk_point [iblk1, (idx1 t).2.1, (idx1 t).2.2.2.2.2.2.2.2.1]
  · blk_simp [(idx1 t).2.2.2.2.2.2.2.2.1]

theorem k_arr :
    (dat1 V c).arrAt 9 cfg1.N = (fun i => kBlk (kvRow (R := 16384) (V c main_v43) (V c main_v42) (V c main_v61) (i 0)) (krRow (R := 16384) (V c main_v43) (fun l => (V c main_v38) (ix2 ⟨(i 0).val % 8192, Nat.mod_lt _ (by decide)⟩ l)) (i 0)) (i 1) : S16384x2048.Idx → EReal) := by
  refine (dat1 V c).arrAt_eq_of_covers 9 _ (by decide +kernel) fun t hf y => ?_
  blk_simp
  rw [after1_9]
  obtain ⟨r, e, rfl⟩ : ∃ (y1 : Fin 512) (y2 : Fin 2048), y = ix2 y1 y2 := ⟨y 0, y 1, eq_ix2 y⟩
  rw [k_blk]
  refine (kBlk_congr (fun j => rw1_congr _ (fun k => ?_) (fun k => ?_) fun k => ?_) (fun l => krRow_congr (fun l => ?_) (fun l => ?_) l) e).trans (congrArg _ (Fin.ext ?_))
  · blk_point [iblk1, (idx1 t).1, (idx1 t).2.2.2.2.2.2.2.2.2.1]
  · blk_point [iblk1, (idx1 t).2.2.2.1, (idx1 t).2.2.2.2.2.2.2.2.2.1]
  · blk_point [iblk1, (idx1 t).2.2.2.2.2.1, (idx1 t).2.2.2.2.2.2.2.2.2.1]
  · blk_point [iblk1, (idx1 t).1, (idx1 t).2.2.2.2.2.2.2.2.2.1]
  · blk_point [iblk1, (idx1 t).2.1, (idx1 t).2.2.2.2.2.2.2.2.2.1]
  · blk_simp [(idx1 t).2.2.2.2.2.2.2.2.2.1]

theorem v_arr :
    (dat1 V c).arrAt 10 cfg1.N = (fun i => kvRow (R := 16384) (V c main_v43) (V c main_v42) (V c main_v61) (i 0) ⟨1024 + (i 1).val, Nat.add_lt_add_left (i 1).isLt 1024⟩ : S16384x1024.Idx → EReal) := by
  refine (dat1 V c).arrAt_eq_of_covers 10 _ (by decide +kernel) fun t hf y => ?_
  blk_simp
  rw [after1_10]
  obtain ⟨r, e, rfl⟩ : ∃ (y1 : Fin 512) (y2 : Fin 1024), y = ix2 y1 y2 := ⟨y 0, y 1, eq_ix2 y⟩
  rw [v_blk]
  refine rw1_congr _ (fun k => ?_) (fun k => ?_) fun k => ?_
  · blk_point [iblk1, (idx1 t).1, (idx1 t).2.2.2.2.2.2.2.2.2.2]
  · blk_point [iblk1, (idx1 t).2.2.2.1, (idx1 t).2.2.2.2.2.2.2.2.2.2]
  · blk_point [iblk1, (idx1 t).2.2.2.2.2.1, (idx1 t).2.2.2.2.2.2.2.2.2.2]

end Cert.ProjX

end
-- ==== Proof.ProjHost.lean ====
module
public import proofs.«01_k».proof.Proof.ProjIn

/-!
What the host operations of `ProjIdeal` hold before each of its two calls, as terms in the arguments.
-/

@[expose] public section

set_option maxRecDepth 16384

noncomputable section

open Idealize.ShloMosaic Idealize.ShloMosaic.TcCoe Idealize.SL.Sem

namespace Cert.ProjX

open Cert.ProjIdeal Cert.ProjIdeal.Gen Cert.Row

def h_v0 (arg0 : FVec Ideal S2x8192x1024 .f32) : FVec Ideal S16384x1024 .f32 :=
  shapeCast _ arg0 shapeCasts_S2x8192x1024_S16384x1024

def h_v1 (arg1 : FVec Ideal S1x1024 .f32) : FVec Ideal S1024 .f32 :=
  shapeCast _ arg1 shapeCasts_S1x1024_S1024

def h_v2 (arg1 : FVec Ideal S1x1024 .f32) : FVec Ideal S1x1024 .f32 :=
  broadcastInDim S1x1024 ![1] bcast_S1024_S1x1024_1 (h_v1 arg1)

def h_v3 (arg2 : FVec Ideal S1x1024x5968 .f32) : FVec Ideal S1024x5968 .f32 :=
  shapeCast _ arg2 shapeCasts_S1x1024x5968_S1024x5968

def h_v4 (arg2 : FVec Ideal S1x1024x5968 .f32) : FVec Ideal S1024x512 .f32 :=
  extractStridedSlice S1024x512 ![0, 0] (h_v3 arg2) slices_S1024x5968_S1024x512_0_0

def h_v5 (arg2 : FVec Ideal S1x1024x5968 .f32) : FVec Ideal S1024x256 .f32 :=
  extractStridedSlice S1024x256 ![0, 512] (h_v3 arg2) slices_S1024x5968_S1024x256_0_512

def h_v6 (arg2 : FVec Ideal S1x1024x5968 .f32) : FVec Ideal S1024x64 .f32 :=
  extractStridedSlice S1024x64 ![0, 768] (h_v3 arg2) slices_S1024x5968_S1024x64_0_768

def h_v13 (arg2 : FVec Ideal S1x1024x5968 .f32) : FVec Ideal S1024x32 .f32 :=
  extractStridedSlice S1024x32 ![0, 32] (h_v6 arg2) slices_S1024x64_S1024x32_0_32

def h_v14 (arg2 : FVec Ideal S1x1024x5968 .f32) : FVec Ideal S1024x32 .f32 :=
  extractStridedSlice S1024x32 ![0, 0] (h_v6 arg2) slices_S1024x64_S1024x32_0_0

def h_v15 (arg2 : FVec Ideal S1x1024x5968 .f32) : FVec Ideal S1024x64 .f32 :=
  concatenate S1024x64 1 [⟨S1024x32, (h_v13 arg2)⟩, ⟨S1024x32, (h_v14 arg2)⟩] concatenates_S1024x32_S1024x32_S1024x64_d1

def h_v10 (arg2 : FVec Ideal S1x1024x5968 .f32) : FVec Ideal S1024x16 .f32 :=
  extractStridedSlice S1024x16 ![0, 2880] (h_v3 arg2) slices_S1024x5968_S1024x16_0_2880

def h_cst : FVec Ideal S_ .f32 :=
  constant S_ .f32 0x00000000#32

def h_v16 : FVec Ideal S1024x112 .f32 :=
  broadcastInDim S1024x112 ![] bcast_S_S1024x112 h_cst

def h_v9 (arg2 : FVec Ideal S1x1024x5968 .f32) : FVec Ideal S1024x1024 .f32 :=
  extractStridedSlice S1024x1024 ![0, 1856] (h_v3 arg2) slices_S1024x5968_S1024x1024_0_1856

def h_v11 (arg2 : FVec Ideal S1x1024x5968 .f32) : FVec Ideal S1024x1024 .f32 :=
  extractStridedSlice S1024x1024 ![0, 2896] (h_v3 arg2) slices_S1024x5968_S1024x1024_0_2896

def h_v7 (arg2 : FVec Ideal S1x1024x5968 .f32) : FVec Ideal S1024x512 .f32 :=
  extractStridedSlice S1024x512 ![0, 832] (h_v3 arg2) slices_S1024x5968_S1024x512_0_832

def h_v8 (arg2 : FVec Ideal S1x1024x5968 .f32) : FVec Ideal S1024x512 .f32 :=
  extractStridedSlice S1024x512 ![0, 1344] (h_v3 arg2) slices_S1024x5968_S1024x512_0_1344

def h_v12 (arg2 : FVec Ideal S1x1024x5968 .f32) : FVec Ideal S1024x2048 .f32 :=
  extractStridedSlice S1024x2048 ![0, 3920] (h_v3 arg2) slices_S1024x5968_S1024x2048_0_3920

def h_v17 (arg2 : FVec Ideal S1x1024x5968 .f32) : FVec Ideal S1024x6144 .f32 :=
  (concatenate S1024x6144 1 [⟨S1024x512, (h_v4 arg2)⟩, ⟨S1024x256, (h_v5 arg2)⟩, ⟨S1024x64, (h_v6 arg2)⟩, ⟨S1024x64, (h_v15 arg2)⟩, ⟨S1024x16, (h_v10 arg2)⟩, ⟨S1024x112, h_v16⟩, ⟨S1024x1024, (h_v9 arg2)⟩, ⟨S1024x1024, (h_v11 arg2)⟩, ⟨S1024x512, (h_v7 arg2)⟩, ⟨S1024x512, (h_v8 arg2)⟩, ⟨S1024x2048, (h_v12 arg2)⟩] concatenates_S1024x512_S1024x256_S1024x64_S1024x64_S1024x16_S1024x112_S1024x1024_S1024x1024_S1024x512_S1024x512_S1024x2048_S1024x6144_d1)

def h_v18 (arg2 : FVec Ideal S1x1024x5968 .f32) : FVec Ideal S1024x6144 .bf16 :=
  truncf .bf16 (h_v17 arg2) bitsLt_bf16_f32

def h_c : IVec S_ 32 :=
  constantI S_ 32 0#32

def h_v21 : IVec S8192 32 :=
  broadcastInDim S8192 ![] bcast_S_S8192 h_c

def h_v20 : IVec S8192 32 :=
  iotaInDim S8192 32 0

def h_v22 : IVec S8192 32 :=
  addi h_v21 h_v20

def h_v29 : FVec Ideal S8192 .f32 :=
  sitofp .f32 h_v22

def h_v30 : FVec Ideal S8192x1 .f32 :=
  broadcastInDim S8192x1 ![0] bcast_S8192_S8192x1_0 h_v29

def h_v32 : FVec Ideal S8192x32 .f32 :=
  broadcastInDim S8192x32 ![0, 1] bcast_S8192x1_S8192x32_0_1 h_v30

def h_cst_1 : FVec Ideal S_ .f32 :=
  constant S_ .f32 0x461C4000#32

def h_v27 : FVec Ideal S32 .f32 :=
  broadcastInDim S32 ![] bcast_S_S32 h_cst_1

def h_v23 : FVec Ideal S32 .f32 :=
  sitofp .f32 (iotaInDim S32 32 0)

def h_v24 : FVec Ideal S32 .f32 :=
  Host.negf h_v23

def h_cst_0 : FVec Ideal S_ .f32 :=
  constant S_ .f32 0x42000000#32

def h_v25 : FVec Ideal S32 .f32 :=
  broadcastInDim S32 ![] bcast_S_S32 h_cst_0

def h_v26 : FVec Ideal S32 .f32 :=
  Host.divf h_v24 h_v25

def h_v28 : FVec Ideal S32 .f32 :=
  Host.powf h_v27 h_v26

def h_v31 : FVec Ideal S1x32 .f32 :=
  broadcastInDim S1x32 ![1] bcast_S32_S1x32_1 h_v28

def h_v33 : FVec Ideal S8192x32 .f32 :=
  broadcastInDim S8192x32 ![0, 1] bcast_S1x32_S8192x32_0_1 h_v31

def h_v34 : FVec Ideal S8192x32 .f32 :=
  mulf h_v32 h_v33

def h_v35 : FVec Ideal S8192x32 .f32 :=
  Host.cos h_v34

def h_v36 : FVec Ideal S8192x32 .f32 :=
  Host.sin h_v34

def h_v37 : FVec Ideal S8192x32 .f32 :=
  Host.negf h_v36

def h_v38 : FVec Ideal S8192x128 .f32 :=
  (concatenate S8192x128 1 [⟨S8192x32, h_v35⟩, ⟨S8192x32, h_v35⟩, ⟨S8192x32, h_v37⟩, ⟨S8192x32, h_v36⟩] concatenates_S8192x32_S8192x32_S8192x32_S8192x32_S8192x128_d1)

def h_v39 (arg3 : FVec Ideal S1x512 .f32) : FVec Ideal S512 .f32 :=
  shapeCast _ arg3 shapeCasts_S1x512_S512

def h_v40 (arg3 : FVec Ideal S1x512 .f32) : FVec Ideal S1x512 .f32 :=
  broadcastInDim S1x512 ![1] bcast_S512_S1x512_1 (h_v39 arg3)

def h_v41 (arg4 : FVec Ideal S1x256 .f32) : FVec Ideal S256 .f32 :=
  shapeCast _ arg4 shapeCasts_S1x256_S256

def h_v42 (arg4 : FVec Ideal S1x256 .f32) : FVec Ideal S1x256 .f32 :=
  broadcastInDim S1x256 ![1] bcast_S256_S1x256_1 (h_v41 arg4)

def h_v43 (v19 : FVec Ideal S16384x6144 .f32) : FVec Ideal S16384x896 .f32 :=
  extractStridedSlice S16384x896 ![0, 0] v19 slices_S16384x6144_S16384x896_0_0

def h_v44 (arg5 : FVec Ideal S1x512x1536 .f32) : FVec Ideal S512x1536 .f32 :=
  shapeCast _ arg5 shapeCasts_S1x512x1536_S512x1536

def h_v45 (arg5 : FVec Ideal S1x512x1536 .f32) : FVec Ideal S512x8x192 .f32 :=
  shapeCast _ (h_v44 arg5) shapeCasts_S512x1536_S512x8x192

def h_v46 (arg5 : FVec Ideal S1x512x1536 .f32) : FVec Ideal S512x8x128 .f32 :=
  extractStridedSlice S512x8x128 ![0, 0, 0] (h_v45 arg5) slices_S512x8x192_S512x8x128_0_0_0

def h_v47 (arg5 : FVec Ideal S1x512x1536 .f32) : FVec Ideal S512x8x64 .f32 :=
  extractStridedSlice S512x8x64 ![0, 0, 128] (h_v45 arg5) slices_S512x8x192_S512x8x64_0_0_128

def h_v48 (arg5 : FVec Ideal S1x512x1536 .f32) : FVec Ideal S512x8x32 .f32 :=
  extractStridedSlice S512x8x32 ![0, 0, 32] (h_v47 arg5) slices_S512x8x64_S512x8x32_0_0_32

def h_v49 (arg5 : FVec Ideal S1x512x1536 .f32) : FVec Ideal S512x8x32 .f32 :=
  extractStridedSlice S512x8x32 ![0, 0, 0] (h_v47 arg5) slices_S512x8x64_S512x8x32_0_0_0

def h_v50 (arg5 : FVec Ideal S1x512x1536 .f32) : FVec Ideal S512x8x64 .f32 :=
  concatenate S512x8x64 2 [⟨S512x8x32, (h_v48 arg5)⟩, ⟨S512x8x32, (h_v49 arg5)⟩] concatenates_S512x8x32_S512x8x32_S512x8x64_d2

def h_v51 (arg5 : FVec Ideal S1x512x1536 .f32) : FVec Ideal S512x8x256 .f32 :=
  (concatenate S512x8x256 2 [⟨S512x8x128, (h_v46 arg5)⟩, ⟨S512x8x64, (h_v47 arg5)⟩, ⟨S512x8x64, (h_v50 arg5)⟩] concatenates_S512x8x128_S512x8x64_S512x8x64_S512x8x256_d2)

def h_v52 (arg5 : FVec Ideal S1x512x1536 .f32) : FVec Ideal S512x2048 .f32 :=
  shapeCast _ (h_v51 arg5) shapeCasts_S512x8x256_S512x2048

def h_v53 (arg5 : FVec Ideal S1x512x1536 .f32) : FVec Ideal S512x2048 .bf16 :=
  truncf .bf16 (h_v52 arg5) bitsLt_bf16_f32

def h_v54 (arg6 : FVec Ideal S1x256x2048 .f32) : FVec Ideal S256x2048 .f32 :=
  shapeCast _ arg6 shapeCasts_S1x256x2048_S256x2048

def h_v55 (arg6 : FVec Ideal S1x256x2048 .f32) : FVec Ideal S256x8x256 .f32 :=
  shapeCast _ (h_v54 arg6) shapeCasts_S256x2048_S256x8x256

def h_v56 (arg6 : FVec Ideal S1x256x2048 .f32) : FVec Ideal S256x8x128 .f32 :=
  extractStridedSlice S256x8x128 ![0, 0, 0] (h_v55 arg6) slices_S256x8x256_S256x8x128_0_0_0

def h_v57 (arg6 : FVec Ideal S1x256x2048 .f32) : FVec Ideal S256x1024 .f32 :=
  shapeCast _ (h_v56 arg6) shapeCasts_S256x8x128_S256x1024

def h_v58 (arg6 : FVec Ideal S1x256x2048 .f32) : FVec Ideal S256x8x128 .f32 :=
  extractStridedSlice S256x8x128 ![0, 0, 128] (h_v55 arg6) slices_S256x8x256_S256x8x128_0_0_128

def h_v59 (arg6 : FVec Ideal S1x256x2048 .f32) : FVec Ideal S256x1024 .f32 :=
  shapeCast _ (h_v58 arg6) shapeCasts_S256x8x128_S256x1024

def h_v60 (arg6 : FVec Ideal S1x256x2048 .f32) : FVec Ideal S256x2048 .f32 :=
  concatenate S256x2048 1 [⟨S256x1024, (h_v57 arg6)⟩, ⟨S256x1024, (h_v59 arg6)⟩] concatenates_S256x1024_S256x1024_S256x2048_d1

def h_v61 (arg6 : FVec Ideal S1x256x2048 .f32) : FVec Ideal S256x2048 .bf16 :=
  truncf .bf16 (h_v60 arg6) bitsLt_bf16_f32

variable (m : (ℓ : Loc nD τ sig) → Buf (Elt Ideal) ℓ) (ρ : Dev nD → PrngReg) (c : Dev nD)

theorem V1_v0 : V1 m ρ c main_v0 = h_v0 (m ((c.tc : Thread nD τ).loc main_arg0)) := by
  show StableHlo.after hostOps0 (W0 m ρ c) (Proc.devRef .tc main_v0) = _
  after_results_simp <;> (try dsimp only [Matrix.cons_val]) <;> (try after_results_simp) <;> rfl

theorem V1_v2 : V1 m ρ c main_v2 = h_v2 (m ((c.tc : Thread nD τ).loc main_arg1)) := by
  show StableHlo.after hostOps0 (W0 m ρ c) (Proc.devRef .tc main_v2) = _
  after_results_simp <;> (try dsimp only [Matrix.cons_val]) <;> (try after_results_simp) <;> rfl

theorem V1_v18 : V1 m ρ c main_v18 = h_v18 (m ((c.tc : Thread nD τ).loc main_arg2)) := by
  show StableHlo.after hostOps0 (W0 m ρ c) (Proc.devRef .tc main_v18) = _
  after_results_simp <;> (try dsimp only [Matrix.cons_val]) <;> (try after_results_simp) <;> rfl

set_option maxHeartbeats 1600000 in
theorem V3_v38 : V3 m ρ c main_v38 = h_v38  := by
  show StableHlo.after hostOps1 (W2 m ρ c) (Proc.devRef .tc main_v38) = _
  after_results_simp <;> (try dsimp only [Matrix.cons_val]) <;> (try after_results_simp) <;> rfl

set_option maxHeartbeats 1600000 in
theorem V3_v40 : V3 m ρ c main_v40 = h_v40 (W2 m ρ c (Proc.devRef .tc main_arg3)) := by
  show StableHlo.after hostOps1 (W2 m ρ c) (Proc.devRef .tc main_v40) = _
  after_results_simp <;> (try dsimp only [Matrix.cons_val]) <;> (try after_results_simp) <;> rfl

set_option maxHeartbeats 1600000 in
theorem V3_v42 : V3 m ρ c main_v42 = h_v42 (W2 m ρ c (Proc.devRef .tc main_arg4)) := by
  show StableHlo.after hostOps1 (W2 m ρ c) (Proc.devRef .tc main_v42) = _
  after_results_simp <;> (try dsimp only [Matrix.cons_val]) <;> (try after_results_simp) <;> rfl

set_option maxHeartbeats 1600000 in
theorem V3_v43 : V3 m ρ c main_v43 = h_v43 (W2 m ρ c (Proc.devRef .tc main_v19)) := by
  show StableHlo.after hostOps1 (W2 m ρ c) (Proc.devRef .tc main_v43) = _
  after_results_simp <;> (try dsimp only [Matrix.cons_val]) <;> (try after_results_simp) <;> rfl

set_option maxHeartbeats 1600000 in
theorem V3_v53 : V3 m ρ c main_v53 = h_v53 (W2 m ρ c (Proc.devRef .tc main_arg5)) := by
  show StableHlo.after hostOps1 (W2 m ρ c) (Proc.devRef .tc main_v53) = _
  after_results_simp <;> (try dsimp only [Matrix.cons_val]) <;> (try after_results_simp) <;> rfl

set_option maxHeartbeats 1600000 in
theorem V3_v61 : V3 m ρ c main_v61 = h_v61 (W2 m ρ c (Proc.devRef .tc main_arg6)) := by
  show StableHlo.after hostOps1 (W2 m ρ c) (Proc.devRef .tc main_v61) = _
  after_results_simp <;> (try dsimp only [Matrix.cons_val]) <;> (try after_results_simp) <;> rfl

end Cert.ProjX

end
-- ==== Proof.Rope.lean ====
module
public import proofs.«01_k».proof.Proof.Rows

/-!
A row of 128 lanes known on its four quarters, and what the rotation gives on each half.
-/

@[expose] public section

noncomputable section

namespace Cert.Row

open Idealize.ShloMosaic

theorem eq_of_quarters (f g : Fin 128 → EReal) (h0 : ∀ r : Fin 32, f ⟨0 + r.val, by omega⟩ = g ⟨0 + r.val, by omega⟩) (h1 : ∀ r : Fin 32, f ⟨32 + r.val, by omega⟩ = g ⟨32 + r.val, by omega⟩)
    (h2 : ∀ r : Fin 32, f ⟨64 + r.val, by omega⟩ = g ⟨64 + r.val, by omega⟩) (h3 : ∀ r : Fin 32, f ⟨96 + r.val, by omega⟩ = g ⟨96 + r.val, by omega⟩) (l : Fin 128) : f l = g l := by
  by_cases q0 : l.val < 32
  · obtain ⟨r, rfl⟩ : ∃ r : Fin 32, l = ⟨0 + r.val, Nat.lt_of_lt_of_le (Nat.add_lt_add_left r.isLt 0) (by decide)⟩ := ⟨⟨l.val, q0⟩, Fin.ext (by simp only; omega)⟩
    exact h0 r
  by_cases q1 : l.val < 64
  · obtain ⟨r, rfl⟩ : ∃ r : Fin 32, l = ⟨32 + r.val, Nat.lt_of_lt_of_le (Nat.add_lt_add_left r.isLt 32) (by decide)⟩ := ⟨⟨l.val - 32, by omega⟩, Fin.ext (by simp only; omega)⟩
    exact h1 r
  by_cases q2 : l.val < 96
  · obtain ⟨r, rfl⟩ : ∃ r : Fin 32, l = ⟨64 + r.val, Nat.lt_of_lt_of_le (Nat.add_lt_add_left r.isLt 64) (by decide)⟩ := ⟨⟨l.val - 64, by omega⟩, Fin.ext (by simp only; omega)⟩
    exact h2 r
  · obtain ⟨r, rfl⟩ : ∃ r : Fin 32, l = ⟨96 + r.val, Nat.lt_of_lt_of_le (Nat.add_lt_add_left r.isLt 96) (by decide)⟩ := ⟨⟨l.val - 96, by omega⟩, Fin.ext (by simp only; omega)⟩
    exact h3 r

/-- A row that holds `a`, `b`, `b`, `a` on its quarters. -/
theorem eq_twice (f : Fin 128 → EReal) (a b : Fin 32 → EReal) (h0 : ∀ r : Fin 32, f ⟨0 + r.val, by omega⟩ = a r) (h1 : ∀ r : Fin 32, f ⟨32 + r.val, by omega⟩ = b r)
    (h2 : ∀ r : Fin 32, f ⟨64 + r.val, by omega⟩ = b r) (h3 : ∀ r : Fin 32, f ⟨96 + r.val, by omega⟩ = a r) (l : Fin 128) : f l = twice a b l :=
  eq_of_quarters f _ (fun r => (h0 r).trans (twice0 a b r _).symm) (fun r => (h1 r).trans (twice1 a b r _).symm) (fun r => (h2 r).trans (twice2 a b r _).symm)
    (fun r => (h3 r).trans (twice3 a b r _).symm) l

/-- A row that holds the table on its quarters. -/
theorem eq_tab (f : Fin 128 → EReal) (co si : Fin 32 → EReal) (h0 : ∀ r : Fin 32, f ⟨0 + r.val, by omega⟩ = co r) (h1 : ∀ r : Fin 32, f ⟨32 + r.val, by omega⟩ = co r)
    (h2 : ∀ r : Fin 32, f ⟨64 + r.val, by omega⟩ = - si r) (h3 : ∀ r : Fin 32, f ⟨96 + r.val, by omega⟩ = si r) (l : Fin 128) : f l = tab co si l :=
  eq_of_quarters f _ (fun r => (h0 r).trans (tab0 co si r _).symm) (fun r => (h1 r).trans (tab1 co si r _).symm) (fun r => (h2 r).trans (tab2 co si r _).symm)
    (fun r => (h3 r).trans (tab3 co si r _).symm) l

/-- A row that is the rotation on each of its halves. -/
theorem eq_rot (f : Fin 64 → EReal) (co si a b : Fin 32 → EReal) (h0 : ∀ r : Fin 32, f ⟨0 + r.val, by omega⟩ = a r * co r - b r * si r)
    (h1 : ∀ r : Fin 32, f ⟨32 + r.val, by omega⟩ = b r * co r + a r * si r) (l : Fin 64) : f l = rot co si a b l := by
  by_cases q0 : l.val < 32
  · obtain ⟨r, rfl⟩ : ∃ r : Fin 32, l = ⟨0 + r.val, Nat.lt_of_lt_of_le (Nat.add_lt_add_left r.isLt 0) (by decide)⟩ := ⟨⟨l.val, q0⟩, Fin.ext (by simp only; omega)⟩
    rw [h0]
    simp only [rot]
    rw [dif_pos (by omega)]
    congr 3 <;> exact Fin.ext (by simp only; omega)
  · obtain ⟨r, rfl⟩ : ∃ r : Fin 32, l = ⟨32 + r.val, Nat.lt_of_lt_of_le (Nat.add_lt_add_left r.isLt 32) (by decide)⟩ := ⟨⟨l.val - 32, by omega⟩, Fin.ext (by simp only; omega)⟩
    rw [h1]
    simp only [rot]
    rw [dif_neg (by omega)]
    congr 3 <;> exact Fin.ext (by simp only; omega)

theorem rot_congr {co co' si si' a a' b b' : Fin 32 → EReal} (h0 : ∀ i, co i = co' i) (h1 : ∀ i, si i = si' i) (h2 : ∀ i, a i = a' i) (h3 : ∀ i, b i = b' i) (l : Fin 64) :
    rot co si a b l = rot co' si' a' b' l := by
  rw [funext h0, funext h1, funext h2, funext h3]

/-- The source column of each of the projection's columns, in the order its readers take them, if it has one. -/
def src (j : Fin 6144) : Option (Fin 5968) :=
  if h : j.val < 512 then some ⟨j.val, by omega⟩
  else if h : j.val < 768 then some ⟨j.val, by omega⟩
  else if h : j.val < 832 then some ⟨j.val, by omega⟩
  else if h : j.val < 864 then some ⟨768 + (32 + (j.val - 832)), by omega⟩
  else if h : j.val < 896 then some ⟨768 + (j.val - 864), by omega⟩
  else if h : j.val < 912 then some ⟨2880 + (j.val - 896), by omega⟩
  else if h : j.val < 1024 then none
  else if h : j.val < 2048 then some ⟨1856 + (j.val - 1024), by omega⟩
  else if h : j.val < 3072 then some ⟨2896 + (j.val - 2048), by omega⟩
  else if h : j.val < 3584 then some ⟨832 + (j.val - 3072), by omega⟩
  else if h : j.val < 4096 then some ⟨1344 + (j.val - 3584), by omega⟩
  else some ⟨3920 + (j.val - 4096), by omega⟩

/-- A value per source column, in that order, zeros where there is none. -/
def colmap (f : Fin 5968 → EReal) (j : Fin 6144) : EReal := (src j).elim 0 f

theorem colmap_congr {f f' : Fin 5968 → EReal} (h : ∀ s, f s = f' s) (j : Fin 6144) : colmap f j = colmap f' j := by rw [funext h]

/-- What is right on each run of columns is right. -/
theorem eq_colmap (F : EReal) (f : Fin 5968 → EReal) (j : Fin 6144)
    (h0 : ∀ (h : 0 ≤ j.val) (h' : j.val < 512), F = f ⟨j.val, by omega⟩)
    (h1 : ∀ (h : 512 ≤ j.val) (h' : j.val < 768), F = f ⟨j.val, by omega⟩)
    (h2 : ∀ (h : 768 ≤ j.val) (h' : j.val < 832), F = f ⟨j.val, by omega⟩)
    (h3 : ∀ (h : 832 ≤ j.val) (h' : j.val < 864), F = f ⟨768 + (32 + (j.val - 832)), by omega⟩)
    (h4 : ∀ (h : 864 ≤ j.val) (h' : j.val < 896), F = f ⟨768 + (j.val - 864), by omega⟩)
    (h5 : ∀ (h : 896 ≤ j.val) (h' : j.val < 912), F = f ⟨2880 + (j.val - 896), by omega⟩)
    (h6 : ∀ (h : 912 ≤ j.val) (h' : j.val < 1024), F = 0)
    (h7 : ∀ (h : 1024 ≤ j.val) (h' : j.val < 2048), F = f ⟨1856 + (j.val - 1024), by omega⟩)
    (h8 : ∀ (h : 2048 ≤ j.val) (h' : j.val < 3072), F = f ⟨2896 + (j.val - 2048), by omega⟩)
    (h9 : ∀ (h : 3072 ≤ j.val) (h' : j.val < 3584), F = f ⟨832 + (j.val - 3072), by omega⟩)
    (h10 : ∀ (h : 3584 ≤ j.val) (h' : j.val < 4096), F = f ⟨1344 + (j.val - 3584), by omega⟩)
    (h11 : ∀ (h : 4096 ≤ j.val) (h' : j.val < 6144), F = f ⟨3920 + (j.val - 4096), by omega⟩)
    : F = colmap f j := by
  unfold colmap src
  by_cases q0 : j.val < 512
  · rw [dif_pos q0]; exact h0 (Nat.zero_le _) q0
  rw [dif_neg q0]
  by_cases q1 : j.val < 768
  · rw [dif_pos q1]; exact h1 (Nat.le_of_not_lt q0) q1
  rw [dif_neg q1]
  by_cases q2 : j.val < 832
  · rw [dif_pos q2]; exact h2 (Nat.le_of_not_lt q1) q2
  rw [dif_neg q2]
  by_cases q3 : j.val < 864
  · rw [dif_pos q3]; exact h3 (Nat.le_of_not_lt q2) q3
  rw [dif_neg q3]
  by_cases q4 : j.val < 896
  · rw [dif_pos q4]; exact h4 (Nat.le_of_not_lt q3) q4
  rw [dif_neg q4]
  by_cases q5 : j.val < 912
  · rw [dif_pos q5]; exact h5 (Nat.le_of_not_lt q4) q5
  rw [dif_neg q5]
  by_cases q6 : j.val < 1024
  · rw [dif_pos q6]; exact h6 (Nat.le_of_not_lt q5) q6
  rw [dif_neg q6]
  by_cases q7 : j.val < 2048
  · rw [dif_pos q7]; exact h7 (Nat.le_of_not_lt q6) q7
  rw [dif_neg q7]
  by_cases q8 : j.val < 3072
  · rw [dif_pos q8]; exact h8 (Nat.le_of_not_lt q7) q8
  rw [dif_neg q8]
  by_cases q9 : j.val < 3584
  · rw [dif_pos q9]; exact h9 (Nat.le_of_not_lt q8) q9
  rw [dif_neg q9]
  by_cases q10 : j.val < 4096
  · rw [dif_pos q10]; exact h10 (Nat.le_of_not_lt q9) q10
  rw [dif_neg q10]
  exact h11 (Nat.le_of_not_lt q10) j.isLt

/-- A row against the columns so ordered is the products so ordered. -/
theorem rw1_colmap {n : ℕ} (c : EReal) (x g : Fin n → EReal) (w : Fin n → Fin 5968 → EReal) (j : Fin 6144) :
    rw1 c x g (fun k => colmap (w k) j) = colmap (fun s => rw1 c x g (fun k => w k s)) j := by
  unfold colmap
  cases src j with
  | none => exact rw1_zero c x g _ fun _ => rfl
  | some s => rfl

theorem rw1_twice {n : ℕ} (c : EReal) (x g : Fin n → EReal) (a b : Fin n → Fin 32 → EReal) (l : Fin 128) :
    rw1 c x g (fun k => twice (a k) (b k) l) = twice (fun i => rw1 c x g (fun k => a k i)) (fun i => rw1 c x g (fun k => b k i)) l := by
  refine eq_twice (fun l => rw1 c x g (fun k => twice (a k) (b k) l)) _ _ (fun r => ?_) (fun r => ?_) (fun r => ?_) (fun r => ?_) l <;>
    refine rw1_congr c (fun k => rfl) (fun k => rfl) fun k => ?_
  · exact twice0 _ _ r _
  · exact twice1 _ _ r _
  · exact twice2 _ _ r _
  · exact twice3 _ _ r _

theorem colmap_lo (f : Fin 5968 → EReal) (j : ℕ) (h : j < 768) (h' : j < 6144) : colmap f ⟨j, h'⟩ = f ⟨j, by omega⟩ := by
  symm
  refine eq_colmap _ f ⟨j, h'⟩ (fun _ _ => rfl) (fun _ _ => rfl) (fun q _ => absurd q (by simp only <;> omega)) (fun q _ => absurd q (by simp only <;> omega)) (fun q _ => absurd q (by simp only <;> omega)) (fun q _ => absurd q (by simp only <;> omega)) (fun q _ => absurd q (by simp only <;> omega)) (fun q _ => absurd q (by simp only <;> omega)) (fun q _ => absurd q (by simp only <;> omega)) (fun q _ => absurd q (by simp only <;> omega)) (fun q _ => absurd q (by simp only <;> omega)) (fun q _ => absurd q (by simp only <;> omega))

theorem colmap_kr (f : Fin 5968 → EReal) (l : Fin 128) :
    colmap f ⟨768 + l.val, by omega⟩ = twice (fun i => f ⟨768 + i.val, by omega⟩) (fun i => f ⟨768 + (32 + i.val), by omega⟩) l := by
  refine eq_twice (fun l => colmap f ⟨768 + l.val, by omega⟩) _ _ (fun r => ?_) (fun r => ?_) (fun r => ?_) (fun r => ?_) l <;>
    (symm; refine eq_colmap _ f _ (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_)) <;>
    dsimp only at q q1 <;> first | (exfalso; omega) | exact congrArg f (Fin.ext (by simp only <;> omega))

/-- A token's queries as stored: of each head its 128 products, then its 64 rotated products, twice. -/
def qSpec (A : Fin 1536 → EReal) (co si : Fin 32 → EReal) (j : Fin 2048) : EReal :=
  if h : j.val % 256 < 128 then A ⟨j.val / 256 * 192 + j.val % 256, by omega⟩
  else rot co si (fun i => A ⟨j.val / 256 * 192 + (128 + i.val), by omega⟩) (fun i => A ⟨j.val / 256 * 192 + (128 + (32 + i.val)), by omega⟩) ⟨j.val % 64, by omega⟩

end Cert.Row

end
-- ==== Proof.ProjVal.lean ====
module
public import proofs.«01_k».proof.Proof.ProjBlk
public import proofs.«01_k».proof.Proof.ProjHost
public import proofs.«01_k».proof.Proof.Rope

/-!
What the two calls of `ProjIdeal` compute of a token's row, from the program's arguments.
-/

@[expose] public section

set_option maxRecDepth 16384

noncomputable section

open Idealize.ShloMosaic Idealize.ShloMosaic.TcCoe Idealize.SL.Sem

namespace Cert.ProjX

open Cert.ProjIdeal Cert.ProjIdeal.Gen Cert.Row

/-- The input projection of token `t` of sequence `b`, at source column `s`. -/
def hV (a0 : FVec Ideal S2x8192x1024 .f32) (a1 : FVec Ideal S1x1024 .f32) (a2 : FVec Ideal S1x1024x5968 .f32) (b : Fin 2) (t : Fin 8192) (s : Fin 5968) : EReal :=
  rw1 c1024 (fun k => a0 (ix3 b t k)) (fun k => a1 (ix2 0 k)) (fun k => a2 (ix3 0 k s))

theorem wIn_at (w : FVec Ideal S1x1024x5968 .f32) (k : Fin 1024) (j : Fin 6144) : h_v18 w (ix2 k j) = colmap (fun s => w (ix3 0 k s)) j := by
  pointwise [h_v18, h_v17, h_v4, h_v3, h_v5, h_v6, h_v15, h_v13, h_v14, h_v10, h_v16, h_cst, h_v9, h_v11, h_v7, h_v8, h_v12]
  refine eq_colmap _ _ j (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_)
  · rw [dif_pos (by omega)]
  · rw [dif_neg (by omega), dif_pos (by omega)]; exact congrArg (fun s => w (ix3 0 k s)) (Fin.ext (by first | omega | (simp only <;> omega)))
  · rw [dif_neg (by omega), dif_neg (by omega), dif_pos (by omega)]; exact congrArg (fun s => w (ix3 0 k s)) (Fin.ext (by first | omega | (simp only <;> omega)))
  · rw [dif_neg (by omega), dif_neg (by omega), dif_neg (by omega), dif_pos (by omega), dif_pos (by omega)]; exact congrArg (fun s => w (ix3 0 k s)) (Fin.ext (by first | omega | (simp only <;> omega)))
  · rw [dif_neg (by omega), dif_neg (by omega), dif_neg (by omega), dif_pos (by omega), dif_neg (by omega)]; exact congrArg (fun s => w (ix3 0 k s)) (Fin.ext (by first | omega | (simp only <;> omega)))
  · rw [dif_neg (by omega), dif_neg (by omega), dif_neg (by omega), dif_neg (by omega), dif_pos (by omega)]; exact congrArg (fun s => w (ix3 0 k s)) (Fin.ext (by first | omega | (simp only <;> omega)))
  · rw [dif_neg (by omega), dif_neg (by omega), dif_neg (by omega), dif_neg (by omega), dif_neg (by omega), dif_pos (by omega)]
  · rw [dif_neg (by omega), dif_neg (by omega), dif_neg (by omega), dif_neg (by omega), dif_neg (by omega), dif_neg (by omega), dif_pos (by omega)]; exact congrArg (fun s => w (ix3 0 k s)) (Fin.ext (by first | omega | (simp only <;> omega)))
  · rw [dif_neg (by omega), dif_neg (by omega), dif_neg (by omega), dif_neg (by omega), dif_neg (by omega), dif_neg (by omega), dif_neg (by omega), dif_pos (by omega)]; exact congrArg (fun s => w (ix3 0 k s)) (Fin.ext (by first | omega | (simp only <;> omega)))
  · rw [dif_neg (by omega), dif_neg (by omega), dif_neg (by omega), dif_neg (by omega), dif_neg (by omega), dif_neg (by omega), dif_neg (by omega), dif_neg (by omega), dif_pos (by omega)]; exact congrArg (fun s => w (ix3 0 k s)) (Fin.ext (by first | omega | (simp only <;> omega)))
  · rw [dif_neg (by omega), dif_neg (by omega), dif_neg (by omega), dif_neg (by omega), dif_neg (by omega), dif_neg (by omega), dif_neg (by omega), dif_neg (by omega), dif_neg (by omega), dif_pos (by omega)]; exact congrArg (fun s => w (ix3 0 k s)) (Fin.ext (by first | omega | (simp only <;> omega)))
  · rw [dif_neg (by omega), dif_neg (by omega), dif_neg (by omega), dif_neg (by omega), dif_neg (by omega), dif_neg (by omega), dif_neg (by omega), dif_neg (by omega), dif_neg (by omega), dif_neg (by omega)]; exact congrArg (fun s => w (ix3 0 k s)) (Fin.ext (by first | omega | (simp only <;> omega)))

theorem hin_at (a0 : FVec Ideal S2x8192x1024 .f32) (a1 : FVec Ideal S1x1024 .f32) (a2 : FVec Ideal S1x1024x5968 .f32) (b : Fin 2) (t : Fin 8192) (j : Fin 6144) :
    colOf (R := 16384) (h_v0 a0) (h_v2 a1) (h_v18 a2) ⟨b.val * 8192 + t.val, by omega⟩ j = colmap (hV a0 a1 a2 b t) j := by
  refine (rw1_congr _ (fun k => ?_) (fun k => ?_) (fun k => wIn_at a2 k j)).trans (rw1_colmap _ _ _ (fun k s => a2 (ix3 0 k s)) j)
  · pointwise [h_v0]
  · pointwise [h_v2, h_v1]

theorem gq_at (g : FVec Ideal S1x512 .f32) (k : Fin 512) : h_v40 g (ix2 0 k) = g (ix2 0 k) := by
  pointwise [h_v40, h_v39]

theorem gk_at (g : FVec Ideal S1x256 .f32) (k : Fin 256) : h_v42 g (ix2 0 k) = g (ix2 0 k) := by
  pointwise [h_v42, h_v41]

/-- Cosine and sine of a position's angles. -/
def co (t : Fin 8192) (i : Fin 32) : EReal := Ideal.cos (h_v34 (ix2 t i))
def si (t : Fin 8192) (i : Fin 32) : EReal := Ideal.sin (h_v34 (ix2 t i))

theorem cs_at (t : Fin 8192) (l : Fin 128) : h_v38 (ix2 t l) = tab (co t) (si t) l := by
  refine eq_tab (fun l => h_v38 (ix2 t l)) _ _ (fun r => ?_) (fun r => ?_) (fun r => ?_) (fun r => ?_) l
  · pointwise [h_v38, h_v35, h_v37, h_v36]
    rfl
  · pointwise [h_v38, h_v35, h_v37, h_v36]
    rfl
  · pointwise [h_v38, h_v35, h_v37, h_v36]
    rw [dif_neg (by omega), dif_neg (by omega), dif_pos (by omega)]
    exact congrArg (fun i => -Ideal.sin (h_v34 (ix2 t i))) (Fin.ext (by simp only <;> omega))
  · pointwise [h_v38, h_v35, h_v37, h_v36]
    rw [dif_neg (by omega), dif_neg (by omega), dif_neg (by omega)]
    exact congrArg (fun i => Ideal.sin (h_v34 (ix2 t i))) (Fin.ext (by simp only <;> omega))

theorem wq_lo (w : FVec Ideal S1x512x1536 .f32) (k : Fin 512) (j : Fin 2048) (h : j.val % 256 < 128) :
    h_v53 w (ix2 k j) = w (ix3 0 k ⟨j.val / 256 * 192 + j.val % 256, by omega⟩) := by
  pointwise [h_v53, h_v52, h_v51, h_v46, h_v45, h_v44, h_v47, h_v50, h_v48, h_v49]
  exact dif_pos h

theorem wq_hi (w : FVec Ideal S1x512x1536 .f32) (k : Fin 512) (n : ℕ) (hn : n < 8) (l : Fin 128) :
    h_v53 w (ix2 k ⟨n * 256 + 128 + l.val, by omega⟩)
      = twice (fun i => w (ix3 0 k ⟨n * 192 + (128 + i.val), by omega⟩)) (fun i => w (ix3 0 k ⟨n * 192 + (128 + (32 + i.val)), by omega⟩)) l := by
  refine eq_twice (fun l => h_v53 w (ix2 k ⟨n * 256 + 128 + l.val, by omega⟩)) _ _ (fun r => ?_) (fun r => ?_) (fun r => ?_) (fun r => ?_) l
  · pointwise [h_v53, h_v52, h_v51, h_v46, h_v45, h_v44, h_v47, h_v50, h_v48, h_v49]
    rw [dif_neg (by omega), dif_pos (by omega)]
    exact congrArg (fun s => w (ix3 0 k s)) (Fin.ext (by simp only <;> omega))
  · pointwise [h_v53, h_v52, h_v51, h_v46, h_v45, h_v44, h_v47, h_v50, h_v48, h_v49]
    rw [dif_neg (by omega), dif_pos (by omega)]
    exact congrArg (fun s => w (ix3 0 k s)) (Fin.ext (by simp only <;> omega))
  · pointwise [h_v53, h_v52, h_v51, h_v46, h_v45, h_v44, h_v47, h_v50, h_v48, h_v49]
    rw [dif_neg (by omega), dif_neg (by omega), dif_pos (by omega)]
    exact congrArg (fun s => w (ix3 0 k s)) (Fin.ext (by simp only <;> omega))
  · pointwise [h_v53, h_v52, h_v51, h_v46, h_v45, h_v44, h_v47, h_v50, h_v48, h_v49]
    rw [dif_neg (by omega), dif_neg (by omega), dif_neg (by omega)]
    exact congrArg (fun s => w (ix3 0 k s)) (Fin.ext (by simp only <;> omega))

/-- The query products of a token, at source column `s`. -/
def qV (a0 : FVec Ideal S2x8192x1024 .f32) (a1 : FVec Ideal S1x1024 .f32) (a2 : FVec Ideal S1x1024x5968 .f32) (a3 : FVec Ideal S1x512 .f32) (a5 : FVec Ideal S1x512x1536 .f32) (b : Fin 2) (t : Fin 8192) (s : Fin 1536) : EReal :=
  rw1 c512 (fun k : Fin 512 => hV a0 a1 a2 b t ⟨k.val, by omega⟩) (fun k => a3 (ix2 0 k)) (fun k => a5 (ix3 0 k s))

/-- The key-value latent of a token. -/
def latV (a0 : FVec Ideal S2x8192x1024 .f32) (a1 : FVec Ideal S1x1024 .f32) (a2 : FVec Ideal S1x1024x5968 .f32) (a4 : FVec Ideal S1x256 .f32) (b : Fin 2) (t : Fin 8192) (e : Fin 256) : EReal :=
  rn c256 (fun k : Fin 256 => hV a0 a1 a2 b t ⟨512 + k.val, by omega⟩) (fun k => a4 (ix2 0 k)) e

/-- The rotated lanes of a token. -/
def krV (a0 : FVec Ideal S2x8192x1024 .f32) (a1 : FVec Ideal S1x1024 .f32) (a2 : FVec Ideal S1x1024x5968 .f32) (b : Fin 2) (t : Fin 8192) (l : Fin 64) : EReal :=
  rot (co t) (si t) (fun i => hV a0 a1 a2 b t ⟨768 + i.val, by omega⟩) (fun i => hV a0 a1 a2 b t ⟨768 + (32 + i.val), by omega⟩) l

/-- A column of the part the second call reads. -/
def col896 (k : Fin 896) : Fin 6144 := ⟨k.val, by omega⟩

section
variable (a0 : FVec Ideal S2x8192x1024 .f32) (a1 : FVec Ideal S1x1024 .f32) (a2 : FVec Ideal S1x1024x5968 .f32) (a3 : FVec Ideal S1x512 .f32) (a4 : FVec Ideal S1x256 .f32) (a5 : FVec Ideal S1x512x1536 .f32) (b : Fin 2) (t : Fin 8192)
  (H : (⟨2, ![16384, 896]⟩ : Shape).Idx → EReal) (r : Fin 16384) (cs : Fin 128 → EReal)
  (hH : ∀ k : Fin 896, H (ix2 r k) = colmap (hV a0 a1 a2 b t) (col896 k)) (hc : ∀ l, cs l = tab (co t) (si t) l)
include hH hc

omit hc in
theorem q_val0 (j : Fin 2048) (h : j.val % 256 < 128) :
    qRow (R := 16384) H (h_v40 a3) (h_v53 a5) r j = qV a0 a1 a2 a3 a5 b t ⟨j.val / 256 * 192 + j.val % 256, by omega⟩ :=
  rw1_congr _ (fun k => (hH _).trans (colmap_lo _ _ (by simp only [col896] <;> omega) _)) (fun k => gq_at a3 k) fun k => wq_lo a5 k j h

omit hc in
theorem q_val1 (n : ℕ) (hn : n < 8) (l : Fin 128) :
    qRow (R := 16384) H (h_v40 a3) (h_v53 a5) r ⟨n * 256 + 128 + l.val, by omega⟩
      = twice (fun i => qV a0 a1 a2 a3 a5 b t ⟨n * 192 + (128 + i.val), by omega⟩) (fun i => qV a0 a1 a2 a3 a5 b t ⟨n * 192 + (128 + (32 + i.val)), by omega⟩) l :=
  (rw1_congr _ (fun k => (hH _).trans (colmap_lo _ _ (by simp only [col896] <;> omega) _)) (fun k => gq_at a3 k) fun k => wq_hi a5 k n hn l).trans
    (rw1_twice _ _ _ (fun k i => a5 (ix3 0 k ⟨n * 192 + (128 + i.val), by omega⟩)) (fun k i => a5 (ix3 0 k ⟨n * 192 + (128 + (32 + i.val)), by omega⟩)) l)

theorem q_val (j : Fin 2048) : qBlk (qRow (R := 16384) H (h_v40 a3) (h_v53 a5) r) cs j = qSpec (qV a0 a1 a2 a3 a5 b t) (co t) (si t) j := by
  unfold qBlk qSpec
  by_cases h : j.val % 256 < 128
  · rw [if_pos h, dif_pos h]
    exact q_val0 a0 a1 a2 a3 a5 b t H r hH j h
  · rw [if_neg h, dif_neg h]
    refine (pair_congr (fun l => congrArg₂ (· * ·) (q_val1 a0 a1 a2 a3 a5 b t H r hH (j.val / 256) (by omega) l) (hc l)) _).trans ((pair_tab _ _ _ _ _).trans ?_)
    exact congrArg _ (Fin.ext (by simp only <;> omega))

omit hc in
theorem lat_val (e : Fin 256) : latRow (R := 16384) H (h_v42 a4) r e = latV a0 a1 a2 a4 b t e :=
  rn_congr _ (fun k => (hH _).trans (colmap_lo _ _ (by simp only [col896] <;> omega) _)) (fun k => gk_at a4 k) e

theorem kr_val (l : Fin 128) : krRow (R := 16384) H cs r l = if l.val < 64 then krV a0 a1 a2 b t ⟨l.val % 64, by omega⟩ else 0 := by
  unfold krRow
  refine if_congr Iff.rfl ?_ rfl
  exact (pair_congr (fun l => congrArg₂ (· * ·) ((hH _).trans (colmap_kr _ l)) (hc l)) l).trans (pair_tab _ _ _ _ _)

omit hc in
theorem kv_val (a6 : FVec Ideal S1x256x2048 .f32) (j : Fin 2048) (s : Fin 2048) (hs : ∀ k, h_v61 a6 (ix2 k j) = a6 (ix3 0 k s)) :
    kvRow (R := 16384) H (h_v42 a4) (h_v61 a6) r j = ∑ k, latV a0 a1 a2 a4 b t k * a6 (ix3 0 k s) := by
  unfold kvRow rw1
  exact Finset.sum_congr rfl fun k _ => congrArg₂ (· * ·) (lat_val a0 a1 a2 a4 b t H r hH k) (hs k)

theorem k_val (a6 : FVec Ideal S1x256x2048 .f32) (j : Fin 2048) :
    kBlk (kvRow (R := 16384) H (h_v42 a4) (h_v61 a6) r) (krRow (R := 16384) H cs r) j
      = if h : j.val % 256 < 128 then ∑ k, latV a0 a1 a2 a4 b t k * a6 (ix3 0 k ⟨j.val / 256 * 256 + j.val % 256, by omega⟩)
        else if j.val % 128 < 64 then krV a0 a1 a2 b t ⟨j.val % 64, by omega⟩ else 0 := by
  unfold kBlk
  by_cases h : j.val % 256 < 128
  · rw [if_pos h, dif_pos h]
    refine kv_val a0 a1 a2 a4 b t H r hH a6 _ _ fun k => ?_
    pointwise [h_v61, h_v60, h_v57, h_v56, h_v55, h_v54, h_v59, h_v58]
    rw [dif_pos (by omega)]
    exact congrArg (fun s => a6 (ix3 0 k s)) (Fin.ext (by simp only <;> omega))
  · rw [if_neg h, dif_neg h, kr_val a0 a1 a2 b t H r cs hH hc]
    refine if_congr Iff.rfl (congrArg _ (Fin.ext ?_)) rfl
    simp only <;> omega

omit hc in
theorem v_val (a6 : FVec Ideal S1x256x2048 .f32) (j : Fin 1024) :
    kvRow (R := 16384) H (h_v42 a4) (h_v61 a6) r ⟨1024 + j.val, by omega⟩ = ∑ k, latV a0 a1 a2 a4 b t k * a6 (ix3 0 k ⟨j.val / 128 * 256 + (128 + j.val % 128), by omega⟩) := by
  refine kv_val a0 a1 a2 a4 b t H r hH a6 _ _ fun k => ?_
  pointwise [h_v61, h_v60, h_v57, h_v56, h_v55, h_v54, h_v59, h_v58]

end

end Cert.ProjX

end
-- ==== Proof.ProjRefTerms.lean ====
module
public import proofs.«01_k».proof.Proof.Gen.ProjRefIdeal.Run
public import proofs.«01_k».proof.Proof.Rope
public import Idealize.ShloMosaic.Lib.Pointwise

/-!
The results of `ProjRefIdeal`, in named parts.
-/

@[expose] public section

set_option maxRecDepth 16384

noncomputable section

open Idealize.ShloMosaic Idealize.ShloMosaic.TcCoe Idealize.SL.Sem

namespace Cert.ProjR

open Cert.ProjRefIdeal Cert.ProjRefIdeal.Gen Cert.Row

section
variable {F : FTy → Type} [FloatOps F]

/-- The angle of each position and frequency. -/
def rAng : FVec F S8192x32 .f32 :=
  mulf (broadcastInDim S8192x32 ![0, 1] bcast_S8192x1_S8192x32_0_1 (broadcastInDim S8192x1 ![0] bcast_S8192_S8192x1_0 (sitofp .f32 (addi (broadcastInDim S8192 ![] bcast_S_S8192 (constantI S_ 32 0#32)) (iotaInDim S8192 32 0))))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The input projection. -/
def rIn (x : FVec F S2x8192x1024 .f32) (g : FVec F S1x1024 .f32) (w : FVec F S1x1024x5968 .f32) : FVec F S2x8192x5968 .f32 :=
  Host.dotGeneral dot_S2x8192x1024_S1024x5968_S2x8192x5968_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))) (shapeCast _ w shapeCasts_S1x1024x5968_S1024x5968)

/-- The key-value latent. -/
def rLat (h : FVec F S2x8192x5968 .f32) (g : FVec F S1x256 .f32) : FVec F S2x8192x256 .f32 :=
  mulf (mulf (extractStridedSlice S2x8192x256 ![0, 0, 512] h slices_S2x8192x5968_S2x8192x256_0_0_512) (broadcastInDim S2x8192x256 ![0, 1, 2] bcast_S2x8192x1_S2x8192x256_0_1_2 (Host.rsqrt (addf (Host.divf (broadcastInDim S2x8192x1 ![0, 1] bcast_S2x8192_S2x8192x1_0_1 (Host.reduceAdd (mulf (extractStridedSlice S2x8192x256 ![0, 0, 512] h slices_S2x8192x5968_S2x8192x256_0_0_512) (extractStridedSlice S2x8192x256 ![0, 0, 512] h slices_S2x8192x5968_S2x8192x256_0_0_512)) (constant S_ .f32 0x00000000#32) reducesTo_S2x8192x256_S2x8192_d2 h_S_)) (broadcastInDim S2x8192x1 ![] bcast_S_S2x8192x1 (constant S_ .f32 0x43800000#32))) (broadcastInDim S2x8192x1 ![] bcast_S_S2x8192x1 (constant S_ .f32 0x358637BD#32)))))) (broadcastInDim S2x8192x256 ![0, 1, 2] bcast_S1x1x256_S2x8192x256_0_1_2 (broadcastInDim S1x1x256 ![2] bcast_S256_S1x1x256_2 (shapeCast _ g shapeCasts_S1x256_S256)))

/-- The rotated lanes every head shares. -/
def rRopeK (h : FVec F S2x8192x5968 .f32) (a : FVec F S8192x32 .f32) : FVec F S2x8192x64 .f32 :=
  concatenate S2x8192x64 2 [⟨S2x8192x32, (subf (mulf (extractStridedSlice S2x8192x32 ![0, 0, 0] (extractStridedSlice S2x8192x64 ![0, 0, 768] h slices_S2x8192x5968_S2x8192x64_0_0_768) slices_S2x8192x64_S2x8192x32_0_0_0) (broadcastInDim S2x8192x32 ![0, 1, 2] bcast_S1x8192x32_S2x8192x32_0_1_2 (broadcastInDim S1x8192x32 ![1, 2] bcast_S8192x32_S1x8192x32_1_2 (Host.cos a)))) (mulf (extractStridedSlice S2x8192x32 ![0, 0, 32] (extractStridedSlice S2x8192x64 ![0, 0, 768] h slices_S2x8192x5968_S2x8192x64_0_0_768) slices_S2x8192x64_S2x8192x32_0_0_32) (broadcastInDim S2x8192x32 ![0, 1, 2] bcast_S1x8192x32_S2x8192x32_0_1_2 (broadcastInDim S1x8192x32 ![1, 2] bcast_S8192x32_S1x8192x32_1_2 (Host.sin a)))))⟩, ⟨S2x8192x32, (addf (mulf (extractStridedSlice S2x8192x32 ![0, 0, 32] (extractStridedSlice S2x8192x64 ![0, 0, 768] h slices_S2x8192x5968_S2x8192x64_0_0_768) slices_S2x8192x64_S2x8192x32_0_0_32) (broadcastInDim S2x8192x32 ![0, 1, 2] bcast_S1x8192x32_S2x8192x32_0_1_2 (broadcastInDim S1x8192x32 ![1, 2] bcast_S8192x32_S1x8192x32_1_2 (Host.cos a)))) (mulf (extractStridedSlice S2x8192x32 ![0, 0, 0] (extractStridedSlice S2x8192x64 ![0, 0, 768] h slices_S2x8192x5968_S2x8192x64_0_0_768) slices_S2x8192x64_S2x8192x32_0_0_0) (broadcastInDim S2x8192x32 ![0, 1, 2] bcast_S1x8192x32_S2x8192x32_0_1_2 (broadcastInDim S1x8192x32 ![1, 2] bcast_S8192x32_S1x8192x32_1_2 (Host.sin a)))))⟩] concatenates_S2x8192x32_S2x8192x32_S2x8192x64_d2

/-- The normed query latent. -/
def rQn (h : FVec F S2x8192x5968 .f32) (g : FVec F S1x512 .f32) : FVec F S2x8192x512 .f32 :=
  mulf (mulf (extractStridedSlice S2x8192x512 ![0, 0, 0] h slices_S2x8192x5968_S2x8192x512_0_0_0) (broadcastInDim S2x8192x512 ![0, 1, 2] bcast_S2x8192x1_S2x8192x512_0_1_2 (Host.rsqrt (addf (Host.divf (broadcastInDim S2x8192x1 ![0, 1] bcast_S2x8192_S2x8192x1_0_1 (Host.reduceAdd (mulf (extractStridedSlice S2x8192x512 ![0, 0, 0] h slices_S2x8192x5968_S2x8192x512_0_0_0) (extractStridedSlice S2x8192x512 ![0, 0, 0] h slices_S2x8192x5968_S2x8192x512_0_0_0)) (constant S_ .f32 0x00000000#32) reducesTo_S2x8192x512_S2x8192_d2 h_S_)) (broadcastInDim S2x8192x1 ![] bcast_S_S2x8192x1 (constant S_ .f32 0x44000000#32))) (broadcastInDim S2x8192x1 ![] bcast_S_S2x8192x1 (constant S_ .f32 0x358637BD#32)))))) (broadcastInDim S2x8192x512 ![0, 1, 2] bcast_S1x1x512_S2x8192x512_0_1_2 (broadcastInDim S1x1x512 ![2] bcast_S512_S1x1x512_2 (shapeCast _ g shapeCasts_S1x512_S512)))

/-- The queries, by head. -/
def rQ (h : FVec F S2x8192x5968 .f32) (g : FVec F S1x512 .f32) (w : FVec F S1x512x1536 .f32) : FVec F S2x8192x8x192 .f32 :=
  shapeCast _ (Host.dotGeneral dot_S2x8192x512_S512x1536_S2x8192x1536_2_0_01_1_n_n none (rQn h g) (shapeCast _ w shapeCasts_S1x512x1536_S512x1536)) shapeCasts_S2x8192x1536_S2x8192x8x192

/-- The queries' rotated lanes. -/
def rRopeQ (q : FVec F S2x8192x8x192 .f32) (a : FVec F S8192x32 .f32) : FVec F S2x8192x8x64 .f32 :=
  concatenate S2x8192x8x64 3 [⟨S2x8192x8x32, (subf (mulf (extractStridedSlice S2x8192x8x32 ![0, 0, 0, 0] (extractStridedSlice S2x8192x8x64 ![0, 0, 0, 128] q slices_S2x8192x8x192_S2x8192x8x64_0_0_0_128) slices_S2x8192x8x64_S2x8192x8x32_0_0_0_0) (broadcastInDim S2x8192x8x32 ![0, 1, 2, 3] bcast_S1x8192x1x32_S2x8192x8x32_0_1_2_3 (broadcastInDim S1x8192x1x32 ![1, 2, 3] bcast_S8192x1x32_S1x8192x1x32_1_2_3 (broadcastInDim S8192x1x32 ![0, 2] bcast_S8192x32_S8192x1x32_0_2 (Host.cos a))))) (mulf (extractStridedSlice S2x8192x8x32 ![0, 0, 0, 32] (extractStridedSlice S2x8192x8x64 ![0, 0, 0, 128] q slices_S2x8192x8x192_S2x8192x8x64_0_0_0_128) slices_S2x8192x8x64_S2x8192x8x32_0_0_0_32) (broadcastInDim S2x8192x8x32 ![0, 1, 2, 3] bcast_S1x8192x1x32_S2x8192x8x32_0_1_2_3 (broadcastInDim S1x8192x1x32 ![1, 2, 3] bcast_S8192x1x32_S1x8192x1x32_1_2_3 (broadcastInDim S8192x1x32 ![0, 2] bcast_S8192x32_S8192x1x32_0_2 (Host.sin a))))))⟩, ⟨S2x8192x8x32, (addf (mulf (extractStridedSlice S2x8192x8x32 ![0, 0, 0, 32] (extractStridedSlice S2x8192x8x64 ![0, 0, 0, 128] q slices_S2x8192x8x192_S2x8192x8x64_0_0_0_128) slices_S2x8192x8x64_S2x8192x8x32_0_0_0_32) (broadcastInDim S2x8192x8x32 ![0, 1, 2, 3] bcast_S1x8192x1x32_S2x8192x8x32_0_1_2_3 (broadcastInDim S1x8192x1x32 ![1, 2, 3] bcast_S8192x1x32_S1x8192x1x32_1_2_3 (broadcastInDim S8192x1x32 ![0, 2] bcast_S8192x32_S8192x1x32_0_2 (Host.cos a))))) (mulf (extractStridedSlice S2x8192x8x32 ![0, 0, 0, 0] (extractStridedSlice S2x8192x8x64 ![0, 0, 0, 128] q slices_S2x8192x8x192_S2x8192x8x64_0_0_0_128) slices_S2x8192x8x64_S2x8192x8x32_0_0_0_0) (broadcastInDim S2x8192x8x32 ![0, 1, 2, 3] bcast_S1x8192x1x32_S2x8192x8x32_0_1_2_3 (broadcastInDim S1x8192x1x32 ![1, 2, 3] bcast_S8192x1x32_S1x8192x1x32_1_2_3 (broadcastInDim S8192x1x32 ![0, 2] bcast_S8192x32_S8192x1x32_0_2 (Host.sin a))))))⟩] concatenates_S2x8192x8x32_S2x8192x8x32_S2x8192x8x64_d3

/-- Keys and values, by head. -/
def rKv (l : FVec F S2x8192x256 .f32) (w : FVec F S1x256x2048 .f32) : FVec F S2x8192x8x256 .f32 :=
  shapeCast _ (Host.dotGeneral dot_S2x8192x256_S256x2048_S2x8192x2048_2_0_01_1_n_n none l (shapeCast _ w shapeCasts_S1x256x2048_S256x2048)) shapeCasts_S2x8192x2048_S2x8192x8x256

/-- The projection in the order its readers take it. -/
def oHin (h : FVec F S2x8192x5968 .f32) : FVec F S16384x6144 .f32 :=
  shapeCast _ ((concatenate S2x8192x6144 2 [⟨S2x8192x512, ((extractStridedSlice S2x8192x512 ![0, 0, 0] h slices_S2x8192x5968_S2x8192x512_0_0_0))⟩, ⟨S2x8192x256, ((extractStridedSlice S2x8192x256 ![0, 0, 512] h slices_S2x8192x5968_S2x8192x256_0_0_512))⟩, ⟨S2x8192x64, ((extractStridedSlice S2x8192x64 ![0, 0, 768] h slices_S2x8192x5968_S2x8192x64_0_0_768))⟩, ⟨S2x8192x32, ((extractStridedSlice S2x8192x32 ![0, 0, 32] (extractStridedSlice S2x8192x64 ![0, 0, 768] h slices_S2x8192x5968_S2x8192x64_0_0_768) slices_S2x8192x64_S2x8192x32_0_0_32))⟩, ⟨S2x8192x32, ((extractStridedSlice S2x8192x32 ![0, 0, 0] (extractStridedSlice S2x8192x64 ![0, 0, 768] h slices_S2x8192x5968_S2x8192x64_0_0_768) slices_S2x8192x64_S2x8192x32_0_0_0))⟩, ⟨S2x8192x16, ((extractStridedSlice S2x8192x16 ![0, 0, 2880] h slices_S2x8192x5968_S2x8192x16_0_0_2880))⟩, ⟨S2x8192x112, ((broadcastInDim S2x8192x112 ![] bcast_S_S2x8192x112 (constant S_ .f32 0x00000000#32)))⟩, ⟨S2x8192x1024, ((extractStridedSlice S2x8192x1024 ![0, 0, 1856] h slices_S2x8192x5968_S2x8192x1024_0_0_1856))⟩, ⟨S2x8192x1024, ((extractStridedSlice S2x8192x1024 ![0, 0, 2896] h slices_S2x8192x5968_S2x8192x1024_0_0_2896))⟩, ⟨S2x8192x512, ((extractStridedSlice S2x8192x512 ![0, 0, 832] h slices_S2x8192x5968_S2x8192x512_0_0_832))⟩, ⟨S2x8192x512, ((extractStridedSlice S2x8192x512 ![0, 0, 1344] h slices_S2x8192x5968_S2x8192x512_0_0_1344))⟩, ⟨S2x8192x2048, ((extractStridedSlice S2x8192x2048 ![0, 0, 3920] h slices_S2x8192x5968_S2x8192x2048_0_0_3920))⟩] concatenates_S2x8192x512_S2x8192x256_S2x8192x64_S2x8192x32_S2x8192x32_S2x8192x16_S2x8192x112_S2x8192x1024_S2x8192x1024_S2x8192x512_S2x8192x512_S2x8192x2048_S2x8192x6144_d2)) shapeCasts_S2x8192x6144_S16384x6144

/-- The queries. -/
def oQ (q : FVec F S2x8192x8x192 .f32) (r : FVec F S2x8192x8x64 .f32) : FVec F S2x8192x2048 .bf16 :=
  shapeCast _ (truncf .bf16 ((concatenate S2x8192x8x256 3 [⟨S2x8192x8x128, ((extractStridedSlice S2x8192x8x128 ![0, 0, 0, 0] q slices_S2x8192x8x192_S2x8192x8x128_0_0_0_0))⟩, ⟨S2x8192x8x64, (r)⟩, ⟨S2x8192x8x64, (r)⟩] concatenates_S2x8192x8x128_S2x8192x8x64_S2x8192x8x64_S2x8192x8x256_d3)) bitsLt_bf16_f32) shapeCasts_S2x8192x8x256_S2x8192x2048

/-- The keys. -/
def oK (kv : FVec F S2x8192x8x256 .f32) (r : FVec F S2x8192x64 .f32) : FVec F S2x8192x2048 .bf16 :=
  shapeCast _ (truncf .bf16 ((concatenate S2x8192x8x256 3 [⟨S2x8192x8x128, ((extractStridedSlice S2x8192x8x128 ![0, 0, 0, 0] kv slices_S2x8192x8x256_S2x8192x8x128_0_0_0_0))⟩, ⟨S2x8192x8x64, ((broadcastInDim S2x8192x8x64 ![0, 1, 2, 3] bcast_S2x8192x1x64_S2x8192x8x64_0_1_2_3 (broadcastInDim S2x8192x1x64 ![0, 1, 3] bcast_S2x8192x64_S2x8192x1x64_0_1_3 r)))⟩, ⟨S2x8192x8x64, ((broadcastInDim S2x8192x8x64 ![] bcast_S_S2x8192x8x64 (constant S_ .f32 0x00000000#32)))⟩] concatenates_S2x8192x8x128_S2x8192x8x64_S2x8192x8x64_S2x8192x8x256_d3)) bitsLt_bf16_f32) shapeCasts_S2x8192x8x256_S2x8192x2048

/-- The values. -/
def oV (kv : FVec F S2x8192x8x256 .f32) : FVec F S2x8192x1024 .bf16 :=
  shapeCast _ (truncf .bf16 (extractStridedSlice S2x8192x8x128 ![0, 0, 0, 128] kv slices_S2x8192x8x256_S2x8192x8x128_0_0_0_128) bitsLt_bf16_f32) shapeCasts_S2x8192x8x128_S2x8192x1024

end

variable (m : (ℓ : Loc nD τ sig) → Buf (Elt Ideal) ℓ) (c : Dev nD)

theorem hin_res : Value.res_main_v117 m c = oHin (F := Ideal) (rIn (m ((c.tc : Thread nD τ).loc main_arg0)) (m ((c.tc : Thread nD τ).loc main_arg1)) (m ((c.tc : Thread nD τ).loc main_arg2))) := by
  unfold Value.res_main_v117
  rfl

theorem v_res : Value.res_main_v133 m c = oV (F := Ideal) (rKv (rLat (rIn (m ((c.tc : Thread nD τ).loc main_arg0)) (m ((c.tc : Thread nD τ).loc main_arg1)) (m ((c.tc : Thread nD τ).loc main_arg2))) (m ((c.tc : Thread nD τ).loc main_arg4))) (m ((c.tc : Thread nD τ).loc main_arg6))) := by
  unfold Value.res_main_v133
  rfl

theorem k_res : Value.res_main_v132 m c = oK (F := Ideal) (rKv (rLat (rIn (m ((c.tc : Thread nD τ).loc main_arg0)) (m ((c.tc : Thread nD τ).loc main_arg1)) (m ((c.tc : Thread nD τ).loc main_arg2))) (m ((c.tc : Thread nD τ).loc main_arg4))) (m ((c.tc : Thread nD τ).loc main_arg6))) (rRopeK (rIn (m ((c.tc : Thread nD τ).loc main_arg0)) (m ((c.tc : Thread nD τ).loc main_arg1)) (m ((c.tc : Thread nD τ).loc main_arg2))) (rAng (F := Ideal))) := by
  unfold Value.res_main_v132
  rfl

theorem q_res : Value.res_main_v131 m c = oQ (F := Ideal) (rQ (rIn (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg5))) (rRopeQ (rQ (rIn (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg5))) (rAng (F := Ideal))) := by
  unfold Value.res_main_v131
  rfl

theorem kr_res : Value.res_main_v130 m c = broadcastInDim S1x2x8192x64 ![1, 2, 3] bcast_S2x8192x64_S1x2x8192x64_1_2_3 (rRopeK (rIn (m ((c.tc : Thread nD τ).loc main_arg0)) (m ((c.tc : Thread nD τ).loc main_arg1)) (m ((c.tc : Thread nD τ).loc main_arg2))) (rAng (F := Ideal))) := by
  unfold Value.res_main_v130
  rfl

end Cert.ProjR

end
-- ==== Proof.ProjRefAt.lean ====
module
public import proofs.«01_k».proof.Proof.ProjRefTerms

/-!
The parts of `ProjRefIdeal`'s results, at an index.
-/

@[expose] public section

set_option maxRecDepth 16384

noncomputable section

open Idealize.ShloMosaic Idealize.ShloMosaic.TcCoe Idealize.SL.Sem

namespace Cert.ProjR

open Cert.ProjRefIdeal Cert.ProjRefIdeal.Gen Cert.Row

theorem rIn_at (x : FVec Ideal S2x8192x1024 .f32) (g : FVec Ideal S1x1024 .f32) (w : FVec Ideal S1x1024x5968 .f32) (b : Fin 2) (t : Fin 8192) (j : Fin 5968) :
    rIn x g w (ix3 b t j) = rw1 c1024 (fun k => x (ix3 b t k)) (fun k => g (ix2 0 k)) (fun k => w (ix3 0 k j)) := by
  pointwise [rIn]
  rfl

theorem rQn_at (h : FVec Ideal S2x8192x5968 .f32) (g : FVec Ideal S1x512 .f32) (b : Fin 2) (t : Fin 8192) (e : Fin 512) :
    rQn h g (ix3 b t e) = rn c512 (fun k : Fin 512 => h (ix3 b t ⟨k.val, by omega⟩)) (fun k => g (ix2 0 k)) e := by
  pointwise [rQn]
  rfl

theorem rLat_at (h : FVec Ideal S2x8192x5968 .f32) (g : FVec Ideal S1x256 .f32) (b : Fin 2) (t : Fin 8192) (e : Fin 256) :
    rLat h g (ix3 b t e) = rn c256 (fun k : Fin 256 => h (ix3 b t ⟨512 + k.val, by omega⟩)) (fun k => g (ix2 0 k)) e := by
  pointwise [rLat]
  rfl

/-- Cosine and sine of a position's angles. -/
def co (a : FVec Ideal S8192x32 .f32) (t : Fin 8192) (i : Fin 32) : EReal := Ideal.cos (a (ix2 t i))
def si (a : FVec Ideal S8192x32 .f32) (t : Fin 8192) (i : Fin 32) : EReal := Ideal.sin (a (ix2 t i))

theorem rRopeK_at (h : FVec Ideal S2x8192x5968 .f32) (a : FVec Ideal S8192x32 .f32) (b : Fin 2) (t : Fin 8192) (l : Fin 64) :
    rRopeK h a (ix3 b t l) = rot (co a t) (si a t) (fun i => h (ix3 b t ⟨768 + i.val, by omega⟩)) (fun i => h (ix3 b t ⟨768 + (32 + i.val), by omega⟩)) l := by
  refine eq_rot (fun l => rRopeK h a (ix3 b t l)) _ _ _ _ (fun r => ?_) (fun r => ?_) l
  · skip
    pointwise [rRopeK]
    rfl
  · skip
    pointwise [rRopeK]
    rfl

theorem rQ_at (h : FVec Ideal S2x8192x5968 .f32) (g : FVec Ideal S1x512 .f32) (w : FVec Ideal S1x512x1536 .f32) (b : Fin 2) (t : Fin 8192) (n : Fin 8) (e : Fin 192) :
    rQ h g w (ix4 b t n e) = rw1 c512 (fun k : Fin 512 => h (ix3 b t ⟨k.val, by omega⟩)) (fun k => g (ix2 0 k)) (fun k => w (ix3 0 k ⟨n.val * 192 + e.val, by omega⟩)) := by
  have hq : ∀ k, rQn h g (ix3 b t k) = rn c512 (fun k : Fin 512 => h (ix3 b t ⟨k.val, by omega⟩)) (fun k => g (ix2 0 k)) k := fun k => rQn_at h g b t k
  rw [rQ]
  generalize rQn h g = qn at hq ⊢
  pointwise
  simp only [hq]
  rfl

theorem rRopeQ_at (q : FVec Ideal S2x8192x8x192 .f32) (a : FVec Ideal S8192x32 .f32) (b : Fin 2) (t : Fin 8192) (n : Fin 8) (l : Fin 64) :
    rRopeQ q a (ix4 b t n l) = rot (co a t) (si a t) (fun i => q (ix4 b t n ⟨128 + i.val, by omega⟩)) (fun i => q (ix4 b t n ⟨128 + (32 + i.val), by omega⟩)) l := by
  refine eq_rot (fun l => rRopeQ q a (ix4 b t n l)) _ _ _ _ (fun r => ?_) (fun r => ?_) l
  · skip
    pointwise [rRopeQ]
    rfl
  · skip
    pointwise [rRopeQ]
    rfl

theorem rKv_at (l : FVec Ideal S2x8192x256 .f32) (w : FVec Ideal S1x256x2048 .f32) (b : Fin 2) (t : Fin 8192) (n : Fin 8) (e : Fin 256) :
    rKv l w (ix4 b t n e) = ∑ k, l (ix3 b t k) * w (ix3 0 k ⟨n.val * 256 + e.val, by omega⟩) := by
  pointwise [rKv]

theorem oQ_at (q : FVec Ideal S2x8192x8x192 .f32) (r : FVec Ideal S2x8192x8x64 .f32) (b : Fin 2) (t : Fin 8192) (j : Fin 2048) :
    oQ q r (ix3 b t j) = if h : j.val % 256 < 128 then q (ix4 b t ⟨j.val / 256, by omega⟩ ⟨j.val % 256, by omega⟩) else r (ix4 b t ⟨j.val / 256, by omega⟩ ⟨j.val % 64, by omega⟩) := by
  pointwise [oQ]
  split_ifs <;> first | rfl | (exfalso; omega) | exact congrArg (fun s => r (ix4 b t ⟨j.val / 256, by omega⟩ s)) (Fin.ext (by first | omega | (simp only <;> omega)))

theorem oK_at (kv : FVec Ideal S2x8192x8x256 .f32) (r : FVec Ideal S2x8192x64 .f32) (b : Fin 2) (t : Fin 8192) (j : Fin 2048) :
    oK kv r (ix3 b t j) = if h : j.val % 256 < 128 then kv (ix4 b t ⟨j.val / 256, by omega⟩ ⟨j.val % 256, by omega⟩) else if j.val % 128 < 64 then r (ix3 b t ⟨j.val % 64, by omega⟩) else 0 := by
  pointwise [oK]
  by_cases q0 : j.val % 256 < 128
  · rw [dif_pos q0, dif_pos q0]
  rw [dif_neg q0, dif_neg q0]
  by_cases q1 : j.val % 256 - 128 < 64
  · have e : j.val % 256 - 128 = j.val % 64 := by omega
    refine (dif_pos q1).trans (Eq.trans ?_ (if_pos (by omega)).symm)
    exact congrArg (fun s => r (ix3 b t s)) (Fin.ext e)
  · exact (dif_neg q1).trans (if_neg (by omega)).symm

theorem oV_at (kv : FVec Ideal S2x8192x8x256 .f32) (b : Fin 2) (t : Fin 8192) (j : Fin 1024) :
    oV kv (ix3 b t j) = kv (ix4 b t ⟨j.val / 128, by omega⟩ ⟨128 + j.val % 128, by omega⟩) := by
  pointwise [oV]

theorem oHin_at (h : FVec Ideal S2x8192x5968 .f32) (b : Fin 2) (t : Fin 8192) (j : Fin 6144) :
    oHin h (ix2 ⟨b.val * 8192 + t.val, by omega⟩ j) = colmap (fun s => h (ix3 b t s)) j := by
  pointwise [oHin]
  refine eq_colmap _ _ j (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_)
  · rw [dif_pos (by omega)]
  · rw [dif_neg (by omega), dif_pos (by omega)]; exact congrArg (fun s => h (ix3 b t s)) (Fin.ext (by first | omega | (simp only <;> omega)))
  · rw [dif_neg (by omega), dif_neg (by omega), dif_pos (by omega)]; exact congrArg (fun s => h (ix3 b t s)) (Fin.ext (by first | omega | (simp only <;> omega)))
  · rw [dif_neg (by omega), dif_neg (by omega), dif_neg (by omega), dif_pos (by omega)]; exact congrArg (fun s => h (ix3 b t s)) (Fin.ext (by first | omega | (simp only <;> omega)))
  · rw [dif_neg (by omega), dif_neg (by omega), dif_neg (by omega), dif_neg (by omega), dif_pos (by omega)]; exact congrArg (fun s => h (ix3 b t s)) (Fin.ext (by first | omega | (simp only <;> omega)))
  · rw [dif_neg (by omega), dif_neg (by omega), dif_neg (by omega), dif_neg (by omega), dif_neg (by omega), dif_pos (by omega)]; exact congrArg (fun s => h (ix3 b t s)) (Fin.ext (by first | omega | (simp only <;> omega)))
  · rw [dif_neg (by omega), dif_neg (by omega), dif_neg (by omega), dif_neg (by omega), dif_neg (by omega), dif_neg (by omega), dif_pos (by omega)]
  · rw [dif_neg (by omega), dif_neg (by omega), dif_neg (by omega), dif_neg (by omega), dif_neg (by omega), dif_neg (by omega), dif_neg (by omega), dif_pos (by omega)]; exact congrArg (fun s => h (ix3 b t s)) (Fin.ext (by first | omega | (simp only <;> omega)))
  · rw [dif_neg (by omega), dif_neg (by omega), dif_neg (by omega), dif_neg (by omega), dif_neg (by omega), dif_neg (by omega), dif_neg (by omega), dif_neg (by omega), dif_pos (by omega)]; exact congrArg (fun s => h (ix3 b t s)) (Fin.ext (by first | omega | (simp only <;> omega)))
  · rw [dif_neg (by omega), dif_neg (by omega), dif_neg (by omega), dif_neg (by omega), dif_neg (by omega), dif_neg (by omega), dif_neg (by omega), dif_neg (by omega), dif_neg (by omega), dif_pos (by omega)]; exact congrArg (fun s => h (ix3 b t s)) (Fin.ext (by first | omega | (simp only <;> omega)))
  · rw [dif_neg (by omega), dif_neg (by omega), dif_neg (by omega), dif_neg (by omega), dif_neg (by omega), dif_neg (by omega), dif_neg (by omega), dif_neg (by omega), dif_neg (by omega), dif_neg (by omega), dif_pos (by omega)]; exact congrArg (fun s => h (ix3 b t s)) (Fin.ext (by first | omega | (simp only <;> omega)))
  · rw [dif_neg (by omega), dif_neg (by omega), dif_neg (by omega), dif_neg (by omega), dif_neg (by omega), dif_neg (by omega), dif_neg (by omega), dif_neg (by omega), dif_neg (by omega), dif_neg (by omega), dif_neg (by omega)]; exact congrArg (fun s => h (ix3 b t s)) (Fin.ext (by first | omega | (simp only <;> omega)))

end Cert.ProjR

end
-- ==== Proof.ProjFinal.lean ====
module
public import proofs.«01_k».proof.Proof.ProjVal
public import proofs.«01_k».proof.Proof.ProjRefAt

/-!
The results of `ProjIdeal` are those of `ProjRefIdeal`.
-/

@[expose] public section

set_option maxRecDepth 16384

noncomputable section

open Idealize.ShloMosaic Idealize.ShloMosaic.TcCoe Idealize.SL.Sem

namespace Cert.ProjR

open Cert.ProjRefIdeal Cert.ProjRefIdeal.Gen Cert.Row

/-- The latent as returned. -/
def oLat (l : FVec Ideal S2x8192x256 .f32) : FVec Ideal S1x2x8192x256 .f32 :=
  broadcastInDim S1x2x8192x256 ![1, 2, 3] bcast_S2x8192x256_S1x2x8192x256_1_2_3 l

/-- The rotated lanes as returned. -/
def oKr (r : FVec Ideal S2x8192x64 .f32) : FVec Ideal S1x2x8192x64 .f32 :=
  broadcastInDim S1x2x8192x64 ![1, 2, 3] bcast_S2x8192x64_S1x2x8192x64_1_2_3 r

theorem oLat_at (l : FVec Ideal S2x8192x256 .f32) (b : Fin 2) (t : Fin 8192) (e : Fin 256) : oLat l (ix4 0 b t e) = l (ix3 b t e) := by
  pointwise [oLat]

theorem oKr_at (r : FVec Ideal S2x8192x64 .f32) (b : Fin 2) (t : Fin 8192) (e : Fin 64) : oKr r (ix4 0 b t e) = r (ix3 b t e) := by
  pointwise [oKr]

end Cert.ProjR

namespace Cert.ProjX

open Cert.ProjIdeal Cert.ProjIdeal.Gen Cert.Row Cert.ProjR

section
variable (a0 : FVec Ideal S2x8192x1024 .f32) (a1 : FVec Ideal S1x1024 .f32) (a2 : FVec Ideal S1x1024x5968 .f32) (a3 : FVec Ideal S1x512 .f32) (a4 : FVec Ideal S1x256 .f32) (a5 : FVec Ideal S1x512x1536 .f32) (b : Fin 2) (t : Fin 8192)

theorem in_ref (s : Fin 5968) : rIn (F := Ideal) a0 a1 a2 (ix3 b t s) = hV a0 a1 a2 b t s := rIn_at a0 a1 a2 b t s

theorem ang_ref (i : Fin 32) : rAng (F := Ideal) (ix2 t i) = h_v34 (ix2 t i) := rfl

theorem co_ref (i : Fin 32) : ProjR.co (rAng (F := Ideal)) t i = co t i := congrArg Ideal.cos (ang_ref t i)

theorem si_ref (i : Fin 32) : ProjR.si (rAng (F := Ideal)) t i = si t i := congrArg Ideal.sin (ang_ref t i)

theorem hin_ref (j : Fin 6144) : oHin (F := Ideal) (rIn a0 a1 a2) (ix2 ⟨b.val * 8192 + t.val, by omega⟩ j) = colmap (hV a0 a1 a2 b t) j :=
  (oHin_at _ b t j).trans (colmap_congr (fun s => in_ref a0 a1 a2 b t s) j)

theorem lat_ref (e : Fin 256) : rLat (F := Ideal) (rIn a0 a1 a2) a4 (ix3 b t e) = latV a0 a1 a2 a4 b t e :=
  (rLat_at _ a4 b t e).trans (rn_congr _ (fun _ => in_ref a0 a1 a2 b t _) (fun _ => rfl) e)

theorem kr_ref (l : Fin 64) : rRopeK (F := Ideal) (rIn a0 a1 a2) rAng (ix3 b t l) = krV a0 a1 a2 b t l :=
  (rRopeK_at _ _ b t l).trans (rot_congr (co_ref t) (si_ref t) (fun _ => in_ref a0 a1 a2 b t _) (fun _ => in_ref a0 a1 a2 b t _) l)

theorem qq_ref (n : Fin 8) (e : Fin 192) :
    rQ (F := Ideal) (rIn a0 a1 a2) a3 a5 (ix4 b t n e) = qV a0 a1 a2 a3 a5 b t ⟨n.val * 192 + e.val, by omega⟩ :=
  (rQ_at _ a3 a5 b t n e).trans (rw1_congr _ (fun _ => in_ref a0 a1 a2 b t _) (fun _ => rfl) (fun _ => rfl))

theorem q_ref (j : Fin 2048) :
    oQ (F := Ideal) (rQ (rIn a0 a1 a2) a3 a5) (rRopeQ (rQ (rIn a0 a1 a2) a3 a5) rAng) (ix3 b t j) = qSpec (qV a0 a1 a2 a3 a5 b t) (co t) (si t) j := by
  rw [oQ_at]
  unfold qSpec
  by_cases h : j.val % 256 < 128
  · rw [dif_pos h, dif_pos h]
    exact qq_ref a0 a1 a2 a3 a5 b t _ _
  · rw [dif_neg h, dif_neg h]
    exact (rRopeQ_at _ _ b t _ _).trans (rot_congr (co_ref t) (si_ref t) (fun _ => qq_ref a0 a1 a2 a3 a5 b t _ _) (fun _ => qq_ref a0 a1 a2 a3 a5 b t _ _) _)

theorem kv_ref (a6 : FVec Ideal S1x256x2048 .f32) (n : Fin 8) (e : Fin 256) :
    rKv (F := Ideal) (rLat (rIn a0 a1 a2) a4) a6 (ix4 b t n e) = ∑ k, latV a0 a1 a2 a4 b t k * a6 (ix3 0 k ⟨n.val * 256 + e.val, by omega⟩) :=
  (rKv_at _ a6 b t n e).trans (Finset.sum_congr rfl fun k _ => congrArg₂ (· * ·) (lat_ref a0 a1 a2 a4 b t k) rfl)

theorem k_ref (a6 : FVec Ideal S1x256x2048 .f32) (j : Fin 2048) :
    oK (F := Ideal) (rKv (rLat (rIn a0 a1 a2) a4) a6) (rRopeK (rIn a0 a1 a2) rAng) (ix3 b t j)
      = if h : j.val % 256 < 128 then ∑ k, latV a0 a1 a2 a4 b t k * a6 (ix3 0 k ⟨j.val / 256 * 256 + j.val % 256, by omega⟩)
        else if j.val % 128 < 64 then krV a0 a1 a2 b t ⟨j.val % 64, by omega⟩ else 0 := by
  rw [oK_at]
  by_cases h : j.val % 256 < 128
  · rw [dif_pos h, dif_pos h]
    exact kv_ref a0 a1 a2 a4 b t a6 _ _
  · rw [dif_neg h, dif_neg h]
    exact if_congr Iff.rfl (kr_ref a0 a1 a2 b t _) rfl

theorem v_ref (a6 : FVec Ideal S1x256x2048 .f32) (j : Fin 1024) :
    oV (F := Ideal) (rKv (rLat (rIn a0 a1 a2) a4) a6) (ix3 b t j)
      = ∑ k, latV a0 a1 a2 a4 b t k * a6 (ix3 0 k ⟨j.val / 128 * 256 + (128 + j.val % 128), by omega⟩) :=
  (oV_at _ b t j).trans (kv_ref a0 a1 a2 a4 b t a6 _ _)

end

section
/-- What the last host operations make of the call's arrays. -/
def o_lat (x : FVec Ideal S16384x256 .f32) : FVec Ideal S1x2x8192x256 .f32 :=
  broadcastInDim S1x2x8192x256 ![1, 2, 3] bcast_S2x8192x256_S1x2x8192x256_1_2_3 (shapeCast S2x8192x256 x shapeCasts_S16384x256_S2x8192x256)

def o_kr (x : FVec Ideal S16384x128 .f32) : FVec Ideal S1x2x8192x64 .f32 :=
  broadcastInDim S1x2x8192x64 ![1, 2, 3] bcast_S2x8192x64_S1x2x8192x64_1_2_3
    (shapeCast S2x8192x64 (extractStridedSlice S16384x64 ![0, 0] x slices_S16384x128_S16384x64_0_0) shapeCasts_S16384x64_S2x8192x64)

def o_q (x : FVec Ideal S16384x2048 .bf16) : FVec Ideal S2x8192x2048 .bf16 := shapeCast S2x8192x2048 x shapeCasts_S16384x2048_S2x8192x2048

def o_v (x : FVec Ideal S16384x1024 .bf16) : FVec Ideal S2x8192x1024 .bf16 := shapeCast S2x8192x1024 x shapeCasts_S16384x1024_S2x8192x1024

theorem o_lat_at (x : FVec Ideal S16384x256 .f32) (b : Fin 2) (t : Fin 8192) (e : Fin 256) : o_lat x (ix4 0 b t e) = x (ix2 ⟨b.val * 8192 + t.val, by omega⟩ e) := by
  pointwise [o_lat]

theorem o_kr_at (x : FVec Ideal S16384x128 .f32) (b : Fin 2) (t : Fin 8192) (e : Fin 64) : o_kr x (ix4 0 b t e) = x (ix2 ⟨b.val * 8192 + t.val, by omega⟩ ⟨e.val, by omega⟩) := by
  pointwise [o_kr]

theorem o_q_at (x : FVec Ideal S16384x2048 .bf16) (b : Fin 2) (t : Fin 8192) (e : Fin 2048) : o_q x (ix3 b t e) = x (ix2 ⟨b.val * 8192 + t.val, by omega⟩ e) := by
  pointwise [o_q]

theorem o_v_at (x : FVec Ideal S16384x1024 .bf16) (b : Fin 2) (t : Fin 8192) (e : Fin 1024) : o_v x (ix3 b t e) = x (ix2 ⟨b.val * 8192 + t.val, by omega⟩ e) := by
  pointwise [o_v]

end

section
variable (m : (ℓ : Loc nD τ sig) → Buf (Elt Ideal) ℓ) (ρ : Dev nD → PrngReg) (c : Dev nD)

theorem W2_hin : W2 m ρ c (Proc.devRef .tc main_v19) = (fun i => colOf (R := 16384) (h_v0 (m ((c.tc : Thread nD τ).loc main_arg0))) (h_v2 (m ((c.tc : Thread nD τ).loc main_arg1))) (h_v18 (m ((c.tc : Thread nD τ).loc main_arg2))) (i 0) (i 1) : S16384x6144.Idx → EReal) := by
  refine (W2_arr m ρ c 3).trans ((hin_eq (V1 m ρ) c).trans ?_)
  rw [V1_v0, V1_v2, V1_v18]

theorem h_at (b : Fin 2) (t : Fin 8192) (k : Fin 896) :
    V3 m ρ c main_v43 (ix2 ⟨b.val * 8192 + t.val, by omega⟩ k) = colmap (hV (m ((c.tc : Thread nD τ).loc main_arg0)) (m ((c.tc : Thread nD τ).loc main_arg1)) (m ((c.tc : Thread nD τ).loc main_arg2)) b t) (col896 k) := by
  rw [V3_v43, W2_hin]
  refine Eq.trans ?_ (hin_at _ _ _ b t _)
  pointwise [h_v43]
  rfl

theorem g_q : V3 m ρ c main_v40 = h_v40 (m ((c.tc : Thread nD τ).loc main_arg3)) := (V3_v40 m ρ c).trans (congrArg h_v40 (W2_args m ρ c main_arg3 (by decide)))

theorem g_k : V3 m ρ c main_v42 = h_v42 (m ((c.tc : Thread nD τ).loc main_arg4)) := (V3_v42 m ρ c).trans (congrArg h_v42 (W2_args m ρ c main_arg4 (by decide)))

theorem w_q : V3 m ρ c main_v53 = h_v53 (m ((c.tc : Thread nD τ).loc main_arg5)) := (V3_v53 m ρ c).trans (congrArg h_v53 (W2_args m ρ c main_arg5 (by decide)))

theorem w_kv : V3 m ρ c main_v61 = h_v61 (m ((c.tc : Thread nD τ).loc main_arg6)) := (V3_v61 m ρ c).trans (congrArg h_v61 (W2_args m ρ c main_arg6 (by decide)))

theorem c_at (b : Fin 2) (t : Fin 8192) (l : Fin 128) : V3 m ρ c main_v38 (ix2 ⟨(b.val * 8192 + t.val) % 8192, by omega⟩ l) = tab (co t) (si t) l := by
  rw [V3_v38]
  exact (congrArg (fun r => h_v38 (ix2 r l)) (Fin.ext (by simp only <;> omega))).trans (cs_at t l)

theorem f_hin : W5 m ρ c (Proc.devRef .tc main_v19) = oHin (F := Ideal) (rIn (m ((c.tc : Thread nD τ).loc main_arg0)) (m ((c.tc : Thread nD τ).loc main_arg1)) (m ((c.tc : Thread nD τ).loc main_arg2))) := by
  refine (W5_of m ρ c main_v19 (by decide)).trans ((W4_of m ρ c main_v19 (by decide)).trans ((W3_of m ρ c main_v19 (by decide)).trans ((W2_hin m ρ c).trans ?_)))
  funext y
  obtain ⟨r, j, rfl⟩ : ∃ (y1 : Fin 16384) (y2 : Fin 6144), y = ix2 y1 y2 := ⟨y 0, y 1, eq_ix2 y⟩
  obtain ⟨b, t, rfl⟩ : ∃ (b : Fin 2) (t : Fin 8192), r = ⟨b.val * 8192 + t.val, by omega⟩ :=
    ⟨⟨r.val / 8192, by omega⟩, ⟨r.val % 8192, by omega⟩, Fin.ext (by simp only <;> omega)⟩
  exact (hin_at _ _ _ b t j).trans (hin_ref _ _ _ b t j).symm

theorem f_lat : W5 m ρ c (Proc.devRef .tc main_v64) = oLat (rLat (F := Ideal) (rIn (m ((c.tc : Thread nD τ).loc main_arg0)) (m ((c.tc : Thread nD τ).loc main_arg1)) (m ((c.tc : Thread nD τ).loc main_arg2))) (m ((c.tc : Thread nD τ).loc main_arg4))) := by
  have h : W5 m ρ c (Proc.devRef .tc main_v64) = o_lat (W4 m ρ c (Proc.devRef .tc main_v62_1)) := by
    show StableHlo.after hostOps2 (W4 m ρ c) (Proc.devRef .tc main_v64) = _
    after_results_simp <;> (try dsimp only [Matrix.cons_val]) <;> (try after_results_simp) <;> rfl
  have h' := (W4_arr m ρ c 7).trans (lat_arr (V3 m ρ) c)
  refine h.trans ((congrArg o_lat h').trans ?_)
  funext y
  obtain ⟨z, b, t, j, rfl⟩ : ∃ (y0 : Fin 1) (y1 : Fin 2) (y2 : Fin 8192) (y3 : Fin 256), y = ix4 y0 y1 y2 y3 := ⟨y 0, y 1, y 2, y 3, eq_ix4 y⟩
  obtain rfl : z = 0 := Subsingleton.elim _ _
  refine (o_lat_at _ b t j).trans ?_
  rw [g_k m ρ c]
  exact (lat_val (m ((c.tc : Thread nD τ).loc main_arg0)) (m ((c.tc : Thread nD τ).loc main_arg1)) (m ((c.tc : Thread nD τ).loc main_arg2)) (m ((c.tc : Thread nD τ).loc main_arg4)) b t (V3 m ρ c main_v43) ⟨b.val * 8192 + t.val, by omega⟩ (h_at m ρ c b t) j).trans ((oLat_at _ b t j).trans (lat_ref (m ((c.tc : Thread nD τ).loc main_arg0)) (m ((c.tc : Thread nD τ).loc main_arg1)) (m ((c.tc : Thread nD τ).loc main_arg2)) (m ((c.tc : Thread nD τ).loc main_arg4)) b t j)).symm

theorem f_kr : W5 m ρ c (Proc.devRef .tc main_v67) = oKr (rRopeK (F := Ideal) (rIn (m ((c.tc : Thread nD τ).loc main_arg0)) (m ((c.tc : Thread nD τ).loc main_arg1)) (m ((c.tc : Thread nD τ).loc main_arg2))) rAng) := by
  have h : W5 m ρ c (Proc.devRef .tc main_v67) = o_kr (W4 m ρ c (Proc.devRef .tc main_v62_2)) := by
    show StableHlo.after hostOps2 (W4 m ρ c) (Proc.devRef .tc main_v67) = _
    after_results_simp <;> (try dsimp only [Matrix.cons_val]) <;> (try after_results_simp) <;> rfl
  have h' := (W4_arr m ρ c 8).trans (kr_arr (V3 m ρ) c)
  refine h.trans ((congrArg o_kr h').trans ?_)
  funext y
  obtain ⟨z, b, t, j, rfl⟩ : ∃ (y0 : Fin 1) (y1 : Fin 2) (y2 : Fin 8192) (y3 : Fin 64), y = ix4 y0 y1 y2 y3 := ⟨y 0, y 1, y 2, y 3, eq_ix4 y⟩
  obtain rfl : z = 0 := Subsingleton.elim _ _
  refine (o_kr_at _ b t j).trans ?_
  exact ((kr_val (m ((c.tc : Thread nD τ).loc main_arg0)) (m ((c.tc : Thread nD τ).loc main_arg1)) (m ((c.tc : Thread nD τ).loc main_arg2)) b t (V3 m ρ c main_v43) ⟨b.val * 8192 + t.val, by omega⟩ _ (h_at m ρ c b t) (c_at m ρ c b t) ⟨j.val, by omega⟩).trans ((if_pos (by simp only <;> omega)).trans (congrArg _ (Fin.ext (by simp only <;> omega))))).trans ((oKr_at _ b t j).trans (kr_ref (m ((c.tc : Thread nD τ).loc main_arg0)) (m ((c.tc : Thread nD τ).loc main_arg1)) (m ((c.tc : Thread nD τ).loc main_arg2)) b t j)).symm

theorem f_q : W5 m ρ c (Proc.devRef .tc main_v68) = oQ (F := Ideal) (rQ (rIn (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg5))) (rRopeQ (rQ (rIn (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg5))) rAng) := by
  have h : W5 m ρ c (Proc.devRef .tc main_v68) = o_q (W4 m ρ c (Proc.devRef .tc main_v62_0)) := by
    show StableHlo.after hostOps2 (W4 m ρ c) (Proc.devRef .tc main_v68) = _
    after_results_simp <;> (try dsimp only [Matrix.cons_val]) <;> (try after_results_simp) <;> rfl
  have h' := (W4_arr m ρ c 6).trans (q_arr (V3 m ρ) c)
  refine h.trans ((congrArg o_q h').trans ?_)
  funext y
  obtain ⟨b, t, j, rfl⟩ : ∃ (y1 : Fin 2) (y2 : Fin 8192) (y3 : Fin 2048), y = ix3 y1 y2 y3 := ⟨y 0, y 1, y 2, eq_ix3 y⟩
  refine (o_q_at _ b t j).trans ?_
  rw [g_q m ρ c, w_q m ρ c]
  exact (q_val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) b t (V3 m ρ c main_v43) ⟨b.val * 8192 + t.val, by omega⟩ _ (h_at m ρ c b t) (c_at m ρ c b t) j).trans (q_ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) b t j).symm

theorem f_k : W5 m ρ c (Proc.devRef .tc main_v69) = oK (F := Ideal) (rKv (rLat (rIn (m ((c.tc : Thread nD τ).loc main_arg0)) (m ((c.tc : Thread nD τ).loc main_arg1)) (m ((c.tc : Thread nD τ).loc main_arg2))) (m ((c.tc : Thread nD τ).loc main_arg4))) (m ((c.tc : Thread nD τ).loc main_arg6))) (rRopeK (rIn (m ((c.tc : Thread nD τ).loc main_arg0)) (m ((c.tc : Thread nD τ).loc main_arg1)) (m ((c.tc : Thread nD τ).loc main_arg2))) rAng) := by
  have h : W5 m ρ c (Proc.devRef .tc main_v69) = o_q (W4 m ρ c (Proc.devRef .tc main_v62_3)) := by
    show StableHlo.after hostOps2 (W4 m ρ c) (Proc.devRef .tc main_v69) = _
    after_results_simp <;> (try dsimp only [Matrix.cons_val]) <;> (try after_results_simp) <;> rfl
  have h' := (W4_arr m ρ c 9).trans (k_arr (V3 m ρ) c)
  refine h.trans ((congrArg o_q h').trans ?_)
  funext y
  obtain ⟨b, t, j, rfl⟩ : ∃ (y1 : Fin 2) (y2 : Fin 8192) (y3 : Fin 2048), y = ix3 y1 y2 y3 := ⟨y 0, y 1, y 2, eq_ix3 y⟩
  refine (o_q_at _ b t j).trans ?_
  rw [g_k m ρ c, w_kv m ρ c]
  exact (k_val (m ((c.tc : Thread nD τ).loc main_arg0)) (m ((c.tc : Thread nD τ).loc main_arg1)) (m ((c.tc : Thread nD τ).loc main_arg2)) (m ((c.tc : Thread nD τ).loc main_arg4)) b t (V3 m ρ c main_v43) ⟨b.val * 8192 + t.val, by omega⟩ _ (h_at m ρ c b t) (c_at m ρ c b t) (m ((c.tc : Thread nD τ).loc main_arg6)) j).trans (k_ref (m ((c.tc : Thread nD τ).loc main_arg0)) (m ((c.tc : Thread nD τ).loc main_arg1)) (m ((c.tc : Thread nD τ).loc main_arg2)) (m ((c.tc : Thread nD τ).loc main_arg4)) b t (m ((c.tc : Thread nD τ).loc main_arg6)) j).symm

theorem f_v : W5 m ρ c (Proc.devRef .tc main_v70) = oV (F := Ideal) (rKv (rLat (rIn (m ((c.tc : Thread nD τ).loc main_arg0)) (m ((c.tc : Thread nD τ).loc main_arg1)) (m ((c.tc : Thread nD τ).loc main_arg2))) (m ((c.tc : Thread nD τ).loc main_arg4))) (m ((c.tc : Thread nD τ).loc main_arg6))) := by
  have h : W5 m ρ c (Proc.devRef .tc main_v70) = o_v (W4 m ρ c (Proc.devRef .tc main_v62_4)) := by
    show StableHlo.after hostOps2 (W4 m ρ c) (Proc.devRef .tc main_v70) = _
    after_results_simp <;> (try dsimp only [Matrix.cons_val]) <;> (try after_results_simp) <;> rfl
  have h' := (W4_arr m ρ c 10).trans (v_arr (V3 m ρ) c)
  refine h.trans ((congrArg o_v h').trans ?_)
  funext y
  obtain ⟨b, t, j, rfl⟩ : ∃ (y1 : Fin 2) (y2 : Fin 8192) (y3 : Fin 1024), y = ix3 y1 y2 y3 := ⟨y 0, y 1, y 2, eq_ix3 y⟩
  refine (o_v_at _ b t j).trans ?_
  rw [g_k m ρ c, w_kv m ρ c]
  exact (v_val (m ((c.tc : Thread nD τ).loc main_arg0)) (m ((c.tc : Thread nD τ).loc main_arg1)) (m ((c.tc : Thread nD τ).loc main_arg2)) (m ((c.tc : Thread nD τ).loc main_arg4)) b t (V3 m ρ c main_v43) ⟨b.val * 8192 + t.val, by omega⟩ (h_at m ρ c b t) (m ((c.tc : Thread nD τ).loc main_arg6)) j).trans (v_ref (m ((c.tc : Thread nD τ).loc main_arg0)) (m ((c.tc : Thread nD τ).loc main_arg1)) (m ((c.tc : Thread nD τ).loc main_arg2)) (m ((c.tc : Thread nD τ).loc main_arg4)) b t (m ((c.tc : Thread nD τ).loc main_arg6)) j).symm

end

end Cert.ProjX

end
-- ==== Proof.ProjClaims.lean ====
module
public import proofs.«01_k».proof.Proof.ProjFinal
public import proofs.«01_k».proof.Proof.ProjRun
public import proofs.«01_k».proof.Proof.Gen.Proj.Frame
public import proofs.«01_k».proof.Proof.Gen.ProjRefIdeal.Run
public import proofs.«01_k».proof.Defs
public import Idealize.ShloMosaic.Lib.Quiescent

/-!
The claims about `Proj`.
-/

@[expose] public section

set_option maxRecDepth 16384

noncomputable section

open Idealize.ShloMosaic Idealize.ShloMosaic.TcCoe Idealize.SL.Sem

namespace Cert.ProjC

open Cert.ProjR

theorem frame_p : Cert.quiescent_Proj := fun m ρ _ => Cert.Proj.Gen.frame m ρ

theorem frame_pi : Cert.quiescent_ProjIdeal := fun m ρ _ => Cert.ProjIdeal.Gen.frame m ρ

theorem frame_ri : Cert.quiescent_ProjRefIdeal := fun m ρ _ =>
  (θ_run Cert.ProjRefIdeal.defs _ _).mono
    (fun r h => ⟨fun c => (h c).2.2.2.2.2.2, Idealize.ShloMosaic.sem_eq_zero_of_no_sems (by decide) r.2⟩)
    (Cert.ProjRefIdeal.Value.run m ρ)

theorem preserves : Cert.preserves_Proj_ProjIdeal := trivial

/-- From the same arguments the two programs end with the same arrays. -/
theorem algebraic : Cert.algebraic_ProjIdeal_ProjRefIdeal := by
  intro m g m' g' _ hag
  refine ⟨fun c => oLat (rLat (F := Ideal) (rIn (m ((c.tc : Thread _ _).loc Cert.ProjIdeal.main_arg0)) (m ((c.tc : Thread _ _).loc Cert.ProjIdeal.main_arg1)) (m ((c.tc : Thread _ _).loc Cert.ProjIdeal.main_arg2))) (m ((c.tc : Thread _ _).loc Cert.ProjIdeal.main_arg4))), fun c => oKr (rRopeK (F := Ideal) (rIn (m ((c.tc : Thread _ _).loc Cert.ProjIdeal.main_arg0)) (m ((c.tc : Thread _ _).loc Cert.ProjIdeal.main_arg1)) (m ((c.tc : Thread _ _).loc Cert.ProjIdeal.main_arg2))) rAng), fun c => oQ (F := Ideal) (rQ (rIn (m ((c.tc : Thread _ _).loc Cert.ProjIdeal.main_arg0)) (m ((c.tc : Thread _ _).loc Cert.ProjIdeal.main_arg1)) (m ((c.tc : Thread _ _).loc Cert.ProjIdeal.main_arg2))) (m ((c.tc : Thread _ _).loc Cert.ProjIdeal.main_arg3)) (m ((c.tc : Thread _ _).loc Cert.ProjIdeal.main_arg5))) (rRopeQ (rQ (rIn (m ((c.tc : Thread _ _).loc Cert.ProjIdeal.main_arg0)) (m ((c.tc : Thread _ _).loc Cert.ProjIdeal.main_arg1)) (m ((c.tc : Thread _ _).loc Cert.ProjIdeal.main_arg2))) (m ((c.tc : Thread _ _).loc Cert.ProjIdeal.main_arg3)) (m ((c.tc : Thread _ _).loc Cert.ProjIdeal.main_arg5))) rAng), fun c => oK (F := Ideal) (rKv (rLat (rIn (m ((c.tc : Thread _ _).loc Cert.ProjIdeal.main_arg0)) (m ((c.tc : Thread _ _).loc Cert.ProjIdeal.main_arg1)) (m ((c.tc : Thread _ _).loc Cert.ProjIdeal.main_arg2))) (m ((c.tc : Thread _ _).loc Cert.ProjIdeal.main_arg4))) (m ((c.tc : Thread _ _).loc Cert.ProjIdeal.main_arg6))) (rRopeK (rIn (m ((c.tc : Thread _ _).loc Cert.ProjIdeal.main_arg0)) (m ((c.tc : Thread _ _).loc Cert.ProjIdeal.main_arg1)) (m ((c.tc : Thread _ _).loc Cert.ProjIdeal.main_arg2))) rAng), fun c => oV (F := Ideal) (rKv (rLat (rIn (m ((c.tc : Thread _ _).loc Cert.ProjIdeal.main_arg0)) (m ((c.tc : Thread _ _).loc Cert.ProjIdeal.main_arg1)) (m ((c.tc : Thread _ _).loc Cert.ProjIdeal.main_arg2))) (m ((c.tc : Thread _ _).loc Cert.ProjIdeal.main_arg4))) (m ((c.tc : Thread _ _).loc Cert.ProjIdeal.main_arg6))), fun c => oHin (F := Ideal) (rIn (m ((c.tc : Thread _ _).loc Cert.ProjIdeal.main_arg0)) (m ((c.tc : Thread _ _).loc Cert.ProjIdeal.main_arg1)) (m ((c.tc : Thread _ _).loc Cert.ProjIdeal.main_arg2))), ?_, ?_⟩
  · refine (θ_run Cert.ProjIdeal.defs _ _).mono (fun r h c => ?_) (Cert.ProjX.run m g)
    have get := fun b hb => (h.1 c (Proc.devRef .tc b) (Cert.ProjIdeal.Gen.mem_uc b hb))
    exact ⟨(get Cert.ProjIdeal.main_v64 (by decide)).trans (Cert.ProjX.f_lat m g c), (get Cert.ProjIdeal.main_v67 (by decide)).trans (Cert.ProjX.f_kr m g c), (get Cert.ProjIdeal.main_v68 (by decide)).trans (Cert.ProjX.f_q m g c), (get Cert.ProjIdeal.main_v69 (by decide)).trans (Cert.ProjX.f_k m g c), (get Cert.ProjIdeal.main_v70 (by decide)).trans (Cert.ProjX.f_v m g c), (get Cert.ProjIdeal.main_v19 (by decide)).trans (Cert.ProjX.f_hin m g c),
      (get Cert.ProjIdeal.main_arg0 (by decide)).trans (Cert.ProjIdeal.Gen.W5_main_arg0 m g c), (get Cert.ProjIdeal.main_arg1 (by decide)).trans (Cert.ProjIdeal.Gen.W5_main_arg1 m g c), (get Cert.ProjIdeal.main_arg2 (by decide)).trans (Cert.ProjIdeal.Gen.W5_main_arg2 m g c), (get Cert.ProjIdeal.main_arg3 (by decide)).trans (Cert.ProjIdeal.Gen.W5_main_arg3 m g c), (get Cert.ProjIdeal.main_arg4 (by decide)).trans (Cert.ProjIdeal.Gen.W5_main_arg4 m g c), (get Cert.ProjIdeal.main_arg5 (by decide)).trans (Cert.ProjIdeal.Gen.W5_main_arg5 m g c), (get Cert.ProjIdeal.main_arg6 (by decide)).trans (Cert.ProjIdeal.Gen.W5_main_arg6 m g c)⟩
  · refine (θ_run Cert.ProjRefIdeal.defs _ _).mono (fun r h c => ?_) (Cert.ProjRefIdeal.Value.run m' g')
    obtain ⟨h0, h1, h2, h3, h4, h5, h6⟩ := hag c
    obtain ⟨elat, ekr, eq, ek, ev, ehin, hargs⟩ := h c
    refine ⟨elat.trans ?_, ekr.trans ((Cert.ProjR.kr_res m' c).trans ?_), eq.trans ((Cert.ProjR.q_res m' c).trans ?_), ek.trans ((Cert.ProjR.k_res m' c).trans ?_), ev.trans ((Cert.ProjR.v_res m' c).trans ?_), ehin.trans ((Cert.ProjR.hin_res m' c).trans ?_), hargs⟩
    · rw [h0, h1, h2, h4]
      rfl
    · rw [h0, h1, h2]
      rfl
    · rw [h0, h1, h2, h3, h5]
    · rw [h0, h1, h2, h4, h6]
    · rw [h0, h1, h2, h4, h6]
    · rw [h0, h1, h2]

end Cert.ProjC

end
-- ==== Proof.NextRun.lean ====
module
public import proofs.«01_k».proof.Proof.Gen.NextIdeal.Frame

/-!
The run of `NextIdeal`: every weakly fair execution ends with each buffer at what the last stretch of host operations
leaves, so the results can be read besides the arguments.
-/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.NextX

open Cert.NextIdeal Cert.NextIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The generated launch over the segments, with the whole last valuation kept. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.NextX

end
-- ==== Proof.NextIn.lean ====
module
public import proofs.«01_k».proof.Proof.NextRun
public import proofs.«01_k».proof.Proof.Rows
public import Idealize.ShloMosaic.Lib.Pipeline.ValueKit

/-!
The input projection of `NextIdeal`: what its region leaves, at an index.
-/

@[expose] public section

set_option maxRecDepth 16384

noncomputable section

open Idealize.ShloMosaic Idealize.ShloMosaic.TcCoe Idealize.SL.Sem

namespace Cert.NextX

open Cert.NextIdeal Cert.NextIdeal.Gen Cert.Row

/-- One token's normed row against one column. -/
def colOf {R : ℕ} (X : (⟨2, ![R, 1024]⟩ : Shape).Idx → EReal) (g : S1x1024.Idx → EReal) (W : S1024x6144.Idx → EReal) (r : Fin R) (j : Fin 6144) : EReal :=
  rw1 c1024 (fun k => X (ix2 r k)) (fun k => g (ix2 0 k)) (fun k => W (ix2 k j))

theorem pay_a (x0 : Vec Ideal S256x1024 .f32) (x1 : Vec Ideal S1x1024 .f32) (w : Vec Ideal S1024x1536 .bf16) (r : Fin 256) (d : Fin 1536) :
    k0_pay3 x0 x1 w (ix2 r d) = rw1 c1024 (fun k => x0 (ix2 r k)) (fun k => x1 (ix2 0 k)) (fun k => w (ix2 k d)) := by
  pointwise [k0_pay3, k0_pay2]
  rfl

theorem pay_b (x0 : Vec Ideal S256x1024 .f32) (x1 : Vec Ideal S1x1024 .f32) (w : Vec Ideal S1024x1536 .bf16) (r : Fin 256) (d : Fin 1536) :
    k0_pay4 x0 x1 w (ix2 r d) = rw1 c1024 (fun k => x0 (ix2 r k)) (fun k => x1 (ix2 0 k)) (fun k => w (ix2 k d)) := by
  pointwise [k0_pay4, k0_pay2]
  rfl

theorem pay_c (x0 : Vec Ideal S256x1024 .f32) (x1 : Vec Ideal S1x1024 .f32) (w : Vec Ideal S1024x1536 .bf16) (r : Fin 256) (d : Fin 1536) :
    k0_pay5 x0 x1 w (ix2 r d) = rw1 c1024 (fun k => x0 (ix2 r k)) (fun k => x1 (ix2 0 k)) (fun k => w (ix2 k d)) := by
  pointwise [k0_pay5, k0_pay2]
  rfl

theorem pay_d (x0 : Vec Ideal S256x1024 .f32) (x1 : Vec Ideal S1x1024 .f32) (w : Vec Ideal S1024x1536 .bf16) (r : Fin 256) (d : Fin 1536) :
    k0_pay1 (k0_pay2 x0 x1) (k0_pay6 w) (constant S256x1536 .f32 0x00000000#32) (ix2 r d)
      = rw1 c1024 (fun k => x0 (ix2 r k)) (fun k => x1 (ix2 0 k)) (fun k => w (ix2 k d)) := by
  pointwise [k0_pay1, k0_pay2, k0_pay6]
  rfl

/-- Four tiles of 1536 columns, each right, make the whole block right. -/
theorem canon4 (T : Fin 256 → Fin 6144 → EReal) (P0 P1 P2 P3 : Vec Ideal S256x1536 .f32)
    (h0 : ∀ (r : Fin 256) (d : Fin 1536), P0 (ix2 r d) = T r ⟨0 + d.val, by omega⟩)
    (h1 : ∀ (r : Fin 256) (d : Fin 1536), P1 (ix2 r d) = T r ⟨1536 + d.val, by omega⟩)
    (h2 : ∀ (r : Fin 256) (d : Fin 1536), P2 (ix2 r d) = T r ⟨3072 + d.val, by omega⟩)
    (h3 : ∀ (r : Fin 256) (d : Fin 1536), P3 (ix2 r d) = T r ⟨4608 + d.val, by omega⟩)
    (y : S256x6144.Idx) :
    View.canon (Val := Elt Ideal) (s := S256x6144) (e := .f32) [⟨r0_9, P3⟩, ⟨r0_7, P2⟩, ⟨r0_5, P1⟩, ⟨r0_3, P0⟩] y = T (y 0) (y 1) := by
  rename' h0 => k0, h1 => k1, h2 => k2, h3 => k3
  canon_tiles x h
  · have e := k3 (x 0) (x 1)
    rw [← eq_ix2 x] at e
    refine e.trans (congrArg₂ T (Fin.ext ?_) (Fin.ext ?_)) <;> simp only <;> omega
  · have e := k2 (x 0) (x 1)
    rw [← eq_ix2 x] at e
    refine e.trans (congrArg₂ T (Fin.ext ?_) (Fin.ext ?_)) <;> simp only <;> omega
  · have e := k1 (x 0) (x 1)
    rw [← eq_ix2 x] at e
    refine e.trans (congrArg₂ T (Fin.ext ?_) (Fin.ext ?_)) <;> simp only <;> omega
  · have e := k0 (x 0) (x 1)
    rw [← eq_ix2 x] at e
    refine e.trans (congrArg₂ T (Fin.ext ?_) (Fin.ext ?_)) <;> simp only <;> omega

/-- The block of the projection. -/
theorem out0_at (x0 : Vec Ideal S256x1024 .f32) (x1 : Vec Ideal S1x1024 .f32) (x2 : Vec Ideal S1024x6144 .bf16) (r : Fin 256) (j : Fin 6144) :
    out0_3 x0 x1 x2 (ix2 r j) = colOf x0 x1 x2 r j := by
  unfold out0_3
  refine canon4 (colOf x0 x1 x2) _ _ _ _ (fun r d => ?_) (fun r d => ?_) (fun r d => ?_) (fun r d => ?_) (ix2 r j)
  · rw [pay_a]; refine rw1_congr _ (fun k => ?_) (fun k => ?_) fun k => ?_ <;> refine View.ld_unit_apply_of _ _ _ _ _ _ (fun a => ?_) <;> fin_cases a <;> simp
  · rw [pay_b]; refine rw1_congr _ (fun k => ?_) (fun k => ?_) fun k => ?_ <;> refine View.ld_unit_apply_of _ _ _ _ _ _ (fun a => ?_) <;> fin_cases a <;> simp
  · rw [pay_c]; refine rw1_congr _ (fun k => ?_) (fun k => ?_) fun k => ?_ <;> refine View.ld_unit_apply_of _ _ _ _ _ _ (fun a => ?_) <;> fin_cases a <;> simp
  · rw [pay_d]; refine rw1_congr _ (fun k => ?_) (fun k => ?_) fun k => ?_ <;> refine View.ld_unit_apply_of _ _ _ _ _ _ (fun a => ?_) <;> fin_cases a <;> simp

theorem idx0 : ∀ t : Fin grid0.N, win0_0.index t = ![t.val, 0] ∧ win0_1.index t = ![0, 0] ∧ win0_2.index t = ![0, 0] ∧ win0_3.index t = ![t.val, 0] := by
  decide +kernel

variable (V : (c : Dev nD) → (b : Ref sig .tc) → Buf (Elt Ideal) ((c : Thread nD τ).loc b))

/-- The projection's array. -/
theorem hin_eq (c : Dev nD) :
    (dat0 V c).arrAt 3 cfg0.N = (fun i => colOf (R := 512) (V c main_v0) (V c main_v2) (V c main_v18) (i 0) (i 1) : S512x6144.Idx → EReal) := by
  refine (dat0 V c).arrAt_eq_of_covers 3 _ (by decide +kernel) fun t hf y => ?_
  blk_simp [iblk0]
  rw [after0_3]
  obtain ⟨r, e, rfl⟩ : ∃ (y1 : Fin 256) (y2 : Fin 6144), y = ix2 y1 y2 := ⟨y 0, y 1, eq_ix2 y⟩
  rw [out0_at]
  refine rw1_congr _ (fun k => ?_) (fun k => ?_) fun k => ?_
  · blk_point [iblk0, (idx0 t).1, (idx0 t).2.2.2]
  · blk_point [iblk0, (idx0 t).2.1, (idx0 t).2.2.2]
  · blk_point [iblk0, (idx0 t).2.2.1, (idx0 t).2.2.2]

end Cert.NextX

end
-- ==== Proof.NextPay.lean ====
module
public import proofs.«01_k».proof.Proof.NextIn

/-!
The per-token kernel of `NextIdeal`: what each value it stores is, at an index.
-/

@[expose] public section

set_option maxRecDepth 16384

noncomputable section

open Idealize.ShloMosaic Idealize.ShloMosaic.TcCoe Idealize.SL.Sem

namespace Cert.NextX

open Cert.NextIdeal Cert.NextIdeal.Gen Cert.Row

theorem q_mat (v2 : Vec Ideal S512x512 .f32) (v4 : Vec Ideal S1x512 .f32) (w : Vec Ideal S512x2048 .bf16) (r : Fin 512) (j : Fin 2048) :
    k1_pay4 v2 v4 w (ix2 r j) = rw1 c512 (fun k => v2 (ix2 r k)) (fun k => v4 (ix2 0 k)) (fun k => w (ix2 k j)) := by
  pointwise [k1_pay4]
  rfl

theorem q0 (v2 : Vec Ideal S512x512 .f32) (v4 : Vec Ideal S1x512 .f32) (w : Vec Ideal S512x2048 .bf16) (r : Fin 512) (d : Fin 128) :
    k1_pay5 v2 v4 w (ix2 r d) = k1_pay4 v2 v4 w (ix2 r ⟨0 + d.val, by omega⟩) := by
  rw [k1_pay5]
  pointwise
  blk_ext

theorem q256 (v2 : Vec Ideal S512x512 .f32) (v4 : Vec Ideal S1x512 .f32) (w : Vec Ideal S512x2048 .bf16) (r : Fin 512) (d : Fin 128) :
    k1_pay7 v2 v4 w (ix2 r d) = k1_pay4 v2 v4 w (ix2 r ⟨256 + d.val, by omega⟩) := by
  rw [k1_pay7]
  pointwise
  blk_ext

theorem q128 (v0 : Vec Ideal S512x128 .f32) (v2 : Vec Ideal S512x512 .f32) (v4 : Vec Ideal S1x512 .f32) (w : Vec Ideal S512x2048 .bf16) (r : Fin 512) (d : Fin 128) :
    k1_pay6 v0 v2 v4 w (ix2 r d) = pair (fun l => k1_pay4 v2 v4 w (ix2 r ⟨128 + l.val, by omega⟩) * v0 (ix2 r l)) d := by
  rw [k1_pay6]
  generalize k1_pay4 v2 v4 w = v21
  pointwise [k1_pay3]
  rfl

theorem q384 (v0 : Vec Ideal S512x128 .f32) (v2 : Vec Ideal S512x512 .f32) (v4 : Vec Ideal S1x512 .f32) (w : Vec Ideal S512x2048 .bf16) (r : Fin 512) (d : Fin 128) :
    k1_pay9 (k1_pay8 v0 v2 v4 w) 64#32 (ix2 r d) = pair (fun l => k1_pay4 v2 v4 w (ix2 r ⟨384 + l.val, by omega⟩) * v0 (ix2 r l)) d := by
  rw [k1_pay8]
  generalize k1_pay4 v2 v4 w = v21
  pointwise [k1_pay9, k1_pay3]
  rfl

theorem q512 (v21 : FVec Ideal S512x2048 .f32) (r : Fin 512) (d : Fin 128) : k1_pay10 v21 (ix2 r d) = v21 (ix2 r ⟨512 + d.val, by omega⟩) := by
  pointwise [k1_pay10]

theorem q768 (v21 : FVec Ideal S512x2048 .f32) (r : Fin 512) (d : Fin 128) : k1_pay12 v21 (ix2 r d) = v21 (ix2 r ⟨768 + d.val, by omega⟩) := by
  pointwise [k1_pay12]

theorem q1024 (v21 : FVec Ideal S512x2048 .f32) (r : Fin 512) (d : Fin 128) : k1_pay14 v21 (ix2 r d) = v21 (ix2 r ⟨1024 + d.val, by omega⟩) := by
  pointwise [k1_pay14]

theorem q1280 (v21 : FVec Ideal S512x2048 .f32) (r : Fin 512) (d : Fin 128) : k1_pay16 v21 (ix2 r d) = v21 (ix2 r ⟨1280 + d.val, by omega⟩) := by
  pointwise [k1_pay16]

theorem q1536 (v21 : FVec Ideal S512x2048 .f32) (r : Fin 512) (d : Fin 128) : k1_pay18 v21 (ix2 r d) = v21 (ix2 r ⟨1536 + d.val, by omega⟩) := by
  pointwise [k1_pay18]

theorem q1792 (v21 : FVec Ideal S512x2048 .f32) (r : Fin 512) (d : Fin 128) : k1_pay20 v21 (ix2 r d) = v21 (ix2 r ⟨1792 + d.val, by omega⟩) := by
  pointwise [k1_pay20]

theorem q640 (v0 : Vec Ideal S512x128 .f32) (v21 : FVec Ideal S512x2048 .f32) (r : Fin 512) (d : Fin 128) :
    k1_pay11 (k1_pay3 v0) v21 (ix2 r d) = pair (fun l => v21 (ix2 r ⟨640 + l.val, by omega⟩) * v0 (ix2 r l)) d := by
  pointwise [k1_pay11, k1_pay3]
  rfl

theorem q896 (v0 : Vec Ideal S512x128 .f32) (v21 : FVec Ideal S512x2048 .f32) (r : Fin 512) (d : Fin 128) :
    k1_pay13 (k1_pay3 v0) v21 (ix2 r d) = pair (fun l => v21 (ix2 r ⟨896 + l.val, by omega⟩) * v0 (ix2 r l)) d := by
  pointwise [k1_pay13, k1_pay3]
  rfl

theorem q1152 (v0 : Vec Ideal S512x128 .f32) (v21 : FVec Ideal S512x2048 .f32) (r : Fin 512) (d : Fin 128) :
    k1_pay15 (k1_pay3 v0) v21 (ix2 r d) = pair (fun l => v21 (ix2 r ⟨1152 + l.val, by omega⟩) * v0 (ix2 r l)) d := by
  pointwise [k1_pay15, k1_pay3]
  rfl

theorem q1408 (v0 : Vec Ideal S512x128 .f32) (v21 : FVec Ideal S512x2048 .f32) (r : Fin 512) (d : Fin 128) :
    k1_pay17 (k1_pay3 v0) v21 (ix2 r d) = pair (fun l => v21 (ix2 r ⟨1408 + l.val, by omega⟩) * v0 (ix2 r l)) d := by
  pointwise [k1_pay17, k1_pay3]
  rfl

theorem q1664 (v0 : Vec Ideal S512x128 .f32) (v21 : FVec Ideal S512x2048 .f32) (r : Fin 512) (d : Fin 128) :
    k1_pay19 (k1_pay3 v0) v21 (ix2 r d) = pair (fun l => v21 (ix2 r ⟨1664 + l.val, by omega⟩) * v0 (ix2 r l)) d := by
  pointwise [k1_pay19, k1_pay3]
  rfl

theorem q1920 (v0 : Vec Ideal S512x128 .f32) (v21 : FVec Ideal S512x2048 .f32) (r : Fin 512) (d : Fin 128) :
    k1_pay21 (k1_pay3 v0) v21 (ix2 r d) = pair (fun l => v21 (ix2 r ⟨1920 + l.val, by omega⟩) * v0 (ix2 r l)) d := by
  pointwise [k1_pay21, k1_pay3]
  rfl

/-- The normed key-value latent. -/
theorem lat_pay (v94 : Vec Ideal S512x256 .f32) (v96 : Vec Ideal S1x256 .f32) (r : Fin 512) (e : Fin 256) :
    k1_pay1 (k1_pay22 v94) (k1_pay23 v96) (k1_pay24 v94) k1_pay25 (ix2 r e) = rn c256 (fun k => v94 (ix2 r k)) (fun k => v96 (ix2 0 k)) e := by
  pointwise [k1_pay1, k1_pay22, k1_pay23, k1_pay24, k1_pay25]
  rfl

/-- The rotated lanes of the shared key, zeros after. -/
theorem kr_pay (v0 v111 : Vec Ideal S512x128 .f32) (r : Fin 512) (l : Fin 128) :
    k1_pay2 (k1_pay3 v0) v111 (ix2 r l) = if l.val < 64 then pair (fun l => v111 (ix2 r l) * v0 (ix2 r l)) l else 0 := by
  pointwise [k1_pay2, k1_pay3]
  have hc : IntOp.cmpi CmpIPredicate.slt (BitVec.ofNat 32 l.val) 64#32 = BitVec.ofBool (decide (l.val < 64)) := by
    revert l; decide +kernel
  rw [hc]
  by_cases h : l.val < 64
  · simp only [h, decide_true, if_true]; rfl
  · simp only [h, decide_false, if_false]; rfl

end Cert.NextX

end
-- ==== Proof.NextTiles.lean ====
module
public import proofs.«01_k».proof.Proof.NextIn

/-!
Sixteen tiles of 128 columns make a block of 2048.
-/

@[expose] public section

set_option maxRecDepth 16384

noncomputable section

open Idealize.ShloMosaic Idealize.ShloMosaic.TcCoe Idealize.SL.Sem

namespace Cert.NextX

open Cert.NextIdeal Cert.NextIdeal.Gen Cert.Row

/-- Sixteen tiles, each right, make the whole block right. -/
theorem canon16 (T : Fin 512 → Fin 2048 → EReal) (P0 P1 P2 P3 P4 P5 P6 P7 P8 P9 P10 P11 P12 P13 P14 P15 : Vec Ideal S512x128 .bf16)
    (h0 : ∀ (r : Fin 512) (d : Fin 128), P0 (ix2 r d) = T r ⟨0 + d.val, by omega⟩)
    (h1 : ∀ (r : Fin 512) (d : Fin 128), P1 (ix2 r d) = T r ⟨128 + d.val, by omega⟩)
    (h2 : ∀ (r : Fin 512) (d : Fin 128), P2 (ix2 r d) = T r ⟨256 + d.val, by omega⟩)
    (h3 : ∀ (r : Fin 512) (d : Fin 128), P3 (ix2 r d) = T r ⟨384 + d.val, by omega⟩)
    (h4 : ∀ (r : Fin 512) (d : Fin 128), P4 (ix2 r d) = T r ⟨512 + d.val, by omega⟩)
    (h5 : ∀ (r : Fin 512) (d : Fin 128), P5 (ix2 r d) = T r ⟨640 + d.val, by omega⟩)
    (h6 : ∀ (r : Fin 512) (d : Fin 128), P6 (ix2 r d) = T r ⟨768 + d.val, by omega⟩)
    (h7 : ∀ (r : Fin 512) (d : Fin 128), P7 (ix2 r d) = T r ⟨896 + d.val, by omega⟩)
    (h8 : ∀ (r : Fin 512) (d : Fin 128), P8 (ix2 r d) = T r ⟨1024 + d.val, by omega⟩)
    (h9 : ∀ (r : Fin 512) (d : Fin 128), P9 (ix2 r d) = T r ⟨1152 + d.val, by omega⟩)
    (h10 : ∀ (r : Fin 512) (d : Fin 128), P10 (ix2 r d) = T r ⟨1280 + d.val, by omega⟩)
    (h11 : ∀ (r : Fin 512) (d : Fin 128), P11 (ix2 r d) = T r ⟨1408 + d.val, by omega⟩)
    (h12 : ∀ (r : Fin 512) (d : Fin 128), P12 (ix2 r d) = T r ⟨1536 + d.val, by omega⟩)
    (h13 : ∀ (r : Fin 512) (d : Fin 128), P13 (ix2 r d) = T r ⟨1664 + d.val, by omega⟩)
    (h14 : ∀ (r : Fin 512) (d : Fin 128), P14 (ix2 r d) = T r ⟨1792 + d.val, by omega⟩)
    (h15 : ∀ (r : Fin 512) (d : Fin 128), P15 (ix2 r d) = T r ⟨1920 + d.val, by omega⟩)
    (y : S512x2048.Idx) :
    View.canon (Val := Elt Ideal) (s := S512x2048) (e := .bf16)
     [⟨Rect.unit ![0, 1920] ![512, 128] inb_S512x2048_S512x128_0_1920, P15⟩,
      ⟨Rect.unit ![0, 1792] ![512, 128] inb_S512x2048_S512x128_0_1792, P14⟩,
      ⟨Rect.unit ![0, 1664] ![512, 128] inb_S512x2048_S512x128_0_1664, P13⟩,
      ⟨Rect.unit ![0, 1536] ![512, 128] inb_S512x2048_S512x128_0_1536, P12⟩,
      ⟨Rect.unit ![0, 1408] ![512, 128] inb_S512x2048_S512x128_0_1408, P11⟩,
      ⟨Rect.unit ![0, 1280] ![512, 128] inb_S512x2048_S512x128_0_1280, P10⟩,
      ⟨Rect.unit ![0, 1152] ![512, 128] inb_S512x2048_S512x128_0_1152, P9⟩,
      ⟨Rect.unit ![0, 1024] ![512, 128] inb_S512x2048_S512x128_0_1024, P8⟩,
      ⟨Rect.unit ![0, 896] ![512, 128] inb_S512x2048_S512x128_0_896, P7⟩,
      ⟨Rect.unit ![0, 768] ![512, 128] inb_S512x2048_S512x128_0_768, P6⟩,
      ⟨Rect.unit ![0, 640] ![512, 128] inb_S512x2048_S512x128_0_640, P5⟩,
      ⟨Rect.unit ![0, 512] ![512, 128] inb_S512x2048_S512x128_0_512, P4⟩,
      ⟨Rect.unit ![0, 384] ![512, 128] inb_S512x2048_S512x128_0_384, P3⟩,
      ⟨Rect.unit ![0, 256] ![512, 128] inb_S512x2048_S512x128_0_256, P2⟩,
      ⟨Rect.unit ![0, 128] ![512, 128] inb_S512x2048_S512x128_0_128, P1⟩,
      ⟨Rect.unit ![0, 0] ![512, 128] inb_S512x2048_S512x128_0_0, P0⟩] y = T (y 0) (y 1) := by
  rename' h0 => k0, h1 => k1, h2 => k2, h3 => k3, h4 => k4, h5 => k5, h6 => k6, h7 => k7, h8 => k8, h9 => k9, h10 => k10, h11 => k11, h12 => k12, h13 => k13, h14 => k14, h15 => k15
  canon_tiles x h
  · have e := k15 (x 0) (x 1)
    rw [← eq_ix2 x] at e
    refine e.trans (congrArg₂ T (Fin.ext ?_) (Fin.ext ?_)) <;> simp only <;> omega
  · have e := k14 (x 0) (x 1)
    rw [← eq_ix2 x] at e
    refine e.trans (congrArg₂ T (Fin.ext ?_) (Fin.ext ?_)) <;> simp only <;> omega
  · have e := k13 (x 0) (x 1)
    rw [← eq_ix2 x] at e
    refine e.trans (congrArg₂ T (Fin.ext ?_) (Fin.ext ?_)) <;> simp only <;> omega
  · have e := k12 (x 0) (x 1)
    rw [← eq_ix2 x] at e
    refine e.trans (congrArg₂ T (Fin.ext ?_) (Fin.ext ?_)) <;> simp only <;> omega
  · have e := k11 (x 0) (x 1)
    rw [← eq_ix2 x] at e
    refine e.trans (congrArg₂ T (Fin.ext ?_) (Fin.ext ?_)) <;> simp only <;> omega
  · have e := k10 (x 0) (x 1)
    rw [← eq_ix2 x] at e
    refine e.trans (congrArg₂ T (Fin.ext ?_) (Fin.ext ?_)) <;> simp only <;> omega
  · have e := k9 (x 0) (x 1)
    rw [← eq_ix2 x] at e
    refine e.trans (congrArg₂ T (Fin.ext ?_) (Fin.ext ?_)) <;> simp only <;> omega
  · have e := k8 (x 0) (x 1)
    rw [← eq_ix2 x] at e
    refine e.trans (congrArg₂ T (Fin.ext ?_) (Fin.ext ?_)) <;> simp only <;> omega
  · have e := k7 (x 0) (x 1)
    rw [← eq_ix2 x] at e
    refine e.trans (congrArg₂ T (Fin.ext ?_) (Fin.ext ?_)) <;> simp only <;> omega
  · have e := k6 (x 0) (x 1)
    rw [← eq_ix2 x] at e
    refine e.trans (congrArg₂ T (Fin.ext ?_) (Fin.ext ?_)) <;> simp only <;> omega
  · have e := k5 (x 0) (x 1)
    rw [← eq_ix2 x] at e
    refine e.trans (congrArg₂ T (Fin.ext ?_) (Fin.ext ?_)) <;> simp only <;> omega
  · have e := k4 (x 0) (x 1)
    rw [← eq_ix2 x] at e
    refine e.trans (congrArg₂ T (Fin.ext ?_) (Fin.ext ?_)) <;> simp only <;> omega
  · have e := k3 (x 0) (x 1)
    rw [← eq_ix2 x] at e
    refine e.trans (congrArg₂ T (Fin.ext ?_) (Fin.ext ?_)) <;> simp only <;> omega
  · have e := k2 (x 0) (x 1)
    rw [← eq_ix2 x] at e
    refine e.trans (congrArg₂ T (Fin.ext ?_) (Fin.ext ?_)) <;> simp only <;> omega
  · have e := k1 (x 0) (x 1)
    rw [← eq_ix2 x] at e
    refine e.trans (congrArg₂ T (Fin.ext ?_) (Fin.ext ?_)) <;> simp only <;> omega
  · have e := k0 (x 0) (x 1)
    rw [← eq_ix2 x] at e
    refine e.trans (congrArg₂ T (Fin.ext ?_) (Fin.ext ?_)) <;> simp only <;> omega

end Cert.NextX

end
-- ==== Proof.NextBlk.lean ====
module
public import proofs.«01_k».proof.Proof.NextPay
public import proofs.«01_k».proof.Proof.NextTiles

/-!
The per-token call of `NextIdeal`: the block of each output from the blocks it reads, and the arrays the call leaves.
-/

@[expose] public section

set_option maxRecDepth 16384

noncomputable section

open Idealize.ShloMosaic Idealize.ShloMosaic.TcCoe Idealize.SL.Sem

namespace Cert.NextX

open Cert.NextIdeal Cert.NextIdeal.Gen Cert.Row

/-- The query products of row `r`: the normed query latent against the regrouped weight. -/
def qRow {R : ℕ} (H : (⟨2, ![R, 896]⟩ : Shape).Idx → EReal) (g : S1x512.Idx → EReal) (W : S512x2048.Idx → EReal) (r : Fin R) (j : Fin 2048) : EReal :=
  rw1 c512 (fun k : Fin 512 => H (ix2 r ⟨k.val, by omega⟩)) (fun k => g (ix2 0 k)) (fun k => W (ix2 k j))

/-- The key-value latent of row `r`. -/
def latRow {R : ℕ} (H : (⟨2, ![R, 896]⟩ : Shape).Idx → EReal) (g : S1x256.Idx → EReal) (r : Fin R) (e : Fin 256) : EReal :=
  rn c256 (fun k : Fin 256 => H (ix2 r ⟨512 + k.val, by omega⟩)) (fun k => g (ix2 0 k)) e

/-- The rotated lanes of row `r`, zeros from lane 64 on. -/
def krRow {R : ℕ} (H : (⟨2, ![R, 896]⟩ : Shape).Idx → EReal) (cs : Fin 128 → EReal) (r : Fin R) (l : Fin 128) : EReal :=
  if l.val < 64 then pair (fun l => H (ix2 r ⟨768 + l.val, by omega⟩) * cs l) l else 0

theorem rn_congr' {n : ℕ} (c : EReal) {x x' g g' : Fin n → EReal} (hx : ∀ k, x k = x' k) (hg : ∀ k, g k = g' k) (e : Fin n) : rn c x g e = rn c x' g' e := by
  rw [funext hx, funext hg]

theorem qBlk_congr {A A' : Fin 2048 → EReal} {cs cs' : Fin 128 → EReal} (hA : ∀ j, A j = A' j) (hc : ∀ l, cs l = cs' l) (j : Fin 2048) : qBlk A cs j = qBlk A' cs' j := by
  rw [funext hA, funext hc]

theorem pair_congr {t t' : Fin 128 → EReal} (h : ∀ l, t l = t' l) (l : Fin 128) : pair t l = pair t' l := by rw [funext h]

theorem ld_q (x0 : Vec Ideal S512x896 .f32) (r : Fin 512) (k : Fin 512) :
    View.ld x0 (Rect.unit ![0, 0] ![512, 512] inb_S512x896_S512x512_0_0) (ix2 r k) = x0 (ix2 r ⟨k.val, by omega⟩) := by
  refine View.ld_unit_apply_of _ _ _ _ _ _ (fun a => ?_) <;> fin_cases a <;> simp

theorem ld_lat (x0 : Vec Ideal S512x896 .f32) (r : Fin 512) (k : Fin 256) :
    View.ld x0 (Rect.unit ![0, 512] ![512, 256] inb_S512x896_S512x256_0_512) (ix2 r k) = x0 (ix2 r ⟨512 + k.val, by omega⟩) := by
  refine View.ld_unit_apply_of _ _ _ _ _ _ (fun a => ?_) <;> fin_cases a <;> simp

theorem ld_kr (x0 : Vec Ideal S512x896 .f32) (r : Fin 512) (k : Fin 128) :
    View.ld x0 (Rect.unit ![0, 768] ![512, 128] inb_S512x896_S512x128_0_768) (ix2 r k) = x0 (ix2 r ⟨768 + k.val, by omega⟩) := by
  refine View.ld_unit_apply_of _ _ _ _ _ _ (fun a => ?_) <;> fin_cases a <;> simp

variable (V : (c : Dev nD) → (b : Ref sig .tc) → Buf (Elt Ideal) ((c : Thread nD τ).loc b)) (c : Dev nD) (t : Fin cfg1.N)

/-- The queries' block. -/
theorem q_blk (r : Fin 512) (j : Fin 2048) :
    out1_5 (iblk1 V c 0 t) (iblk1 V c 1 t) (iblk1 V c 2 t) (iblk1 V c 3 t) (iblk1 V c 4 t) (ix2 r j) = qBlk (qRow (R := 512) (iblk1 V c 0 t) (iblk1 V c 2 t) (iblk1 V c 4 t) r) (fun l => (iblk1 V c 1 t) (ix2 r l)) j := by
  unfold out1_5 k1_pay26 k1_pay27
  generalize iblk1 V c 0 t = x0
  generalize iblk1 V c 1 t = x1
  generalize iblk1 V c 2 t = x2
  generalize iblk1 V c 3 t = x3
  generalize iblk1 V c 4 t = x4
  frame_out
  have hm : ∀ r j', k1_pay4 (View.ld x0 (Rect.unit ![0, 0] ![512, 512] inb_S512x896_S512x512_0_0)) x2 x4 (ix2 r j') = qRow (R := 512) x0 x2 x4 r j' := fun r j' => by
    rw [q_mat]
    exact rw1_congr _ (fun k => ld_q x0 r k) (fun k => rfl) fun k => rfl
  refine canon16 (fun r j => qBlk (qRow (R := 512) x0 x2 x4 r) (fun l => x1 (ix2 r l)) j) _ _ _ _ _ _ _ _ _ _ _ _ _ _ _ _
    (fun r d => ?_) (fun r d => ?_) (fun r d => ?_) (fun r d => ?_) (fun r d => ?_) (fun r d => ?_) (fun r d => ?_) (fun r d => ?_) (fun r d => ?_) (fun r d => ?_) (fun r d => ?_) (fun r d => ?_) (fun r d => ?_) (fun r d => ?_) (fun r d => ?_) (fun r d => ?_) (ix2 r j)
  · exact (q0 _ _ _ _ _).trans ((hm _ _).trans (qBlk_lo _ _ 0 rfl _ _).symm)
  · exact (q128 _ _ _ _ _ _).trans ((pair_congr (fun l => congrArg (· * _) (hm _ _)) _).trans (qBlk_hi _ _ 128 rfl (by decide) _ _).symm)
  · exact (q256 _ _ _ _ _).trans ((hm _ _).trans (qBlk_lo _ _ 256 rfl _ _).symm)
  · exact (q384 _ _ _ _ _ _).trans ((pair_congr (fun l => congrArg (· * _) (hm _ _)) _).trans (qBlk_hi _ _ 384 rfl (by decide) _ _).symm)
  · exact (q512 _ _ _).trans ((hm _ _).trans (qBlk_lo _ _ 512 rfl _ _).symm)
  · exact (q640 _ _ _ _).trans ((pair_congr (fun l => congrArg (· * _) (hm _ _)) _).trans (qBlk_hi _ _ 640 rfl (by decide) _ _).symm)
  · exact (q768 _ _ _).trans ((hm _ _).trans (qBlk_lo _ _ 768 rfl _ _).symm)
  · exact (q896 _ _ _ _).trans ((pair_congr (fun l => congrArg (· * _) (hm _ _)) _).trans (qBlk_hi _ _ 896 rfl (by decide) _ _).symm)
  · exact (q1024 _ _ _).trans ((hm _ _).trans (qBlk_lo _ _ 1024 rfl _ _).symm)
  · exact (q1152 _ _ _ _).trans ((pair_congr (fun l => congrArg (· * _) (hm _ _)) _).trans (qBlk_hi _ _ 1152 rfl (by decide) _ _).symm)
  · exact (q1280 _ _ _).trans ((hm _ _).trans (qBlk_lo _ _ 1280 rfl _ _).symm)
  · exact (q1408 _ _ _ _).trans ((pair_congr (fun l => congrArg (· * _) (hm _ _)) _).trans (qBlk_hi _ _ 1408 rfl (by decide) _ _).symm)
  · exact (q1536 _ _ _).trans ((hm _ _).trans (qBlk_lo _ _ 1536 rfl _ _).symm)
  · exact (q1664 _ _ _ _).trans ((pair_congr (fun l => congrArg (· * _) (hm _ _)) _).trans (qBlk_hi _ _ 1664 rfl (by decide) _ _).symm)
  · exact (q1792 _ _ _).trans ((hm _ _).trans (qBlk_lo _ _ 1792 rfl _ _).symm)
  · exact (q1920 _ _ _ _).trans ((pair_congr (fun l => congrArg (· * _) (hm _ _)) _).trans (qBlk_hi _ _ 1920 rfl (by decide) _ _).symm)

/-- The latent's block. -/
theorem lat_blk (r : Fin 512) (e : Fin 256) :
    out1_6 (iblk1 V c 0 t) (iblk1 V c 1 t) (iblk1 V c 2 t) (iblk1 V c 3 t) (iblk1 V c 4 t) (ix2 r e) = latRow (R := 512) (iblk1 V c 0 t) (iblk1 V c 3 t) r e := by
  unfold out1_6
  generalize iblk1 V c 0 t = x0
  generalize iblk1 V c 1 t = x1
  generalize iblk1 V c 2 t = x2
  generalize iblk1 V c 3 t = x3
  generalize iblk1 V c 4 t = x4
  frame_out
  rw [lat_pay]
  exact rn_congr' _ (fun k => ld_lat x0 r k) (fun k => rfl) e

/-- The rotated lanes' block. -/
theorem kr_blk (r : Fin 512) (l : Fin 128) :
    out1_7 (iblk1 V c 0 t) (iblk1 V c 1 t) (iblk1 V c 2 t) (iblk1 V c 3 t) (iblk1 V c 4 t) (ix2 r l) = krRow (R := 512) (iblk1 V c 0 t) (fun l => (iblk1 V c 1 t) (ix2 r l)) r l := by
  unfold out1_7 k1_pay26
  generalize iblk1 V c 0 t = x0
  generalize iblk1 V c 1 t = x1
  generalize iblk1 V c 2 t = x2
  generalize iblk1 V c 3 t = x3
  generalize iblk1 V c 4 t = x4
  frame_out
  rw [kr_pay]
  refine if_congr Iff.rfl (pair_congr (fun l => ?_) l) rfl
  rw [ld_kr]

theorem idx1 : ∀ t : Fin grid1.N, win1_0.index t = ![0, 0] ∧ win1_1.index t = ![0, 0] ∧ win1_2.index t = ![0, 0] ∧ win1_3.index t = ![0, 0] ∧ win1_4.index t = ![0, 0] ∧ win1_5.index t = ![0, 0] ∧ win1_6.index t = ![0, 0] ∧ win1_7.index t = ![0, 0] := by
  decide +kernel

theorem q_arr :
    (dat1 V c).arrAt 5 cfg1.N = (fun i => qBlk (qRow (R := 512) (V c main_v46) (V c main_v43) (V c main_v56) (i 0)) (fun l => (V c main_v41) (ix2 (i 0) l)) (i 1) : S512x2048.Idx → EReal) := by
  refine (dat1 V c).arrAt_eq_of_covers 5 _ (by decide +kernel) fun t hf y => ?_
  blk_simp
  rw [after1_5]
  obtain ⟨r, e, rfl⟩ : ∃ (y1 : Fin 512) (y2 : Fin 2048), y = ix2 y1 y2 := ⟨y 0, y 1, eq_ix2 y⟩
  rw [q_blk]
  refine (qBlk_congr (fun j => rw1_congr _ (fun k => ?_) (fun k => ?_) fun k => ?_) (fun l => ?_) e).trans (congrArg _ (Fin.ext ?_))
  · blk_point [iblk1, (idx1 t).1, (idx1 t).2.2.2.2.2.1]
  · blk_point [iblk1, (idx1 t).2.2.1, (idx1 t).2.2.2.2.2.1]
  · blk_point [iblk1, (idx1 t).2.2.2.2.1, (idx1 t).2.2.2.2.2.1]
  · blk_point [iblk1, (idx1 t).2.1, (idx1 t).2.2.2.2.2.1]
  · blk_simp [(idx1 t).2.2.2.2.2.1]

theorem lat_arr :
    (dat1 V c).arrAt 6 cfg1.N = (fun i => latRow (R := 512) (V c main_v46) (V c main_v45) (i 0) (i 1) : S512x256.Idx → EReal) := by
  refine (dat1 V c).arrAt_eq_of_covers 6 _ (by decide +kernel) fun t hf y => ?_
  blk_simp
  rw [after1_6]
  obtain ⟨r, e, rfl⟩ : ∃ (y1 : Fin 512) (y2 : Fin 256), y = ix2 y1 y2 := ⟨y 0, y 1, eq_ix2 y⟩
  rw [lat_blk]
  refine (rn_congr' _ (fun k => ?_) (fun k => ?_) e).trans (congrArg _ (Fin.ext ?_))
  · blk_point [iblk1, (idx1 t).1, (idx1 t).2.2.2.2.2.2.1]
  · blk_point [iblk1, (idx1 t).2.2.2.1, (idx1 t).2.2.2.2.2.2.1]
  · blk_simp [(idx1 t).2.2.2.2.2.2.1]

theorem krRow_congr {R R' : ℕ} {H : (⟨2, ![R, 896]⟩ : Shape).Idx → EReal} {H' : (⟨2, ![R', 896]⟩ : Shape).Idx → EReal} {cs cs' : Fin 128 → EReal} {r : Fin R} {r' : Fin R'}
    (hH : ∀ l : Fin 128, H (ix2 r ⟨768 + l.val, by omega⟩) = H' (ix2 r' ⟨768 + l.val, by omega⟩)) (hc : ∀ l, cs l = cs' l) (l : Fin 128) : krRow H cs r l = krRow H' cs' r' l :=
  if_congr Iff.rfl (pair_congr (fun l => congrArg₂ (· * ·) (hH l) (hc l)) l) rfl

theorem kr_arr :
    (dat1 V c).arrAt 7 cfg1.N = (fun i => krRow (R := 512) (V c main_v46) (fun l => (V c main_v41) (ix2 (i 0) l)) (i 0) (i 1) : S512x128.Idx → EReal) := by
  refine (dat1 V c).arrAt_eq_of_covers 7 _ (by decide +kernel) fun t hf y => ?_
  blk_simp
  rw [after1_7]
  obtain ⟨r, e, rfl⟩ : ∃ (y1 : Fin 512) (y2 : Fin 128), y = ix2 y1 y2 := ⟨y 0, y 1, eq_ix2 y⟩
  rw [kr_blk]
  refine (krRow_congr (fun l => ?_) (fun l => ?_) e).trans (congrArg _ (Fin.ext ?_))
  · blk_point [iblk1, (idx1 t).1, (idx1 t).2.2.2.2.2.2.2]
  · blk_point [iblk1, (idx1 t).2.1, (idx1 t).2.2.2.2.2.2.2]
  · blk_simp [(idx1 t).2.2.2.2.2.2.2]

end Cert.NextX

end
-- ==== Proof.NextHost.lean ====
module
public import proofs.«01_k».proof.Proof.NextIn

/-!
What the host operations of `NextIdeal` hold before each of its two calls, as terms in the arguments.
-/

@[expose] public section

set_option maxRecDepth 16384

noncomputable section

open Idealize.ShloMosaic Idealize.ShloMosaic.TcCoe Idealize.SL.Sem

namespace Cert.NextX

open Cert.NextIdeal Cert.NextIdeal.Gen Cert.Row

def h_v0 (arg0 : FVec Ideal S16x32x1024 .f32) : FVec Ideal S512x1024 .f32 :=
  shapeCast _ arg0 shapeCasts_S16x32x1024_S512x1024

def h_v1 (arg1 : FVec Ideal S1x1024 .f32) : FVec Ideal S1024 .f32 :=
  shapeCast _ arg1 shapeCasts_S1x1024_S1024

def h_v2 (arg1 : FVec Ideal S1x1024 .f32) : FVec Ideal S1x1024 .f32 :=
  broadcastInDim S1x1024 ![1] bcast_S1024_S1x1024_1 (h_v1 arg1)

def h_v3 (arg2 : FVec Ideal S1x1024x5968 .f32) : FVec Ideal S1024x5968 .f32 :=
  shapeCast _ arg2 shapeCasts_S1x1024x5968_S1024x5968

def h_v4 (arg2 : FVec Ideal S1x1024x5968 .f32) : FVec Ideal S1024x512 .f32 :=
  extractStridedSlice S1024x512 ![0, 0] (h_v3 arg2) slices_S1024x5968_S1024x512_0_0

def h_v5 (arg2 : FVec Ideal S1x1024x5968 .f32) : FVec Ideal S1024x256 .f32 :=
  extractStridedSlice S1024x256 ![0, 512] (h_v3 arg2) slices_S1024x5968_S1024x256_0_512

def h_v6 (arg2 : FVec Ideal S1x1024x5968 .f32) : FVec Ideal S1024x64 .f32 :=
  extractStridedSlice S1024x64 ![0, 768] (h_v3 arg2) slices_S1024x5968_S1024x64_0_768

def h_v13 (arg2 : FVec Ideal S1x1024x5968 .f32) : FVec Ideal S1024x32 .f32 :=
  extractStridedSlice S1024x32 ![0, 32] (h_v6 arg2) slices_S1024x64_S1024x32_0_32

def h_v14 (arg2 : FVec Ideal S1x1024x5968 .f32) : FVec Ideal S1024x32 .f32 :=
  extractStridedSlice S1024x32 ![0, 0] (h_v6 arg2) slices_S1024x64_S1024x32_0_0

def h_v15 (arg2 : FVec Ideal S1x1024x5968 .f32) : FVec Ideal S1024x64 .f32 :=
  concatenate S1024x64 1 [⟨S1024x32, (h_v13 arg2)⟩, ⟨S1024x32, (h_v14 arg2)⟩] concatenates_S1024x32_S1024x32_S1024x64_d1

def h_v10 (arg2 : FVec Ideal S1x1024x5968 .f32) : FVec Ideal S1024x16 .f32 :=
  extractStridedSlice S1024x16 ![0, 2880] (h_v3 arg2) slices_S1024x5968_S1024x16_0_2880

def h_cst : FVec Ideal S_ .f32 :=
  constant S_ .f32 0x00000000#32

def h_v16 : FVec Ideal S1024x112 .f32 :=
  broadcastInDim S1024x112 ![] bcast_S_S1024x112 h_cst

def h_v9 (arg2 : FVec Ideal S1x1024x5968 .f32) : FVec Ideal S1024x1024 .f32 :=
  extractStridedSlice S1024x1024 ![0, 1856] (h_v3 arg2) slices_S1024x5968_S1024x1024_0_1856

def h_v11 (arg2 : FVec Ideal S1x1024x5968 .f32) : FVec Ideal S1024x1024 .f32 :=
  extractStridedSlice S1024x1024 ![0, 2896] (h_v3 arg2) slices_S1024x5968_S1024x1024_0_2896

def h_v7 (arg2 : FVec Ideal S1x1024x5968 .f32) : FVec Ideal S1024x512 .f32 :=
  extractStridedSlice S1024x512 ![0, 832] (h_v3 arg2) slices_S1024x5968_S1024x512_0_832

def h_v8 (arg2 : FVec Ideal S1x1024x5968 .f32) : FVec Ideal S1024x512 .f32 :=
  extractStridedSlice S1024x512 ![0, 1344] (h_v3 arg2) slices_S1024x5968_S1024x512_0_1344

def h_v12 (arg2 : FVec Ideal S1x1024x5968 .f32) : FVec Ideal S1024x2048 .f32 :=
  extractStridedSlice S1024x2048 ![0, 3920] (h_v3 arg2) slices_S1024x5968_S1024x2048_0_3920

def h_v17 (arg2 : FVec Ideal S1x1024x5968 .f32) : FVec Ideal S1024x6144 .f32 :=
  (concatenate S1024x6144 1 [⟨S1024x512, (h_v4 arg2)⟩, ⟨S1024x256, (h_v5 arg2)⟩, ⟨S1024x64, (h_v6 arg2)⟩, ⟨S1024x64, (h_v15 arg2)⟩, ⟨S1024x16, (h_v10 arg2)⟩, ⟨S1024x112, h_v16⟩, ⟨S1024x1024, (h_v9 arg2)⟩, ⟨S1024x1024, (h_v11 arg2)⟩, ⟨S1024x512, (h_v7 arg2)⟩, ⟨S1024x512, (h_v8 arg2)⟩, ⟨S1024x2048, (h_v12 arg2)⟩] concatenates_S1024x512_S1024x256_S1024x64_S1024x64_S1024x16_S1024x112_S1024x1024_S1024x1024_S1024x512_S1024x512_S1024x2048_S1024x6144_d1)

def h_v18 (arg2 : FVec Ideal S1x1024x5968 .f32) : FVec Ideal S1024x6144 .bf16 :=
  truncf .bf16 (h_v17 arg2) bitsLt_bf16_f32

def h_c : IVec S_ 32 :=
  constantI S_ 32 2048#32

def h_v21 : IVec S32 32 :=
  broadcastInDim S32 ![] bcast_S_S32 h_c

def h_v20 : IVec S32 32 :=
  iotaInDim S32 32 0

def h_v22 : IVec S32 32 :=
  addi h_v21 h_v20

def h_v29 : FVec Ideal S32 .f32 :=
  sitofp .f32 h_v22

def h_v30 : FVec Ideal S32x1 .f32 :=
  broadcastInDim S32x1 ![0] bcast_S32_S32x1_0 h_v29

def h_v32 : FVec Ideal S32x32 .f32 :=
  broadcastInDim S32x32 ![0, 1] bcast_S32x1_S32x32_0_1 h_v30

def h_cst_1 : FVec Ideal S_ .f32 :=
  constant S_ .f32 0x461C4000#32

def h_v27 : FVec Ideal S32 .f32 :=
  broadcastInDim S32 ![] bcast_S_S32 h_cst_1

def h_v23 : FVec Ideal S32 .f32 :=
  sitofp .f32 (iotaInDim S32 32 0)

def h_v24 : FVec Ideal S32 .f32 :=
  Host.negf h_v23

def h_cst_0 : FVec Ideal S_ .f32 :=
  constant S_ .f32 0x42000000#32

def h_v25 : FVec Ideal S32 .f32 :=
  broadcastInDim S32 ![] bcast_S_S32 h_cst_0

def h_v26 : FVec Ideal S32 .f32 :=
  Host.divf h_v24 h_v25

def h_v28 : FVec Ideal S32 .f32 :=
  Host.powf h_v27 h_v26

def h_v31 : FVec Ideal S1x32 .f32 :=
  broadcastInDim S1x32 ![1] bcast_S32_S1x32_1 h_v28

def h_v33 : FVec Ideal S32x32 .f32 :=
  broadcastInDim S32x32 ![0, 1] bcast_S1x32_S32x32_0_1 h_v31

def h_v34 : FVec Ideal S32x32 .f32 :=
  mulf h_v32 h_v33

def h_v35 : FVec Ideal S32x32 .f32 :=
  Host.cos h_v34

def h_v36 : FVec Ideal S32x32 .f32 :=
  Host.sin h_v34

def h_v37 : FVec Ideal S32x32 .f32 :=
  Host.negf h_v36

def h_v38 : FVec Ideal S32x128 .f32 :=
  (concatenate S32x128 1 [⟨S32x32, h_v35⟩, ⟨S32x32, h_v35⟩, ⟨S32x32, h_v37⟩, ⟨S32x32, h_v36⟩] concatenates_S32x32_S32x32_S32x32_S32x32_S32x128_d1)

def h_v39 : FVec Ideal S1x32x1x128 .f32 :=
  shapeCast _ h_v38 shapeCasts_S32x128_S1x32x1x128

def h_v40 : FVec Ideal S16x32x1x128 .f32 :=
  broadcastInDim S16x32x1x128 ![0, 1, 2, 3] bcast_S1x32x1x128_S16x32x1x128_0_1_2_3 h_v39

def h_v41 : FVec Ideal S512x128 .f32 :=
  shapeCast _ h_v40 shapeCasts_S16x32x1x128_S512x128

def h_v42 (arg3 : FVec Ideal S1x512 .f32) : FVec Ideal S512 .f32 :=
  shapeCast _ arg3 shapeCasts_S1x512_S512

def h_v43 (arg3 : FVec Ideal S1x512 .f32) : FVec Ideal S1x512 .f32 :=
  broadcastInDim S1x512 ![1] bcast_S512_S1x512_1 (h_v42 arg3)

def h_v44 (arg4 : FVec Ideal S1x256 .f32) : FVec Ideal S256 .f32 :=
  shapeCast _ arg4 shapeCasts_S1x256_S256

def h_v45 (arg4 : FVec Ideal S1x256 .f32) : FVec Ideal S1x256 .f32 :=
  broadcastInDim S1x256 ![1] bcast_S256_S1x256_1 (h_v44 arg4)

def h_v46 (v19 : FVec Ideal S512x6144 .f32) : FVec Ideal S512x896 .f32 :=
  extractStridedSlice S512x896 ![0, 0] v19 slices_S512x6144_S512x896_0_0

def h_v47 (arg5 : FVec Ideal S1x512x1536 .f32) : FVec Ideal S512x1536 .f32 :=
  shapeCast _ arg5 shapeCasts_S1x512x1536_S512x1536

def h_v48 (arg5 : FVec Ideal S1x512x1536 .f32) : FVec Ideal S512x8x192 .f32 :=
  shapeCast _ (h_v47 arg5) shapeCasts_S512x1536_S512x8x192

def h_v49 (arg5 : FVec Ideal S1x512x1536 .f32) : FVec Ideal S512x8x128 .f32 :=
  extractStridedSlice S512x8x128 ![0, 0, 0] (h_v48 arg5) slices_S512x8x192_S512x8x128_0_0_0

def h_v50 (arg5 : FVec Ideal S1x512x1536 .f32) : FVec Ideal S512x8x64 .f32 :=
  extractStridedSlice S512x8x64 ![0, 0, 128] (h_v48 arg5) slices_S512x8x192_S512x8x64_0_0_128

def h_v51 (arg5 : FVec Ideal S1x512x1536 .f32) : FVec Ideal S512x8x32 .f32 :=
  extractStridedSlice S512x8x32 ![0, 0, 32] (h_v50 arg5) slices_S512x8x64_S512x8x32_0_0_32

def h_v52 (arg5 : FVec Ideal S1x512x1536 .f32) : FVec Ideal S512x8x32 .f32 :=
  extractStridedSlice S512x8x32 ![0, 0, 0] (h_v50 arg5) slices_S512x8x64_S512x8x32_0_0_0

def h_v53 (arg5 : FVec Ideal S1x512x1536 .f32) : FVec Ideal S512x8x64 .f32 :=
  concatenate S512x8x64 2 [⟨S512x8x32, (h_v51 arg5)⟩, ⟨S512x8x32, (h_v52 arg5)⟩] concatenates_S512x8x32_S512x8x32_S512x8x64_d2

def h_v54 (arg5 : FVec Ideal S1x512x1536 .f32) : FVec Ideal S512x8x256 .f32 :=
  (concatenate S512x8x256 2 [⟨S512x8x128, (h_v49 arg5)⟩, ⟨S512x8x64, (h_v50 arg5)⟩, ⟨S512x8x64, (h_v53 arg5)⟩] concatenates_S512x8x128_S512x8x64_S512x8x64_S512x8x256_d2)

def h_v55 (arg5 : FVec Ideal S1x512x1536 .f32) : FVec Ideal S512x2048 .f32 :=
  shapeCast _ (h_v54 arg5) shapeCasts_S512x8x256_S512x2048

def h_v56 (arg5 : FVec Ideal S1x512x1536 .f32) : FVec Ideal S512x2048 .bf16 :=
  truncf .bf16 (h_v55 arg5) bitsLt_bf16_f32

variable (m : (ℓ : Loc nD τ sig) → Buf (Elt Ideal) ℓ) (ρ : Dev nD → PrngReg) (c : Dev nD)

theorem V1_v0 : V1 m ρ c main_v0 = h_v0 (m ((c.tc : Thread nD τ).loc main_arg0)) := by
  show StableHlo.after hostOps0 (W0 m ρ c) (Proc.devRef .tc main_v0) = _
  after_results_simp <;> (try dsimp only [Matrix.cons_val]) <;> (try after_results_simp) <;> rfl

theorem V1_v2 : V1 m ρ c main_v2 = h_v2 (m ((c.tc : Thread nD τ).loc main_arg1)) := by
  show StableHlo.after hostOps0 (W0 m ρ c) (Proc.devRef .tc main_v2) = _
  after_results_simp <;> (try dsimp only [Matrix.cons_val]) <;> (try after_results_simp) <;> rfl

theorem V1_v18 : V1 m ρ c main_v18 = h_v18 (m ((c.tc : Thread nD τ).loc main_arg2)) := by
  show StableHlo.after hostOps0 (W0 m ρ c) (Proc.devRef .tc main_v18) = _
  after_results_simp <;> (try dsimp only [Matrix.cons_val]) <;> (try after_results_simp) <;> rfl

theorem V3_v41 : V3 m ρ c main_v41 = h_v41  := by
  show StableHlo.after hostOps1 (W2 m ρ c) (Proc.devRef .tc main_v41) = _
  after_results_simp <;> (try dsimp only [Matrix.cons_val]) <;> (try after_results_simp) <;> rfl

theorem V3_v43 : V3 m ρ c main_v43 = h_v43 (W2 m ρ c (Proc.devRef .tc main_arg3)) := by
  show StableHlo.after hostOps1 (W2 m ρ c) (Proc.devRef .tc main_v43) = _
  after_results_simp <;> (try dsimp only [Matrix.cons_val]) <;> (try after_results_simp) <;> rfl

theorem V3_v45 : V3 m ρ c main_v45 = h_v45 (W2 m ρ c (Proc.devRef .tc main_arg4)) := by
  show StableHlo.after hostOps1 (W2 m ρ c) (Proc.devRef .tc main_v45) = _
  after_results_simp <;> (try dsimp only [Matrix.cons_val]) <;> (try after_results_simp) <;> rfl

theorem V3_v46 : V3 m ρ c main_v46 = h_v46 (W2 m ρ c (Proc.devRef .tc main_v19)) := by
  show StableHlo.after hostOps1 (W2 m ρ c) (Proc.devRef .tc main_v46) = _
  after_results_simp <;> (try dsimp only [Matrix.cons_val]) <;> (try after_results_simp) <;> rfl

theorem V3_v56 : V3 m ρ c main_v56 = h_v56 (W2 m ρ c (Proc.devRef .tc main_arg5)) := by
  show StableHlo.after hostOps1 (W2 m ρ c) (Proc.devRef .tc main_v56) = _
  after_results_simp <;> (try dsimp only [Matrix.cons_val]) <;> (try after_results_simp) <;> rfl

end Cert.NextX

end
-- ==== Proof.NextVal.lean ====
module
public import proofs.«01_k».proof.Proof.NextBlk
public import proofs.«01_k».proof.Proof.NextHost
public import proofs.«01_k».proof.Proof.Rope

/-!
What the two calls of `NextIdeal` compute of a token's row, from the program's arguments.
-/

@[expose] public section

set_option maxRecDepth 16384

noncomputable section

open Idealize.ShloMosaic Idealize.ShloMosaic.TcCoe Idealize.SL.Sem

namespace Cert.NextX

open Cert.NextIdeal Cert.NextIdeal.Gen Cert.Row

/-- The input projection of token `t` of sequence `b`, at source column `s`. -/
def hV (a0 : FVec Ideal S16x32x1024 .f32) (a1 : FVec Ideal S1x1024 .f32) (a2 : FVec Ideal S1x1024x5968 .f32) (b : Fin 16) (t : Fin 32) (s : Fin 5968) : EReal :=
  rw1 c1024 (fun k => a0 (ix3 b t k)) (fun k => a1 (ix2 0 k)) (fun k => a2 (ix3 0 k s))

theorem wIn_at (w : FVec Ideal S1x1024x5968 .f32) (k : Fin 1024) (j : Fin 6144) : h_v18 w (ix2 k j) = colmap (fun s => w (ix3 0 k s)) j := by
  pointwise [h_v18, h_v17, h_v4, h_v3, h_v5, h_v6, h_v15, h_v13, h_v14, h_v10, h_v16, h_cst, h_v9, h_v11, h_v7, h_v8, h_v12]
  refine eq_colmap _ _ j (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_)
  · rw [dif_pos (by omega)]
  · rw [dif_neg (by omega), dif_pos (by omega)]; exact congrArg (fun s => w (ix3 0 k s)) (Fin.ext (by first | omega | (simp only <;> omega)))
  · rw [dif_neg (by omega), dif_neg (by omega), dif_pos (by omega)]; exact congrArg (fun s => w (ix3 0 k s)) (Fin.ext (by first | omega | (simp only <;> omega)))
  · rw [dif_neg (by omega), dif_neg (by omega), dif_neg (by omega), dif_pos (by omega), dif_pos (by omega)]; exact congrArg (fun s => w (ix3 0 k s)) (Fin.ext (by first | omega | (simp only <;> omega)))
  · rw [dif_neg (by omega), dif_neg (by omega), dif_neg (by omega), dif_pos (by omega), dif_neg (by omega)]; exact congrArg (fun s => w (ix3 0 k s)) (Fin.ext (by first | omega | (simp only <;> omega)))
  · rw [dif_neg (by omega), dif_neg (by omega), dif_neg (by omega), dif_neg (by omega), dif_pos (by omega)]; exact congrArg (fun s => w (ix3 0 k s)) (Fin.ext (by first | omega | (simp only <;> omega)))
  · rw [dif_neg (by omega), dif_neg (by omega), dif_neg (by omega), dif_neg (by omega), dif_neg (by omega), dif_pos (by omega)]
  · rw [dif_neg (by omega), dif_neg (by omega), dif_neg (by omega), dif_neg (by omega), dif_neg (by omega), dif_neg (by omega), dif_pos (by omega)]; exact congrArg (fun s => w (ix3 0 k s)) (Fin.ext (by first | omega | (simp only <;> omega)))
  · rw [dif_neg (by omega), dif_neg (by omega), dif_neg (by omega), dif_neg (by omega), dif_neg (by omega), dif_neg (by omega), dif_neg (by omega), dif_pos (by omega)]; exact congrArg (fun s => w (ix3 0 k s)) (Fin.ext (by first | omega | (simp only <;> omega)))
  · rw [dif_neg (by omega), dif_neg (by omega), dif_neg (by omega), dif_neg (by omega), dif_neg (by omega), dif_neg (by omega), dif_neg (by omega), dif_neg (by omega), dif_pos (by omega)]; exact congrArg (fun s => w (ix3 0 k s)) (Fin.ext (by first | omega | (simp only <;> omega)))
  · rw [dif_neg (by omega), dif_neg (by omega), dif_neg (by omega), dif_neg (by omega), dif_neg (by omega), dif_neg (by omega), dif_neg (by omega), dif_neg (by omega), dif_neg (by omega), dif_pos (by omega)]; exact congrArg (fun s => w (ix3 0 k s)) (Fin.ext (by first | omega | (simp only <;> omega)))
  · rw [dif_neg (by omega), dif_neg (by omega), dif_neg (by omega), dif_neg (by omega), dif_neg (by omega), dif_neg (by omega), dif_neg (by omega), dif_neg (by omega), dif_neg (by omega), dif_neg (by omega)]; exact congrArg (fun s => w (ix3 0 k s)) (Fin.ext (by first | omega | (simp only <;> omega)))

theorem hin_at (a0 : FVec Ideal S16x32x1024 .f32) (a1 : FVec Ideal S1x1024 .f32) (a2 : FVec Ideal S1x1024x5968 .f32) (b : Fin 16) (t : Fin 32) (j : Fin 6144) :
    colOf (R := 512) (h_v0 a0) (h_v2 a1) (h_v18 a2) ⟨b.val * 32 + t.val, by omega⟩ j = colmap (hV a0 a1 a2 b t) j := by
  refine (rw1_congr _ (fun k => ?_) (fun k => ?_) (fun k => wIn_at a2 k j)).trans (rw1_colmap _ _ _ (fun k s => a2 (ix3 0 k s)) j)
  · pointwise [h_v0]
  · pointwise [h_v2, h_v1]

theorem gq_at (g : FVec Ideal S1x512 .f32) (k : Fin 512) : h_v43 g (ix2 0 k) = g (ix2 0 k) := by
  pointwise [h_v43, h_v42]

theorem gk_at (g : FVec Ideal S1x256 .f32) (k : Fin 256) : h_v45 g (ix2 0 k) = g (ix2 0 k) := by
  pointwise [h_v45, h_v44]

/-- Cosine and sine of a position's angles. -/
def co (t : Fin 32) (i : Fin 32) : EReal := Ideal.cos (h_v34 (ix2 t i))
def si (t : Fin 32) (i : Fin 32) : EReal := Ideal.sin (h_v34 (ix2 t i))

theorem cs_at (b : Fin 16) (t : Fin 32) (l : Fin 128) : h_v41 (ix2 ⟨b.val * 32 + t.val, by omega⟩ l) = tab (co t) (si t) l := by
  refine eq_tab (fun l => h_v41 (ix2 ⟨b.val * 32 + t.val, by omega⟩ l)) _ _ (fun r => ?_) (fun r => ?_) (fun r => ?_) (fun r => ?_) l
  · pointwise [h_v41, h_v40, h_v39, h_v38, h_v35, h_v37, h_v36]
    rfl
  · pointwise [h_v41, h_v40, h_v39, h_v38, h_v35, h_v37, h_v36]
    rfl
  · pointwise [h_v41, h_v40, h_v39, h_v38, h_v35, h_v37, h_v36]
    rw [dif_neg (by omega), dif_neg (by omega), dif_pos (by omega)]
    exact congrArg (fun i => -Ideal.sin (h_v34 (ix2 t i))) (Fin.ext (by simp only <;> omega))
  · pointwise [h_v41, h_v40, h_v39, h_v38, h_v35, h_v37, h_v36]
    rw [dif_neg (by omega), dif_neg (by omega), dif_neg (by omega)]
    exact congrArg (fun i => Ideal.sin (h_v34 (ix2 t i))) (Fin.ext (by simp only <;> omega))

theorem wq_lo (w : FVec Ideal S1x512x1536 .f32) (k : Fin 512) (j : Fin 2048) (h : j.val % 256 < 128) :
    h_v56 w (ix2 k j) = w (ix3 0 k ⟨j.val / 256 * 192 + j.val % 256, by omega⟩) := by
  pointwise [h_v56, h_v55, h_v54, h_v49, h_v48, h_v47, h_v50, h_v53, h_v51, h_v52]
  exact dif_pos h

theorem wq_hi (w : FVec Ideal S1x512x1536 .f32) (k : Fin 512) (n : ℕ) (hn : n < 8) (l : Fin 128) :
    h_v56 w (ix2 k ⟨n * 256 + 128 + l.val, by omega⟩)
      = twice (fun i => w (ix3 0 k ⟨n * 192 + (128 + i.val), by omega⟩)) (fun i => w (ix3 0 k ⟨n * 192 + (128 + (32 + i.val)), by omega⟩)) l := by
  refine eq_twice (fun l => h_v56 w (ix2 k ⟨n * 256 + 128 + l.val, by omega⟩)) _ _ (fun r => ?_) (fun r => ?_) (fun r => ?_) (fun r => ?_) l
  · pointwise [h_v56, h_v55, h_v54, h_v49, h_v48, h_v47, h_v50, h_v53, h_v51, h_v52]
    rw [dif_neg (by omega), dif_pos (by omega)]
    exact congrArg (fun s => w (ix3 0 k s)) (Fin.ext (by simp only <;> omega))
  · pointwise [h_v56, h_v55, h_v54, h_v49, h_v48, h_v47, h_v50, h_v53, h_v51, h_v52]
    rw [dif_neg (by omega), dif_pos (by omega)]
    exact congrArg (fun s => w (ix3 0 k s)) (Fin.ext (by simp only <;> omega))
  · pointwise [h_v56, h_v55, h_v54, h_v49, h_v48, h_v47, h_v50, h_v53, h_v51, h_v52]
    rw [dif_neg (by omega), dif_neg (by omega), dif_pos (by omega)]
    exact congrArg (fun s => w (ix3 0 k s)) (Fin.ext (by simp only <;> omega))
  · pointwise [h_v56, h_v55, h_v54, h_v49, h_v48, h_v47, h_v50, h_v53, h_v51, h_v52]
    rw [dif_neg (by omega), dif_neg (by omega), dif_neg (by omega)]
    exact congrArg (fun s => w (ix3 0 k s)) (Fin.ext (by simp only <;> omega))

/-- The query products of a token, at source column `s`. -/
def qV (a0 : FVec Ideal S16x32x1024 .f32) (a1 : FVec Ideal S1x1024 .f32) (a2 : FVec Ideal S1x1024x5968 .f32) (a3 : FVec Ideal S1x512 .f32) (a5 : FVec Ideal S1x512x1536 .f32) (b : Fin 16) (t : Fin 32) (s : Fin 1536) : EReal :=
  rw1 c512 (fun k : Fin 512 => hV a0 a1 a2 b t ⟨k.val, by omega⟩) (fun k => a3 (ix2 0 k)) (fun k => a5 (ix3 0 k s))

/-- The key-value latent of a token. -/
def latV (a0 : FVec Ideal S16x32x1024 .f32) (a1 : FVec Ideal S1x1024 .f32) (a2 : FVec Ideal S1x1024x5968 .f32) (a4 : FVec Ideal S1x256 .f32) (b : Fin 16) (t : Fin 32) (e : Fin 256) : EReal :=
  rn c256 (fun k : Fin 256 => hV a0 a1 a2 b t ⟨512 + k.val, by omega⟩) (fun k => a4 (ix2 0 k)) e

/-- The rotated lanes of a token. -/
def krV (a0 : FVec Ideal S16x32x1024 .f32) (a1 : FVec Ideal S1x1024 .f32) (a2 : FVec Ideal S1x1024x5968 .f32) (b : Fin 16) (t : Fin 32) (l : Fin 64) : EReal :=
  rot (co t) (si t) (fun i => hV a0 a1 a2 b t ⟨768 + i.val, by omega⟩) (fun i => hV a0 a1 a2 b t ⟨768 + (32 + i.val), by omega⟩) l

/-- A column of the part the second call reads. -/
def col896 (k : Fin 896) : Fin 6144 := ⟨k.val, by omega⟩

section
variable (a0 : FVec Ideal S16x32x1024 .f32) (a1 : FVec Ideal S1x1024 .f32) (a2 : FVec Ideal S1x1024x5968 .f32) (a3 : FVec Ideal S1x512 .f32) (a4 : FVec Ideal S1x256 .f32) (a5 : FVec Ideal S1x512x1536 .f32) (b : Fin 16) (t : Fin 32)
  (H : (⟨2, ![512, 896]⟩ : Shape).Idx → EReal) (r : Fin 512) (cs : Fin 128 → EReal)
  (hH : ∀ k : Fin 896, H (ix2 r k) = colmap (hV a0 a1 a2 b t) (col896 k)) (hc : ∀ l, cs l = tab (co t) (si t) l)
include hH hc

omit hc in
theorem q_val0 (j : Fin 2048) (h : j.val % 256 < 128) :
    qRow (R := 512) H (h_v43 a3) (h_v56 a5) r j = qV a0 a1 a2 a3 a5 b t ⟨j.val / 256 * 192 + j.val % 256, by omega⟩ :=
  rw1_congr _ (fun k => (hH _).trans (colmap_lo _ _ (by simp only [col896] <;> omega) _)) (fun k => gq_at a3 k) fun k => wq_lo a5 k j h

omit hc in
theorem q_val1 (n : ℕ) (hn : n < 8) (l : Fin 128) :
    qRow (R := 512) H (h_v43 a3) (h_v56 a5) r ⟨n * 256 + 128 + l.val, by omega⟩
      = twice (fun i => qV a0 a1 a2 a3 a5 b t ⟨n * 192 + (128 + i.val), by omega⟩) (fun i => qV a0 a1 a2 a3 a5 b t ⟨n * 192 + (128 + (32 + i.val)), by omega⟩) l :=
  (rw1_congr _ (fun k => (hH _).trans (colmap_lo _ _ (by simp only [col896] <;> omega) _)) (fun k => gq_at a3 k) fun k => wq_hi a5 k n hn l).trans
    (rw1_twice _ _ _ (fun k i => a5 (ix3 0 k ⟨n * 192 + (128 + i.val), by omega⟩)) (fun k i => a5 (ix3 0 k ⟨n * 192 + (128 + (32 + i.val)), by omega⟩)) l)

theorem q_val (j : Fin 2048) : qBlk (qRow (R := 512) H (h_v43 a3) (h_v56 a5) r) cs j = qSpec (qV a0 a1 a2 a3 a5 b t) (co t) (si t) j := by
  unfold qBlk qSpec
  by_cases h : j.val % 256 < 128
  · rw [if_pos h, dif_pos h]
    exact q_val0 a0 a1 a2 a3 a5 b t H r hH j h
  · rw [if_neg h, dif_neg h]
    refine (pair_congr (fun l => congrArg₂ (· * ·) (q_val1 a0 a1 a2 a3 a5 b t H r hH (j.val / 256) (by omega) l) (hc l)) _).trans ((pair_tab _ _ _ _ _).trans ?_)
    exact congrArg _ (Fin.ext (by simp only <;> omega))

omit hc in
theorem lat_val (e : Fin 256) : latRow (R := 512) H (h_v45 a4) r e = latV a0 a1 a2 a4 b t e :=
  rn_congr _ (fun k => (hH _).trans (colmap_lo _ _ (by simp only [col896] <;> omega) _)) (fun k => gk_at a4 k) e

theorem kr_val (l : Fin 128) : krRow (R := 512) H cs r l = if l.val < 64 then krV a0 a1 a2 b t ⟨l.val % 64, by omega⟩ else 0 := by
  unfold krRow
  refine if_congr Iff.rfl ?_ rfl
  exact (pair_congr (fun l => congrArg₂ (· * ·) ((hH _).trans (colmap_kr _ l)) (hc l)) l).trans (pair_tab _ _ _ _ _)

end

end Cert.NextX

end
-- ==== Proof.NextRefTerms.lean ====
module
public import proofs.«01_k».proof.Proof.Gen.NextRefIdeal.Run
public import proofs.«01_k».proof.Proof.Rope
public import Idealize.ShloMosaic.Lib.Pointwise

/-!
The results of `NextRefIdeal`, in named parts.
-/

@[expose] public section

set_option maxRecDepth 16384

noncomputable section

open Idealize.ShloMosaic Idealize.ShloMosaic.TcCoe Idealize.SL.Sem

namespace Cert.NextR

open Cert.NextRefIdeal Cert.NextRefIdeal.Gen Cert.Row

section
variable {F : FTy → Type} [FloatOps F]

/-- The angle of each position and frequency. -/
def rAng : FVec F S32x32 .f32 :=
  mulf (broadcastInDim S32x32 ![0, 1] bcast_S32x1_S32x32_0_1 (broadcastInDim S32x1 ![0] bcast_S32_S32x1_0 (sitofp .f32 (addi (broadcastInDim S32 ![] bcast_S_S32 (constantI S_ 32 2048#32)) (iotaInDim S32 32 0))))) (broadcastInDim S32x32 ![0, 1] bcast_S1x32_S32x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The input projection. -/
def rIn (x : FVec F S16x32x1024 .f32) (g : FVec F S1x1024 .f32) (w : FVec F S1x1024x5968 .f32) : FVec F S16x32x5968 .f32 :=
  Host.dotGeneral dot_S16x32x1024_S1024x5968_S16x32x5968_2_0_01_1_n_n none (mulf (mulf x (broadcastInDim S16x32x1024 ![0, 1, 2] bcast_S16x32x1_S16x32x1024_0_1_2 (Host.rsqrt (addf (Host.divf (broadcastInDim S16x32x1 ![0, 1] bcast_S16x32_S16x32x1_0_1 (Host.reduceAdd (mulf x x) (constant S_ .f32 0x00000000#32) reducesTo_S16x32x1024_S16x32_d2 h_S_)) (broadcastInDim S16x32x1 ![] bcast_S_S16x32x1 (constant S_ .f32 0x44800000#32))) (broadcastInDim S16x32x1 ![] bcast_S_S16x32x1 (constant S_ .f32 0x358637BD#32)))))) (broadcastInDim S16x32x1024 ![0, 1, 2] bcast_S1x1x1024_S16x32x1024_0_1_2 (broadcastInDim S1x1x1024 ![2] bcast_S1024_S1x1x1024_2 (shapeCast _ g shapeCasts_S1x1024_S1024)))) (shapeCast _ w shapeCasts_S1x1024x5968_S1024x5968)

/-- The key-value latent. -/
def rLat (h : FVec F S16x32x5968 .f32) (g : FVec F S1x256 .f32) : FVec F S16x32x256 .f32 :=
  mulf (mulf (extractStridedSlice S16x32x256 ![0, 0, 512] h slices_S16x32x5968_S16x32x256_0_0_512) (broadcastInDim S16x32x256 ![0, 1, 2] bcast_S16x32x1_S16x32x256_0_1_2 (Host.rsqrt (addf (Host.divf (broadcastInDim S16x32x1 ![0, 1] bcast_S16x32_S16x32x1_0_1 (Host.reduceAdd (mulf (extractStridedSlice S16x32x256 ![0, 0, 512] h slices_S16x32x5968_S16x32x256_0_0_512) (extractStridedSlice S16x32x256 ![0, 0, 512] h slices_S16x32x5968_S16x32x256_0_0_512)) (constant S_ .f32 0x00000000#32) reducesTo_S16x32x256_S16x32_d2 h_S_)) (broadcastInDim S16x32x1 ![] bcast_S_S16x32x1 (constant S_ .f32 0x43800000#32))) (broadcastInDim S16x32x1 ![] bcast_S_S16x32x1 (constant S_ .f32 0x358637BD#32)))))) (broadcastInDim S16x32x256 ![0, 1, 2] bcast_S1x1x256_S16x32x256_0_1_2 (broadcastInDim S1x1x256 ![2] bcast_S256_S1x1x256_2 (shapeCast _ g shapeCasts_S1x256_S256)))

/-- The rotated lanes every head shares. -/
def rRopeK (h : FVec F S16x32x5968 .f32) (a : FVec F S32x32 .f32) : FVec F S16x32x64 .f32 :=
  concatenate S16x32x64 2 [⟨S16x32x32, (subf (mulf (extractStridedSlice S16x32x32 ![0, 0, 0] (extractStridedSlice S16x32x64 ![0, 0, 768] h slices_S16x32x5968_S16x32x64_0_0_768) slices_S16x32x64_S16x32x32_0_0_0) (broadcastInDim S16x32x32 ![0, 1, 2] bcast_S1x32x32_S16x32x32_0_1_2 (broadcastInDim S1x32x32 ![1, 2] bcast_S32x32_S1x32x32_1_2 (Host.cos a)))) (mulf (extractStridedSlice S16x32x32 ![0, 0, 32] (extractStridedSlice S16x32x64 ![0, 0, 768] h slices_S16x32x5968_S16x32x64_0_0_768) slices_S16x32x64_S16x32x32_0_0_32) (broadcastInDim S16x32x32 ![0, 1, 2] bcast_S1x32x32_S16x32x32_0_1_2 (broadcastInDim S1x32x32 ![1, 2] bcast_S32x32_S1x32x32_1_2 (Host.sin a)))))⟩, ⟨S16x32x32, (addf (mulf (extractStridedSlice S16x32x32 ![0, 0, 32] (extractStridedSlice S16x32x64 ![0, 0, 768] h slices_S16x32x5968_S16x32x64_0_0_768) slices_S16x32x64_S16x32x32_0_0_32) (broadcastInDim S16x32x32 ![0, 1, 2] bcast_S1x32x32_S16x32x32_0_1_2 (broadcastInDim S1x32x32 ![1, 2] bcast_S32x32_S1x32x32_1_2 (Host.cos a)))) (mulf (extractStridedSlice S16x32x32 ![0, 0, 0] (extractStridedSlice S16x32x64 ![0, 0, 768] h slices_S16x32x5968_S16x32x64_0_0_768) slices_S16x32x64_S16x32x32_0_0_0) (broadcastInDim S16x32x32 ![0, 1, 2] bcast_S1x32x32_S16x32x32_0_1_2 (broadcastInDim S1x32x32 ![1, 2] bcast_S32x32_S1x32x32_1_2 (Host.sin a)))))⟩] concatenates_S16x32x32_S16x32x32_S16x32x64_d2

/-- The normed query latent. -/
def rQn (h : FVec F S16x32x5968 .f32) (g : FVec F S1x512 .f32) : FVec F S16x32x512 .f32 :=
  mulf (mulf (extractStridedSlice S16x32x512 ![0, 0, 0] h slices_S16x32x5968_S16x32x512_0_0_0) (broadcastInDim S16x32x512 ![0, 1, 2] bcast_S16x32x1_S16x32x512_0_1_2 (Host.rsqrt (addf (Host.divf (broadcastInDim S16x32x1 ![0, 1] bcast_S16x32_S16x32x1_0_1 (Host.reduceAdd (mulf (extractStridedSlice S16x32x512 ![0, 0, 0] h slices_S16x32x5968_S16x32x512_0_0_0) (extractStridedSlice S16x32x512 ![0, 0, 0] h slices_S16x32x5968_S16x32x512_0_0_0)) (constant S_ .f32 0x00000000#32) reducesTo_S16x32x512_S16x32_d2 h_S_)) (broadcastInDim S16x32x1 ![] bcast_S_S16x32x1 (constant S_ .f32 0x44000000#32))) (broadcastInDim S16x32x1 ![] bcast_S_S16x32x1 (constant S_ .f32 0x358637BD#32)))))) (broadcastInDim S16x32x512 ![0, 1, 2] bcast_S1x1x512_S16x32x512_0_1_2 (broadcastInDim S1x1x512 ![2] bcast_S512_S1x1x512_2 (shapeCast _ g shapeCasts_S1x512_S512)))

/-- The queries, by head. -/
def rQ (h : FVec F S16x32x5968 .f32) (g : FVec F S1x512 .f32) (w : FVec F S1x512x1536 .f32) : FVec F S16x32x8x192 .f32 :=
  shapeCast _ (Host.dotGeneral dot_S16x32x512_S512x1536_S16x32x1536_2_0_01_1_n_n none (rQn h g) (shapeCast _ w shapeCasts_S1x512x1536_S512x1536)) shapeCasts_S16x32x1536_S16x32x8x192

/-- The queries' rotated lanes. -/
def rRopeQ (q : FVec F S16x32x8x192 .f32) (a : FVec F S32x32 .f32) : FVec F S16x32x8x64 .f32 :=
  concatenate S16x32x8x64 3 [⟨S16x32x8x32, (subf (mulf (extractStridedSlice S16x32x8x32 ![0, 0, 0, 0] (extractStridedSlice S16x32x8x64 ![0, 0, 0, 128] q slices_S16x32x8x192_S16x32x8x64_0_0_0_128) slices_S16x32x8x64_S16x32x8x32_0_0_0_0) (broadcastInDim S16x32x8x32 ![0, 1, 2, 3] bcast_S1x32x1x32_S16x32x8x32_0_1_2_3 (broadcastInDim S1x32x1x32 ![1, 2, 3] bcast_S32x1x32_S1x32x1x32_1_2_3 (broadcastInDim S32x1x32 ![0, 2] bcast_S32x32_S32x1x32_0_2 (Host.cos a))))) (mulf (extractStridedSlice S16x32x8x32 ![0, 0, 0, 32] (extractStridedSlice S16x32x8x64 ![0, 0, 0, 128] q slices_S16x32x8x192_S16x32x8x64_0_0_0_128) slices_S16x32x8x64_S16x32x8x32_0_0_0_32) (broadcastInDim S16x32x8x32 ![0, 1, 2, 3] bcast_S1x32x1x32_S16x32x8x32_0_1_2_3 (broadcastInDim S1x32x1x32 ![1, 2, 3] bcast_S32x1x32_S1x32x1x32_1_2_3 (broadcastInDim S32x1x32 ![0, 2] bcast_S32x32_S32x1x32_0_2 (Host.sin a))))))⟩, ⟨S16x32x8x32, (addf (mulf (extractStridedSlice S16x32x8x32 ![0, 0, 0, 32] (extractStridedSlice S16x32x8x64 ![0, 0, 0, 128] q slices_S16x32x8x192_S16x32x8x64_0_0_0_128) slices_S16x32x8x64_S16x32x8x32_0_0_0_32) (broadcastInDim S16x32x8x32 ![0, 1, 2, 3] bcast_S1x32x1x32_S16x32x8x32_0_1_2_3 (broadcastInDim S1x32x1x32 ![1, 2, 3] bcast_S32x1x32_S1x32x1x32_1_2_3 (broadcastInDim S32x1x32 ![0, 2] bcast_S32x32_S32x1x32_0_2 (Host.cos a))))) (mulf (extractStridedSlice S16x32x8x32 ![0, 0, 0, 0] (extractStridedSlice S16x32x8x64 ![0, 0, 0, 128] q slices_S16x32x8x192_S16x32x8x64_0_0_0_128) slices_S16x32x8x64_S16x32x8x32_0_0_0_0) (broadcastInDim S16x32x8x32 ![0, 1, 2, 3] bcast_S1x32x1x32_S16x32x8x32_0_1_2_3 (broadcastInDim S1x32x1x32 ![1, 2, 3] bcast_S32x1x32_S1x32x1x32_1_2_3 (broadcastInDim S32x1x32 ![0, 2] bcast_S32x32_S32x1x32_0_2 (Host.sin a))))))⟩] concatenates_S16x32x8x32_S16x32x8x32_S16x32x8x64_d3

/-- The projection in the order its readers take it. -/
def oHin (h : FVec F S16x32x5968 .f32) : FVec F S512x6144 .f32 :=
  shapeCast _ ((concatenate S16x32x6144 2 [⟨S16x32x512, ((extractStridedSlice S16x32x512 ![0, 0, 0] h slices_S16x32x5968_S16x32x512_0_0_0))⟩, ⟨S16x32x256, ((extractStridedSlice S16x32x256 ![0, 0, 512] h slices_S16x32x5968_S16x32x256_0_0_512))⟩, ⟨S16x32x64, ((extractStridedSlice S16x32x64 ![0, 0, 768] h slices_S16x32x5968_S16x32x64_0_0_768))⟩, ⟨S16x32x32, ((extractStridedSlice S16x32x32 ![0, 0, 32] (extractStridedSlice S16x32x64 ![0, 0, 768] h slices_S16x32x5968_S16x32x64_0_0_768) slices_S16x32x64_S16x32x32_0_0_32))⟩, ⟨S16x32x32, ((extractStridedSlice S16x32x32 ![0, 0, 0] (extractStridedSlice S16x32x64 ![0, 0, 768] h slices_S16x32x5968_S16x32x64_0_0_768) slices_S16x32x64_S16x32x32_0_0_0))⟩, ⟨S16x32x16, ((extractStridedSlice S16x32x16 ![0, 0, 2880] h slices_S16x32x5968_S16x32x16_0_0_2880))⟩, ⟨S16x32x112, ((broadcastInDim S16x32x112 ![] bcast_S_S16x32x112 (constant S_ .f32 0x00000000#32)))⟩, ⟨S16x32x1024, ((extractStridedSlice S16x32x1024 ![0, 0, 1856] h slices_S16x32x5968_S16x32x1024_0_0_1856))⟩, ⟨S16x32x1024, ((extractStridedSlice S16x32x1024 ![0, 0, 2896] h slices_S16x32x5968_S16x32x1024_0_0_2896))⟩, ⟨S16x32x512, ((extractStridedSlice S16x32x512 ![0, 0, 832] h slices_S16x32x5968_S16x32x512_0_0_832))⟩, ⟨S16x32x512, ((extractStridedSlice S16x32x512 ![0, 0, 1344] h slices_S16x32x5968_S16x32x512_0_0_1344))⟩, ⟨S16x32x2048, ((extractStridedSlice S16x32x2048 ![0, 0, 3920] h slices_S16x32x5968_S16x32x2048_0_0_3920))⟩] concatenates_S16x32x512_S16x32x256_S16x32x64_S16x32x32_S16x32x32_S16x32x16_S16x32x112_S16x32x1024_S16x32x1024_S16x32x512_S16x32x512_S16x32x2048_S16x32x6144_d2)) shapeCasts_S16x32x6144_S512x6144

/-- The queries. -/
def oQ (q : FVec F S16x32x8x192 .f32) (r : FVec F S16x32x8x64 .f32) : FVec F S512x2048 .bf16 :=
  shapeCast _ (truncf .bf16 ((concatenate S16x32x8x256 3 [⟨S16x32x8x128, ((extractStridedSlice S16x32x8x128 ![0, 0, 0, 0] q slices_S16x32x8x192_S16x32x8x128_0_0_0_0))⟩, ⟨S16x32x8x64, (r)⟩, ⟨S16x32x8x64, (r)⟩] concatenates_S16x32x8x128_S16x32x8x64_S16x32x8x64_S16x32x8x256_d3)) bitsLt_bf16_f32) shapeCasts_S16x32x8x256_S512x2048

end

variable (m : (ℓ : Loc nD τ sig) → Buf (Elt Ideal) ℓ) (c : Dev nD)

theorem hin_res : Value.res_main_v117 m c = oHin (F := Ideal) (rIn (m ((c.tc : Thread nD τ).loc main_arg0)) (m ((c.tc : Thread nD τ).loc main_arg1)) (m ((c.tc : Thread nD τ).loc main_arg2))) := by
  unfold Value.res_main_v117
  rfl

theorem q_res : Value.res_main_v120 m c = oQ (F := Ideal) (rQ (rIn (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg5))) (rRopeQ (rQ (rIn (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg5))) (rAng (F := Ideal))) := by
  unfold Value.res_main_v120
  rfl

theorem kr_res : Value.res_main_v119 m c = broadcastInDim S1x16x32x64 ![1, 2, 3] bcast_S16x32x64_S1x16x32x64_1_2_3 (rRopeK (rIn (m ((c.tc : Thread nD τ).loc main_arg0)) (m ((c.tc : Thread nD τ).loc main_arg1)) (m ((c.tc : Thread nD τ).loc main_arg2))) (rAng (F := Ideal))) := by
  unfold Value.res_main_v119
  rfl

end Cert.NextR

end
-- ==== Proof.NextRefAt.lean ====
module
public import proofs.«01_k».proof.Proof.NextRefTerms

/-!
The parts of `NextRefIdeal`'s results, at an index.
-/

@[expose] public section

set_option maxRecDepth 16384

noncomputable section

open Idealize.ShloMosaic Idealize.ShloMosaic.TcCoe Idealize.SL.Sem

namespace Cert.NextR

open Cert.NextRefIdeal Cert.NextRefIdeal.Gen Cert.Row

theorem rIn_at (x : FVec Ideal S16x32x1024 .f32) (g : FVec Ideal S1x1024 .f32) (w : FVec Ideal S1x1024x5968 .f32) (b : Fin 16) (t : Fin 32) (j : Fin 5968) :
    rIn x g w (ix3 b t j) = rw1 c1024 (fun k => x (ix3 b t k)) (fun k => g (ix2 0 k)) (fun k => w (ix3 0 k j)) := by
  pointwise [rIn]
  rfl

theorem rQn_at (h : FVec Ideal S16x32x5968 .f32) (g : FVec Ideal S1x512 .f32) (b : Fin 16) (t : Fin 32) (e : Fin 512) :
    rQn h g (ix3 b t e) = rn c512 (fun k : Fin 512 => h (ix3 b t ⟨k.val, by omega⟩)) (fun k => g (ix2 0 k)) e := by
  pointwise [rQn]
  rfl

theorem rLat_at (h : FVec Ideal S16x32x5968 .f32) (g : FVec Ideal S1x256 .f32) (b : Fin 16) (t : Fin 32) (e : Fin 256) :
    rLat h g (ix3 b t e) = rn c256 (fun k : Fin 256 => h (ix3 b t ⟨512 + k.val, by omega⟩)) (fun k => g (ix2 0 k)) e := by
  pointwise [rLat]
  rfl

/-- Cosine and sine of a position's angles. -/
def co (a : FVec Ideal S32x32 .f32) (t : Fin 32) (i : Fin 32) : EReal := Ideal.cos (a (ix2 t i))
def si (a : FVec Ideal S32x32 .f32) (t : Fin 32) (i : Fin 32) : EReal := Ideal.sin (a (ix2 t i))

theorem rRopeK_at (h : FVec Ideal S16x32x5968 .f32) (a : FVec Ideal S32x32 .f32) (b : Fin 16) (t : Fin 32) (l : Fin 64) :
    rRopeK h a (ix3 b t l) = rot (co a t) (si a t) (fun i => h (ix3 b t ⟨768 + i.val, by omega⟩)) (fun i => h (ix3 b t ⟨768 + (32 + i.val), by omega⟩)) l := by
  refine eq_rot (fun l => rRopeK h a (ix3 b t l)) _ _ _ _ (fun r => ?_) (fun r => ?_) l
  · skip
    pointwise [rRopeK]
    rfl
  · skip
    pointwise [rRopeK]
    rfl

theorem rQ_at (h : FVec Ideal S16x32x5968 .f32) (g : FVec Ideal S1x512 .f32) (w : FVec Ideal S1x512x1536 .f32) (b : Fin 16) (t : Fin 32) (n : Fin 8) (e : Fin 192) :
    rQ h g w (ix4 b t n e) = rw1 c512 (fun k : Fin 512 => h (ix3 b t ⟨k.val, by omega⟩)) (fun k => g (ix2 0 k)) (fun k => w (ix3 0 k ⟨n.val * 192 + e.val, by omega⟩)) := by
  have hq : ∀ k, rQn h g (ix3 b t k) = rn c512 (fun k : Fin 512 => h (ix3 b t ⟨k.val, by omega⟩)) (fun k => g (ix2 0 k)) k := fun k => rQn_at h g b t k
  rw [rQ]
  generalize rQn h g = qn at hq ⊢
  pointwise
  simp only [hq]
  rfl

theorem rRopeQ_at (q : FVec Ideal S16x32x8x192 .f32) (a : FVec Ideal S32x32 .f32) (b : Fin 16) (t : Fin 32) (n : Fin 8) (l : Fin 64) :
    rRopeQ q a (ix4 b t n l) = rot (co a t) (si a t) (fun i => q (ix4 b t n ⟨128 + i.val, by omega⟩)) (fun i => q (ix4 b t n ⟨128 + (32 + i.val), by omega⟩)) l := by
  refine eq_rot (fun l => rRopeQ q a (ix4 b t n l)) _ _ _ _ (fun r => ?_) (fun r => ?_) l
  · skip
    pointwise [rRopeQ]
    rfl
  · skip
    pointwise [rRopeQ]
    rfl

theorem oQ_at (q : FVec Ideal S16x32x8x192 .f32) (r : FVec Ideal S16x32x8x64 .f32) (b : Fin 16) (t : Fin 32) (j : Fin 2048) :
    oQ q r (ix2 ⟨b.val * 32 + t.val, by omega⟩ j) = if h : j.val % 256 < 128 then q (ix4 b t ⟨j.val / 256, by omega⟩ ⟨j.val % 256, by omega⟩) else r (ix4 b t ⟨j.val / 256, by omega⟩ ⟨j.val % 64, by omega⟩) := by
  pointwise [oQ]
  split_ifs <;> first | rfl | (exfalso; omega) | exact congrArg (fun s => r (ix4 b t ⟨j.val / 256, by omega⟩ s)) (Fin.ext (by first | omega | (simp only <;> omega)))

theorem oHin_at (h : FVec Ideal S16x32x5968 .f32) (b : Fin 16) (t : Fin 32) (j : Fin 6144) :
    oHin h (ix2 ⟨b.val * 32 + t.val, by omega⟩ j) = colmap (fun s => h (ix3 b t s)) j := by
  pointwise [oHin]
  refine eq_colmap _ _ j (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_)
  · rw [dif_pos (by omega)]
  · rw [dif_neg (by omega), dif_pos (by omega)]; exact congrArg (fun s => h (ix3 b t s)) (Fin.ext (by first | omega | (simp only <;> omega)))
  · rw [dif_neg (by omega), dif_neg (by omega), dif_pos (by omega)]; exact congrArg (fun s => h (ix3 b t s)) (Fin.ext (by first | omega | (simp only <;> omega)))
  · rw [dif_neg (by omega), dif_neg (by omega), dif_neg (by omega), dif_pos (by omega)]; exact congrArg (fun s => h (ix3 b t s)) (Fin.ext (by first | omega | (simp only <;> omega)))
  · rw [dif_neg (by omega), dif_neg (by omega), dif_neg (by omega), dif_neg (by omega), dif_pos (by omega)]; exact congrArg (fun s => h (ix3 b t s)) (Fin.ext (by first | omega | (simp only <;> omega)))
  · rw [dif_neg (by omega), dif_neg (by omega), dif_neg (by omega), dif_neg (by omega), dif_neg (by omega), dif_pos (by omega)]; exact congrArg (fun s => h (ix3 b t s)) (Fin.ext (by first | omega | (simp only <;> omega)))
  · rw [dif_neg (by omega), dif_neg (by omega), dif_neg (by omega), dif_neg (by omega), dif_neg (by omega), dif_neg (by omega), dif_pos (by omega)]
  · rw [dif_neg (by omega), dif_neg (by omega), dif_neg (by omega), dif_neg (by omega), dif_neg (by omega), dif_neg (by omega), dif_neg (by omega), dif_pos (by omega)]; exact congrArg (fun s => h (ix3 b t s)) (Fin.ext (by first | omega | (simp only <;> omega)))
  · rw [dif_neg (by omega), dif_neg (by omega), dif_neg (by omega), dif_neg (by omega), dif_neg (by omega), dif_neg (by omega), dif_neg (by omega), dif_neg (by omega), dif_pos (by omega)]; exact congrArg (fun s => h (ix3 b t s)) (Fin.ext (by first | omega | (simp only <;> omega)))
  · rw [dif_neg (by omega), dif_neg (by omega), dif_neg (by omega), dif_neg (by omega), dif_neg (by omega), dif_neg (by omega), dif_neg (by omega), dif_neg (by omega), dif_neg (by omega), dif_pos (by omega)]; exact congrArg (fun s => h (ix3 b t s)) (Fin.ext (by first | omega | (simp only <;> omega)))
  · rw [dif_neg (by omega), dif_neg (by omega), dif_neg (by omega), dif_neg (by omega), dif_neg (by omega), dif_neg (by omega), dif_neg (by omega), dif_neg (by omega), dif_neg (by omega), dif_neg (by omega), dif_pos (by omega)]; exact congrArg (fun s => h (ix3 b t s)) (Fin.ext (by first | omega | (simp only <;> omega)))
  · rw [dif_neg (by omega), dif_neg (by omega), dif_neg (by omega), dif_neg (by omega), dif_neg (by omega), dif_neg (by omega), dif_neg (by omega), dif_neg (by omega), dif_neg (by omega), dif_neg (by omega), dif_neg (by omega)]; exact congrArg (fun s => h (ix3 b t s)) (Fin.ext (by first | omega | (simp only <;> omega)))

end Cert.NextR

end
-- ==== Proof.NextFinal.lean ====
module
public import proofs.«01_k».proof.Proof.NextVal
public import proofs.«01_k».proof.Proof.NextRefAt

/-!
The results of `NextIdeal` are those of `NextRefIdeal`.
-/

@[expose] public section

set_option maxRecDepth 16384

noncomputable section

open Idealize.ShloMosaic Idealize.ShloMosaic.TcCoe Idealize.SL.Sem

namespace Cert.NextR

open Cert.NextRefIdeal Cert.NextRefIdeal.Gen Cert.Row

/-- The latent as returned. -/
def oLat (l : FVec Ideal S16x32x256 .f32) : FVec Ideal S1x16x32x256 .f32 :=
  broadcastInDim S1x16x32x256 ![1, 2, 3] bcast_S16x32x256_S1x16x32x256_1_2_3 l

/-- The rotated lanes as returned. -/
def oKr (r : FVec Ideal S16x32x64 .f32) : FVec Ideal S1x16x32x64 .f32 :=
  broadcastInDim S1x16x32x64 ![1, 2, 3] bcast_S16x32x64_S1x16x32x64_1_2_3 r

theorem oLat_at (l : FVec Ideal S16x32x256 .f32) (b : Fin 16) (t : Fin 32) (e : Fin 256) : oLat l (ix4 0 b t e) = l (ix3 b t e) := by
  pointwise [oLat]

theorem oKr_at (r : FVec Ideal S16x32x64 .f32) (b : Fin 16) (t : Fin 32) (e : Fin 64) : oKr r (ix4 0 b t e) = r (ix3 b t e) := by
  pointwise [oKr]

end Cert.NextR

namespace Cert.NextX

open Cert.NextIdeal Cert.NextIdeal.Gen Cert.Row Cert.NextR

section
variable (a0 : FVec Ideal S16x32x1024 .f32) (a1 : FVec Ideal S1x1024 .f32) (a2 : FVec Ideal S1x1024x5968 .f32) (a3 : FVec Ideal S1x512 .f32) (a4 : FVec Ideal S1x256 .f32) (a5 : FVec Ideal S1x512x1536 .f32) (b : Fin 16) (t : Fin 32)

theorem in_ref (s : Fin 5968) : rIn (F := Ideal) a0 a1 a2 (ix3 b t s) = hV a0 a1 a2 b t s := rIn_at a0 a1 a2 b t s

theorem ang_ref (i : Fin 32) : rAng (F := Ideal) (ix2 t i) = h_v34 (ix2 t i) := rfl

theorem co_ref (i : Fin 32) : NextR.co (rAng (F := Ideal)) t i = co t i := congrArg Ideal.cos (ang_ref t i)

theorem si_ref (i : Fin 32) : NextR.si (rAng (F := Ideal)) t i = si t i := congrArg Ideal.sin (ang_ref t i)

theorem hin_ref (j : Fin 6144) : oHin (F := Ideal) (rIn a0 a1 a2) (ix2 ⟨b.val * 32 + t.val, by omega⟩ j) = colmap (hV a0 a1 a2 b t) j :=
  (oHin_at _ b t j).trans (colmap_congr (fun s => in_ref a0 a1 a2 b t s) j)

theorem lat_ref (e : Fin 256) : rLat (F := Ideal) (rIn a0 a1 a2) a4 (ix3 b t e) = latV a0 a1 a2 a4 b t e :=
  (rLat_at _ a4 b t e).trans (rn_congr _ (fun _ => in_ref a0 a1 a2 b t _) (fun _ => rfl) e)

theorem kr_ref (l : Fin 64) : rRopeK (F := Ideal) (rIn a0 a1 a2) rAng (ix3 b t l) = krV a0 a1 a2 b t l :=
  (rRopeK_at _ _ b t l).trans (rot_congr (co_ref t) (si_ref t) (fun _ => in_ref a0 a1 a2 b t _) (fun _ => in_ref a0 a1 a2 b t _) l)

theorem qq_ref (n : Fin 8) (e : Fin 192) :
    rQ (F := Ideal) (rIn a0 a1 a2) a3 a5 (ix4 b t n e) = qV a0 a1 a2 a3 a5 b t ⟨n.val * 192 + e.val, by omega⟩ :=
  (rQ_at _ a3 a5 b t n e).trans (rw1_congr _ (fun _ => in_ref a0 a1 a2 b t _) (fun _ => rfl) (fun _ => rfl))

theorem q_ref (j : Fin 2048) :
    oQ (F := Ideal) (rQ (rIn a0 a1 a2) a3 a5) (rRopeQ (rQ (rIn a0 a1 a2) a3 a5) rAng) (ix2 ⟨b.val * 32 + t.val, by omega⟩ j) = qSpec (qV a0 a1 a2 a3 a5 b t) (co t) (si t) j := by
  rw [oQ_at]
  unfold qSpec
  by_cases h : j.val % 256 < 128
  · rw [dif_pos h, dif_pos h]
    exact qq_ref a0 a1 a2 a3 a5 b t _ _
  · rw [dif_neg h, dif_neg h]
    exact (rRopeQ_at _ _ b t _ _).trans (rot_congr (co_ref t) (si_ref t) (fun _ => qq_ref a0 a1 a2 a3 a5 b t _ _) (fun _ => qq_ref a0 a1 a2 a3 a5 b t _ _) _)

end

section
/-- What the last host operations make of the call's arrays. -/
def o_lat (x : FVec Ideal S512x256 .f32) : FVec Ideal S1x16x32x256 .f32 :=
  broadcastInDim S1x16x32x256 ![1, 2, 3] bcast_S16x32x256_S1x16x32x256_1_2_3 (shapeCast S16x32x256 x shapeCasts_S512x256_S16x32x256)

def o_kr (x : FVec Ideal S512x128 .f32) : FVec Ideal S1x16x32x64 .f32 :=
  broadcastInDim S1x16x32x64 ![1, 2, 3] bcast_S16x32x64_S1x16x32x64_1_2_3
    (shapeCast S16x32x64 (extractStridedSlice S512x64 ![0, 0] x slices_S512x128_S512x64_0_0) shapeCasts_S512x64_S16x32x64)

theorem o_lat_at (x : FVec Ideal S512x256 .f32) (b : Fin 16) (t : Fin 32) (e : Fin 256) : o_lat x (ix4 0 b t e) = x (ix2 ⟨b.val * 32 + t.val, by omega⟩ e) := by
  pointwise [o_lat]

theorem o_kr_at (x : FVec Ideal S512x128 .f32) (b : Fin 16) (t : Fin 32) (e : Fin 64) : o_kr x (ix4 0 b t e) = x (ix2 ⟨b.val * 32 + t.val, by omega⟩ ⟨e.val, by omega⟩) := by
  pointwise [o_kr]

end

section
variable (m : (ℓ : Loc nD τ sig) → Buf (Elt Ideal) ℓ) (ρ : Dev nD → PrngReg) (c : Dev nD)

theorem W2_hin : W2 m ρ c (Proc.devRef .tc main_v19) = (fun i => colOf (R := 512) (h_v0 (m ((c.tc : Thread nD τ).loc main_arg0))) (h_v2 (m ((c.tc : Thread nD τ).loc main_arg1))) (h_v18 (m ((c.tc : Thread nD τ).loc main_arg2))) (i 0) (i 1) : S512x6144.Idx → EReal) := by
  refine (W2_arr m ρ c 3).trans ((hin_eq (V1 m ρ) c).trans ?_)
  rw [V1_v0, V1_v2, V1_v18]

theorem h_at (b : Fin 16) (t : Fin 32) (k : Fin 896) :
    V3 m ρ c main_v46 (ix2 ⟨b.val * 32 + t.val, by omega⟩ k) = colmap (hV (m ((c.tc : Thread nD τ).loc main_arg0)) (m ((c.tc : Thread nD τ).loc main_arg1)) (m ((c.tc : Thread nD τ).loc main_arg2)) b t) (col896 k) := by
  rw [V3_v46, W2_hin]
  refine Eq.trans ?_ (hin_at _ _ _ b t _)
  pointwise [h_v46]
  rfl

theorem g_q : V3 m ρ c main_v43 = h_v43 (m ((c.tc : Thread nD τ).loc main_arg3)) := (V3_v43 m ρ c).trans (congrArg h_v43 (W2_args m ρ c main_arg3 (by decide)))

theorem g_k : V3 m ρ c main_v45 = h_v45 (m ((c.tc : Thread nD τ).loc main_arg4)) := (V3_v45 m ρ c).trans (congrArg h_v45 (W2_args m ρ c main_arg4 (by decide)))

theorem w_q : V3 m ρ c main_v56 = h_v56 (m ((c.tc : Thread nD τ).loc main_arg5)) := (V3_v56 m ρ c).trans (congrArg h_v56 (W2_args m ρ c main_arg5 (by decide)))

theorem c_at (b : Fin 16) (t : Fin 32) (l : Fin 128) : V3 m ρ c main_v41 (ix2 ⟨b.val * 32 + t.val, by omega⟩ l) = tab (co t) (si t) l := by
  rw [V3_v41]
  exact cs_at b t l

theorem f_hin : W5 m ρ c (Proc.devRef .tc main_v19) = oHin (F := Ideal) (rIn (m ((c.tc : Thread nD τ).loc main_arg0)) (m ((c.tc : Thread nD τ).loc main_arg1)) (m ((c.tc : Thread nD τ).loc main_arg2))) := by
  refine (W5_of m ρ c main_v19 (by decide)).trans ((W4_of m ρ c main_v19 (by decide)).trans ((W3_of m ρ c main_v19 (by decide)).trans ((W2_hin m ρ c).trans ?_)))
  funext y
  obtain ⟨r, j, rfl⟩ : ∃ (y1 : Fin 512) (y2 : Fin 6144), y = ix2 y1 y2 := ⟨y 0, y 1, eq_ix2 y⟩
  obtain ⟨b, t, rfl⟩ : ∃ (b : Fin 16) (t : Fin 32), r = ⟨b.val * 32 + t.val, by omega⟩ :=
    ⟨⟨r.val / 32, by omega⟩, ⟨r.val % 32, by omega⟩, Fin.ext (by simp only <;> omega)⟩
  exact (hin_at _ _ _ b t j).trans (hin_ref _ _ _ b t j).symm

theorem f_lat : W5 m ρ c (Proc.devRef .tc main_v59) = oLat (rLat (F := Ideal) (rIn (m ((c.tc : Thread nD τ).loc main_arg0)) (m ((c.tc : Thread nD τ).loc main_arg1)) (m ((c.tc : Thread nD τ).loc main_arg2))) (m ((c.tc : Thread nD τ).loc main_arg4))) := by
  have h : W5 m ρ c (Proc.devRef .tc main_v59) = o_lat (W4 m ρ c (Proc.devRef .tc main_v57_1)) := by
    show StableHlo.after hostOps2 (W4 m ρ c) (Proc.devRef .tc main_v59) = _
    after_results_simp <;> (try dsimp only [Matrix.cons_val]) <;> (try after_results_simp) <;> rfl
  have h' := (W4_arr m ρ c 6).trans (lat_arr (V3 m ρ) c)
  refine h.trans ((congrArg o_lat h').trans ?_)
  funext y
  obtain ⟨z, b, t, j, rfl⟩ : ∃ (y0 : Fin 1) (y1 : Fin 16) (y2 : Fin 32) (y3 : Fin 256), y = ix4 y0 y1 y2 y3 := ⟨y 0, y 1, y 2, y 3, eq_ix4 y⟩
  obtain rfl : z = 0 := Subsingleton.elim _ _
  refine (o_lat_at _ b t j).trans ?_
  rw [g_k m ρ c]
  exact (lat_val (m ((c.tc : Thread nD τ).loc main_arg0)) (m ((c.tc : Thread nD τ).loc main_arg1)) (m ((c.tc : Thread nD τ).loc main_arg2)) (m ((c.tc : Thread nD τ).loc main_arg4)) b t (V3 m ρ c main_v46) ⟨b.val * 32 + t.val, by omega⟩ (h_at m ρ c b t) j).trans ((oLat_at _ b t j).trans (lat_ref (m ((c.tc : Thread nD τ).loc main_arg0)) (m ((c.tc : Thread nD τ).loc main_arg1)) (m ((c.tc : Thread nD τ).loc main_arg2)) (m ((c.tc : Thread nD τ).loc main_arg4)) b t j)).symm

theorem f_kr : W5 m ρ c (Proc.devRef .tc main_v62) = oKr (rRopeK (F := Ideal) (rIn (m ((c.tc : Thread nD τ).loc main_arg0)) (m ((c.tc : Thread nD τ).loc main_arg1)) (m ((c.tc : Thread nD τ).loc main_arg2))) rAng) := by
  have h : W5 m ρ c (Proc.devRef .tc main_v62) = o_kr (W4 m ρ c (Proc.devRef .tc main_v57_2)) := by
    show StableHlo.after hostOps2 (W4 m ρ c) (Proc.devRef .tc main_v62) = _
    after_results_simp <;> (try dsimp only [Matrix.cons_val]) <;> (try after_results_simp) <;> rfl
  have h' := (W4_arr m ρ c 7).trans (kr_arr (V3 m ρ) c)
  refine h.trans ((congrArg o_kr h').trans ?_)
  funext y
  obtain ⟨z, b, t, j, rfl⟩ : ∃ (y0 : Fin 1) (y1 : Fin 16) (y2 : Fin 32) (y3 : Fin 64), y = ix4 y0 y1 y2 y3 := ⟨y 0, y 1, y 2, y 3, eq_ix4 y⟩
  obtain rfl : z = 0 := Subsingleton.elim _ _
  refine (o_kr_at _ b t j).trans ?_
  exact ((kr_val (m ((c.tc : Thread nD τ).loc main_arg0)) (m ((c.tc : Thread nD τ).loc main_arg1)) (m ((c.tc : Thread nD τ).loc main_arg2)) b t (V3 m ρ c main_v46) ⟨b.val * 32 + t.val, by omega⟩ _ (h_at m ρ c b t) (c_at m ρ c b t) ⟨j.val, by omega⟩).trans ((if_pos (by simp only <;> omega)).trans (congrArg _ (Fin.ext (by simp only <;> omega))))).trans ((oKr_at _ b t j).trans (kr_ref (m ((c.tc : Thread nD τ).loc main_arg0)) (m ((c.tc : Thread nD τ).loc main_arg1)) (m ((c.tc : Thread nD τ).loc main_arg2)) b t j)).symm

theorem f_q : W5 m ρ c (Proc.devRef .tc main_v57_0) = oQ (F := Ideal) (rQ (rIn (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg5))) (rRopeQ (rQ (rIn (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg5))) rAng) := by
  refine (W5_of m ρ c main_v57_0 (by decide)).trans ((W4_arr m ρ c 5).trans ((q_arr (V3 m ρ) c).trans ?_))
  funext y
  obtain ⟨r, j, rfl⟩ : ∃ (y1 : Fin 512) (y2 : Fin 2048), y = ix2 y1 y2 := ⟨y 0, y 1, eq_ix2 y⟩
  obtain ⟨b, t, rfl⟩ : ∃ (b : Fin 16) (t : Fin 32), r = ⟨b.val * 32 + t.val, by omega⟩ :=
    ⟨⟨r.val / 32, by omega⟩, ⟨r.val % 32, by omega⟩, Fin.ext (by simp only <;> omega)⟩
  rw [g_q m ρ c, w_q m ρ c]
  exact (q_val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) b t (V3 m ρ c main_v46) ⟨b.val * 32 + t.val, by omega⟩ _ (h_at m ρ c b t) (c_at m ρ c b t) j).trans (q_ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) b t j).symm

end

end Cert.NextX

end
-- ==== Proof.NextClaims.lean ====
module
public import proofs.«01_k».proof.Proof.NextFinal
public import proofs.«01_k».proof.Proof.NextRun
public import proofs.«01_k».proof.Proof.Gen.Next.Frame
public import proofs.«01_k».proof.Proof.Gen.NextRefIdeal.Run
public import proofs.«01_k».proof.Defs
public import Idealize.ShloMosaic.Lib.Quiescent

/-!
The claims about `Next`.
-/

@[expose] public section

set_option maxRecDepth 16384

noncomputable section

open Idealize.ShloMosaic Idealize.ShloMosaic.TcCoe Idealize.SL.Sem

namespace Cert.NextC

open Cert.NextR

theorem frame_p : Cert.quiescent_Next := fun m ρ _ => Cert.Next.Gen.frame m ρ

theorem frame_pi : Cert.quiescent_NextIdeal := fun m ρ _ => Cert.NextIdeal.Gen.frame m ρ

theorem frame_ri : Cert.quiescent_NextRefIdeal := fun m ρ _ =>
  (θ_run Cert.NextRefIdeal.defs _ _).mono
    (fun r h => ⟨fun c => (h c).2.2.2.2, Idealize.ShloMosaic.sem_eq_zero_of_no_sems (by decide) r.2⟩)
    (Cert.NextRefIdeal.Value.run m ρ)

theorem preserves : Cert.preserves_Next_NextIdeal := trivial

/-- From the same arguments the two programs end with the same arrays. -/
theorem algebraic : Cert.algebraic_NextIdeal_NextRefIdeal := by
  intro m g m' g' _ hag
  refine ⟨fun c => oLat (rLat (F := Ideal) (rIn (m ((c.tc : Thread _ _).loc Cert.NextIdeal.main_arg0)) (m ((c.tc : Thread _ _).loc Cert.NextIdeal.main_arg1)) (m ((c.tc : Thread _ _).loc Cert.NextIdeal.main_arg2))) (m ((c.tc : Thread _ _).loc Cert.NextIdeal.main_arg4))), fun c => oKr (rRopeK (F := Ideal) (rIn (m ((c.tc : Thread _ _).loc Cert.NextIdeal.main_arg0)) (m ((c.tc : Thread _ _).loc Cert.NextIdeal.main_arg1)) (m ((c.tc : Thread _ _).loc Cert.NextIdeal.main_arg2))) rAng), fun c => oQ (F := Ideal) (rQ (rIn (m ((c.tc : Thread _ _).loc Cert.NextIdeal.main_arg0)) (m ((c.tc : Thread _ _).loc Cert.NextIdeal.main_arg1)) (m ((c.tc : Thread _ _).loc Cert.NextIdeal.main_arg2))) (m ((c.tc : Thread _ _).loc Cert.NextIdeal.main_arg3)) (m ((c.tc : Thread _ _).loc Cert.NextIdeal.main_arg5))) (rRopeQ (rQ (rIn (m ((c.tc : Thread _ _).loc Cert.NextIdeal.main_arg0)) (m ((c.tc : Thread _ _).loc Cert.NextIdeal.main_arg1)) (m ((c.tc : Thread _ _).loc Cert.NextIdeal.main_arg2))) (m ((c.tc : Thread _ _).loc Cert.NextIdeal.main_arg3)) (m ((c.tc : Thread _ _).loc Cert.NextIdeal.main_arg5))) rAng), fun c => oHin (F := Ideal) (rIn (m ((c.tc : Thread _ _).loc Cert.NextIdeal.main_arg0)) (m ((c.tc : Thread _ _).loc Cert.NextIdeal.main_arg1)) (m ((c.tc : Thread _ _).loc Cert.NextIdeal.main_arg2))), ?_, ?_⟩
  · refine (θ_run Cert.NextIdeal.defs _ _).mono (fun r h c => ?_) (Cert.NextX.run m g)
    have get := fun b hb => (h.1 c (Proc.devRef .tc b) (Cert.NextIdeal.Gen.mem_uc b hb))
    exact ⟨(get Cert.NextIdeal.main_v59 (by decide)).trans (Cert.NextX.f_lat m g c), (get Cert.NextIdeal.main_v62 (by decide)).trans (Cert.NextX.f_kr m g c), (get Cert.NextIdeal.main_v57_0 (by decide)).trans (Cert.NextX.f_q m g c), (get Cert.NextIdeal.main_v19 (by decide)).trans (Cert.NextX.f_hin m g c),
      (get Cert.NextIdeal.main_arg0 (by decide)).trans (Cert.NextIdeal.Gen.W5_main_arg0 m g c), (get Cert.NextIdeal.main_arg1 (by decide)).trans (Cert.NextIdeal.Gen.W5_main_arg1 m g c), (get Cert.NextIdeal.main_arg2 (by decide)).trans (Cert.NextIdeal.Gen.W5_main_arg2 m g c), (get Cert.NextIdeal.main_arg3 (by decide)).trans (Cert.NextIdeal.Gen.W5_main_arg3 m g c), (get Cert.NextIdeal.main_arg4 (by decide)).trans (Cert.NextIdeal.Gen.W5_main_arg4 m g c), (get Cert.NextIdeal.main_arg5 (by decide)).trans (Cert.NextIdeal.Gen.W5_main_arg5 m g c)⟩
  · refine (θ_run Cert.NextRefIdeal.defs _ _).mono (fun r h c => ?_) (Cert.NextRefIdeal.Value.run m' g')
    obtain ⟨h0, h1, h2, h3, h4, h5⟩ := hag c
    obtain ⟨elat, ekr, eq, ehin, hargs⟩ := h c
    refine ⟨elat.trans ?_, ekr.trans ((Cert.NextR.kr_res m' c).trans ?_), eq.trans ((Cert.NextR.q_res m' c).trans ?_), ehin.trans ((Cert.NextR.hin_res m' c).trans ?_), hargs⟩
    · rw [h0, h1, h2, h4]
      rfl
    · rw [h0, h1, h2]
      rfl
    · rw [h0, h1, h2, h3, h5]
    · rw [h0, h1, h2]

end Cert.NextC

end
-- ==== Proof.GlaPieces.lean ====
module
public import proofs.«01_k».proof.Proof.Gen.GlaIdeal.Frame
public import Idealize.ShloMosaic.Lib.Pipeline.ValueKit

/-!
The new state of the gated linear attention as one block writes it: the carried state is kept head by head in a scratch
array, each head is replaced once, and every later load finds the head stored last.
-/

@[expose] public section

set_option maxRecDepth 16384

noncomputable section

open Idealize.ShloMosaic Idealize.ShloMosaic.TcCoe Idealize.SL.Sem

namespace Cert.GlaX

open Cert.GlaIdeal Cert.GlaIdeal.Gen

variable {F : FTy → Type} [FloatOps F] [Named F]

/-- A load of the part stored last gives what was stored. -/
theorem cov_head {κ : Kind} {sp : Space} {s : Shape} {e : EltTy} (v : View sig κ sp s e) {off size : Fin s.rank → ℕ} {inb}
    (w : (Rect.unit (s := s) off size inb).toLoadRect.shape.Idx → Elt F e) (L : List (View.Piece (Elt F) s e)) :
    v.readCov (⟨Rect.unit off size inb, w⟩ :: L) (Rect.unit off size inb).toLoadRect = w := by
  rw [View.readCov_eq_canon']
  funext j
  exact View.canon_cons_emb _ w L j

/-- A store into another head is passed over. -/
theorem cov_skip {κ : Kind} {sp : Space} (v : View sig κ sp S4x256x128 .f32) {a b : ℕ} (hab : a ≠ b) {ia ib}
    (w : (Rect.unit (s := S4x256x128) ![a, 0, 0] S1x256x128.size ia).toLoadRect.shape.Idx → Elt F .f32)
    (L : List (View.Piece (Elt F) S4x256x128 .f32)) :
    v.readCov (⟨Rect.unit ![a, 0, 0] S1x256x128.size ia, w⟩ :: L) (Rect.unit (s := S4x256x128) ![b, 0, 0] S1x256x128.size ib).toLoadRect
      = v.readCov L (Rect.unit (s := S4x256x128) ![b, 0, 0] S1x256x128.size ib).toLoadRect := by
  rw [View.readCov_eq_canon', View.readCov_eq_canon']
  funext j
  refine View.canon_cons_of_not_mem _ L fun h => ?_
  have h0 := (Rect.mem_set_unit (s := S4x256x128) (off := ![a, 0, 0]) (size := S1x256x128.size) (inb := ia)).mp h 0
  have hj : (j 0).val < 1 := (j 0).isLt
  have he : (((Rect.unit (s := S4x256x128) ![b, 0, 0] S1x256x128.size ib).toLoadRect.idx j) 0).val = b + (j 0).val := by
    simp [LoadRect.idx]
  have h1 : a ≤ (((Rect.unit (s := S4x256x128) ![b, 0, 0] S1x256x128.size ib).toLoadRect.idx j) 0).val := h0.1
  have h2 : (((Rect.unit (s := S4x256x128) ![b, 0, 0] S1x256x128.size ib).toLoadRect.idx j) 0).val < a + 1 := h0.2
  omega

section
variable (c : Dev nD) (i : grid1.Coords) (arg2 : Memref sig .tc .vmem S32x1024 .f32) (harg2 : arg2.IsWhole) (arg3 : Memref sig .tc .vmem S32x1024 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S32x1024 .bf16) (harg11 : arg11.IsWhole) (arg12 : Memref sig .tc .vmem S1x4x128x256 .f32) (harg12 : arg12.IsWhole) (arg13 : Memref sig .tc .vmem S4x256x128 .f32) (harg13 : arg13.IsWhole) (hc0 : cond1_0 i) (hc1 : cond1_1 i)
    (x0 : Vec F S32x1024 .f32) (x1 : Vec F S32x1024 .f32) (x2 : Vec F S32x512 .f32) (x3 : Vec F S32x512 .f32) (x4 : Vec F S32x128 .f32) (x5 : Vec F S128x512 .bf16) (x6 : Vec F S1x512 .f32) (x7 : Vec F S1x256 .f32) (x8 : Vec F S1x4x128x256 .f32)

/-- What head 0 loads of the carried state is the state handed in. -/
theorem load_0 : kernelRun1_A.sl.v597 c arg10 harg10 arg13 x8 = k1_pay5 (View.readAt (Elt F) arg10.view (Rect.unit (s := S1x4x128x256) ![0, 0, 0, 0] S1x1x128x256.size inb_S1x4x128x256_S1x1x128x256_0_0_0_0).toLoadRect (harg10.unread x8)) := by
  unfold kernelRun1_A.sl.v597
  unfold kernelRun1_A.sl.HS0_4
  rw [cov_skip _ (by decide)]
  rw [cov_skip _ (by decide)]
  rw [cov_skip _ (by decide)]
  rw [cov_head]

/-- The state of head 0 as it is stored and written out. -/
theorem new_0 : kernelRun1_A.sl.v2364 c arg2 harg2 arg5 harg5 arg6 harg6 arg7 harg7 arg8 harg8 arg10 harg10 arg13 x0 x3 x4 x5 x6 x8 =
    k1_pay45 (k1_pay12 (kernelRun1_A.sl.r_1 c arg6 harg6 arg7 harg7 arg8 harg8 x4 x5 x6)) (k1_pay14 (View.readAt (Elt F) arg5.view (Rect.unit (s := S32x512) k1_off2 S32x128.size k1_off2_inb).toLoadRect (harg5.unread x3))) (k1_pay15 (View.readAt (Elt F) arg2.view (Rect.unit (s := S32x1024) k1_off3 S32x256.size k1_off3_inb).toLoadRect (harg2.unread x0))) (k1_pay42 (k1_pay5 (View.readAt (Elt F) arg10.view (Rect.unit (s := S1x4x128x256) ![0, 0, 0, 0] S1x1x128x256.size inb_S1x4x128x256_S1x1x128x256_0_0_0_0).toLoadRect (harg10.unread x8)))) := by
  unfold kernelRun1_A.sl.v2364
  unfold kernelRun1_A.sl.HS0_8
  rw [cov_skip _ (by decide)]
  unfold kernelRun1_A.sl.HS0_7
  rw [cov_skip _ (by decide)]
  unfold kernelRun1_A.sl.HS0_6
  rw [cov_skip _ (by decide)]
  unfold kernelRun1_A.sl.HS0_5
  rw [cov_head]
  unfold kernelRun1_A.sl.r_3 kernelRun1_A.sl.r_6 kernelRun1_A.sl.r_7 kernelRun1_A.sl.r_32 kernelRun1_A.sl.r_5
  rw [load_0]

/-- What head 1 loads of the carried state is the state handed in. -/
theorem load_1 : kernelRun1_A.sl.v1169 c arg2 harg2 arg5 harg5 arg6 harg6 arg7 harg7 arg8 harg8 arg10 harg10 arg13 x0 x3 x4 x5 x6 x8 = k1_pay6 (View.readAt (Elt F) arg10.view (Rect.unit (s := S1x4x128x256) ![0, 1, 0, 0] S1x1x128x256.size inb_S1x4x128x256_S1x1x128x256_0_1_0_0).toLoadRect (harg10.unread x8)) := by
  unfold kernelRun1_A.sl.v1169
  unfold kernelRun1_A.sl.HS0_5
  rw [cov_skip _ (by decide)]
  unfold kernelRun1_A.sl.HS0_4
  rw [cov_skip _ (by decide)]
  rw [cov_skip _ (by decide)]
  rw [cov_head]

/-- The state of head 1 as it is stored and written out. -/
theorem new_1 : kernelRun1_A.sl.v2370 c arg2 harg2 arg5 harg5 arg6 harg6 arg7 harg7 arg8 harg8 arg10 harg10 arg13 x0 x3 x4 x5 x6 x8 =
    k1_pay85 (k1_pay47 (kernelRun1_A.sl.r_2 c arg6 harg6 arg7 harg7 arg8 harg8 x4 x5 x6)) (k1_pay49 (View.readAt (Elt F) arg5.view (Rect.unit (s := S32x512) k1_off4 S32x128.size k1_off4_inb).toLoadRect (harg5.unread x3))) (k1_pay50 (View.readAt (Elt F) arg2.view (Rect.unit (s := S32x1024) k1_off5 S32x256.size k1_off5_inb).toLoadRect (harg2.unread x0))) (k1_pay83 (k1_pay6 (View.readAt (Elt F) arg10.view (Rect.unit (s := S1x4x128x256) ![0, 1, 0, 0] S1x1x128x256.size inb_S1x4x128x256_S1x1x128x256_0_1_0_0).toLoadRect (harg10.unread x8)))) := by
  unfold kernelRun1_A.sl.v2370
  unfold kernelRun1_A.sl.HS0_8
  rw [cov_skip _ (by decide)]
  unfold kernelRun1_A.sl.HS0_7
  rw [cov_skip _ (by decide)]
  unfold kernelRun1_A.sl.HS0_6
  rw [cov_head]
  unfold kernelRun1_A.sl.r_35 kernelRun1_A.sl.r_37 kernelRun1_A.sl.r_38 kernelRun1_A.sl.r_67
  rw [load_1]

/-- What head 2 loads of the carried state is the state handed in. -/
theorem load_2 : kernelRun1_A.sl.v1741 c arg2 harg2 arg5 harg5 arg6 harg6 arg7 harg7 arg8 harg8 arg10 harg10 arg13 x0 x3 x4 x5 x6 x8 = k1_pay7 (View.readAt (Elt F) arg10.view (Rect.unit (s := S1x4x128x256) ![0, 2, 0, 0] S1x1x128x256.size inb_S1x4x128x256_S1x1x128x256_0_2_0_0).toLoadRect (harg10.unread x8)) := by
  unfold kernelRun1_A.sl.v1741
  unfold kernelRun1_A.sl.HS0_6
  rw [cov_skip _ (by decide)]
  unfold kernelRun1_A.sl.HS0_5
  rw [cov_skip _ (by decide)]
  unfold kernelRun1_A.sl.HS0_4
  rw [cov_skip _ (by decide)]
  rw [cov_head]

/-- The state of head 2 as it is stored and written out. -/
theorem new_2 : kernelRun1_A.sl.v2376 c arg2 harg2 arg5 harg5 arg6 harg6 arg7 harg7 arg8 harg8 arg10 harg10 arg13 x0 x3 x4 x5 x6 x8 =
    k1_pay123 (k1_pay87 (kernelRun1_A.sl.r_2 c arg6 harg6 arg7 harg7 arg8 harg8 x4 x5 x6)) (k1_pay90 (View.readAt (Elt F) arg5.view (Rect.unit (s := S32x512) k1_off6 S32x128.size k1_off6_inb).toLoadRect (harg5.unread x3))) (k1_pay91 (View.readAt (Elt F) arg2.view (Rect.unit (s := S32x1024) k1_off7 S32x256.size k1_off7_inb).toLoadRect (harg2.unread x0))) (k1_pay121 (k1_pay7 (View.readAt (Elt F) arg10.view (Rect.unit (s := S1x4x128x256) ![0, 2, 0, 0] S1x1x128x256.size inb_S1x4x128x256_S1x1x128x256_0_2_0_0).toLoadRect (harg10.unread x8)))) := by
  unfold kernelRun1_A.sl.v2376
  unfold kernelRun1_A.sl.HS0_8
  rw [cov_skip _ (by decide)]
  unfold kernelRun1_A.sl.HS0_7
  rw [cov_head]
  unfold kernelRun1_A.sl.r_69 kernelRun1_A.sl.r_72 kernelRun1_A.sl.r_73 kernelRun1_A.sl.r_102
  rw [load_2]

/-- What head 3 loads of the carried state is the state handed in. -/
theorem load_3 : kernelRun1_A.sl.v2313 c arg2 harg2 arg5 harg5 arg6 harg6 arg7 harg7 arg8 harg8 arg10 harg10 arg13 x0 x3 x4 x5 x6 x8 = k1_pay8 (View.readAt (Elt F) arg10.view (Rect.unit (s := S1x4x128x256) ![0, 3, 0, 0] S1x1x128x256.size inb_S1x4x128x256_S1x1x128x256_0_3_0_0).toLoadRect (harg10.unread x8)) := by
  unfold kernelRun1_A.sl.v2313
  unfold kernelRun1_A.sl.HS0_7
  rw [cov_skip _ (by decide)]
  unfold kernelRun1_A.sl.HS0_6
  rw [cov_skip _ (by decide)]
  unfold kernelRun1_A.sl.HS0_5
  rw [cov_skip _ (by decide)]
  unfold kernelRun1_A.sl.HS0_4
  rw [cov_head]

/-- The state of head 3 as it is stored and written out. -/
theorem new_3 : kernelRun1_A.sl.v2382 c arg2 harg2 arg5 harg5 arg6 harg6 arg7 harg7 arg8 harg8 arg10 harg10 arg13 x0 x3 x4 x5 x6 x8 =
    k1_pay155 (k1_pay125 (kernelRun1_A.sl.r_2 c arg6 harg6 arg7 harg7 arg8 harg8 x4 x5 x6)) (k1_pay127 (View.readAt (Elt F) arg5.view (Rect.unit (s := S32x512) k1_off8 S32x128.size k1_off8_inb).toLoadRect (harg5.unread x3))) (k1_pay128 (View.readAt (Elt F) arg2.view (Rect.unit (s := S32x1024) k1_off9 S32x256.size k1_off9_inb).toLoadRect (harg2.unread x0))) (k1_pay8 (View.readAt (Elt F) arg10.view (Rect.unit (s := S1x4x128x256) ![0, 3, 0, 0] S1x1x128x256.size inb_S1x4x128x256_S1x1x128x256_0_3_0_0).toLoadRect (harg10.unread x8))) := by
  unfold kernelRun1_A.sl.v2382
  unfold kernelRun1_A.sl.HS0_8
  rw [cov_head]
  unfold kernelRun1_A.sl.r_104 kernelRun1_A.sl.r_106 kernelRun1_A.sl.r_107
  rw [load_3]

end

/-- The stores of the state result. -/
theorem pieces (c : Dev nD) (i : grid1.Coords) (arg2 : Memref sig .tc .vmem S32x1024 .f32) (harg2 : arg2.IsWhole) (arg3 : Memref sig .tc .vmem S32x1024 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S32x1024 .bf16) (harg11 : arg11.IsWhole) (arg12 : Memref sig .tc .vmem S1x4x128x256 .f32) (harg12 : arg12.IsWhole) (arg13 : Memref sig .tc .vmem S4x256x128 .f32) (harg13 : arg13.IsWhole) (hc0 : cond1_0 i) (hc1 : cond1_1 i)
    (x0 : Vec F S32x1024 .f32) (x1 : Vec F S32x1024 .f32) (x2 : Vec F S32x512 .f32) (x3 : Vec F S32x512 .f32) (x4 : Vec F S32x128 .f32) (x5 : Vec F S128x512 .bf16) (x6 : Vec F S1x512 .f32) (x7 : Vec F S1x256 .f32) (x8 : Vec F S1x4x128x256 .f32) :
    (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 =
      [⟨Rect.unit ![0, 3, 0, 0] ![1, 1, 128, 256] inb_S1x4x128x256_S1x1x128x256_0_3_0_0, k1_pay4 (kernelRun1_A.sl.v2382 c arg2 harg2 arg5 harg5 arg6 harg6 arg7 harg7 arg8 harg8 arg10 harg10 arg13 x0 x3 x4 x5 x6 x8)⟩,
       ⟨Rect.unit ![0, 2, 0, 0] ![1, 1, 128, 256] inb_S1x4x128x256_S1x1x128x256_0_2_0_0, k1_pay3 (kernelRun1_A.sl.v2376 c arg2 harg2 arg5 harg5 arg6 harg6 arg7 harg7 arg8 harg8 arg10 harg10 arg13 x0 x3 x4 x5 x6 x8)⟩,
       ⟨Rect.unit ![0, 1, 0, 0] ![1, 1, 128, 256] inb_S1x4x128x256_S1x1x128x256_0_1_0_0, k1_pay2 (kernelRun1_A.sl.v2370 c arg2 harg2 arg5 harg5 arg6 harg6 arg7 harg7 arg8 harg8 arg10 harg10 arg13 x0 x3 x4 x5 x6 x8)⟩,
       ⟨Rect.unit ![0, 0, 0, 0] ![1, 1, 128, 256] inb_S1x4x128x256_S1x1x128x256_0_0_0_0, k1_pay1 (kernelRun1_A.sl.v2364 c arg2 harg2 arg5 harg5 arg6 harg6 arg7 harg7 arg8 harg8 arg10 harg10 arg13 x0 x3 x4 x5 x6 x8)⟩] := by
  unfold kernelRun1_A
  rfl

end Cert.GlaX

end
-- ==== Proof.GlaSum.lean ====
module
public import proofs.«01_k».proof.Proof.Rope
public import Idealize.ShloMosaic.Lib.Pointwise

/-!
The arithmetic of the gated linear attention's decays: a running sum by doubling, and the exponential in base two.
-/

@[expose] public section

noncomputable section

open Idealize.ShloMosaic

namespace Cert.GlaM

/-- The logarithm of the gate: `log (sigmoid z) / 16`, as the softplus of `-z` negated. -/
def lsig (z : EReal) : EReal :=
  Ideal.div (-(max (-z) 0 + Ideal.log1p (Ideal.exp (-FloatOps.absf (F := Ideal) (φ := .f32) (-z))))) (Ideal.ofBits FTy.f32 0x41800000#32)

/-- Column `n * 128 + d` of the 512 gate columns, which are also a block's key columns. -/
def hcol (n : Fin 4) (d : Fin 128) : Fin 512 := ⟨n.val * 128 + d.val, by omega⟩

/-- Column `n * 256 + e` of a block's value columns. -/
def wcol (n : Fin 4) (e : Fin 256) : Fin 1024 := ⟨n.val * 256 + e.val, by omega⟩

/-- Key column `n * 128 + d` and value column `n * 256 + e` of the input projection. -/
def kcol (n : Fin 4) (d : Fin 128) : Fin 5968 := ⟨1344 + (n.val * 128 + d.val), by omega⟩
@[inherit_doc kcol]
def vcol (n : Fin 4) (e : Fin 256) : Fin 5968 := ⟨1856 + (n.val * 256 + e.val), by omega⟩

/-- The row `n` before `t`, wrapping around. -/
def back (t : Fin 32) (n : ℕ) : Fin 32 := ⟨(t.val + 32 - n) % 32, Nat.mod_lt _ (by decide)⟩

/-- The sum of the last `n` rows up to `t`. -/
def wsum (n : ℕ) (f : Fin 32 → EReal) (t : Fin 32) : EReal := ∑ s : Fin 32, if s ≤ t ∧ t.val < s.val + n then f s else 0

/-- The sum of all rows up to `t`. -/
def csum (f : Fin 32 → EReal) (t : Fin 32) : EReal := ∑ s : Fin 32, if s ≤ t then f s else 0

theorem wsum_one (f : Fin 32 → EReal) (t : Fin 32) : wsum 1 f t = f t := by
  unfold wsum
  rw [Finset.sum_eq_single t]
  · rw [if_pos ⟨le_refl _, by omega⟩]
  · intro s _ hs
    rw [if_neg]
    rintro ⟨h, h'⟩
    exact hs (Fin.ext (by have := Fin.le_def.mp h; omega))
  · intro h; exact absurd (Finset.mem_univ t) h

theorem wsum_step (n : ℕ) (hn : n ≤ 32) (f : Fin 32 → EReal) (t : Fin 32) :
    wsum n f t + (if n ≤ t.val then wsum n f (back t n) else 0) = wsum (2 * n) f t := by
  by_cases h : n ≤ t.val
  · have hb : (back t n).val = t.val - n := by
      show (t.val + 32 - n) % 32 = _
      rw [show t.val + 32 - n = (t.val - n) + 32 by omega, Nat.add_mod_right]; omega
    rw [if_pos h]
    unfold wsum
    rw [← Finset.sum_add_distrib]
    refine Finset.sum_congr rfl fun s _ => ?_
    simp only [Fin.le_def, hb]
    by_cases h1 : s.val ≤ t.val ∧ t.val < s.val + n
    · rw [if_pos h1, if_neg (by omega), if_pos (by omega), add_zero]
    · by_cases h2 : s.val ≤ t.val - n ∧ t.val - n < s.val + n
      · rw [if_neg h1, if_pos h2, if_pos (by omega), zero_add]
      · rw [if_neg h1, if_neg h2, if_neg (by omega), add_zero]
  · rw [if_neg h, add_zero]
    unfold wsum
    refine Finset.sum_congr rfl fun s _ => ?_
    simp only [Fin.le_def]
    exact if_congr (by omega) rfl rfl

theorem wsum_all (f : Fin 32 → EReal) (t : Fin 32) : wsum 32 f t = csum f t := by
  unfold wsum csum
  exact Finset.sum_congr rfl fun s _ => if_congr ⟨fun h => h.1, fun h => ⟨h, by omega⟩⟩ rfl rfl

/-- `1 / log 2`. -/
def cLog : EReal := (((Real.log 2)⁻¹ : ℝ) : EReal)

theorem log_pos : 0 < (Real.log 2)⁻¹ := inv_pos.mpr (Real.log_pos (by norm_num))

theorem exp2_log (x : EReal) : Ideal.exp2 (x * cLog) = Ideal.exp x := by
  unfold cLog
  induction x using EReal.rec with
  | bot => rw [EReal.bot_mul_coe_of_pos log_pos]; rfl
  | top => rw [EReal.top_mul_coe_of_pos log_pos]; rfl
  | coe r =>
    rw [← EReal.coe_mul, Ideal.exp2_coe, Ideal.exp_coe]
    refine congrArg _ ?_
    show (2 : ℝ) ^ (r * (Real.log 2)⁻¹) = _
    rw [Real.rpow_def_of_pos (by norm_num)]
    refine congrArg _ ?_
    have := log_pos
    field_simp

theorem sub_log (x y : EReal) : x * cLog - y * cLog = (x - y) * cLog := by
  unfold cLog
  rw [sub_eq_add_neg, sub_eq_add_neg, ← EReal.neg_mul, EReal.right_distrib_of_nonneg_of_ne_top]
  · exact_mod_cast log_pos.le
  · exact EReal.coe_ne_top _

/-- One head's new state at key row `d`, value column `e`, from its decays `b` in base two, keys, values and old state. -/
def headNew (b k : Fin 32 → EReal) (v : Fin 32 → EReal) (s : EReal) : EReal :=
  Ideal.exp2 (b 31) * s + ∑ t : Fin 32, v t * (k t * Ideal.exp2 (b 31 - b t))

/-- The same from the decays in base `e`, as the definition has it. -/
def headRef (b k : Fin 32 → EReal) (v : Fin 32 → EReal) (s : EReal) : EReal :=
  Ideal.exp (b 31) * s + ∑ t : Fin 32, k t * Ideal.exp (b 31 - b t) * v t

theorem headNew_eq (b k v : Fin 32 → EReal) (s : EReal) : headNew (fun t => b t * cLog) k v s = headRef b k v s := by
  unfold headNew headRef
  rw [exp2_log]
  refine congrArg _ (Finset.sum_congr rfl fun t _ => ?_)
  rw [sub_log, exp2_log, mul_comm]

/-- A product over 128 rows of which only the first 16 are not zero. -/
theorem sum_pad (g w : Fin 128 → EReal) (hw : ∀ k : Fin 128, 16 ≤ k.val → w k = 0) :
    ∑ k : Fin 128, g k * w k = ∑ k : Fin 16, g ⟨k.val, by omega⟩ * w ⟨k.val, by omega⟩ := by
  rw [show (∑ k : Fin 128, g k * w k) = ∑ k : Fin (16 + 112), g k * w k from rfl, Fin.sum_univ_add]
  rw [show (∑ i : Fin 112, g (Fin.natAdd 16 i) * w (Fin.natAdd 16 i)) = 0 from
    Finset.sum_eq_zero fun i _ => by rw [hw _ (by simp), mul_zero], add_zero]
  rfl

theorem headRef_congr {b b' k k' v v' : Fin 32 → EReal} {s s' : EReal} (hb : ∀ t, b t = b' t) (hk : ∀ t, k t = k' t) (hv : ∀ t, v t = v' t) (hs : s = s') :
    headRef b k v s = headRef b' k' v' s' := by
  rw [funext hb, funext hk, funext hv, hs]

theorem headNew_congr {b b' : Fin 32 → EReal} {k v : Fin 32 → EReal} {s : EReal} (hb : ∀ t, b t = b' t) :
    headNew b k v s = headNew b' k v s := by
  rw [funext hb]

/-- A new state entry from `N` gate inputs, their weights and offset, keys, values and the old entry. -/
def snF {N : ℕ} (g : Fin 32 → Fin N → EReal) (w : Fin N → EReal) (ba : EReal) (k v : Fin 32 → EReal) (s : EReal) : EReal :=
  headRef (csum fun t => lsig ((∑ x : Fin N, g t x * w x) + ba)) k v s

theorem snF_congr {N : ℕ} {g g' : Fin 32 → Fin N → EReal} {w w' : Fin N → EReal} {ba ba' : EReal} {k k' v v' : Fin 32 → EReal} {s s' : EReal}
    (hg : ∀ t x, g t x = g' t x) (hw : ∀ x, w x = w' x) (hb : ba = ba') (hk : ∀ t, k t = k' t) (hv : ∀ t, v t = v' t) (hs : s = s') :
    snF g w ba k v s = snF g' w' ba' k' v' s' := by
  rw [funext fun t => funext fun x => hg t x, funext hw, hb, funext hk, funext hv, hs]

end Cert.GlaM

end
-- ==== Proof.GlaPay.lean ====
module
public import proofs.«01_k».proof.Proof.GlaPieces
public import proofs.«01_k».proof.Proof.GlaSum

/-!
What one block of the gated linear attention computes for the new state, at an index.
-/

@[expose] public section

set_option maxRecDepth 16384

noncomputable section

open Idealize.ShloMosaic Idealize.ShloMosaic.TcCoe Idealize.SL.Sem

namespace Cert.GlaX

open Cert.GlaIdeal Cert.GlaIdeal.Gen Cert.GlaM

theorem head0 (l : FVec Ideal S32x512 .f32) (k : Vec Ideal S32x128 .f32) (v : Vec Ideal S32x256 .f32) (s : Vec Ideal S1x1x128x256 .f32) (d : Fin 128) (e : Fin 256) :
    k1_pay1 (k1_pay45 (k1_pay12 l) (k1_pay14 k) (k1_pay15 v) (k1_pay42 (k1_pay5 s))) (ix4 0 0 d e)
      = headNew (fun t => k1_pay11 l (ix2 t ⟨d.val, by omega⟩)) (fun t => k (ix2 t d)) (fun t => v (ix2 t e)) (s (ix4 0 0 d e)) := by
  pointwise [k1_pay1, k1_pay45, k1_pay12, k1_pay14, k1_pay15, k1_pay42, k1_pay5]
  rfl

theorem head1 (B : FVec Ideal S32x512 .f32) (k : Vec Ideal S32x128 .f32) (v : Vec Ideal S32x256 .f32) (s : Vec Ideal S1x1x128x256 .f32) (d : Fin 128) (e : Fin 256) :
    k1_pay2 (k1_pay85 (k1_pay47 B) (k1_pay49 k) (k1_pay50 v) (k1_pay83 (k1_pay6 s))) (ix4 0 0 d e)
      = headNew (fun t => B (ix2 t ⟨128 + d.val, by omega⟩)) (fun t => k (ix2 t d)) (fun t => v (ix2 t e)) (s (ix4 0 0 d e)) := by
  pointwise [k1_pay2, k1_pay85, k1_pay47, k1_pay49, k1_pay50, k1_pay83, k1_pay6]
  rfl

theorem head2 (B : FVec Ideal S32x512 .f32) (k : Vec Ideal S32x128 .f32) (v : Vec Ideal S32x256 .f32) (s : Vec Ideal S1x1x128x256 .f32) (d : Fin 128) (e : Fin 256) :
    k1_pay3 (k1_pay123 (k1_pay87 B) (k1_pay90 k) (k1_pay91 v) (k1_pay121 (k1_pay7 s))) (ix4 0 0 d e)
      = headNew (fun t => B (ix2 t ⟨256 + d.val, by omega⟩)) (fun t => k (ix2 t d)) (fun t => v (ix2 t e)) (s (ix4 0 0 d e)) := by
  pointwise [k1_pay3, k1_pay123, k1_pay87, k1_pay90, k1_pay91, k1_pay121, k1_pay7]
  rfl

theorem head3 (B : FVec Ideal S32x512 .f32) (k : Vec Ideal S32x128 .f32) (v : Vec Ideal S32x256 .f32) (s : Vec Ideal S1x1x128x256 .f32) (d : Fin 128) (e : Fin 256) :
    k1_pay4 (k1_pay155 (k1_pay125 B) (k1_pay127 k) (k1_pay128 v) (k1_pay8 s)) (ix4 0 0 d e)
      = headNew (fun t => B (ix2 t ⟨384 + d.val, by omega⟩)) (fun t => k (ix2 t d)) (fun t => v (ix2 t e)) (s (ix4 0 0 d e)) := by
  pointwise [k1_pay4, k1_pay155, k1_pay154, k1_pay125, k1_pay127, k1_pay128, k1_pay8]
  rfl

theorem la_at (w : Vec Ideal S128x512 .bf16) (ba : Vec Ideal S1x512 .f32) (g : Vec Ideal S32x128 .f32) (t : Fin 32) (e : Fin 512) :
    k1_pay10 w ba g (ix2 t e) = lsig ((∑ x : Fin 128, g (ix2 t x) * w (ix2 x e)) + ba (ix2 0 e)) := by
  pointwise [k1_pay10]
  simp [lsig]

/-- One doubling step of the running sum over the rows. -/
def stp (n : BitVec 32) (v : FVec Ideal S32x512 .f32) : FVec Ideal S32x512 .f32 :=
  addf v (select (cmpi .sge (iota .tc S32x512 32 [0] iota_S32x512_d0_w32) (broadcast S32x512 n))
    (dynamicRotate 0 n none v rotates_S32x512_d0) (broadcast S32x512 (Scalar.ofBits .f32 0x00000000#32)))

theorem cum_eq (l : FVec Ideal S32x512 .f32) :
    k1_pay11 l = mulf (stp 16#32 (stp 8#32 (stp 4#32 (stp 2#32 (stp 1#32 l))))) (broadcast S32x512 (Named.named κ "log2e" 0x3FB8AA3B#32)) := rfl

theorem sge_1 : ∀ t : Fin 32, IntOp.cmpi .sge (BitVec.ofNat 32 t.val) 1#32 = if 1 ≤ t.val then 1#1 else 0#1 := by decide +kernel

theorem stp_1 (v : FVec Ideal S32x512 .f32) (t : Fin 32) (e : Fin 512) :
    stp 1#32 v (ix2 t e) = v (ix2 t e) + if 1 ≤ t.val then v (ix2 (back t 1) e) else 0 := by
  pointwise [stp]
  rw [sge_1]
  by_cases h : 1 ≤ t.val
  · rw [if_pos h, if_pos h]; rfl
  · rw [if_neg h, if_neg h]; rfl

theorem sge_2 : ∀ t : Fin 32, IntOp.cmpi .sge (BitVec.ofNat 32 t.val) 2#32 = if 2 ≤ t.val then 1#1 else 0#1 := by decide +kernel

theorem stp_2 (v : FVec Ideal S32x512 .f32) (t : Fin 32) (e : Fin 512) :
    stp 2#32 v (ix2 t e) = v (ix2 t e) + if 2 ≤ t.val then v (ix2 (back t 2) e) else 0 := by
  pointwise [stp]
  rw [sge_2]
  by_cases h : 2 ≤ t.val
  · rw [if_pos h, if_pos h]; rfl
  · rw [if_neg h, if_neg h]; rfl

theorem sge_4 : ∀ t : Fin 32, IntOp.cmpi .sge (BitVec.ofNat 32 t.val) 4#32 = if 4 ≤ t.val then 1#1 else 0#1 := by decide +kernel

theorem stp_4 (v : FVec Ideal S32x512 .f32) (t : Fin 32) (e : Fin 512) :
    stp 4#32 v (ix2 t e) = v (ix2 t e) + if 4 ≤ t.val then v (ix2 (back t 4) e) else 0 := by
  pointwise [stp]
  rw [sge_4]
  by_cases h : 4 ≤ t.val
  · rw [if_pos h, if_pos h]; rfl
  · rw [if_neg h, if_neg h]; rfl

theorem sge_8 : ∀ t : Fin 32, IntOp.cmpi .sge (BitVec.ofNat 32 t.val) 8#32 = if 8 ≤ t.val then 1#1 else 0#1 := by decide +kernel

theorem stp_8 (v : FVec Ideal S32x512 .f32) (t : Fin 32) (e : Fin 512) :
    stp 8#32 v (ix2 t e) = v (ix2 t e) + if 8 ≤ t.val then v (ix2 (back t 8) e) else 0 := by
  pointwise [stp]
  rw [sge_8]
  by_cases h : 8 ≤ t.val
  · rw [if_pos h, if_pos h]; rfl
  · rw [if_neg h, if_neg h]; rfl

theorem sge_16 : ∀ t : Fin 32, IntOp.cmpi .sge (BitVec.ofNat 32 t.val) 16#32 = if 16 ≤ t.val then 1#1 else 0#1 := by decide +kernel

theorem stp_16 (v : FVec Ideal S32x512 .f32) (t : Fin 32) (e : Fin 512) :
    stp 16#32 v (ix2 t e) = v (ix2 t e) + if 16 ≤ t.val then v (ix2 (back t 16) e) else 0 := by
  pointwise [stp]
  rw [sge_16]
  by_cases h : 16 ≤ t.val
  · rw [if_pos h, if_pos h]; rfl
  · rw [if_neg h, if_neg h]; rfl

theorem named_log : (Named.named κ "log2e" 0x3FB8AA3B#32 : Ideal .f32) = cLog := rfl

/-- The kernel's running sum in base two. -/
theorem cum_at (l : FVec Ideal S32x512 .f32) (t : Fin 32) (e : Fin 512) : k1_pay11 l (ix2 t e) = csum (fun s => l (ix2 s e)) t * cLog := by
  have h1 : ∀ t, stp 1#32 l (ix2 t e) = wsum 2 (fun s => l (ix2 s e)) t := fun t => by
    rw [stp_1, ← wsum_step 1 (by decide)]; simp only [wsum_one]
  have h2 : ∀ t, stp 2#32 (stp 1#32 l) (ix2 t e) = wsum 4 (fun s => l (ix2 s e)) t := fun t => by
    rw [stp_2, h1, h1]; exact wsum_step 2 (by decide) _ t
  have h4 : ∀ t, stp 4#32 (stp 2#32 (stp 1#32 l)) (ix2 t e) = wsum 8 (fun s => l (ix2 s e)) t := fun t => by
    rw [stp_4, h2, h2]; exact wsum_step 4 (by decide) _ t
  have h8 : ∀ t, stp 8#32 (stp 4#32 (stp 2#32 (stp 1#32 l))) (ix2 t e) = wsum 16 (fun s => l (ix2 s e)) t := fun t => by
    rw [stp_8, h4, h4]; exact wsum_step 8 (by decide) _ t
  have h16 : stp 16#32 (stp 8#32 (stp 4#32 (stp 2#32 (stp 1#32 l)))) (ix2 t e) = csum (fun s => l (ix2 s e)) t := by
    rw [stp_16, h8, h8, ← wsum_all]; exact wsum_step 16 (by decide) _ t
  rw [cum_eq]
  show _ * _ = _
  rw [h16]
  rfl

end Cert.GlaX

end
-- ==== Proof.GlaBlk.lean ====
module
public import proofs.«01_k».proof.Proof.GlaPay
public import Idealize.ShloMosaic.Lib.WholeRead

/-!
The new state's block as a grid point leaves it, at an index, and the array made of the blocks.
-/

@[expose] public section

set_option maxRecDepth 16384

noncomputable section

open Idealize.ShloMosaic Idealize.ShloMosaic.TcCoe Idealize.SL.Sem

namespace Cert.GlaX

open Cert.GlaIdeal Cert.GlaIdeal.Gen Cert.GlaM

theorem ldK (arg5 : Memref sig .tc .vmem S32x512 .f32) (harg5 : arg5.IsWhole) (x : Vec Ideal S32x512 .f32)
    (n : ℕ) (off : Fin 2 → ℕ) (hoff : off = ![0, n]) (inb) (t : Fin 32) (d : Fin 128) (hn : n + d.val < 512) :
    View.readAt (Elt Ideal) arg5.view (Rect.unit (s := S32x512) off S32x128.size inb).toLoadRect (harg5.unread x) (ix2 t d) = x (ix2 t ⟨n + d.val, hn⟩) := by
  subst hoff
  rw [harg5.readAt_unread]
  congr 1
  ext a
  fin_cases a <;> simp [ix2]

theorem ldV (arg2 : Memref sig .tc .vmem S32x1024 .f32) (harg2 : arg2.IsWhole) (x : Vec Ideal S32x1024 .f32)
    (n : ℕ) (off : Fin 2 → ℕ) (hoff : off = ![0, n]) (inb) (t : Fin 32) (d : Fin 256) (hn : n + d.val < 1024) :
    View.readAt (Elt Ideal) arg2.view (Rect.unit (s := S32x1024) off S32x256.size inb).toLoadRect (harg2.unread x) (ix2 t d) = x (ix2 t ⟨n + d.val, hn⟩) := by
  subst hoff
  rw [harg2.readAt_unread]
  congr 1
  ext a
  fin_cases a <;> simp [ix2]

theorem ldS (arg10 : Memref sig .tc .vmem S1x4x128x256 .f32) (harg10 : arg10.IsWhole) (x : Vec Ideal S1x4x128x256 .f32)
    (n : ℕ) (hn : n < 4) (inb) (d : Fin 128) (e : Fin 256) :
    View.readAt (Elt Ideal) arg10.view (Rect.unit (s := S1x4x128x256) ![0, n, 0, 0] S1x1x128x256.size inb).toLoadRect (harg10.unread x) (ix4 0 0 d e) = x (ix4 0 ⟨n, hn⟩ d e) := by
  refine (harg10.readAt_unread _ _ _).trans ?_
  congr 1
  ext a
  fin_cases a <;> simp [ix4]

theorem off1 : k1_off1 = ![0, 0] := by decide

/-- One entry of the new state's block, from the blocks read. -/
def snB (x0 : Vec Ideal S32x1024 .f32) (x3 : Vec Ideal S32x512 .f32) (x4 : Vec Ideal S32x128 .f32) (x5 : Vec Ideal S128x512 .bf16) (x6 : Vec Ideal S1x512 .f32) (x8 : Vec Ideal S1x4x128x256 .f32)
    (n : Fin 4) (d : Fin 128) (e : Fin 256) : EReal :=
  snF (fun t (x : Fin 128) => x4 (ix2 t x)) (fun x => x5 (ix2 x (hcol n d))) (x6 (ix2 0 (hcol n d))) (fun t => x3 (ix2 t (hcol n d))) (fun t => x0 (ix2 t (wcol n e))) (x8 (ix4 0 n d e))

section
variable (c : Dev nD) (i : grid1.Coords) (arg2 : Memref sig .tc .vmem S32x1024 .f32) (harg2 : arg2.IsWhole) (arg3 : Memref sig .tc .vmem S32x1024 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S32x1024 .bf16) (harg11 : arg11.IsWhole) (arg12 : Memref sig .tc .vmem S1x4x128x256 .f32) (harg12 : arg12.IsWhole) (arg13 : Memref sig .tc .vmem S4x256x128 .f32) (harg13 : arg13.IsWhole) (hc0 : cond1_0 i) (hc1 : cond1_1 i)
    (x0 : Vec Ideal S32x1024 .f32) (x1 : Vec Ideal S32x1024 .f32) (x2 : Vec Ideal S32x512 .f32) (x3 : Vec Ideal S32x512 .f32) (x4 : Vec Ideal S32x128 .f32) (x5 : Vec Ideal S128x512 .bf16) (x6 : Vec Ideal S1x512 .f32) (x7 : Vec Ideal S1x256 .f32) (x8 : Vec Ideal S1x4x128x256 .f32)

theorem r1_at (t : Fin 32) (e : Fin 512) : kernelRun1_A.sl.r_1 (F := Ideal) c arg6 harg6 arg7 harg7 arg8 harg8 x4 x5 x6 (ix2 t e)
    = lsig ((∑ x : Fin 128, x4 (ix2 t x) * x5 (ix2 x e)) + x6 (ix2 0 e)) := by
  unfold kernelRun1_A.sl.r_1
  rw [la_at]
  refine congrArg lsig (congrArg₂ (· + ·) (Finset.sum_congr rfl fun x _ => congrArg₂ (· * ·) ?_ ?_) ?_)
  · rw [harg6.readAt_unread]
    congr 1
    ext a
    fin_cases a <;> simp [ix2, off1]
  · rw [harg7.readAt_unread]
    congr 1
    ext a
    fin_cases a <;> simp [ix2]
  · rw [harg8.readAt_unread]
    congr 1
    ext a
    fin_cases a <;> simp [ix2]

theorem sn_0 (d : Fin 128) (e : Fin 256) : k1_pay1 (kernelRun1_A.sl.v2364 (F := Ideal) c arg2 harg2 arg5 harg5 arg6 harg6 arg7 harg7 arg8 harg8 arg10 harg10 arg13 x0 x3 x4 x5 x6 x8) (ix4 0 0 d e) = snB x0 x3 x4 x5 x6 x8 0 d e := by
  rw [new_0, head0]
  refine (headNew_congr fun t => cum_at _ t _).trans ((headNew_eq _ _ _ _).trans ?_)
  unfold snB snF
  refine headRef_congr (fun t => congrArg (fun f => csum f t) (funext fun s => ?_)) (fun t => ?_) (fun t => ?_) ?_
  · exact (congrArg (fun q => kernelRun1_A.sl.r_1 (F := Ideal) c arg6 harg6 arg7 harg7 arg8 harg8 x4 x5 x6 (ix2 s q)) (Fin.ext (by simp [hcol]) : (⟨d.val, by omega⟩ : Fin 512) = hcol 0 d)).trans (r1_at c arg6 harg6 arg7 harg7 arg8 harg8 x4 x5 x6 s _)
  · exact ldK arg5 harg5 x3 0 k1_off2 (by decide) _ t d (by omega)
  · exact ldV arg2 harg2 x0 0 k1_off3 (by decide) _ t e (by omega)
  · exact ldS arg10 harg10 x8 0 (by decide) _ d e

theorem sn_1 (d : Fin 128) (e : Fin 256) : k1_pay2 (kernelRun1_A.sl.v2370 (F := Ideal) c arg2 harg2 arg5 harg5 arg6 harg6 arg7 harg7 arg8 harg8 arg10 harg10 arg13 x0 x3 x4 x5 x6 x8) (ix4 0 0 d e) = snB x0 x3 x4 x5 x6 x8 1 d e := by
  rw [new_1, head1]
  unfold kernelRun1_A.sl.r_2
  refine (headNew_congr fun t => cum_at _ t _).trans ((headNew_eq _ _ _ _).trans ?_)
  unfold snB snF
  refine headRef_congr (fun t => congrArg (fun f => csum f t) (funext fun s => ?_)) (fun t => ?_) (fun t => ?_) ?_
  · exact r1_at c arg6 harg6 arg7 harg7 arg8 harg8 x4 x5 x6 s _
  · exact ldK arg5 harg5 x3 128 k1_off4 (by decide) _ t d (by omega)
  · exact ldV arg2 harg2 x0 256 k1_off5 (by decide) _ t e (by omega)
  · exact ldS arg10 harg10 x8 1 (by decide) _ d e

theorem sn_2 (d : Fin 128) (e : Fin 256) : k1_pay3 (kernelRun1_A.sl.v2376 (F := Ideal) c arg2 harg2 arg5 harg5 arg6 harg6 arg7 harg7 arg8 harg8 arg10 harg10 arg13 x0 x3 x4 x5 x6 x8) (ix4 0 0 d e) = snB x0 x3 x4 x5 x6 x8 2 d e := by
  rw [new_2, head2]
  unfold kernelRun1_A.sl.r_2
  refine (headNew_congr fun t => cum_at _ t _).trans ((headNew_eq _ _ _ _).trans ?_)
  unfold snB snF
  refine headRef_congr (fun t => congrArg (fun f => csum f t) (funext fun s => ?_)) (fun t => ?_) (fun t => ?_) ?_
  · exact r1_at c arg6 harg6 arg7 harg7 arg8 harg8 x4 x5 x6 s _
  · exact ldK arg5 harg5 x3 256 k1_off6 (by decide) _ t d (by omega)
  · exact ldV arg2 harg2 x0 512 k1_off7 (by decide) _ t e (by omega)
  · exact ldS arg10 harg10 x8 2 (by decide) _ d e

theorem sn_3 (d : Fin 128) (e : Fin 256) : k1_pay4 (kernelRun1_A.sl.v2382 (F := Ideal) c arg2 harg2 arg5 harg5 arg6 harg6 arg7 harg7 arg8 harg8 arg10 harg10 arg13 x0 x3 x4 x5 x6 x8) (ix4 0 0 d e) = snB x0 x3 x4 x5 x6 x8 3 d e := by
  rw [new_3, head3]
  unfold kernelRun1_A.sl.r_2
  refine (headNew_congr fun t => cum_at _ t _).trans ((headNew_eq _ _ _ _).trans ?_)
  unfold snB snF
  refine headRef_congr (fun t => congrArg (fun f => csum f t) (funext fun s => ?_)) (fun t => ?_) (fun t => ?_) ?_
  · exact r1_at c arg6 harg6 arg7 harg7 arg8 harg8 x4 x5 x6 s _
  · exact ldK arg5 harg5 x3 384 k1_off8 (by decide) _ t d (by omega)
  · exact ldV arg2 harg2 x0 768 k1_off9 (by decide) _ t e (by omega)
  · exact ldS arg10 harg10 x8 3 (by decide) _ d e

end

theorem t3_congr (T : Fin 4 → Fin 128 → Fin 256 → EReal) {a a' : Fin 4} {b b' : Fin 128} {c c' : Fin 256} (ha : a.val = a'.val) (hb : b.val = b'.val) (hc : c.val = c'.val) :
    T a b c = T a' b' c' := by
  rw [Fin.ext ha, Fin.ext hb, Fin.ext hc]

/-- Four tiles, one per head, each right, make the whole block right. -/
theorem canonS (T : Fin 4 → Fin 128 → Fin 256 → EReal) (P0 P1 P2 P3 : Vec Ideal S1x1x128x256 .f32)
    (h0 : ∀ (d : Fin 128) (e : Fin 256), P0 (ix4 0 0 d e) = T 0 d e)
    (h1 : ∀ (d : Fin 128) (e : Fin 256), P1 (ix4 0 0 d e) = T 1 d e)
    (h2 : ∀ (d : Fin 128) (e : Fin 256), P2 (ix4 0 0 d e) = T 2 d e)
    (h3 : ∀ (d : Fin 128) (e : Fin 256), P3 (ix4 0 0 d e) = T 3 d e)
    (y : S1x4x128x256.Idx) :
    View.canon (Val := Elt Ideal) (s := S1x4x128x256) (e := .f32) [⟨Rect.unit ![0, 3, 0, 0] ![1, 1, 128, 256] inb_S1x4x128x256_S1x1x128x256_0_3_0_0, P3⟩, ⟨Rect.unit ![0, 2, 0, 0] ![1, 1, 128, 256] inb_S1x4x128x256_S1x1x128x256_0_2_0_0, P2⟩, ⟨Rect.unit ![0, 1, 0, 0] ![1, 1, 128, 256] inb_S1x4x128x256_S1x1x128x256_0_1_0_0, P1⟩, ⟨Rect.unit ![0, 0, 0, 0] ![1, 1, 128, 256] inb_S1x4x128x256_S1x1x128x256_0_0_0_0, P0⟩] y = T (y 1) (y 2) (y 3) := by
  rename' h0 => k0, h1 => k1, h2 => k2, h3 => k3
  canon_tiles x h
  · have e := k3 (x 2) (x 3)
    have q : ix4 0 0 (x 2) (x 3) = x := (congrArg₂ (fun a b => ix4 a b (x 2) (x 3)) (Subsingleton.elim (α := Fin 1) _ _) (Subsingleton.elim (α := Fin 1) _ _)).trans (eq_ix4 x).symm
    refine (congrArg P3 q.symm).trans (e.trans (t3_congr T ?_ ?_ ?_))
    · show 3 = (y 1).val
      omega
    · exact h2.symm
    · exact h3.symm
  · have e := k2 (x 2) (x 3)
    have q : ix4 0 0 (x 2) (x 3) = x := (congrArg₂ (fun a b => ix4 a b (x 2) (x 3)) (Subsingleton.elim (α := Fin 1) _ _) (Subsingleton.elim (α := Fin 1) _ _)).trans (eq_ix4 x).symm
    refine (congrArg P2 q.symm).trans (e.trans (t3_congr T ?_ ?_ ?_))
    · show 2 = (y 1).val
      omega
    · exact h2.symm
    · exact h3.symm
  · have e := k1 (x 2) (x 3)
    have q : ix4 0 0 (x 2) (x 3) = x := (congrArg₂ (fun a b => ix4 a b (x 2) (x 3)) (Subsingleton.elim (α := Fin 1) _ _) (Subsingleton.elim (α := Fin 1) _ _)).trans (eq_ix4 x).symm
    refine (congrArg P1 q.symm).trans (e.trans (t3_congr T ?_ ?_ ?_))
    · show 1 = (y 1).val
      omega
    · exact h2.symm
    · exact h3.symm
  · have e := k0 (x 2) (x 3)
    have q : ix4 0 0 (x 2) (x 3) = x := (congrArg₂ (fun a b => ix4 a b (x 2) (x 3)) (Subsingleton.elim (α := Fin 1) _ _) (Subsingleton.elim (α := Fin 1) _ _)).trans (eq_ix4 x).symm
    refine (congrArg P0 q.symm).trans (e.trans (t3_congr T ?_ ?_ ?_))
    · show 0 = (y 1).val
      omega
    · exact h2.symm
    · exact h3.symm

end Cert.GlaX

end
-- ==== Proof.GlaArr.lean ====
module
public import proofs.«01_k».proof.Proof.GlaBlk
public import Idealize.ShloMosaic.Lib.Pipeline.ValueKit

/-!
The new state's array, made of its sixteen blocks.
-/

@[expose] public section

set_option maxRecDepth 16384

noncomputable section

open Idealize.ShloMosaic Idealize.ShloMosaic.TcCoe Idealize.SL.Sem

namespace Cert.GlaX

open Cert.GlaIdeal Cert.GlaIdeal.Gen Cert.GlaM

/-- The block a run of the body leaves. -/
theorem out_at (c : Dev nD) (i : grid1.Coords) (arg2 : Memref sig .tc .vmem S32x1024 .f32) (harg2 : arg2.IsWhole) (arg3 : Memref sig .tc .vmem S32x1024 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S32x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg11 : Memref sig .tc .vmem S32x1024 .bf16) (harg11 : arg11.IsWhole) (arg12 : Memref sig .tc .vmem S1x4x128x256 .f32) (harg12 : arg12.IsWhole) (arg13 : Memref sig .tc .vmem S4x256x128 .f32) (harg13 : arg13.IsWhole) (hc0 : cond1_0 i) (hc1 : cond1_1 i)
    (x0 : Vec Ideal S32x1024 .f32) (x1 : Vec Ideal S32x1024 .f32) (x2 : Vec Ideal S32x512 .f32) (x3 : Vec Ideal S32x512 .f32) (x4 : Vec Ideal S32x128 .f32) (x5 : Vec Ideal S128x512 .bf16) (x6 : Vec Ideal S1x512 .f32) (x7 : Vec Ideal S1x256 .f32) (x8 : Vec Ideal S1x4x128x256 .f32) (n : Fin 4) (d : Fin 128) (e : Fin 256) :
    out1_A_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix4 0 n d e) = snB x0 x3 x4 x5 x6 x8 n d e := by
  rw [out1_A_10, View.read_writes_junk_apply_eq_canon, pieces]
  exact canonS (fun n d e => snB x0 x3 x4 x5 x6 x8 n d e) _ _ _ _
    (fun d e => sn_0 c arg2 harg2 arg5 harg5 arg6 harg6 arg7 harg7 arg8 harg8 arg10 harg10 arg13 x0 x3 x4 x5 x6 x8 d e)
    (fun d e => sn_1 c arg2 harg2 arg5 harg5 arg6 harg6 arg7 harg7 arg8 harg8 arg10 harg10 arg13 x0 x3 x4 x5 x6 x8 d e)
    (fun d e => sn_2 c arg2 harg2 arg5 harg5 arg6 harg6 arg7 harg7 arg8 harg8 arg10 harg10 arg13 x0 x3 x4 x5 x6 x8 d e)
    (fun d e => sn_3 c arg2 harg2 arg5 harg5 arg6 harg6 arg7 harg7 arg8 harg8 arg10 harg10 arg13 x0 x3 x4 x5 x6 x8 d e)
    (ix4 0 n d e)

/-- Row `b * 32 + t` of the tokens, and the columns of the projection a block reads: gate inputs, keys, values. -/
def row (b : Fin 16) (t : Fin 32) : Fin 512 := ⟨b.val * 32 + t.val, by omega⟩
@[inherit_doc row]
def gc (x : Fin 128) : Fin 6144 := ⟨896 + x.val, by omega⟩
@[inherit_doc row]
def kc (n : Fin 4) (d : Fin 128) : Fin 6144 := ⟨3584 + (n.val * 128 + d.val), by omega⟩
@[inherit_doc row]
def vc (n : Fin 4) (e : Fin 256) : Fin 6144 := ⟨1024 + (n.val * 256 + e.val), by omega⟩

/-- One entry of the new state from the arrays the call reads. -/
def snA (H : S512x6144.Idx → EReal) (W : S128x512.Idx → EReal) (ba : S1x512.Idx → EReal) (S : S16x4x128x256.Idx → EReal) (b : Fin 16) (n : Fin 4) (d : Fin 128) (e : Fin 256) : EReal :=
  snF (fun t (x : Fin 128) => H (ix2 (row b t) (gc x))) (fun x => W (ix2 x (hcol n d))) (ba (ix2 0 (hcol n d)))
    (fun t => H (ix2 (row b t) (kc n d))) (fun t => H (ix2 (row b t) (vc n e))) (S (ix4 b n d e))

theorem idx1 : ∀ t : Fin grid1.N, win1_0.index t = ![t.val, 1] ∧ win1_3.index t = ![t.val, 7] ∧ win1_4.index t = ![t.val, 7] ∧ win1_5.index t = ![0, 0] ∧ win1_6.index t = ![0, 0] ∧ win1_8.index t = ![t.val, 0, 0, 0] ∧ win1_10.index t = ![t.val, 0, 0, 0] := by
  decide +kernel

variable (V : (c : Dev nD) → (b : Ref sig .tc) → Buf (Elt Ideal) ((c : Thread nD τ).loc b)) (c : Dev nD)

theorem sn_blk (t : Fin cfg1.N) (n : Fin 4) (d : Fin 128) (e : Fin 256) :
    (outsAt1 V c t).2 (ix4 0 n d e) = snB (iblk1 V c 0 t) (iblk1 V c 3 t) (iblk1 V c 4 t) (iblk1 V c 5 t) (iblk1 V c 6 t) (iblk1 V c 8 t) n d e := by
  unfold outsAt1
  dsimp only
  rw [out_at]

theorem sn_arr :
    (dat1 V c).arrAt 10 cfg1.N = (fun i => snA (V c main_v19) (V c main_v22) (V c main_v24) (V c main_v27) (i 0) (i 1) (i 2) (i 3) : S16x4x128x256.Idx → EReal) := by
  refine (dat1 V c).arrAt_eq_of_covers 10 _ (by decide +kernel) fun t hf y => ?_
  blk_simp
  rw [after1_10]
  obtain ⟨z, n, d, e, rfl⟩ : ∃ (y0 : Fin 1) (y1 : Fin 4) (y2 : Fin 128) (y3 : Fin 256), y = ix4 y0 y1 y2 y3 := ⟨y 0, y 1, y 2, y 3, eq_ix4 y⟩
  obtain rfl : z = 0 := Subsingleton.elim _ _
  rw [sn_blk]
  unfold snB snA
  refine snF_congr (fun s x => ?_) (fun x => ?_) ?_ (fun s => ?_) (fun s => ?_) ?_
  · blk_point [iblk1, (idx1 t).2.2.1, (idx1 t).2.2.2.2.2.2, row, gc, hcol, wcol, kc, vc]
  · blk_point [iblk1, (idx1 t).2.2.2.1, (idx1 t).2.2.2.2.2.2, row, gc, hcol, wcol, kc, vc]
  · blk_point [iblk1, (idx1 t).2.2.2.2.1, (idx1 t).2.2.2.2.2.2, row, gc, hcol, wcol, kc, vc]
  · blk_point [iblk1, (idx1 t).2.1, (idx1 t).2.2.2.2.2.2, row, gc, hcol, wcol, kc, vc]
  · blk_point [iblk1, (idx1 t).1, (idx1 t).2.2.2.2.2.2, row, gc, hcol, wcol, kc, vc]
  · blk_point [iblk1, (idx1 t).2.2.2.2.2.1, (idx1 t).2.2.2.2.2.2, row, gc, hcol, wcol, kc, vc]

end Cert.GlaX

end
-- ==== Proof.GlaRun.lean ====
module
public import proofs.«01_k».proof.Proof.Gen.GlaIdeal.Frame

/-!
The run of `GlaIdeal`: every weakly fair execution ends with each buffer at what the last stretch of host operations
leaves, so the results can be read besides the arguments.
-/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GlaX

open Cert.GlaIdeal Cert.GlaIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The generated launch over the segments, with the whole last valuation kept. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

end Cert.GlaX

end
-- ==== Proof.GlaIn.lean ====
module
public import proofs.«01_k».proof.Proof.GlaRun
public import proofs.«01_k».proof.Proof.Rows
public import Idealize.ShloMosaic.Lib.Pipeline.ValueKit

/-!
The input projection of `GlaIdeal`: what its region leaves, at an index.
-/

@[expose] public section

set_option maxRecDepth 16384

noncomputable section

open Idealize.ShloMosaic Idealize.ShloMosaic.TcCoe Idealize.SL.Sem

namespace Cert.GlaX

open Cert.GlaIdeal Cert.GlaIdeal.Gen Cert.Row

/-- One token's normed row against one column. -/
def colOf {R : ℕ} (X : (⟨2, ![R, 1024]⟩ : Shape).Idx → EReal) (g : S1x1024.Idx → EReal) (W : S1024x6144.Idx → EReal) (r : Fin R) (j : Fin 6144) : EReal :=
  rw1 c1024 (fun k => X (ix2 r k)) (fun k => g (ix2 0 k)) (fun k => W (ix2 k j))

theorem pay_a (x0 : Vec Ideal S256x1024 .f32) (x1 : Vec Ideal S1x1024 .f32) (w : Vec Ideal S1024x1536 .bf16) (r : Fin 256) (d : Fin 1536) :
    k0_pay3 x0 x1 w (ix2 r d) = rw1 c1024 (fun k => x0 (ix2 r k)) (fun k => x1 (ix2 0 k)) (fun k => w (ix2 k d)) := by
  pointwise [k0_pay3, k0_pay2]
  rfl

theorem pay_b (x0 : Vec Ideal S256x1024 .f32) (x1 : Vec Ideal S1x1024 .f32) (w : Vec Ideal S1024x1536 .bf16) (r : Fin 256) (d : Fin 1536) :
    k0_pay4 x0 x1 w (ix2 r d) = rw1 c1024 (fun k => x0 (ix2 r k)) (fun k => x1 (ix2 0 k)) (fun k => w (ix2 k d)) := by
  pointwise [k0_pay4, k0_pay2]
  rfl

theorem pay_c (x0 : Vec Ideal S256x1024 .f32) (x1 : Vec Ideal S1x1024 .f32) (w : Vec Ideal S1024x1536 .bf16) (r : Fin 256) (d : Fin 1536) :
    k0_pay5 x0 x1 w (ix2 r d) = rw1 c1024 (fun k => x0 (ix2 r k)) (fun k => x1 (ix2 0 k)) (fun k => w (ix2 k d)) := by
  pointwise [k0_pay5, k0_pay2]
  rfl

theorem pay_d (x0 : Vec Ideal S256x1024 .f32) (x1 : Vec Ideal S1x1024 .f32) (w : Vec Ideal S1024x1536 .bf16) (r : Fin 256) (d : Fin 1536) :
    k0_pay1 (k0_pay2 x0 x1) (k0_pay6 w) (constant S256x1536 .f32 0x00000000#32) (ix2 r d)
      = rw1 c1024 (fun k => x0 (ix2 r k)) (fun k => x1 (ix2 0 k)) (fun k => w (ix2 k d)) := by
  pointwise [k0_pay1, k0_pay2, k0_pay6]
  rfl

/-- Four tiles of 1536 columns, each right, make the whole block right. -/
theorem canon4 (T : Fin 256 → Fin 6144 → EReal) (P0 P1 P2 P3 : Vec Ideal S256x1536 .f32)
    (h0 : ∀ (r : Fin 256) (d : Fin 1536), P0 (ix2 r d) = T r ⟨0 + d.val, by omega⟩)
    (h1 : ∀ (r : Fin 256) (d : Fin 1536), P1 (ix2 r d) = T r ⟨1536 + d.val, by omega⟩)
    (h2 : ∀ (r : Fin 256) (d : Fin 1536), P2 (ix2 r d) = T r ⟨3072 + d.val, by omega⟩)
    (h3 : ∀ (r : Fin 256) (d : Fin 1536), P3 (ix2 r d) = T r ⟨4608 + d.val, by omega⟩)
    (y : S256x6144.Idx) :
    View.canon (Val := Elt Ideal) (s := S256x6144) (e := .f32) [⟨r0_9, P3⟩, ⟨r0_7, P2⟩, ⟨r0_5, P1⟩, ⟨r0_3, P0⟩] y = T (y 0) (y 1) := by
  rename' h0 => k0, h1 => k1, h2 => k2, h3 => k3
  canon_tiles x h
  · have e := k3 (x 0) (x 1)
    rw [← eq_ix2 x] at e
    refine e.trans (congrArg₂ T (Fin.ext ?_) (Fin.ext ?_)) <;> simp only <;> omega
  · have e := k2 (x 0) (x 1)
    rw [← eq_ix2 x] at e
    refine e.trans (congrArg₂ T (Fin.ext ?_) (Fin.ext ?_)) <;> simp only <;> omega
  · have e := k1 (x 0) (x 1)
    rw [← eq_ix2 x] at e
    refine e.trans (congrArg₂ T (Fin.ext ?_) (Fin.ext ?_)) <;> simp only <;> omega
  · have e := k0 (x 0) (x 1)
    rw [← eq_ix2 x] at e
    refine e.trans (congrArg₂ T (Fin.ext ?_) (Fin.ext ?_)) <;> simp only <;> omega

/-- The block of the projection. -/
theorem out0_at (x0 : Vec Ideal S256x1024 .f32) (x1 : Vec Ideal S1x1024 .f32) (x2 : Vec Ideal S1024x6144 .bf16) (r : Fin 256) (j : Fin 6144) :
    out0_3 x0 x1 x2 (ix2 r j) = colOf x0 x1 x2 r j := by
  unfold out0_3
  refine canon4 (colOf x0 x1 x2) _ _ _ _ (fun r d => ?_) (fun r d => ?_) (fun r d => ?_) (fun r d => ?_) (ix2 r j)
  · rw [pay_a]; refine rw1_congr _ (fun k => ?_) (fun k => ?_) fun k => ?_ <;> refine View.ld_unit_apply_of _ _ _ _ _ _ (fun a => ?_) <;> fin_cases a <;> simp
  · rw [pay_b]; refine rw1_congr _ (fun k => ?_) (fun k => ?_) fun k => ?_ <;> refine View.ld_unit_apply_of _ _ _ _ _ _ (fun a => ?_) <;> fin_cases a <;> simp
  · rw [pay_c]; refine rw1_congr _ (fun k => ?_) (fun k => ?_) fun k => ?_ <;> refine View.ld_unit_apply_of _ _ _ _ _ _ (fun a => ?_) <;> fin_cases a <;> simp
  · rw [pay_d]; refine rw1_congr _ (fun k => ?_) (fun k => ?_) fun k => ?_ <;> refine View.ld_unit_apply_of _ _ _ _ _ _ (fun a => ?_) <;> fin_cases a <;> simp

theorem idx0 : ∀ t : Fin grid0.N, win0_0.index t = ![t.val, 0] ∧ win0_1.index t = ![0, 0] ∧ win0_2.index t = ![0, 0] ∧ win0_3.index t = ![t.val, 0] := by
  decide +kernel

variable (V : (c : Dev nD) → (b : Ref sig .tc) → Buf (Elt Ideal) ((c : Thread nD τ).loc b))

/-- The projection's array. -/
theorem hin_eq (c : Dev nD) :
    (dat0 V c).arrAt 3 cfg0.N = (fun i => colOf (R := 512) (V c main_v0) (V c main_v2) (V c main_v18) (i 0) (i 1) : S512x6144.Idx → EReal) := by
  refine (dat0 V c).arrAt_eq_of_covers 3 _ (by decide +kernel) fun t hf y => ?_
  blk_simp [iblk0]
  rw [after0_3]
  obtain ⟨r, e, rfl⟩ : ∃ (y1 : Fin 256) (y2 : Fin 6144), y = ix2 y1 y2 := ⟨y 0, y 1, eq_ix2 y⟩
  rw [out0_at]
  refine rw1_congr _ (fun k => ?_) (fun k => ?_) fun k => ?_
  · blk_point [iblk0, (idx0 t).1, (idx0 t).2.2.2]
  · blk_point [iblk0, (idx0 t).2.1, (idx0 t).2.2.2]
  · blk_point [iblk0, (idx0 t).2.2.1, (idx0 t).2.2.2]

end Cert.GlaX

end
-- ==== Proof.GlaHost.lean ====
module
public import proofs.«01_k».proof.Proof.GlaIn

/-!
What the host operations of `GlaIdeal` hold before each of its two calls, as terms in the arguments.
-/

@[expose] public section

set_option maxRecDepth 16384

noncomputable section

open Idealize.ShloMosaic Idealize.ShloMosaic.TcCoe Idealize.SL.Sem

namespace Cert.GlaX

open Cert.GlaIdeal Cert.GlaIdeal.Gen Cert.Row

def h_v0 (arg0 : FVec Ideal S16x32x1024 .f32) : FVec Ideal S512x1024 .f32 :=
  shapeCast _ arg0 shapeCasts_S16x32x1024_S512x1024

def h_v1 (arg1 : FVec Ideal S1x1024 .f32) : FVec Ideal S1024 .f32 :=
  shapeCast _ arg1 shapeCasts_S1x1024_S1024

def h_v2 (arg1 : FVec Ideal S1x1024 .f32) : FVec Ideal S1x1024 .f32 :=
  broadcastInDim S1x1024 ![1] bcast_S1024_S1x1024_1 (h_v1 arg1)

def h_v3 (arg2 : FVec Ideal S1x1024x5968 .f32) : FVec Ideal S1024x5968 .f32 :=
  shapeCast _ arg2 shapeCasts_S1x1024x5968_S1024x5968

def h_v4 (arg2 : FVec Ideal S1x1024x5968 .f32) : FVec Ideal S1024x512 .f32 :=
  extractStridedSlice S1024x512 ![0, 0] (h_v3 arg2) slices_S1024x5968_S1024x512_0_0

def h_v5 (arg2 : FVec Ideal S1x1024x5968 .f32) : FVec Ideal S1024x256 .f32 :=
  extractStridedSlice S1024x256 ![0, 512] (h_v3 arg2) slices_S1024x5968_S1024x256_0_512

def h_v6 (arg2 : FVec Ideal S1x1024x5968 .f32) : FVec Ideal S1024x64 .f32 :=
  extractStridedSlice S1024x64 ![0, 768] (h_v3 arg2) slices_S1024x5968_S1024x64_0_768

def h_v13 (arg2 : FVec Ideal S1x1024x5968 .f32) : FVec Ideal S1024x32 .f32 :=
  extractStridedSlice S1024x32 ![0, 32] (h_v6 arg2) slices_S1024x64_S1024x32_0_32

def h_v14 (arg2 : FVec Ideal S1x1024x5968 .f32) : FVec Ideal S1024x32 .f32 :=
  extractStridedSlice S1024x32 ![0, 0] (h_v6 arg2) slices_S1024x64_S1024x32_0_0

def h_v15 (arg2 : FVec Ideal S1x1024x5968 .f32) : FVec Ideal S1024x64 .f32 :=
  concatenate S1024x64 1 [⟨S1024x32, (h_v13 arg2)⟩, ⟨S1024x32, (h_v14 arg2)⟩] concatenates_S1024x32_S1024x32_S1024x64_d1

def h_v10 (arg2 : FVec Ideal S1x1024x5968 .f32) : FVec Ideal S1024x16 .f32 :=
  extractStridedSlice S1024x16 ![0, 2880] (h_v3 arg2) slices_S1024x5968_S1024x16_0_2880

def h_cst : FVec Ideal S_ .f32 :=
  constant S_ .f32 0x00000000#32

def h_v16 : FVec Ideal S1024x112 .f32 :=
  broadcastInDim S1024x112 ![] bcast_S_S1024x112 h_cst

def h_v9 (arg2 : FVec Ideal S1x1024x5968 .f32) : FVec Ideal S1024x1024 .f32 :=
  extractStridedSlice S1024x1024 ![0, 1856] (h_v3 arg2) slices_S1024x5968_S1024x1024_0_1856

def h_v11 (arg2 : FVec Ideal S1x1024x5968 .f32) : FVec Ideal S1024x1024 .f32 :=
  extractStridedSlice S1024x1024 ![0, 2896] (h_v3 arg2) slices_S1024x5968_S1024x1024_0_2896

def h_v7 (arg2 : FVec Ideal S1x1024x5968 .f32) : FVec Ideal S1024x512 .f32 :=
  extractStridedSlice S1024x512 ![0, 832] (h_v3 arg2) slices_S1024x5968_S1024x512_0_832

def h_v8 (arg2 : FVec Ideal S1x1024x5968 .f32) : FVec Ideal S1024x512 .f32 :=
  extractStridedSlice S1024x512 ![0, 1344] (h_v3 arg2) slices_S1024x5968_S1024x512_0_1344

def h_v12 (arg2 : FVec Ideal S1x1024x5968 .f32) : FVec Ideal S1024x2048 .f32 :=
  extractStridedSlice S1024x2048 ![0, 3920] (h_v3 arg2) slices_S1024x5968_S1024x2048_0_3920

def h_v17 (arg2 : FVec Ideal S1x1024x5968 .f32) : FVec Ideal S1024x6144 .f32 :=
  (concatenate S1024x6144 1 [⟨S1024x512, (h_v4 arg2)⟩, ⟨S1024x256, (h_v5 arg2)⟩, ⟨S1024x64, (h_v6 arg2)⟩, ⟨S1024x64, (h_v15 arg2)⟩, ⟨S1024x16, (h_v10 arg2)⟩, ⟨S1024x112, h_v16⟩, ⟨S1024x1024, (h_v9 arg2)⟩, ⟨S1024x1024, (h_v11 arg2)⟩, ⟨S1024x512, (h_v7 arg2)⟩, ⟨S1024x512, (h_v8 arg2)⟩, ⟨S1024x2048, (h_v12 arg2)⟩] concatenates_S1024x512_S1024x256_S1024x64_S1024x64_S1024x16_S1024x112_S1024x1024_S1024x1024_S1024x512_S1024x512_S1024x2048_S1024x6144_d1)

def h_v18 (arg2 : FVec Ideal S1x1024x5968 .f32) : FVec Ideal S1024x6144 .bf16 :=
  truncf .bf16 (h_v17 arg2) bitsLt_bf16_f32

def h_v20 (arg3 : FVec Ideal S1x16x512 .f32) : FVec Ideal S16x512 .f32 :=
  shapeCast S16x512 arg3 shapeCasts_S1x16x512_S16x512

/-- The number the gate's weights are padded with. -/
def h_pad : FVec Ideal S_ .f32 :=
  sitofp .f32 (constantI S_ 32 0#32)

def h_v21 (arg3 : FVec Ideal S1x16x512 .f32) : FVec Ideal S128x512 .f32 :=
  pad S128x512 ![0, 0] ![112, 0] ![0, 0] (h_v20 arg3) h_pad pads_S16x512_S128x512_01120_000 h_S_

def h_v22 (arg3 : FVec Ideal S1x16x512 .f32) : FVec Ideal S128x512 .bf16 :=
  truncf .bf16 (h_v21 arg3) bitsLt_bf16_f32

def h_v23 (arg4 : FVec Ideal S1x512 .f32) : FVec Ideal S512 .f32 :=
  shapeCast S512 arg4 shapeCasts_S1x512_S512

def h_v24 (arg4 : FVec Ideal S1x512 .f32) : FVec Ideal S1x512 .f32 :=
  broadcastInDim S1x512 ![1] bcast_S512_S1x512_1 (h_v23 arg4)

def h_v27 (arg6 : FVec Ideal S1x16x4x128x256 .f32) : FVec Ideal S16x4x128x256 .f32 :=
  shapeCast S16x4x128x256 arg6 shapeCasts_S1x16x4x128x256_S16x4x128x256

variable (m : (ℓ : Loc nD τ sig) → Buf (Elt Ideal) ℓ) (ρ : Dev nD → PrngReg) (c : Dev nD)

theorem V1_v0 : V1 m ρ c main_v0 = h_v0 (m ((c.tc : Thread nD τ).loc main_arg0)) := by
  show StableHlo.after hostOps0 (W0 m ρ c) (Proc.devRef .tc main_v0) = _
  after_results_simp <;> (try dsimp only [Matrix.cons_val]) <;> (try after_results_simp) <;> rfl

theorem V1_v2 : V1 m ρ c main_v2 = h_v2 (m ((c.tc : Thread nD τ).loc main_arg1)) := by
  show StableHlo.after hostOps0 (W0 m ρ c) (Proc.devRef .tc main_v2) = _
  after_results_simp <;> (try dsimp only [Matrix.cons_val]) <;> (try after_results_simp) <;> rfl

theorem V1_v18 : V1 m ρ c main_v18 = h_v18 (m ((c.tc : Thread nD τ).loc main_arg2)) := by
  show StableHlo.after hostOps0 (W0 m ρ c) (Proc.devRef .tc main_v18) = _
  after_results_simp <;> (try dsimp only [Matrix.cons_val]) <;> (try after_results_simp) <;> rfl

theorem W3_v20 : W3 m ρ c (Proc.devRef .tc main_v20) = h_v20 (W2 m ρ c (Proc.devRef .tc main_arg3)) := by
  show StableHlo.after hostOps1 (W2 m ρ c) (Proc.devRef .tc main_v20) = _
  after_results_simp <;> (try dsimp only [Matrix.cons_val]) <;> (try after_results_simp) <;> rfl

theorem W3_c : W3 m ρ c (Proc.devRef .tc main_c) = constantI S_ 32 0#32 := by
  show StableHlo.after hostOps1 (W2 m ρ c) (Proc.devRef .tc main_c) = _
  after_results_simp <;> (try dsimp only [Matrix.cons_val]) <;> (try after_results_simp) <;> rfl

theorem W4_v21 : W4 m ρ c (Proc.devRef .tc main_v21) = pad S128x512 ![0, 0] ![112, 0] ![0, 0] (W3 m ρ c (Proc.devRef .tc main_v20) : FVec Ideal S16x512 .f32) (sitofp (F := Ideal) .f32 (W3 m ρ c (Proc.devRef .tc main_c) : IVec S_ 32)) pads_S16x512_S128x512_01120_000 h_S_ := by
  show StableHlo.after hostOps1_1 (W3 m ρ c) (Proc.devRef .tc main_v21) = _
  after_results_simp <;> (try dsimp only [Matrix.cons_val]) <;> (try after_results_simp) <;> rfl

theorem W5_v22 : V5 m ρ c main_v22 = (truncf .bf16 (W4 m ρ c (Proc.devRef .tc main_v21) : FVec Ideal S128x512 .f32) bitsLt_bf16_f32 : FVec Ideal S128x512 .bf16) := by
  show StableHlo.after hostOps1_2 (W4 m ρ c) (Proc.devRef .tc main_v22) = _
  after_results_simp <;> (try dsimp only [Matrix.cons_val]) <;> (try after_results_simp) <;> rfl

theorem V5_v22 : V5 m ρ c main_v22 = h_v22 (W2 m ρ c (Proc.devRef .tc main_arg3)) := by
  rw [W5_v22, W4_v21, W3_v20, W3_c]
  rfl

theorem V5_v24 : V5 m ρ c main_v24 = h_v24 (W4 m ρ c (Proc.devRef .tc main_arg4)) := by
  show StableHlo.after hostOps1_2 (W4 m ρ c) (Proc.devRef .tc main_v24) = _
  after_results_simp <;> (try dsimp only [Matrix.cons_val]) <;> (try after_results_simp) <;> rfl

theorem V5_v27 : V5 m ρ c main_v27 = h_v27 (W4 m ρ c (Proc.devRef .tc main_arg6)) := by
  show StableHlo.after hostOps1_2 (W4 m ρ c) (Proc.devRef .tc main_v27) = _
  after_results_simp <;> (try dsimp only [Matrix.cons_val]) <;> (try after_results_simp) <;> rfl

end Cert.GlaX

end
-- ==== Proof.GlaVal.lean ====
module
public import proofs.«01_k».proof.Proof.GlaArr
public import proofs.«01_k».proof.Proof.GlaHost
public import proofs.«01_k».proof.Proof.Rope

/-!
What the two calls of `GlaIdeal` read, from the program's arguments.
-/

@[expose] public section

set_option maxRecDepth 16384

noncomputable section

open Idealize.ShloMosaic Idealize.ShloMosaic.TcCoe Idealize.SL.Sem

namespace Cert.GlaX

open Cert.GlaIdeal Cert.GlaIdeal.Gen Cert.Row Cert.GlaM

/-- The input projection of token `t` of sequence `b`, at source column `s`. -/
def hV (a0 : FVec Ideal S16x32x1024 .f32) (a1 : FVec Ideal S1x1024 .f32) (a2 : FVec Ideal S1x1024x5968 .f32) (b : Fin 16) (t : Fin 32) (s : Fin 5968) : EReal :=
  rw1 c1024 (fun k => a0 (ix3 b t k)) (fun k => a1 (ix2 0 k)) (fun k => a2 (ix3 0 k s))

theorem wIn_at (w : FVec Ideal S1x1024x5968 .f32) (k : Fin 1024) (j : Fin 6144) : h_v18 w (ix2 k j) = colmap (fun s => w (ix3 0 k s)) j := by
  pointwise [h_v18, h_v17, h_v4, h_v3, h_v5, h_v6, h_v15, h_v13, h_v14, h_v10, h_v16, h_cst, h_v9, h_v11, h_v7, h_v8, h_v12]
  refine eq_colmap _ _ j (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_)
  · rw [dif_pos (by omega)]
  · rw [dif_neg (by omega), dif_pos (by omega)]; exact congrArg (fun s => w (ix3 0 k s)) (Fin.ext (by first | omega | (simp only <;> omega)))
  · rw [dif_neg (by omega), dif_neg (by omega), dif_pos (by omega)]; exact congrArg (fun s => w (ix3 0 k s)) (Fin.ext (by first | omega | (simp only <;> omega)))
  · rw [dif_neg (by omega), dif_neg (by omega), dif_neg (by omega), dif_pos (by omega), dif_pos (by omega)]; exact congrArg (fun s => w (ix3 0 k s)) (Fin.ext (by first | omega | (simp only <;> omega)))
  · rw [dif_neg (by omega), dif_neg (by omega), dif_neg (by omega), dif_pos (by omega), dif_neg (by omega)]; exact congrArg (fun s => w (ix3 0 k s)) (Fin.ext (by first | omega | (simp only <;> omega)))
  · rw [dif_neg (by omega), dif_neg (by omega), dif_neg (by omega), dif_neg (by omega), dif_pos (by omega)]; exact congrArg (fun s => w (ix3 0 k s)) (Fin.ext (by first | omega | (simp only <;> omega)))
  · rw [dif_neg (by omega), dif_neg (by omega), dif_neg (by omega), dif_neg (by omega), dif_neg (by omega), dif_pos (by omega)]
  · rw [dif_neg (by omega), dif_neg (by omega), dif_neg (by omega), dif_neg (by omega), dif_neg (by omega), dif_neg (by omega), dif_pos (by omega)]; exact congrArg (fun s => w (ix3 0 k s)) (Fin.ext (by first | omega | (simp only <;> omega)))
  · rw [dif_neg (by omega), dif_neg (by omega), dif_neg (by omega), dif_neg (by omega), dif_neg (by omega), dif_neg (by omega), dif_neg (by omega), dif_pos (by omega)]; exact congrArg (fun s => w (ix3 0 k s)) (Fin.ext (by first | omega | (simp only <;> omega)))
  · rw [dif_neg (by omega), dif_neg (by omega), dif_neg (by omega), dif_neg (by omega), dif_neg (by omega), dif_neg (by omega), dif_neg (by omega), dif_neg (by omega), dif_pos (by omega)]; exact congrArg (fun s => w (ix3 0 k s)) (Fin.ext (by first | omega | (simp only <;> omega)))
  · rw [dif_neg (by omega), dif_neg (by omega), dif_neg (by omega), dif_neg (by omega), dif_neg (by omega), dif_neg (by omega), dif_neg (by omega), dif_neg (by omega), dif_neg (by omega), dif_pos (by omega)]; exact congrArg (fun s => w (ix3 0 k s)) (Fin.ext (by first | omega | (simp only <;> omega)))
  · rw [dif_neg (by omega), dif_neg (by omega), dif_neg (by omega), dif_neg (by omega), dif_neg (by omega), dif_neg (by omega), dif_neg (by omega), dif_neg (by omega), dif_neg (by omega), dif_neg (by omega)]; exact congrArg (fun s => w (ix3 0 k s)) (Fin.ext (by first | omega | (simp only <;> omega)))

theorem hin_at (a0 : FVec Ideal S16x32x1024 .f32) (a1 : FVec Ideal S1x1024 .f32) (a2 : FVec Ideal S1x1024x5968 .f32) (b : Fin 16) (t : Fin 32) (j : Fin 6144) :
    colOf (R := 512) (h_v0 a0) (h_v2 a1) (h_v18 a2) ⟨b.val * 32 + t.val, by omega⟩ j = colmap (hV a0 a1 a2 b t) j := by
  refine (rw1_congr _ (fun k => ?_) (fun k => ?_) (fun k => wIn_at a2 k j)).trans (rw1_colmap _ _ _ (fun k s => a2 (ix3 0 k s)) j)
  · pointwise [h_v0]
  · pointwise [h_v2, h_v1]

/-- The padded gate weights at one of the sixteen rows. -/
theorem wa_lo (w : FVec Ideal S1x16x512 .f32) (x : Fin 128) (e : Fin 512) (h : x.val < 16) : h_v22 w (ix2 x e) = w (ix3 0 ⟨x.val, h⟩ e) := by
  pointwise [h_v22, h_v21, h_v20]
  rw [dif_pos (by omega)]

/-- The padded gate weights below them. -/
theorem wa_hi (w : FVec Ideal S1x16x512 .f32) (x : Fin 128) (e : Fin 512) (h : 16 ≤ x.val) : h_v22 w (ix2 x e) = 0 := by
  pointwise [h_v22, h_v21, h_v20, h_pad]
  rw [dif_neg (by omega)]
  show (((0#32 : BitVec 32).toInt : ℝ) : EReal) = 0
  simp

theorem ba_at (a : FVec Ideal S1x512 .f32) (e : Fin 512) : h_v24 a (ix2 0 e) = a (ix2 0 e) := by
  pointwise [h_v24, h_v23]

theorem s0_at (a : FVec Ideal S1x16x4x128x256 .f32) (b : Fin 16) (n : Fin 4) (d : Fin 128) (e : Fin 256) : h_v27 a (ix4 b n d e) = a (ix5 0 b n d e) := by
  pointwise [h_v27]

theorem colmap_gc (f : Fin 5968 → EReal) (x : Fin 16) : colmap f (gc ⟨x.val, by omega⟩) = f ⟨2880 + x.val, by omega⟩ := by
  symm
  refine eq_colmap _ f _ (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_) <;>
    dsimp only [gc] at q q1 <;> first | (exfalso; omega) | exact congrArg f (Fin.ext (by simp only [gc] <;> omega))

theorem colmap_kc (f : Fin 5968 → EReal) (n : Fin 4) (d : Fin 128) : colmap f (kc n d) = f (kcol n d) := by
  symm
  refine eq_colmap _ f _ (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_) <;>
    dsimp only [kc] at q q1 <;> first | (exfalso; omega) | exact congrArg f (Fin.ext (by simp only [kc, kcol] <;> omega))

theorem colmap_vc (f : Fin 5968 → EReal) (n : Fin 4) (e : Fin 256) : colmap f (vc n e) = f (vcol n e) := by
  symm
  refine eq_colmap _ f _ (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_) (fun q q1 => ?_) <;>
    dsimp only [vc] at q q1 <;> first | (exfalso; omega) | exact congrArg f (Fin.ext (by simp only [vc, vcol] <;> omega))

end Cert.GlaX

end
-- ==== Proof.GlaRefTerms.lean ====
module
public import proofs.«01_k».proof.Proof.Gen.GlaRefIdeal.Run
public import proofs.«01_k».proof.Proof.Rope
public import Idealize.ShloMosaic.Lib.Pointwise

/-!
The result of `GlaRefIdeal`, in named parts.
-/

@[expose] public section

set_option maxRecDepth 16384

noncomputable section

open Idealize.ShloMosaic Idealize.ShloMosaic.TcCoe Idealize.SL.Sem

namespace Cert.GlaR

open Cert.GlaRefIdeal Cert.GlaRefIdeal.Gen Cert.Row

section
variable {F : FTy → Type} [FloatOps F]

/-- The input projection. -/
def rIn (x : FVec F S16x32x1024 .f32) (g : FVec F S1x1024 .f32) (w : FVec F S1x1024x5968 .f32) : FVec F S16x32x5968 .f32 :=
  Host.dotGeneral dot_S16x32x1024_S1024x5968_S16x32x5968_2_0_01_1_n_n none (mulf (mulf x (broadcastInDim S16x32x1024 ![0, 1, 2] bcast_S16x32x1_S16x32x1024_0_1_2 (Host.rsqrt (addf (Host.divf (broadcastInDim S16x32x1 ![0, 1] bcast_S16x32_S16x32x1_0_1 (Host.reduceAdd (mulf x x) (constant S_ .f32 0x00000000#32) reducesTo_S16x32x1024_S16x32_d2 h_S_)) (broadcastInDim S16x32x1 ![] bcast_S_S16x32x1 (constant S_ .f32 0x44800000#32))) (broadcastInDim S16x32x1 ![] bcast_S_S16x32x1 (constant S_ .f32 0x358637BD#32)))))) (broadcastInDim S16x32x1024 ![0, 1, 2] bcast_S1x1x1024_S16x32x1024_0_1_2 (broadcastInDim S1x1x1024 ![2] bcast_S1024_S1x1x1024_2 (shapeCast _ g shapeCasts_S1x1024_S1024)))) (shapeCast _ w shapeCasts_S1x1024x5968_S1024x5968)

/-- The gate's logits. -/
def rGate (h : FVec F S16x32x5968 .f32) (wa : FVec F S1x16x512 .f32) (ba : FVec F S1x512 .f32) : FVec F S16x32x512 .f32 :=
  addf (Host.dotGeneral dot_S16x32x16_S16x512_S16x32x512_2_0_01_1_n_n none (extractStridedSlice S16x32x16 ![0, 0, 2880] h slices_S16x32x5968_S16x32x16_0_0_2880) (shapeCast _ wa shapeCasts_S1x16x512_S16x512)) (broadcastInDim S16x32x512 ![0, 1, 2] bcast_S1x1x512_S16x32x512_0_1_2 (broadcastInDim S1x1x512 ![2] bcast_S512_S1x1x512_2 (shapeCast _ ba shapeCasts_S1x512_S512)))

/-- The log of the gate. -/
def rLa (z : FVec F S16x32x512 .f32) : FVec F S16x32x512 .f32 :=
  Host.divf (Host.negf (select (cmpf .une (subf (Host.negf z) (broadcastInDim S16x32x512 ![] bcast_S_S16x32x512 (constant S_ .f32 0x00000000#32))) (subf (Host.negf z) (broadcastInDim S16x32x512 ![] bcast_S_S16x32x512 (constant S_ .f32 0x00000000#32)))) (addf (Host.negf z) (broadcastInDim S16x32x512 ![] bcast_S_S16x32x512 (constant S_ .f32 0x00000000#32))) (addf (maximumf (Host.negf z) (broadcastInDim S16x32x512 ![] bcast_S_S16x32x512 (constant S_ .f32 0x00000000#32))) (Host.log1p (Host.exp (Host.negf (Host.absf (subf (Host.negf z) (broadcastInDim S16x32x512 ![] bcast_S_S16x32x512 (constant S_ .f32 0x00000000#32)))))))))) (broadcastInDim S16x32x512 ![] bcast_S_S16x32x512 (constant S_ .f32 0x41800000#32))

/-- Its running sum over the frames, by head. -/
def rB (l : FVec F S16x32x512 .f32) : FVec F S16x4x32x128 .f32 :=
  Host.reduceAdd (select (broadcastInDim S16x4x32x32x128 ![0, 1, 2, 3, 4] bcast_S1x1x32x32x1_S16x4x32x32x128_0_1_2_3_4 (broadcastInDim S1x1x32x32x1 ![2, 3] bcast_S32x32_S1x1x32x32x1_2_3 (cmpi .sle (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0)))))) (broadcastInDim S16x4x32x32x128 ![0, 1, 2, 3, 4] bcast_S16x4x1x32x128_S16x4x32x32x128_0_1_2_3_4 (broadcastInDim S16x4x1x32x128 ![0, 1, 3, 4] bcast_S16x4x32x128_S16x4x1x32x128_0_1_3_4 (transpose S16x4x32x128 [0, 2, 1, 3] (shapeCast _ l shapeCasts_S16x32x512_S16x32x4x128) transposes_S16x32x4x128_S16x4x32x128_0_2_1_3))) (broadcastInDim S16x4x32x32x128 ![] bcast_S_S16x4x32x32x128 (id (constant S_ .f32 0x00000000#32)))) (constant S_ .f32 0x00000000#32) reducesTo_S16x4x32x32x128_S16x4x32x128_d3 h_S_

/-- The new state. -/
def rS (h : FVec F S16x32x5968 .f32) (b : FVec F S16x4x32x128 .f32) (s0 : FVec F S1x16x4x128x256 .f32) : FVec F S1x16x4x128x256 .f32 :=
  broadcastInDim S1x16x4x128x256 ![1, 2, 3, 4] bcast_S16x4x128x256_S1x16x4x128x256_1_2_3_4 (addf (mulf (broadcastInDim S16x4x128x256 ![0, 1, 2, 3] bcast_S16x4x128x1_S16x4x128x256_0_1_2_3 (broadcastInDim S16x4x128x1 ![0, 1, 2] bcast_S16x4x128_S16x4x128x1_0_1_2 (Host.exp (shapeCast _ (extractStridedSlice S16x4x1x128 ![0, 0, 31, 0] b slices_S16x4x32x128_S16x4x1x128_0_0_31_0) shapeCasts_S16x4x1x128_S16x4x128)))) (shapeCast _ s0 shapeCasts_S1x16x4x128x256_S16x4x128x256)) (Host.dotGeneral dot_S16x4x32x128_S16x4x32x256_S16x4x128x256_2_2_3_3_01_01 none (mulf (transpose S16x4x32x128 [0, 2, 1, 3] (shapeCast _ (extractStridedSlice S16x32x512 ![0, 0, 1344] h slices_S16x32x5968_S16x32x512_0_0_1344) shapeCasts_S16x32x512_S16x32x4x128) transposes_S16x32x4x128_S16x4x32x128_0_2_1_3) (Host.exp (subf (broadcastInDim S16x4x32x128 ![0, 1, 2, 3] bcast_S16x4x1x128_S16x4x32x128_0_1_2_3 (extractStridedSlice S16x4x1x128 ![0, 0, 31, 0] b slices_S16x4x32x128_S16x4x1x128_0_0_31_0)) b))) (transpose S16x4x32x256 [0, 2, 1, 3] (shapeCast _ (extractStridedSlice S16x32x1024 ![0, 0, 1856] h slices_S16x32x5968_S16x32x1024_0_0_1856) shapeCasts_S16x32x1024_S16x32x4x256) transposes_S16x32x4x256_S16x4x32x256_0_2_1_3)))

end

variable (m : (ℓ : Loc nD τ sig) → Buf (Elt Ideal) ℓ) (c : Dev nD)

theorem s_res : Value.res_main_v78 m c = rS (F := Ideal) (rIn (m ((c.tc : Thread nD τ).loc main_arg0)) (m ((c.tc : Thread nD τ).loc main_arg1)) (m ((c.tc : Thread nD τ).loc main_arg2))) (rB (rLa (rGate (rIn (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))))) (m ((c.tc : Thread nD τ).loc main_arg6)) := by
  unfold Value.res_main_v78
  rfl

end Cert.GlaR

end
-- ==== Proof.GlaRefAt.lean ====
module
public import proofs.«01_k».proof.Proof.GlaRefTerms
public import proofs.«01_k».proof.Proof.GlaSum

/-!
The parts of `GlaRefIdeal`'s result, at an index.
-/

@[expose] public section

set_option maxRecDepth 16384

noncomputable section

open Idealize.ShloMosaic Idealize.ShloMosaic.TcCoe Idealize.SL.Sem

namespace Cert.GlaR

open Cert.GlaRefIdeal Cert.GlaRefIdeal.Gen Cert.Row Cert.GlaM

theorem rIn_at (x : FVec Ideal S16x32x1024 .f32) (g : FVec Ideal S1x1024 .f32) (w : FVec Ideal S1x1024x5968 .f32) (b : Fin 16) (t : Fin 32) (j : Fin 5968) :
    rIn x g w (ix3 b t j) = rw1 c1024 (fun k => x (ix3 b t k)) (fun k => g (ix2 0 k)) (fun k => w (ix3 0 k j)) := by
  pointwise [rIn]
  rfl

theorem rGate_at (h : FVec Ideal S16x32x5968 .f32) (wa : FVec Ideal S1x16x512 .f32) (ba : FVec Ideal S1x512 .f32) (b : Fin 16) (t : Fin 32) (e : Fin 512) :
    rGate h wa ba (ix3 b t e) = (∑ k : Fin 16, h (ix3 b t ⟨2880 + k.val, by omega⟩) * wa (ix3 0 k e)) + ba (ix2 0 e) := by
  pointwise [rGate]

theorem rLa_at (z : FVec Ideal S16x32x512 .f32) (b : Fin 16) (t : Fin 32) (e : Fin 512) :
    rLa z (ix3 b t e) = lsig (z (ix3 b t e)) := by
  pointwise [rLa]
  simp [lsig]

theorem sle_at : ∀ x t : Fin 32, IntOp.cmpi .sle (BitVec.ofNat 32 x.val) (BitVec.ofNat 32 t.val) = if x ≤ t then 1#1 else 0#1 := by
  decide +kernel

theorem rB_at (l : FVec Ideal S16x32x512 .f32) (b : Fin 16) (n : Fin 4) (t : Fin 32) (e : Fin 128) :
    rB l (ix4 b n t e) = csum (fun x => l (ix3 b x (hcol n e))) t := by
  pointwise [rB]
  refine Finset.sum_congr rfl fun x _ => ?_
  rw [sle_at]
  by_cases h : x ≤ t
  · rw [if_pos h, if_pos h]; rfl
  · rw [if_neg h, if_neg h]; exact Ideal.ofBits_zero_f32

theorem rS_at (h : FVec Ideal S16x32x5968 .f32) (B : FVec Ideal S16x4x32x128 .f32) (s0 : FVec Ideal S1x16x4x128x256 .f32) (b : Fin 16) (n : Fin 4) (d : Fin 128) (e : Fin 256) :
    rS h B s0 (ix5 0 b n d e)
      = headRef (fun t => B (ix4 b n t d)) (fun t => h (ix3 b t (kcol n d))) (fun t => h (ix3 b t (vcol n e))) (s0 (ix5 0 b n d e)) := by
  pointwise [rS]
  rfl

/-- The whole reference at an index. -/
theorem ref_at (h : FVec Ideal S16x32x5968 .f32) (wa : FVec Ideal S1x16x512 .f32) (ba : FVec Ideal S1x512 .f32) (s0 : FVec Ideal S1x16x4x128x256 .f32) (b : Fin 16) (n : Fin 4) (d : Fin 128) (e : Fin 256) :
    rS h (rB (rLa (rGate h wa ba))) s0 (ix5 0 b n d e)
      = snF (fun t (k : Fin 16) => h (ix3 b t ⟨2880 + k.val, by omega⟩)) (fun k => wa (ix3 0 k (hcol n d))) (ba (ix2 0 (hcol n d)))
          (fun t => h (ix3 b t (kcol n d))) (fun t => h (ix3 b t (vcol n e))) (s0 (ix5 0 b n d e)) := by
  rw [rS_at]
  unfold snF
  refine congrArg (fun f => headRef f _ _ _) (funext fun t => ?_)
  rw [rB_at]
  refine congrArg (fun f => csum f t) (funext fun x => ?_)
  rw [rLa_at, rGate_at]

end Cert.GlaR

end
-- ==== Proof.GlaFinal.lean ====
module
public import proofs.«01_k».proof.Proof.GlaVal
public import proofs.«01_k».proof.Proof.GlaRefAt

/-!
The new state of `GlaIdeal` is that of `GlaRefIdeal`.
-/

@[expose] public section

set_option maxRecDepth 16384

noncomputable section

open Idealize.ShloMosaic Idealize.ShloMosaic.TcCoe Idealize.SL.Sem

namespace Cert.GlaX

open Cert.GlaIdeal Cert.GlaIdeal.Gen Cert.Row Cert.GlaM Cert.GlaR

/-- Lanes where the gate weights vanish drop out of the gate's sums. -/
theorem snF_pad {g : Fin 32 → Fin 128 → EReal} {w : Fin 128 → EReal} (hw : ∀ k, 16 ≤ k.val → w k = 0) (ba : EReal) (k v : Fin 32 → EReal) (s : EReal) :
    snF g w ba k v s = snF (fun t (x : Fin 16) => g t ⟨x.val, by omega⟩) (fun x => w ⟨x.val, by omega⟩) ba k v s := by
  unfold snF
  refine congrArg (fun l : Fin 32 → EReal => headRef (csum fun t => lsig (l t + ba)) k v s) (funext fun t => ?_)
  exact sum_pad (g t) w hw

/-- The new state as returned. -/
def o_sn (x : FVec Ideal S16x4x128x256 .f32) : FVec Ideal S1x16x4x128x256 .f32 :=
  broadcastInDim S1x16x4x128x256 ![1, 2, 3, 4] bcast_S16x4x128x256_S1x16x4x128x256_1_2_3_4 x

theorem o_sn_at (x : FVec Ideal S16x4x128x256 .f32) (b : Fin 16) (n : Fin 4) (d : Fin 128) (e : Fin 256) : o_sn x (ix5 0 b n d e) = x (ix4 b n d e) := by
  pointwise [o_sn]

section
variable (a0 : FVec Ideal S16x32x1024 .f32) (a1 : FVec Ideal S1x1024 .f32) (a2 : FVec Ideal S1x1024x5968 .f32)

/-- The input projection as the first call leaves it. -/
def hinA : S512x6144.Idx → EReal := fun i => colOf (R := 512) (h_v0 a0) (h_v2 a1) (h_v18 a2) (i 0) (i 1)

theorem hinA_at (b : Fin 16) (t : Fin 32) (j : Fin 6144) : hinA a0 a1 a2 (ix2 (row b t) j) = colmap (hV a0 a1 a2 b t) j := hin_at a0 a1 a2 b t j

theorem in_ref (b : Fin 16) (t : Fin 32) (s : Fin 5968) : rIn (F := Ideal) a0 a1 a2 (ix3 b t s) = hV a0 a1 a2 b t s := rIn_at a0 a1 a2 b t s

/-- The two new states agree at an index. -/
theorem sn_ref (a3 : FVec Ideal S1x16x512 .f32) (a4 : FVec Ideal S1x512 .f32) (a6 : FVec Ideal S1x16x4x128x256 .f32) (b : Fin 16) (n : Fin 4) (d : Fin 128) (e : Fin 256) :
    snA (hinA a0 a1 a2) (h_v22 a3) (h_v24 a4) (h_v27 a6) b n d e = rS (F := Ideal) (rIn a0 a1 a2) (rB (rLa (rGate (rIn a0 a1 a2) a3 a4))) a6 (ix5 0 b n d e) := by
  unfold snA
  refine ((snF_pad (fun k hk => wa_hi a3 k _ hk) _ _ _ _).trans ?_).trans (ref_at _ a3 a4 a6 b n d e).symm
  refine snF_congr (fun t x => ?_) (fun x => ?_) (ba_at a4 _) (fun t => ?_) (fun t => ?_) (s0_at a6 b n d e)
  · exact (hinA_at a0 a1 a2 b t _).trans ((colmap_gc _ x).trans (in_ref a0 a1 a2 b t _).symm)
  · exact wa_lo a3 _ _ x.isLt
  · exact (hinA_at a0 a1 a2 b t _).trans ((colmap_kc _ n d).trans (in_ref a0 a1 a2 b t _).symm)
  · exact (hinA_at a0 a1 a2 b t _).trans ((colmap_vc _ n e).trans (in_ref a0 a1 a2 b t _).symm)

end

variable (m : (ℓ : Loc nD τ sig) → Buf (Elt Ideal) ℓ) (ρ : Dev nD → PrngReg) (c : Dev nD)

theorem W2_hin : W2 m ρ c (Proc.devRef .tc main_v19) = hinA (m ((c.tc : Thread nD τ).loc main_arg0)) (m ((c.tc : Thread nD τ).loc main_arg1)) (m ((c.tc : Thread nD τ).loc main_arg2)) := by
  refine (W2_arr m ρ c 3).trans ((hin_eq (V1 m ρ) c).trans ?_)
  rw [V1_v0, V1_v2, V1_v18]
  rfl

theorem g_h : V5 m ρ c main_v19 = hinA (m ((c.tc : Thread nD τ).loc main_arg0)) (m ((c.tc : Thread nD τ).loc main_arg1)) (m ((c.tc : Thread nD τ).loc main_arg2)) :=
  (W5_of m ρ c main_v19 (by decide)).trans ((W4_of m ρ c main_v19 (by decide)).trans ((W3_of m ρ c main_v19 (by decide)).trans (W2_hin m ρ c)))

theorem g_wa : V5 m ρ c main_v22 = h_v22 (m ((c.tc : Thread nD τ).loc main_arg3)) := (V5_v22 m ρ c).trans (congrArg h_v22 (W2_args m ρ c main_arg3 (by decide)))

theorem g_ba : V5 m ρ c main_v24 = h_v24 (m ((c.tc : Thread nD τ).loc main_arg4)) := (V5_v24 m ρ c).trans (congrArg h_v24 (W4_args m ρ c main_arg4 (by decide)))

theorem g_s0 : V5 m ρ c main_v27 = h_v27 (m ((c.tc : Thread nD τ).loc main_arg6)) := (V5_v27 m ρ c).trans (congrArg h_v27 (W4_args m ρ c main_arg6 (by decide)))

theorem f_sn : W7 m ρ c (Proc.devRef .tc main_v29) = rS (F := Ideal) (rIn (m ((c.tc : Thread nD τ).loc main_arg0)) (m ((c.tc : Thread nD τ).loc main_arg1)) (m ((c.tc : Thread nD τ).loc main_arg2))) (rB (rLa (rGate (rIn (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))))) (m ((c.tc : Thread nD τ).loc main_arg6)) := by
  have h : W7 m ρ c (Proc.devRef .tc main_v29) = o_sn (W6 m ρ c (Proc.devRef .tc main_v28_1)) := by
    show StableHlo.after hostOps2 (W6 m ρ c) (Proc.devRef .tc main_v29) = _
    after_results_simp <;> (try dsimp only [Matrix.cons_val]) <;> (try after_results_simp) <;> rfl
  have h' := (W6_arr m ρ c 10).trans (sn_arr (V5 m ρ) c)
  rw [g_h, g_wa, g_ba, g_s0] at h'
  refine h.trans ((congrArg o_sn h').trans ?_)
  funext y
  obtain ⟨z, b, n, d, e, rfl⟩ : ∃ (y0 : Fin 1) (y1 : Fin 16) (y2 : Fin 4) (y3 : Fin 128) (y4 : Fin 256), y = ix5 y0 y1 y2 y3 y4 := ⟨y 0, y 1, y 2, y 3, y 4, eq_ix5 y⟩
  obtain rfl : z = 0 := Subsingleton.elim _ _
  exact (o_sn_at _ b n d e).trans (sn_ref _ _ _ _ _ _ b n d e)

end Cert.GlaX

end
-- ==== Proof.GlaClaims.lean ====
module
public import proofs.«01_k».proof.Proof.GlaFinal
public import proofs.«01_k».proof.Proof.GlaRun
public import proofs.«01_k».proof.Proof.Gen.Gla.Frame
public import proofs.«01_k».proof.Proof.Gen.GlaRefIdeal.Run
public import proofs.«01_k».proof.Defs
public import Idealize.ShloMosaic.Lib.Quiescent

/-!
The claims about `Gla`.
-/

@[expose] public section

set_option maxRecDepth 16384

noncomputable section

open Idealize.ShloMosaic Idealize.ShloMosaic.TcCoe Idealize.SL.Sem

namespace Cert.GlaC

open Cert.GlaR

theorem frame_p : Cert.quiescent_Gla := fun m ρ _ => Cert.Gla.Gen.frame m ρ

theorem frame_pi : Cert.quiescent_GlaIdeal := fun m ρ _ => Cert.GlaIdeal.Gen.frame m ρ

theorem frame_ri : Cert.quiescent_GlaRefIdeal := fun m ρ _ =>
  (θ_run Cert.GlaRefIdeal.defs _ _).mono
    (fun r h => ⟨fun c => (h c).2, Idealize.ShloMosaic.sem_eq_zero_of_no_sems (by decide) r.2⟩)
    (Cert.GlaRefIdeal.Value.run m ρ)

theorem preserves : Cert.preserves_Gla_GlaIdeal := IdealRules.named_const.statement _ _ _ _ _ rfl

/-- From the same arguments the two programs end with the same new state. -/
theorem algebraic : Cert.algebraic_GlaIdeal_GlaRefIdeal := by
  intro m g m' g' _ hag
  refine ⟨fun c => rS (F := Ideal) (rIn (m ((c.tc : Thread _ _).loc Cert.GlaIdeal.main_arg0)) (m ((c.tc : Thread _ _).loc Cert.GlaIdeal.main_arg1)) (m ((c.tc : Thread _ _).loc Cert.GlaIdeal.main_arg2))) (rB (rLa (rGate (rIn (m ((c.tc : Thread _ _).loc Cert.GlaIdeal.main_arg0)) (m ((c.tc : Thread _ _).loc Cert.GlaIdeal.main_arg1)) (m ((c.tc : Thread _ _).loc Cert.GlaIdeal.main_arg2))) (m ((c.tc : Thread _ _).loc Cert.GlaIdeal.main_arg3)) (m ((c.tc : Thread _ _).loc Cert.GlaIdeal.main_arg4))))) (m ((c.tc : Thread _ _).loc Cert.GlaIdeal.main_arg6)), ?_, ?_⟩
  · refine (θ_run Cert.GlaIdeal.defs _ _).mono (fun r h c => ?_) (Cert.GlaX.run m g)
    have get := fun b hb => (h.1 c (Proc.devRef .tc b) (Cert.GlaIdeal.Gen.mem_uc b hb))
    exact ⟨(get Cert.GlaIdeal.main_v29 (by decide)).trans (Cert.GlaX.f_sn m g c),
      (get Cert.GlaIdeal.main_arg0 (by decide)).trans (Cert.GlaIdeal.Gen.W7_main_arg0 m g c), (get Cert.GlaIdeal.main_arg1 (by decide)).trans (Cert.GlaIdeal.Gen.W7_main_arg1 m g c), (get Cert.GlaIdeal.main_arg2 (by decide)).trans (Cert.GlaIdeal.Gen.W7_main_arg2 m g c), (get Cert.GlaIdeal.main_arg3 (by decide)).trans (Cert.GlaIdeal.Gen.W7_main_arg3 m g c), (get Cert.GlaIdeal.main_arg4 (by decide)).trans (Cert.GlaIdeal.Gen.W7_main_arg4 m g c), (get Cert.GlaIdeal.main_arg5 (by decide)).trans (Cert.GlaIdeal.Gen.W7_main_arg5 m g c), (get Cert.GlaIdeal.main_arg6 (by decide)).trans (Cert.GlaIdeal.Gen.W7_main_arg6 m g c)⟩
  · refine (θ_run Cert.GlaRefIdeal.defs _ _).mono (fun r h c => ?_) (Cert.GlaRefIdeal.Value.run m' g')
    obtain ⟨h0, h1, h2, h3, h4, _, h6⟩ := hag c
    obtain ⟨es, hargs⟩ := h c
    refine ⟨es.trans ((Cert.GlaR.s_res m' c).trans ?_), hargs⟩
    rw [h0, h1, h2, h3, h4, h6]

end Cert.GlaC

end
-- ==== Proof.MixPay.lean ====
module
public import proofs.«01_k».proof.Proof.Gen.MixIdeal.Skeleton
public import proofs.«01_k».proof.Proof.Rows

/-!
The gated sum of the two layers' outputs and its norm, as `MixIdeal` computes a half block of rows, at an index.
-/

@[expose] public section

set_option maxRecDepth 16384

noncomputable section

open Idealize.ShloMosaic Idealize.ShloMosaic.TcCoe Idealize.SL.Sem

namespace Cert.MixX

open Cert.MixIdeal Cert.MixIdeal.Gen Cert.Row

/-- One entry of a gate. -/
def sg (x : EReal) : EReal := Ideal.logistic x

/-- One entry of the residual stream: the old one plus the gated outputs of the two layers against the last weight. -/
def mix (a g p q : Fin 1024 → EReal) (wa wg wo : Fin 1024 → Fin 1024 → EReal) (x : EReal) (j : Fin 1024) : EReal :=
  x + ∑ k, (sg (p k) * (∑ i, a i * wa i k) + sg (q k) * (∑ i, g i * wg i k)) * wo k j

theorem x1_a (v3 : Vec Ideal S256x1024 .bf16) (v4 : Vec Ideal S1024x1024 .bf16) (v7 : Vec Ideal S256x1024 .bf16) (v8 : Vec Ideal S1024x1024 .bf16)
    (v11 v14 v18 : Vec Ideal S256x1024 .f32) (v20 : Vec Ideal S1024x1024 .bf16) (r : Fin 256) (j : Fin 1024) :
    k0_pay4 v3 v4 v7 v8 v11 v14 v18 v20 (ix2 r j)
      = mix (fun k => v3 (ix2 r k)) (fun k => v7 (ix2 r k)) (fun k => v11 (ix2 r k)) (fun k => v14 (ix2 r k))
          (fun i k => v4 (ix2 i k)) (fun i k => v8 (ix2 i k)) (fun i k => v20 (ix2 i k)) (v18 (ix2 r j)) j := by
  pointwise [k0_pay4]
  rfl

theorem x1_b (v3 : Vec Ideal S256x1024 .bf16) (v4 : Vec Ideal S1024x1024 .bf16) (v7 : Vec Ideal S256x1024 .bf16) (v8 : Vec Ideal S1024x1024 .bf16)
    (v11 v14 v18 : Vec Ideal S256x1024 .f32) (v20 : Vec Ideal S1024x1024 .bf16) (r : Fin 256) (j : Fin 1024) :
    k0_pay28 v3 v4 v7 v8 v11 v14 v18 v20 (ix2 r j)
      = mix (fun k => v3 (ix2 r k)) (fun k => v7 (ix2 r k)) (fun k => v11 (ix2 r k)) (fun k => v14 (ix2 r k))
          (fun i k => v4 (ix2 i k)) (fun i k => v8 (ix2 i k)) (fun i k => v20 (ix2 i k)) (v18 (ix2 r j)) j := by
  pointwise [k0_pay28]
  rfl

theorem hm_a (v3 : Vec Ideal S256x1024 .bf16) (v4 : Vec Ideal S1024x1024 .bf16) (v7 : Vec Ideal S256x1024 .bf16) (v8 : Vec Ideal S1024x1024 .bf16)
    (v11 v14 v18 : Vec Ideal S256x1024 .f32) (v20 : Vec Ideal S1024x1024 .bf16) (g : Vec Ideal S1x1024 .f32) (r : Fin 256) (j : Fin 1024) :
    k0_pay7 (k0_pay4 v3 v4 v7 v8 v11 v14 v18 v20) (k0_pay5 g) (k0_pay6 v3 v4 v7 v8 v11 v14 v18 v20) (Scalar.ofBits .f32 0x44800000#32) (ix2 r j)
      = rn c1024 (fun k => k0_pay4 v3 v4 v7 v8 v11 v14 v18 v20 (ix2 r k)) (fun k => g (ix2 0 k)) j := by
  unfold k0_pay6
  generalize k0_pay4 v3 v4 v7 v8 v11 v14 v18 v20 = x
  pointwise [k0_pay7, k0_pay5]
  rfl

theorem hm_b (v3 : Vec Ideal S256x1024 .bf16) (v4 : Vec Ideal S1024x1024 .bf16) (v7 : Vec Ideal S256x1024 .bf16) (v8 : Vec Ideal S1024x1024 .bf16)
    (v11 v14 v18 : Vec Ideal S256x1024 .f32) (v20 : Vec Ideal S1024x1024 .bf16) (g : Vec Ideal S1x1024 .f32) (r : Fin 256) (j : Fin 1024) :
    k0_pay31 (k0_pay29 g) (k0_pay30 v3 v4 v7 v8 v11 v14 v18 v20) (ix2 r j)
      = rn c1024 (fun k => k0_pay28 v3 v4 v7 v8 v11 v14 v18 v20 (ix2 r k)) (fun k => g (ix2 0 k)) j := by
  unfold k0_pay30
  generalize k0_pay28 v3 v4 v7 v8 v11 v14 v18 v20 = x
  pointwise [k0_pay31, k0_pay29]
  rfl

end Cert.MixX

end
-- ==== Proof.MixBlk.lean ====
module
public import proofs.«01_k».proof.Proof.Gen.MixIdeal.Frame
public import proofs.«01_k».proof.Proof.MixPay
public import Idealize.ShloMosaic.Lib.Pipeline.ValueKit
public import Idealize.ShloMosaic.Lib.WholeRead

/-!
The blocks of the residual stream and of its norm as a grid point leaves them: two halves of the rows, each stored once.
-/

@[expose] public section

set_option maxRecDepth 16384

noncomputable section

open Idealize.ShloMosaic Idealize.ShloMosaic.TcCoe Idealize.SL.Sem

namespace Cert.MixX

open Cert.MixIdeal Cert.MixIdeal.Gen Cert.Row

/-- Half of the rows of a block, loaded. -/
theorem ldB {e : EltTy} (arg : Memref sig .tc .vmem S512x1024 e) (harg : arg.IsWhole) (x : Vec Ideal S512x1024 e) (n : ℕ) (inb) (r : Fin 256) (k : Fin 1024) (hn : n + r.val < 512) :
    View.readAt (Elt Ideal) arg.view (Rect.unit (s := S512x1024) ![n, 0] S256x1024.size inb).toLoadRect (harg.unread x) (ix2 r k) = x (ix2 ⟨n + r.val, hn⟩ k) := by
  rw [harg.readAt_unread]
  congr 1
  ext a
  fin_cases a <;> simp [ix2]

/-- A whole weight, loaded. -/
theorem ldW (arg : Memref sig .tc .vmem S1024x1024 .bf16) (harg : arg.IsWhole) (x : Vec Ideal S1024x1024 .bf16) (i k : Fin 1024) :
    View.readAt (Elt Ideal) arg.view (Rect.unit (s := S1024x1024) ![0, 0] S1024x1024.size inb_S1024x1024_S1024x1024_0_0).toLoadRect (harg.unread x) (ix2 i k) = x (ix2 i k) := by
  rw [harg.readAt_unread]
  congr 1
  ext a
  fin_cases a <;> simp [ix2]

/-- The gain, loaded. -/
theorem ldG (arg : Memref sig .tc .vmem S1x1024 .f32) (harg : arg.IsWhole) (x : Vec Ideal S1x1024 .f32) (k : Fin 1024) :
    View.readAt (Elt Ideal) arg.view (Rect.unit (s := S1x1024) ![0, 0] S1x1024.size inb_S1x1024_S1x1024_0_0).toLoadRect (harg.unread x) (ix2 0 k) = x (ix2 0 k) := by
  rw [harg.readAt_unread]
  congr 1
  ext a
  fin_cases a <;> simp [ix2]

theorem mix_congr {a a' g g' p p' q q' : Fin 1024 → EReal} {wa wa' wg wg' wo wo' : Fin 1024 → Fin 1024 → EReal} {x x' : EReal}
    (ha : ∀ k, a k = a' k) (hg : ∀ k, g k = g' k) (hp : ∀ k, p k = p' k) (hq : ∀ k, q k = q' k)
    (hwa : ∀ i k, wa i k = wa' i k) (hwg : ∀ i k, wg i k = wg' i k) (hwo : ∀ i k, wo i k = wo' i k) (hx : x = x') (j : Fin 1024) :
    mix a g p q wa wg wo x j = mix a' g' p' q' wa' wg' wo' x' j := by
  rw [funext ha, funext hg, funext hp, funext hq, funext fun i => funext (hwa i), funext fun i => funext (hwg i), funext fun i => funext (hwo i), hx]

/-- One entry of the residual stream, from arrays of any number of rows. -/
def x1B {R : ℕ} (x0 x1 x2 x3 x4 : (⟨2, ![R, 1024]⟩ : Shape).Idx → EReal) (x5 x6 x7 : S1024x1024.Idx → EReal) (r : Fin R) (j : Fin 1024) : EReal :=
  mix (fun k => x0 (ix2 r k)) (fun k => x1 (ix2 r k)) (fun k => x2 (ix2 r k)) (fun k => x3 (ix2 r k))
    (fun i k => x5 (ix2 i k)) (fun i k => x6 (ix2 i k)) (fun i k => x7 (ix2 i k)) (x4 (ix2 r j)) j

/-- One entry of its norm. -/
def hmB {R : ℕ} (x0 x1 x2 x3 x4 : (⟨2, ![R, 1024]⟩ : Shape).Idx → EReal) (x5 x6 x7 : S1024x1024.Idx → EReal) (x8 : S1x1024.Idx → EReal) (r : Fin R) (j : Fin 1024) : EReal :=
  rn c1024 (fun k => x1B x0 x1 x2 x3 x4 x5 x6 x7 r k) (fun k => x8 (ix2 0 k)) j

/-- Two half blocks, each right, make the whole block right. -/
theorem canon2 (T : Fin 512 → Fin 1024 → EReal) (P0 P1 : Vec Ideal S256x1024 .f32)
    (h0 : ∀ (r : Fin 256) (j : Fin 1024), P0 (ix2 r j) = T ⟨0 + r.val, by omega⟩ j)
    (h1 : ∀ (r : Fin 256) (j : Fin 1024), P1 (ix2 r j) = T ⟨256 + r.val, by omega⟩ j)
    (y : S512x1024.Idx) :
    View.canon (Val := Elt Ideal) (s := S512x1024) (e := .f32) [⟨Rect.unit ![256, 0] ![256, 1024] inb_S512x1024_S256x1024_256_0, P1⟩, ⟨Rect.unit ![0, 0] ![256, 1024] inb_S512x1024_S256x1024_0_0, P0⟩] y = T (y 0) (y 1) := by
  rename' h0 => k0, h1 => k1
  canon_tiles x h
  · refine (congrArg P1 (eq_ix2 x)).trans ((k1 (x 0) (x 1)).trans (congrArg₂ T (Fin.ext ?_) (Fin.ext ?_)))
    · exact h0.symm
    · exact h1.symm
  · refine (congrArg P0 (eq_ix2 x)).trans ((k0 (x 0) (x 1)).trans (congrArg₂ T (Fin.ext ?_) (Fin.ext ?_)))
    · show 0 + (x 0).val = (y 0).val
      omega
    · exact h1.symm

/-- The lower half of the rows. -/
theorem x1_lo (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole)
    (x0 x1 : Vec Ideal S512x1024 .bf16) (x2 x3 x4 : Vec Ideal S512x1024 .f32) (x5 x6 x7 : Vec Ideal S1024x1024 .bf16) (r : Fin 256) (j : Fin 1024) :
    k0_pay4 (View.readAt (Elt Ideal) arg1.view (Rect.unit (s := S512x1024) ![0, 0] S256x1024.size inb_S512x1024_S256x1024_0_0).toLoadRect (harg1.unread x0)) (View.readAt (Elt Ideal) arg6.view (Rect.unit (s := S1024x1024) ![0, 0] S1024x1024.size inb_S1024x1024_S1024x1024_0_0).toLoadRect (harg6.unread x5)) (View.readAt (Elt Ideal) arg2.view (Rect.unit (s := S512x1024) ![0, 0] S256x1024.size inb_S512x1024_S256x1024_0_0).toLoadRect (harg2.unread x1)) (View.readAt (Elt Ideal) arg7.view (Rect.unit (s := S1024x1024) ![0, 0] S1024x1024.size inb_S1024x1024_S1024x1024_0_0).toLoadRect (harg7.unread x6)) (View.readAt (Elt Ideal) arg3.view (Rect.unit (s := S512x1024) ![0, 0] S256x1024.size inb_S512x1024_S256x1024_0_0).toLoadRect (harg3.unread x2)) (View.readAt (Elt Ideal) arg4.view (Rect.unit (s := S512x1024) ![0, 0] S256x1024.size inb_S512x1024_S256x1024_0_0).toLoadRect (harg4.unread x3)) (View.readAt (Elt Ideal) arg5.view (Rect.unit (s := S512x1024) ![0, 0] S256x1024.size inb_S512x1024_S256x1024_0_0).toLoadRect (harg5.unread x4)) (View.readAt (Elt Ideal) arg8.view (Rect.unit (s := S1024x1024) ![0, 0] S1024x1024.size inb_S1024x1024_S1024x1024_0_0).toLoadRect (harg8.unread x7)) (ix2 r j) = x1B x0 x1 x2 x3 x4 x5 x6 x7 ⟨0 + r.val, by omega⟩ j := by
  refine (x1_a _ _ _ _ _ _ _ _ r j).trans ?_
  exact mix_congr (fun k => ldB arg1 harg1 x0 0 _ r k (by omega)) (fun k => ldB arg2 harg2 x1 0 _ r k (by omega)) (fun k => ldB arg3 harg3 x2 0 _ r k (by omega)) (fun k => ldB arg4 harg4 x3 0 _ r k (by omega))
    (fun i k => ldW arg6 harg6 x5 i k) (fun i k => ldW arg7 harg7 x6 i k) (fun i k => ldW arg8 harg8 x7 i k) (ldB arg5 harg5 x4 0 _ r j (by omega)) j

/-- The upper half of the rows. -/
theorem x1_hi (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole)
    (x0 x1 : Vec Ideal S512x1024 .bf16) (x2 x3 x4 : Vec Ideal S512x1024 .f32) (x5 x6 x7 : Vec Ideal S1024x1024 .bf16) (r : Fin 256) (j : Fin 1024) :
    k0_pay28 (View.readAt (Elt Ideal) arg1.view (Rect.unit (s := S512x1024) ![256, 0] S256x1024.size inb_S512x1024_S256x1024_256_0).toLoadRect (harg1.unread x0)) (View.readAt (Elt Ideal) arg6.view (Rect.unit (s := S1024x1024) ![0, 0] S1024x1024.size inb_S1024x1024_S1024x1024_0_0).toLoadRect (harg6.unread x5)) (View.readAt (Elt Ideal) arg2.view (Rect.unit (s := S512x1024) ![256, 0] S256x1024.size inb_S512x1024_S256x1024_256_0).toLoadRect (harg2.unread x1)) (View.readAt (Elt Ideal) arg7.view (Rect.unit (s := S1024x1024) ![0, 0] S1024x1024.size inb_S1024x1024_S1024x1024_0_0).toLoadRect (harg7.unread x6)) (View.readAt (Elt Ideal) arg3.view (Rect.unit (s := S512x1024) ![256, 0] S256x1024.size inb_S512x1024_S256x1024_256_0).toLoadRect (harg3.unread x2)) (View.readAt (Elt Ideal) arg4.view (Rect.unit (s := S512x1024) ![256, 0] S256x1024.size inb_S512x1024_S256x1024_256_0).toLoadRect (harg4.unread x3)) (View.readAt (Elt Ideal) arg5.view (Rect.unit (s := S512x1024) ![256, 0] S256x1024.size inb_S512x1024_S256x1024_256_0).toLoadRect (harg5.unread x4)) (View.readAt (Elt Ideal) arg8.view (Rect.unit (s := S1024x1024) ![0, 0] S1024x1024.size inb_S1024x1024_S1024x1024_0_0).toLoadRect (harg8.unread x7)) (ix2 r j) = x1B x0 x1 x2 x3 x4 x5 x6 x7 ⟨256 + r.val, by omega⟩ j := by
  refine (x1_b _ _ _ _ _ _ _ _ r j).trans ?_
  exact mix_congr (fun k => ldB arg1 harg1 x0 256 _ r k (by omega)) (fun k => ldB arg2 harg2 x1 256 _ r k (by omega)) (fun k => ldB arg3 harg3 x2 256 _ r k (by omega)) (fun k => ldB arg4 harg4 x3 256 _ r k (by omega))
    (fun i k => ldW arg6 harg6 x5 i k) (fun i k => ldW arg7 harg7 x6 i k) (fun i k => ldW arg8 harg8 x7 i k) (ldB arg5 harg5 x4 256 _ r j (by omega)) j

/-- The two halves stored into the residual block, at the first grid point of a part. -/
theorem pieces_A_x1 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x128 .bf16) (harg10 : arg10.IsWhole) (arg11 : Memref sig .tc .vmem S1x128 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x128 .f32) (harg14 : arg14.IsWhole) (arg15 : Memref sig .tc .vmem S512x4 .f32) (harg15 : arg15.IsWhole) (arg16 : Memref sig .tc .vmem S1x128 .f32) (harg16 : arg16.IsWhole) (hc0 : cond0_0 i)
    (x0 : Vec Ideal S512x1024 .bf16) (x1 : Vec Ideal S512x1024 .bf16) (x2 : Vec Ideal S512x1024 .f32) (x3 : Vec Ideal S512x1024 .f32) (x4 : Vec Ideal S512x1024 .f32) (x5 : Vec Ideal S1024x1024 .bf16) (x6 : Vec Ideal S1024x1024 .bf16) (x7 : Vec Ideal S1024x1024 .bf16) (x8 : Vec Ideal S1x1024 .f32) (x9 : Vec Ideal S1024x128 .bf16) (x10 : Vec Ideal S1x128 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).1 =
      [⟨Rect.unit ![256, 0] ![256, 1024] inb_S512x1024_S256x1024_256_0, k0_pay28 (View.readAt (Elt Ideal) arg1.view (Rect.unit (s := S512x1024) ![256, 0] S256x1024.size inb_S512x1024_S256x1024_256_0).toLoadRect (harg1.unread x0)) (View.readAt (Elt Ideal) arg6.view (Rect.unit (s := S1024x1024) ![0, 0] S1024x1024.size inb_S1024x1024_S1024x1024_0_0).toLoadRect (harg6.unread x5)) (View.readAt (Elt Ideal) arg2.view (Rect.unit (s := S512x1024) ![256, 0] S256x1024.size inb_S512x1024_S256x1024_256_0).toLoadRect (harg2.unread x1)) (View.readAt (Elt Ideal) arg7.view (Rect.unit (s := S1024x1024) ![0, 0] S1024x1024.size inb_S1024x1024_S1024x1024_0_0).toLoadRect (harg7.unread x6)) (View.readAt (Elt Ideal) arg3.view (Rect.unit (s := S512x1024) ![256, 0] S256x1024.size inb_S512x1024_S256x1024_256_0).toLoadRect (harg3.unread x2)) (View.readAt (Elt Ideal) arg4.view (Rect.unit (s := S512x1024) ![256, 0] S256x1024.size inb_S512x1024_S256x1024_256_0).toLoadRect (harg4.unread x3)) (View.readAt (Elt Ideal) arg5.view (Rect.unit (s := S512x1024) ![256, 0] S256x1024.size inb_S512x1024_S256x1024_256_0).toLoadRect (harg5.unread x4)) (View.readAt (Elt Ideal) arg8.view (Rect.unit (s := S1024x1024) ![0, 0] S1024x1024.size inb_S1024x1024_S1024x1024_0_0).toLoadRect (harg8.unread x7))⟩,
       ⟨Rect.unit ![0, 0] ![256, 1024] inb_S512x1024_S256x1024_0_0, k0_pay4 (View.readAt (Elt Ideal) arg1.view (Rect.unit (s := S512x1024) ![0, 0] S256x1024.size inb_S512x1024_S256x1024_0_0).toLoadRect (harg1.unread x0)) (View.readAt (Elt Ideal) arg6.view (Rect.unit (s := S1024x1024) ![0, 0] S1024x1024.size inb_S1024x1024_S1024x1024_0_0).toLoadRect (harg6.unread x5)) (View.readAt (Elt Ideal) arg2.view (Rect.unit (s := S512x1024) ![0, 0] S256x1024.size inb_S512x1024_S256x1024_0_0).toLoadRect (harg2.unread x1)) (View.readAt (Elt Ideal) arg7.view (Rect.unit (s := S1024x1024) ![0, 0] S1024x1024.size inb_S1024x1024_S1024x1024_0_0).toLoadRect (harg7.unread x6)) (View.readAt (Elt Ideal) arg3.view (Rect.unit (s := S512x1024) ![0, 0] S256x1024.size inb_S512x1024_S256x1024_0_0).toLoadRect (harg3.unread x2)) (View.readAt (Elt Ideal) arg4.view (Rect.unit (s := S512x1024) ![0, 0] S256x1024.size inb_S512x1024_S256x1024_0_0).toLoadRect (harg4.unread x3)) (View.readAt (Elt Ideal) arg5.view (Rect.unit (s := S512x1024) ![0, 0] S256x1024.size inb_S512x1024_S256x1024_0_0).toLoadRect (harg5.unread x4)) (View.readAt (Elt Ideal) arg8.view (Rect.unit (s := S1024x1024) ![0, 0] S1024x1024.size inb_S1024x1024_S1024x1024_0_0).toLoadRect (harg8.unread x7))⟩] := by
  unfold kernelRun0_A
  rfl

/-- The block at an index. -/
theorem out_A_x1 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x128 .bf16) (harg10 : arg10.IsWhole) (arg11 : Memref sig .tc .vmem S1x128 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x128 .f32) (harg14 : arg14.IsWhole) (arg15 : Memref sig .tc .vmem S512x4 .f32) (harg15 : arg15.IsWhole) (arg16 : Memref sig .tc .vmem S1x128 .f32) (harg16 : arg16.IsWhole) (hc0 : cond0_0 i)
    (x0 : Vec Ideal S512x1024 .bf16) (x1 : Vec Ideal S512x1024 .bf16) (x2 : Vec Ideal S512x1024 .f32) (x3 : Vec Ideal S512x1024 .f32) (x4 : Vec Ideal S512x1024 .f32) (x5 : Vec Ideal S1024x1024 .bf16) (x6 : Vec Ideal S1024x1024 .bf16) (x7 : Vec Ideal S1024x1024 .bf16) (x8 : Vec Ideal S1x1024 .f32) (x9 : Vec Ideal S1024x128 .bf16) (x10 : Vec Ideal S1x128 .f32) (r : Fin 512) (j : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (ix2 r j) = x1B x0 x1 x2 x3 x4 x5 x6 x7 r j := by
  rw [out0_A_11, View.read_writes_junk_apply_eq_canon, pieces_A_x1]
  refine canon2 (fun r j => x1B x0 x1 x2 x3 x4 x5 x6 x7 r j) _ _ (fun r j => ?_) (fun r j => ?_) (ix2 r j)
  · exact x1_lo arg1 harg1 arg2 harg2 arg3 harg3 arg4 harg4 arg5 harg5 arg6 harg6 arg7 harg7 arg8 harg8 x0 x1 x2 x3 x4 x5 x6 x7 r j
  · exact x1_hi arg1 harg1 arg2 harg2 arg3 harg3 arg4 harg4 arg5 harg5 arg6 harg6 arg7 harg7 arg8 harg8 x0 x1 x2 x3 x4 x5 x6 x7 r j

/-- The two halves stored into the normed block, at the first grid point of a part. -/
theorem pieces_A_hm (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x128 .bf16) (harg10 : arg10.IsWhole) (arg11 : Memref sig .tc .vmem S1x128 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x128 .f32) (harg14 : arg14.IsWhole) (arg15 : Memref sig .tc .vmem S512x4 .f32) (harg15 : arg15.IsWhole) (arg16 : Memref sig .tc .vmem S1x128 .f32) (harg16 : arg16.IsWhole) (hc0 : cond0_0 i)
    (x0 : Vec Ideal S512x1024 .bf16) (x1 : Vec Ideal S512x1024 .bf16) (x2 : Vec Ideal S512x1024 .f32) (x3 : Vec Ideal S512x1024 .f32) (x4 : Vec Ideal S512x1024 .f32) (x5 : Vec Ideal S1024x1024 .bf16) (x6 : Vec Ideal S1024x1024 .bf16) (x7 : Vec Ideal S1024x1024 .bf16) (x8 : Vec Ideal S1x1024 .f32) (x9 : Vec Ideal S1024x128 .bf16) (x10 : Vec Ideal S1x128 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.1 =
      [⟨Rect.unit ![256, 0] ![256, 1024] inb_S512x1024_S256x1024_256_0, k0_pay31 (k0_pay29 (View.readAt (Elt Ideal) arg9.view (Rect.unit (s := S1x1024) ![0, 0] S1x1024.size inb_S1x1024_S1x1024_0_0).toLoadRect (harg9.unread x8))) (k0_pay30 (View.readAt (Elt Ideal) arg1.view (Rect.unit (s := S512x1024) ![256, 0] S256x1024.size inb_S512x1024_S256x1024_256_0).toLoadRect (harg1.unread x0)) (View.readAt (Elt Ideal) arg6.view (Rect.unit (s := S1024x1024) ![0, 0] S1024x1024.size inb_S1024x1024_S1024x1024_0_0).toLoadRect (harg6.unread x5)) (View.readAt (Elt Ideal) arg2.view (Rect.unit (s := S512x1024) ![256, 0] S256x1024.size inb_S512x1024_S256x1024_256_0).toLoadRect (harg2.unread x1)) (View.readAt (Elt Ideal) arg7.view (Rect.unit (s := S1024x1024) ![0, 0] S1024x1024.size inb_S1024x1024_S1024x1024_0_0).toLoadRect (harg7.unread x6)) (View.readAt (Elt Ideal) arg3.view (Rect.unit (s := S512x1024) ![256, 0] S256x1024.size inb_S512x1024_S256x1024_256_0).toLoadRect (harg3.unread x2)) (View.readAt (Elt Ideal) arg4.view (Rect.unit (s := S512x1024) ![256, 0] S256x1024.size inb_S512x1024_S256x1024_256_0).toLoadRect (harg4.unread x3)) (View.readAt (Elt Ideal) arg5.view (Rect.unit (s := S512x1024) ![256, 0] S256x1024.size inb_S512x1024_S256x1024_256_0).toLoadRect (harg5.unread x4)) (View.readAt (Elt Ideal) arg8.view (Rect.unit (s := S1024x1024) ![0, 0] S1024x1024.size inb_S1024x1024_S1024x1024_0_0).toLoadRect (harg8.unread x7)))⟩,
       ⟨Rect.unit ![0, 0] ![256, 1024] inb_S512x1024_S256x1024_0_0, k0_pay7 (k0_pay4 (View.readAt (Elt Ideal) arg1.view (Rect.unit (s := S512x1024) ![0, 0] S256x1024.size inb_S512x1024_S256x1024_0_0).toLoadRect (harg1.unread x0)) (View.readAt (Elt Ideal) arg6.view (Rect.unit (s := S1024x1024) ![0, 0] S1024x1024.size inb_S1024x1024_S1024x1024_0_0).toLoadRect (harg6.unread x5)) (View.readAt (Elt Ideal) arg2.view (Rect.unit (s := S512x1024) ![0, 0] S256x1024.size inb_S512x1024_S256x1024_0_0).toLoadRect (harg2.unread x1)) (View.readAt (Elt Ideal) arg7.view (Rect.unit (s := S1024x1024) ![0, 0] S1024x1024.size inb_S1024x1024_S1024x1024_0_0).toLoadRect (harg7.unread x6)) (View.readAt (Elt Ideal) arg3.view (Rect.unit (s := S512x1024) ![0, 0] S256x1024.size inb_S512x1024_S256x1024_0_0).toLoadRect (harg3.unread x2)) (View.readAt (Elt Ideal) arg4.view (Rect.unit (s := S512x1024) ![0, 0] S256x1024.size inb_S512x1024_S256x1024_0_0).toLoadRect (harg4.unread x3)) (View.readAt (Elt Ideal) arg5.view (Rect.unit (s := S512x1024) ![0, 0] S256x1024.size inb_S512x1024_S256x1024_0_0).toLoadRect (harg5.unread x4)) (View.readAt (Elt Ideal) arg8.view (Rect.unit (s := S1024x1024) ![0, 0] S1024x1024.size inb_S1024x1024_S1024x1024_0_0).toLoadRect (harg8.unread x7))) (k0_pay5 (View.readAt (Elt Ideal) arg9.view (Rect.unit (s := S1x1024) ![0, 0] S1x1024.size inb_S1x1024_S1x1024_0_0).toLoadRect (harg9.unread x8))) (k0_pay6 (View.readAt (Elt Ideal) arg1.view (Rect.unit (s := S512x1024) ![0, 0] S256x1024.size inb_S512x1024_S256x1024_0_0).toLoadRect (harg1.unread x0)) (View.readAt (Elt Ideal) arg6.view (Rect.unit (s := S1024x1024) ![0, 0] S1024x1024.size inb_S1024x1024_S1024x1024_0_0).toLoadRect (harg6.unread x5)) (View.readAt (Elt Ideal) arg2.view (Rect.unit (s := S512x1024) ![0, 0] S256x1024.size inb_S512x1024_S256x1024_0_0).toLoadRect (harg2.unread x1)) (View.readAt (Elt Ideal) arg7.view (Rect.unit (s := S1024x1024) ![0, 0] S1024x1024.size inb_S1024x1024_S1024x1024_0_0).toLoadRect (harg7.unread x6)) (View.readAt (Elt Ideal) arg3.view (Rect.unit (s := S512x1024) ![0, 0] S256x1024.size inb_S512x1024_S256x1024_0_0).toLoadRect (harg3.unread x2)) (View.readAt (Elt Ideal) arg4.view (Rect.unit (s := S512x1024) ![0, 0] S256x1024.size inb_S512x1024_S256x1024_0_0).toLoadRect (harg4.unread x3)) (View.readAt (Elt Ideal) arg5.view (Rect.unit (s := S512x1024) ![0, 0] S256x1024.size inb_S512x1024_S256x1024_0_0).toLoadRect (harg5.unread x4)) (View.readAt (Elt Ideal) arg8.view (Rect.unit (s := S1024x1024) ![0, 0] S1024x1024.size inb_S1024x1024_S1024x1024_0_0).toLoadRect (harg8.unread x7))) (Scalar.ofBits .f32 0x44800000#32)⟩] := by
  unfold kernelRun0_A
  rfl

/-- The block at an index. -/
theorem out_A_hm (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x128 .bf16) (harg10 : arg10.IsWhole) (arg11 : Memref sig .tc .vmem S1x128 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x128 .f32) (harg14 : arg14.IsWhole) (arg15 : Memref sig .tc .vmem S512x4 .f32) (harg15 : arg15.IsWhole) (arg16 : Memref sig .tc .vmem S1x128 .f32) (harg16 : arg16.IsWhole) (hc0 : cond0_0 i)
    (x0 : Vec Ideal S512x1024 .bf16) (x1 : Vec Ideal S512x1024 .bf16) (x2 : Vec Ideal S512x1024 .f32) (x3 : Vec Ideal S512x1024 .f32) (x4 : Vec Ideal S512x1024 .f32) (x5 : Vec Ideal S1024x1024 .bf16) (x6 : Vec Ideal S1024x1024 .bf16) (x7 : Vec Ideal S1024x1024 .bf16) (x8 : Vec Ideal S1x1024 .f32) (x9 : Vec Ideal S1024x128 .bf16) (x10 : Vec Ideal S1x128 .f32) (r : Fin 512) (j : Fin 1024) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (ix2 r j) = hmB x0 x1 x2 x3 x4 x5 x6 x7 x8 r j := by
  rw [out0_A_12, View.read_writes_junk_apply_eq_canon, pieces_A_hm]
  refine canon2 (fun r j => hmB x0 x1 x2 x3 x4 x5 x6 x7 x8 r j) _ _ (fun r j => ?_) (fun r j => ?_) (ix2 r j)
  · refine (hm_a _ _ _ _ _ _ _ _ _ r j).trans (rn_congr _ (fun k => ?_) (fun k => ?_) j)
    · exact x1_lo arg1 harg1 arg2 harg2 arg3 harg3 arg4 harg4 arg5 harg5 arg6 harg6 arg7 harg7 arg8 harg8 x0 x1 x2 x3 x4 x5 x6 x7 r k
    · exact ldG arg9 harg9 x8 k
  · refine (hm_b _ _ _ _ _ _ _ _ _ r j).trans (rn_congr _ (fun k => ?_) (fun k => ?_) j)
    · exact x1_hi arg1 harg1 arg2 harg2 arg3 harg3 arg4 harg4 arg5 harg5 arg6 harg6 arg7 harg7 arg8 harg8 x0 x1 x2 x3 x4 x5 x6 x7 r k
    · exact ldG arg9 harg9 x8 k

/-- The two halves stored into the residual block, at the other grid points. -/
theorem pieces_B_x1 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x128 .bf16) (harg10 : arg10.IsWhole) (arg11 : Memref sig .tc .vmem S1x128 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x128 .f32) (harg14 : arg14.IsWhole) (arg15 : Memref sig .tc .vmem S512x4 .f32) (harg15 : arg15.IsWhole) (arg16 : Memref sig .tc .vmem S1x128 .f32) (harg16 : arg16.IsWhole) (hc0 : ¬cond0_0 i)
    (x0 : Vec Ideal S512x1024 .bf16) (x1 : Vec Ideal S512x1024 .bf16) (x2 : Vec Ideal S512x1024 .f32) (x3 : Vec Ideal S512x1024 .f32) (x4 : Vec Ideal S512x1024 .f32) (x5 : Vec Ideal S1024x1024 .bf16) (x6 : Vec Ideal S1024x1024 .bf16) (x7 : Vec Ideal S1024x1024 .bf16) (x8 : Vec Ideal S1x1024 .f32) (x9 : Vec Ideal S1024x128 .bf16) (x10 : Vec Ideal S1x128 .f32) (xo15 : Vec Ideal S1x128 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo15).1 =
      [⟨Rect.unit ![256, 0] ![256, 1024] inb_S512x1024_S256x1024_256_0, k0_pay28 (View.readAt (Elt Ideal) arg1.view (Rect.unit (s := S512x1024) ![256, 0] S256x1024.size inb_S512x1024_S256x1024_256_0).toLoadRect (harg1.unread x0)) (View.readAt (Elt Ideal) arg6.view (Rect.unit (s := S1024x1024) ![0, 0] S1024x1024.size inb_S1024x1024_S1024x1024_0_0).toLoadRect (harg6.unread x5)) (View.readAt (Elt Ideal) arg2.view (Rect.unit (s := S512x1024) ![256, 0] S256x1024.size inb_S512x1024_S256x1024_256_0).toLoadRect (harg2.unread x1)) (View.readAt (Elt Ideal) arg7.view (Rect.unit (s := S1024x1024) ![0, 0] S1024x1024.size inb_S1024x1024_S1024x1024_0_0).toLoadRect (harg7.unread x6)) (View.readAt (Elt Ideal) arg3.view (Rect.unit (s := S512x1024) ![256, 0] S256x1024.size inb_S512x1024_S256x1024_256_0).toLoadRect (harg3.unread x2)) (View.readAt (Elt Ideal) arg4.view (Rect.unit (s := S512x1024) ![256, 0] S256x1024.size inb_S512x1024_S256x1024_256_0).toLoadRect (harg4.unread x3)) (View.readAt (Elt Ideal) arg5.view (Rect.unit (s := S512x1024) ![256, 0] S256x1024.size inb_S512x1024_S256x1024_256_0).toLoadRect (harg5.unread x4)) (View.readAt (Elt Ideal) arg8.view (Rect.unit (s := S1024x1024) ![0, 0] S1024x1024.size inb_S1024x1024_S1024x1024_0_0).toLoadRect (harg8.unread x7))⟩,
       ⟨Rect.unit ![0, 0] ![256, 1024] inb_S512x1024_S256x1024_0_0, k0_pay4 (View.readAt (Elt Ideal) arg1.view (Rect.unit (s := S512x1024) ![0, 0] S256x1024.size inb_S512x1024_S256x1024_0_0).toLoadRect (harg1.unread x0)) (View.readAt (Elt Ideal) arg6.view (Rect.unit (s := S1024x1024) ![0, 0] S1024x1024.size inb_S1024x1024_S1024x1024_0_0).toLoadRect (harg6.unread x5)) (View.readAt (Elt Ideal) arg2.view (Rect.unit (s := S512x1024) ![0, 0] S256x1024.size inb_S512x1024_S256x1024_0_0).toLoadRect (harg2.unread x1)) (View.readAt (Elt Ideal) arg7.view (Rect.unit (s := S1024x1024) ![0, 0] S1024x1024.size inb_S1024x1024_S1024x1024_0_0).toLoadRect (harg7.unread x6)) (View.readAt (Elt Ideal) arg3.view (Rect.unit (s := S512x1024) ![0, 0] S256x1024.size inb_S512x1024_S256x1024_0_0).toLoadRect (harg3.unread x2)) (View.readAt (Elt Ideal) arg4.view (Rect.unit (s := S512x1024) ![0, 0] S256x1024.size inb_S512x1024_S256x1024_0_0).toLoadRect (harg4.unread x3)) (View.readAt (Elt Ideal) arg5.view (Rect.unit (s := S512x1024) ![0, 0] S256x1024.size inb_S512x1024_S256x1024_0_0).toLoadRect (harg5.unread x4)) (View.readAt (Elt Ideal) arg8.view (Rect.unit (s := S1024x1024) ![0, 0] S1024x1024.size inb_S1024x1024_S1024x1024_0_0).toLoadRect (harg8.unread x7))⟩] := by
  unfold kernelRun0_B
  rfl

/-- The block at an index. -/
theorem out_B_x1 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x128 .bf16) (harg10 : arg10.IsWhole) (arg11 : Memref sig .tc .vmem S1x128 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x128 .f32) (harg14 : arg14.IsWhole) (arg15 : Memref sig .tc .vmem S512x4 .f32) (harg15 : arg15.IsWhole) (arg16 : Memref sig .tc .vmem S1x128 .f32) (harg16 : arg16.IsWhole) (hc0 : ¬cond0_0 i)
    (x0 : Vec Ideal S512x1024 .bf16) (x1 : Vec Ideal S512x1024 .bf16) (x2 : Vec Ideal S512x1024 .f32) (x3 : Vec Ideal S512x1024 .f32) (x4 : Vec Ideal S512x1024 .f32) (x5 : Vec Ideal S1024x1024 .bf16) (x6 : Vec Ideal S1024x1024 .bf16) (x7 : Vec Ideal S1024x1024 .bf16) (x8 : Vec Ideal S1x1024 .f32) (x9 : Vec Ideal S1024x128 .bf16) (x10 : Vec Ideal S1x128 .f32) (xo15 : Vec Ideal S1x128 .f32) (r : Fin 512) (j : Fin 1024) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo15 (ix2 r j) = x1B x0 x1 x2 x3 x4 x5 x6 x7 r j := by
  rw [out0_B_11, View.read_writes_junk_apply_eq_canon, pieces_B_x1]
  refine canon2 (fun r j => x1B x0 x1 x2 x3 x4 x5 x6 x7 r j) _ _ (fun r j => ?_) (fun r j => ?_) (ix2 r j)
  · exact x1_lo arg1 harg1 arg2 harg2 arg3 harg3 arg4 harg4 arg5 harg5 arg6 harg6 arg7 harg7 arg8 harg8 x0 x1 x2 x3 x4 x5 x6 x7 r j
  · exact x1_hi arg1 harg1 arg2 harg2 arg3 harg3 arg4 harg4 arg5 harg5 arg6 harg6 arg7 harg7 arg8 harg8 x0 x1 x2 x3 x4 x5 x6 x7 r j

/-- The two halves stored into the normed block, at the other grid points. -/
theorem pieces_B_hm (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x128 .bf16) (harg10 : arg10.IsWhole) (arg11 : Memref sig .tc .vmem S1x128 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x128 .f32) (harg14 : arg14.IsWhole) (arg15 : Memref sig .tc .vmem S512x4 .f32) (harg15 : arg15.IsWhole) (arg16 : Memref sig .tc .vmem S1x128 .f32) (harg16 : arg16.IsWhole) (hc0 : ¬cond0_0 i)
    (x0 : Vec Ideal S512x1024 .bf16) (x1 : Vec Ideal S512x1024 .bf16) (x2 : Vec Ideal S512x1024 .f32) (x3 : Vec Ideal S512x1024 .f32) (x4 : Vec Ideal S512x1024 .f32) (x5 : Vec Ideal S1024x1024 .bf16) (x6 : Vec Ideal S1024x1024 .bf16) (x7 : Vec Ideal S1024x1024 .bf16) (x8 : Vec Ideal S1x1024 .f32) (x9 : Vec Ideal S1024x128 .bf16) (x10 : Vec Ideal S1x128 .f32) (xo15 : Vec Ideal S1x128 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo15).2.1 =
      [⟨Rect.unit ![256, 0] ![256, 1024] inb_S512x1024_S256x1024_256_0, k0_pay31 (k0_pay29 (View.readAt (Elt Ideal) arg9.view (Rect.unit (s := S1x1024) ![0, 0] S1x1024.size inb_S1x1024_S1x1024_0_0).toLoadRect (harg9.unread x8))) (k0_pay30 (View.readAt (Elt Ideal) arg1.view (Rect.unit (s := S512x1024) ![256, 0] S256x1024.size inb_S512x1024_S256x1024_256_0).toLoadRect (harg1.unread x0)) (View.readAt (Elt Ideal) arg6.view (Rect.unit (s := S1024x1024) ![0, 0] S1024x1024.size inb_S1024x1024_S1024x1024_0_0).toLoadRect (harg6.unread x5)) (View.readAt (Elt Ideal) arg2.view (Rect.unit (s := S512x1024) ![256, 0] S256x1024.size inb_S512x1024_S256x1024_256_0).toLoadRect (harg2.unread x1)) (View.readAt (Elt Ideal) arg7.view (Rect.unit (s := S1024x1024) ![0, 0] S1024x1024.size inb_S1024x1024_S1024x1024_0_0).toLoadRect (harg7.unread x6)) (View.readAt (Elt Ideal) arg3.view (Rect.unit (s := S512x1024) ![256, 0] S256x1024.size inb_S512x1024_S256x1024_256_0).toLoadRect (harg3.unread x2)) (View.readAt (Elt Ideal) arg4.view (Rect.unit (s := S512x1024) ![256, 0] S256x1024.size inb_S512x1024_S256x1024_256_0).toLoadRect (harg4.unread x3)) (View.readAt (Elt Ideal) arg5.view (Rect.unit (s := S512x1024) ![256, 0] S256x1024.size inb_S512x1024_S256x1024_256_0).toLoadRect (harg5.unread x4)) (View.readAt (Elt Ideal) arg8.view (Rect.unit (s := S1024x1024) ![0, 0] S1024x1024.size inb_S1024x1024_S1024x1024_0_0).toLoadRect (harg8.unread x7)))⟩,
       ⟨Rect.unit ![0, 0] ![256, 1024] inb_S512x1024_S256x1024_0_0, k0_pay7 (k0_pay4 (View.readAt (Elt Ideal) arg1.view (Rect.unit (s := S512x1024) ![0, 0] S256x1024.size inb_S512x1024_S256x1024_0_0).toLoadRect (harg1.unread x0)) (View.readAt (Elt Ideal) arg6.view (Rect.unit (s := S1024x1024) ![0, 0] S1024x1024.size inb_S1024x1024_S1024x1024_0_0).toLoadRect (harg6.unread x5)) (View.readAt (Elt Ideal) arg2.view (Rect.unit (s := S512x1024) ![0, 0] S256x1024.size inb_S512x1024_S256x1024_0_0).toLoadRect (harg2.unread x1)) (View.readAt (Elt Ideal) arg7.view (Rect.unit (s := S1024x1024) ![0, 0] S1024x1024.size inb_S1024x1024_S1024x1024_0_0).toLoadRect (harg7.unread x6)) (View.readAt (Elt Ideal) arg3.view (Rect.unit (s := S512x1024) ![0, 0] S256x1024.size inb_S512x1024_S256x1024_0_0).toLoadRect (harg3.unread x2)) (View.readAt (Elt Ideal) arg4.view (Rect.unit (s := S512x1024) ![0, 0] S256x1024.size inb_S512x1024_S256x1024_0_0).toLoadRect (harg4.unread x3)) (View.readAt (Elt Ideal) arg5.view (Rect.unit (s := S512x1024) ![0, 0] S256x1024.size inb_S512x1024_S256x1024_0_0).toLoadRect (harg5.unread x4)) (View.readAt (Elt Ideal) arg8.view (Rect.unit (s := S1024x1024) ![0, 0] S1024x1024.size inb_S1024x1024_S1024x1024_0_0).toLoadRect (harg8.unread x7))) (k0_pay5 (View.readAt (Elt Ideal) arg9.view (Rect.unit (s := S1x1024) ![0, 0] S1x1024.size inb_S1x1024_S1x1024_0_0).toLoadRect (harg9.unread x8))) (k0_pay6 (View.readAt (Elt Ideal) arg1.view (Rect.unit (s := S512x1024) ![0, 0] S256x1024.size inb_S512x1024_S256x1024_0_0).toLoadRect (harg1.unread x0)) (View.readAt (Elt Ideal) arg6.view (Rect.unit (s := S1024x1024) ![0, 0] S1024x1024.size inb_S1024x1024_S1024x1024_0_0).toLoadRect (harg6.unread x5)) (View.readAt (Elt Ideal) arg2.view (Rect.unit (s := S512x1024) ![0, 0] S256x1024.size inb_S512x1024_S256x1024_0_0).toLoadRect (harg2.unread x1)) (View.readAt (Elt Ideal) arg7.view (Rect.unit (s := S1024x1024) ![0, 0] S1024x1024.size inb_S1024x1024_S1024x1024_0_0).toLoadRect (harg7.unread x6)) (View.readAt (Elt Ideal) arg3.view (Rect.unit (s := S512x1024) ![0, 0] S256x1024.size inb_S512x1024_S256x1024_0_0).toLoadRect (harg3.unread x2)) (View.readAt (Elt Ideal) arg4.view (Rect.unit (s := S512x1024) ![0, 0] S256x1024.size inb_S512x1024_S256x1024_0_0).toLoadRect (harg4.unread x3)) (View.readAt (Elt Ideal) arg5.view (Rect.unit (s := S512x1024) ![0, 0] S256x1024.size inb_S512x1024_S256x1024_0_0).toLoadRect (harg5.unread x4)) (View.readAt (Elt Ideal) arg8.view (Rect.unit (s := S1024x1024) ![0, 0] S1024x1024.size inb_S1024x1024_S1024x1024_0_0).toLoadRect (harg8.unread x7))) (Scalar.ofBits .f32 0x44800000#32)⟩] := by
  unfold kernelRun0_B
  rfl

/-- The block at an index. -/
theorem out_B_hm (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x128 .bf16) (harg10 : arg10.IsWhole) (arg11 : Memref sig .tc .vmem S1x128 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x128 .f32) (harg14 : arg14.IsWhole) (arg15 : Memref sig .tc .vmem S512x4 .f32) (harg15 : arg15.IsWhole) (arg16 : Memref sig .tc .vmem S1x128 .f32) (harg16 : arg16.IsWhole) (hc0 : ¬cond0_0 i)
    (x0 : Vec Ideal S512x1024 .bf16) (x1 : Vec Ideal S512x1024 .bf16) (x2 : Vec Ideal S512x1024 .f32) (x3 : Vec Ideal S512x1024 .f32) (x4 : Vec Ideal S512x1024 .f32) (x5 : Vec Ideal S1024x1024 .bf16) (x6 : Vec Ideal S1024x1024 .bf16) (x7 : Vec Ideal S1024x1024 .bf16) (x8 : Vec Ideal S1x1024 .f32) (x9 : Vec Ideal S1024x128 .bf16) (x10 : Vec Ideal S1x128 .f32) (xo15 : Vec Ideal S1x128 .f32) (r : Fin 512) (j : Fin 1024) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xo15 (ix2 r j) = hmB x0 x1 x2 x3 x4 x5 x6 x7 x8 r j := by
  rw [out0_B_12, View.read_writes_junk_apply_eq_canon, pieces_B_hm]
  refine canon2 (fun r j => hmB x0 x1 x2 x3 x4 x5 x6 x7 x8 r j) _ _ (fun r j => ?_) (fun r j => ?_) (ix2 r j)
  · refine (hm_a _ _ _ _ _ _ _ _ _ r j).trans (rn_congr _ (fun k => ?_) (fun k => ?_) j)
    · exact x1_lo arg1 harg1 arg2 harg2 arg3 harg3 arg4 harg4 arg5 harg5 arg6 harg6 arg7 harg7 arg8 harg8 x0 x1 x2 x3 x4 x5 x6 x7 r k
    · exact ldG arg9 harg9 x8 k
  · refine (hm_b _ _ _ _ _ _ _ _ _ r j).trans (rn_congr _ (fun k => ?_) (fun k => ?_) j)
    · exact x1_hi arg1 harg1 arg2 harg2 arg3 harg3 arg4 harg4 arg5 harg5 arg6 harg6 arg7 harg7 arg8 harg8 x0 x1 x2 x3 x4 x5 x6 x7 r k
    · exact ldG arg9 harg9 x8 k

end Cert.MixX

end
-- ==== Proof.MixArr.lean ====
module
public import proofs.«01_k».proof.Proof.MixBlk
public import proofs.«01_k».proof.Proof.Gen.MixIdeal.Value

/-!
The arrays of the residual stream and of its norm, made of their 32 blocks.
-/

@[expose] public section

set_option maxRecDepth 16384

noncomputable section

open Idealize.ShloMosaic Idealize.ShloMosaic.TcCoe Idealize.SL.Sem

namespace Cert.MixX

open Cert.MixIdeal Cert.MixIdeal.Gen Cert.Row

/-- The columns of the projection the two gates read. -/
def ga (H : S16384x6144.Idx → EReal) : S16384x1024.Idx → EReal := fun i => H (ix2 (i 0) ⟨4096 + (i 1).val, by have := (i 1).isLt; simp at this; omega⟩)
@[inherit_doc ga]
def gg (H : S16384x6144.Idx → EReal) : S16384x1024.Idx → EReal := fun i => H (ix2 (i 0) ⟨5120 + (i 1).val, by have := (i 1).isLt; simp at this; omega⟩)

variable (m : (ℓ : Loc nD τ sig) → Buf (Elt Ideal) ℓ) (c : Dev nD)

theorem x1_blk (t : Fin cfg0.N) (r : Fin 512) (j : Fin 1024) :
    (outsAt0 m c t.val t.isLt).1 (ix2 r j) = x1B (R := 512) (iblk m c 0 t) (iblk m c 1 t) (iblk m c 2 t) (iblk m c 3 t) (iblk m c 4 t) (iblk m c 5 t) (iblk m c 6 t) (iblk m c 7 t) r j := by
  by_cases h0 : t.val % 32 = 0
  · rw [outsAt0_A m c t h0]
    dsimp only
    rw [out_A_x1]
  · rw [outsAt0_B m c t h0]
    dsimp only
    rw [out_B_x1]

theorem hm_blk (t : Fin cfg0.N) (r : Fin 512) (j : Fin 1024) :
    (outsAt0 m c t.val t.isLt).2.1 (ix2 r j) = hmB (R := 512) (iblk m c 0 t) (iblk m c 1 t) (iblk m c 2 t) (iblk m c 3 t) (iblk m c 4 t) (iblk m c 5 t) (iblk m c 6 t) (iblk m c 7 t) (iblk m c 8 t) r j := by
  by_cases h0 : t.val % 32 = 0
  · rw [outsAt0_A m c t h0]
    dsimp only
    rw [out_A_hm]
  · rw [outsAt0_B m c t h0]
    dsimp only
    rw [out_B_hm]

/-- Which block of each array a grid point works on. -/
theorem idx : ∀ t : Fin grid0.N, win0_0.index t = ![t.val, 0] ∧ win0_1.index t = ![t.val, 0] ∧ win0_2.index t = ![t.val, 4] ∧ win0_3.index t = ![t.val, 5] ∧ win0_4.index t = ![t.val, 0]
    ∧ win0_5.index t = ![0, 0] ∧ win0_6.index t = ![0, 0] ∧ win0_7.index t = ![0, 0] ∧ win0_8.index t = ![0, 0] ∧ win0_11.index t = ![t.val, 0] ∧ win0_12.index t = ![t.val, 0] := by
  decide +kernel

/-- Row `r` of block `t`. -/
def brow (t : Fin 32) (r : Fin 512) : Fin 16384 := ⟨t.val * 512 + r.val, by omega⟩

/-- A row of a block is the row of the whole arrays the block is cut from. -/
theorem x1_row (t : Fin cfg0.N) (r : Fin 512) (j : Fin 1024) :
    x1B (R := 512) (iblk m c 0 t) (iblk m c 1 t) (iblk m c 2 t) (iblk m c 3 t) (iblk m c 4 t) (iblk m c 5 t) (iblk m c 6 t) (iblk m c 7 t) r j
      = x1B (R := 16384) (V m c main_arg0) (V m c main_arg1) (ga (V m c main_arg2)) (gg (V m c main_arg2)) (V m c main_arg3) (V m c main_v7) (V m c main_v9) (V m c main_v11) (brow t r) j := by
  obtain ⟨i0, i1, i2, i3, i4, i5, i6, i7, i8, i11, i12⟩ := idx t
  refine mix_congr (fun k => ?_) (fun k => ?_) (fun k => ?_) (fun k => ?_) (fun i k => ?_) (fun i k => ?_) (fun i k => ?_) ?_ j
  · blk_point [iblk, i0, brow, ga, gg]
  · blk_point [iblk, i1, brow, ga, gg]
  · blk_point [iblk, i2, brow, ga, gg]
  · blk_point [iblk, i3, brow, ga, gg]
  · blk_point [iblk, i5, brow, ga, gg]
  · blk_point [iblk, i6, brow, ga, gg]
  · blk_point [iblk, i7, brow, ga, gg]
  · blk_point [iblk, i4, brow, ga, gg]

theorem x1_arr :
    (dats m 0 c).arrAt 11 cfg0.N = (fun i => x1B (R := 16384) (V m c main_arg0) (V m c main_arg1) (ga (V m c main_arg2)) (gg (V m c main_arg2)) (V m c main_arg3) (V m c main_v7) (V m c main_v9) (V m c main_v11) (i 0) (i 1) : S16384x1024.Idx → EReal) := by
  refine (dats m 0 c).arrAt_eq_of_covers 11 _ (by decide +kernel) fun t hf y => ?_
  obtain ⟨i0, i1, i2, i3, i4, i5, i6, i7, i8, i11, i12⟩ := idx t
  blk_simp
  rw [after0_11]
  obtain ⟨r, j, rfl⟩ : ∃ (y0 : Fin 512) (y1 : Fin 1024), y = ix2 y0 y1 := ⟨y 0, y 1, eq_ix2 y⟩
  rw [x1_blk, x1_row]
  refine congrArg₂ (x1B (R := 16384) _ _ _ _ _ _ _ _) (Fin.ext ?_) (Fin.ext ?_)
  · blk_simp [i11, brow]
  · blk_simp [i11, brow]

theorem hm_arr :
    (dats m 0 c).arrAt 12 cfg0.N = (fun i => hmB (R := 16384) (V m c main_arg0) (V m c main_arg1) (ga (V m c main_arg2)) (gg (V m c main_arg2)) (V m c main_arg3) (V m c main_v7) (V m c main_v9) (V m c main_v11) (V m c main_v13) (i 0) (i 1) : S16384x1024.Idx → EReal) := by
  refine (dats m 0 c).arrAt_eq_of_covers 12 _ (by decide +kernel) fun t hf y => ?_
  obtain ⟨i0, i1, i2, i3, i4, i5, i6, i7, i8, i11, i12⟩ := idx t
  blk_simp
  rw [after0_12]
  obtain ⟨r, j, rfl⟩ : ∃ (y0 : Fin 512) (y1 : Fin 1024), y = ix2 y0 y1 := ⟨y 0, y 1, eq_ix2 y⟩
  rw [hm_blk]
  have hr : hmB (R := 512) (iblk m c 0 t) (iblk m c 1 t) (iblk m c 2 t) (iblk m c 3 t) (iblk m c 4 t) (iblk m c 5 t) (iblk m c 6 t) (iblk m c 7 t) (iblk m c 8 t) r j
      = hmB (R := 16384) (V m c main_arg0) (V m c main_arg1) (ga (V m c main_arg2)) (gg (V m c main_arg2)) (V m c main_arg3) (V m c main_v7) (V m c main_v9) (V m c main_v11) (V m c main_v13) (brow t r) j := by
    refine rn_congr _ (fun k => x1_row m c t r k) (fun k => ?_) j
    blk_point [iblk, i8]
  rw [hr]
  refine congrArg₂ (hmB (R := 16384) _ _ _ _ _ _ _ _ _) (Fin.ext ?_) (Fin.ext ?_)
  · blk_simp [i12, brow]
  · blk_simp [i12, brow]

end Cert.MixX

end
-- ==== Proof.MixHost.lean ====
module
public import proofs.«01_k».proof.Proof.MixArr

/-!
What the host operations of `MixIdeal` hold before its call, and the two arrays in the arguments alone.
-/

@[expose] public section

set_option maxRecDepth 16384

noncomputable section

open Idealize.ShloMosaic Idealize.ShloMosaic.TcCoe Idealize.SL.Sem

namespace Cert.MixX

open Cert.MixIdeal Cert.MixIdeal.Gen Cert.Row

/-- A weight of the layer, its leading axis dropped. -/
def hW (w : FVec Ideal S1x1024x1024 .f32) : FVec Ideal S1024x1024 .bf16 :=
  truncf .bf16 (shapeCast S1024x1024 w shapeCasts_S1x1024x1024_S1024x1024) bitsLt_bf16_f32

/-- The gain of the norm. -/
def hG (g : FVec Ideal S1x1024 .f32) : FVec Ideal S1x1024 .f32 :=
  broadcastInDim S1x1024 ![1] bcast_S1024_S1x1024_1 (shapeCast S1024 g shapeCasts_S1x1024_S1024)

theorem hW_at (w : FVec Ideal S1x1024x1024 .f32) (i k : Fin 1024) : hW w (ix2 i k) = w (ix3 0 i k) := by
  pointwise [hW]

theorem hG_at (g : FVec Ideal S1x1024 .f32) (k : Fin 1024) : hG g (ix2 0 k) = g (ix2 0 k) := by
  pointwise [hG]

variable (m : (ℓ : Loc nD τ sig) → Buf (Elt Ideal) ℓ) (c : Dev nD)

theorem V_v7 : V m c main_v7 = hW (m ((c : Thread nD τ).loc main_arg4)) := by
  dsimp only [V, hostOps0, hostOps0_1, hostOps0_2, hostOps0_3, hostOps0_4]
  simp only [List.flatten_cons, List.flatten_nil, List.append_nil, List.cons_append, List.nil_append]
  after_results_simp <;> (try dsimp only [Matrix.cons_val]) <;> (try after_results_simp) <;> rfl

theorem V_v9 : V m c main_v9 = hW (m ((c : Thread nD τ).loc main_arg5)) := by
  dsimp only [V, hostOps0, hostOps0_1, hostOps0_2, hostOps0_3, hostOps0_4]
  simp only [List.flatten_cons, List.flatten_nil, List.append_nil, List.cons_append, List.nil_append]
  after_results_simp <;> (try dsimp only [Matrix.cons_val]) <;> (try after_results_simp) <;> rfl

theorem V_v11 : V m c main_v11 = hW (m ((c : Thread nD τ).loc main_arg6)) := by
  dsimp only [V, hostOps0, hostOps0_1, hostOps0_2, hostOps0_3, hostOps0_4]
  simp only [List.flatten_cons, List.flatten_nil, List.append_nil, List.cons_append, List.nil_append]
  after_results_simp <;> (try dsimp only [Matrix.cons_val]) <;> (try after_results_simp) <;> rfl

theorem V_v13 : V m c main_v13 = hG (m ((c : Thread nD τ).loc main_arg7)) := by
  dsimp only [V, hostOps0, hostOps0_1, hostOps0_2, hostOps0_3, hostOps0_4]
  simp only [List.flatten_cons, List.flatten_nil, List.append_nil, List.cons_append, List.nil_append]
  after_results_simp <;> (try dsimp only [Matrix.cons_val]) <;> (try after_results_simp) <;> rfl

end Cert.MixX

end
-- ==== Proof.MixRef.lean ====
module
public import proofs.«01_k».proof.Proof.Gen.MixRefIdeal.Run
public import proofs.«01_k».proof.Proof.MixPay

/-!
The two results of `MixRefIdeal` as terms in its arguments, and at an index.
-/

@[expose] public section

set_option maxRecDepth 16384

noncomputable section

open Idealize.ShloMosaic Idealize.ShloMosaic.TcCoe Idealize.SL.Sem

namespace Cert.MixR

open Cert.MixRefIdeal Cert.MixRefIdeal.Gen Cert.Row Cert.MixX

section
variable {F : FTy → Type} [FloatOps F] [Named F]

/-- One of the layers' outputs against its weight. -/
def rOut (a : FVec F S16384x1024 .bf16) (w : FVec F S1x1024x1024 .f32) : FVec F S16384x1024 .f32 :=
  Host.dotGeneral dot_S16384x1024_S1024x1024_S16384x1024_1_0_0_1_n_n none (extf .f32 a bitsLt_bf16_f32) (shapeCast _ w shapeCasts_S1x1024x1024_S1024x1024)

/-- The gates of both layers. -/
def rGates (h : FVec F S16384x6144 .f32) : FVec F S16384x2048 .f32 :=
  Host.divf (broadcastInDim S16384x2048 ![] bcast_S_S16384x2048 (constant S_ .f32 0x3F800000#32))
    (addf (broadcastInDim S16384x2048 ![] bcast_S_S16384x2048 (constant S_ .f32 0x3F800000#32))
      (Host.exp (Host.negf (extractStridedSlice S16384x2048 ![0, 4096] h slices_S16384x6144_S16384x2048_0_4096))))

/-- The new residual stream. -/
def rX1 (a g : FVec F S16384x1024 .bf16) (h : FVec F S16384x6144 .f32) (x : FVec F S16384x1024 .f32) (wa wg wo : FVec F S1x1024x1024 .f32) : FVec F S16384x1024 .f32 :=
  addf x (Host.dotGeneral dot_S16384x1024_S1024x1024_S16384x1024_1_0_0_1_n_n none
    (addf (mulf (extractStridedSlice S16384x1024 ![0, 0] (rGates h) slices_S16384x2048_S16384x1024_0_0) (rOut a wa))
      (mulf (extractStridedSlice S16384x1024 ![0, 1024] (rGates h) slices_S16384x2048_S16384x1024_0_1024) (rOut g wg)))
    (shapeCast _ wo shapeCasts_S1x1024x1024_S1024x1024))

/-- Its norm. -/
def rHm (x : FVec F S16384x1024 .f32) (g : FVec F S1x1024 .f32) : FVec F S16384x1024 .f32 :=
  mulf (mulf x (broadcastInDim S16384x1024 ![0, 1] bcast_S16384x1_S16384x1024_0_1
      (Host.rsqrt (addf (Host.divf (broadcastInDim S16384x1 ![0] bcast_S16384_S16384x1_0 (Host.reduceAdd (mulf x x) (constant S_ .f32 0x00000000#32) reducesTo_S16384x1024_S16384_d1 h_S_))
          (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 (shapeCast _ g shapeCasts_S1x1024_S1024)))

end

section
variable (m : (ℓ : Loc nD τ sig) → Buf (Elt Ideal) ℓ) (c : Dev nD)

theorem hm_res : Value.res_main_v34 m c = rHm (F := Ideal) (rX1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) := by
  unfold Value.res_main_v34
  rfl

end

/-- A gate is the logistic function of its input. -/
theorem gates_at (h : FVec Ideal S16384x6144 .f32) (r : Fin 16384) (k : Fin 2048) :
    rGates (F := Ideal) h (ix2 r k) = sg (h (ix2 r ⟨4096 + k.val, by omega⟩)) := by
  pointwise [rGates]
  rfl

theorem out_at (a : FVec Ideal S16384x1024 .bf16) (w : FVec Ideal S1x1024x1024 .f32) (r : Fin 16384) (k : Fin 1024) :
    rOut (F := Ideal) a w (ix2 r k) = ∑ i : Fin 1024, a (ix2 r i) * w (ix3 0 i k) := by
  pointwise [rOut]

theorem x1_at (a g : FVec Ideal S16384x1024 .bf16) (h : FVec Ideal S16384x6144 .f32) (x : FVec Ideal S16384x1024 .f32) (wa wg wo : FVec Ideal S1x1024x1024 .f32) (r : Fin 16384) (j : Fin 1024) :
    rX1 (F := Ideal) a g h x wa wg wo (ix2 r j)
      = mix (fun k => a (ix2 r k)) (fun k => g (ix2 r k)) (fun k => h (ix2 r ⟨4096 + k.val, by omega⟩)) (fun k => h (ix2 r ⟨5120 + k.val, by omega⟩))
          (fun i k => wa (ix3 0 i k)) (fun i k => wg (ix3 0 i k)) (fun i k => wo (ix3 0 i k)) (x (ix2 r j)) j := by
  rw [rX1]
  have hg := gates_at h
  have ha := out_at a wa
  have hb := out_at g wg
  generalize rGates (F := Ideal) h = G at *
  generalize rOut (F := Ideal) a wa = A at *
  generalize rOut (F := Ideal) g wg = B at *
  pointwise
  unfold mix
  refine congrArg (_ + ·) (Finset.sum_congr rfl fun k _ => congrArg (· * _) ?_)
  rw [ha, hb, hg, hg]
  refine congrArg₂ (· + ·) (congrArg (fun z => sg (h z) * _) ?_) (congrArg (fun z => sg (h z) * _) ?_)
  · exact congrArg (ix2 r) (Fin.ext (by simp only; try omega))
  · exact congrArg (ix2 r) (Fin.ext (by simp only; omega))

theorem hm_at (x : FVec Ideal S16384x1024 .f32) (g : FVec Ideal S1x1024 .f32) (r : Fin 16384) (j : Fin 1024) :
    rHm (F := Ideal) x g (ix2 r j) = rn c1024 (fun k => x (ix2 r k)) (fun k => g (ix2 0 k)) j := by
  pointwise [rHm]
  rfl

end Cert.MixR

end
-- ==== Proof.MixFinal.lean ====
module
public import proofs.«01_k».proof.Proof.MixHost
public import proofs.«01_k».proof.Proof.MixRef

/-!
The arrays the call of `MixIdeal` leaves are the terms of the reference in the same arguments.
-/

@[expose] public section

set_option maxRecDepth 16384

noncomputable section

open Idealize.ShloMosaic Idealize.ShloMosaic.TcCoe Idealize.SL.Sem

namespace Cert.MixX

open Cert.MixIdeal Cert.MixIdeal.Gen Cert.Row Cert.MixR

variable (m : (ℓ : Loc nD τ sig) → Buf (Elt Ideal) ℓ) (c : Dev nD)

/-- An entry of the residual stream, in the arguments. -/
theorem x1_eq (r : Fin 16384) (j : Fin 1024) :
    x1B (R := 16384) (V m c main_arg0) (V m c main_arg1) (ga (V m c main_arg2)) (gg (V m c main_arg2)) (V m c main_arg3) (V m c main_v7) (V m c main_v9) (V m c main_v11) r j
      = rX1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r j) := by
  rw [V_v7, V_v9, V_v11, V_main_arg0, V_main_arg1, V_main_arg2, V_main_arg3, x1_at]
  exact mix_congr (fun k => rfl) (fun k => rfl) (fun k => rfl) (fun k => rfl) (fun i k => hW_at _ i k) (fun i k => hW_at _ i k) (fun i k => hW_at _ i k) rfl j

theorem f_x1 : (dats m 0 c).arrAt 11 cfg0.N = rX1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [x1_arr]
  funext i
  exact (x1_eq m c (i 0) (i 1)).trans (congrArg _ (eq_ix2 i).symm)

theorem f_hm : (dats m 0 c).arrAt 12 cfg0.N = rHm (F := Ideal) (rX1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) := by
  rw [hm_arr]
  funext i
  refine Eq.trans ?_ ((hm_at _ _ (i 0) (i 1)).symm.trans (congrArg _ (eq_ix2 i).symm))
  refine rn_congr _ (fun k => x1_eq m c (i 0) k) (fun k => ?_) (i 1)
  rw [V_v13]
  exact hG_at _ k

end Cert.MixX

end
-- ==== Proof.MixClaims.lean ====
module
public import proofs.«01_k».proof.Proof.MixFinal
public import proofs.«01_k».proof.Proof.Gen.Mix.Frame
public import proofs.«01_k».proof.Defs
public import Idealize.ShloMosaic.Lib.Quiescent

/-!
The claims about `Mix`.
-/

@[expose] public section

set_option maxRecDepth 16384

noncomputable section

open Idealize.ShloMosaic Idealize.ShloMosaic.TcCoe Idealize.SL.Sem

namespace Cert.MixC

open Cert.MixR

theorem frame_p : Cert.quiescent_Mix := fun m ρ _ => Cert.Mix.Gen.frame m ρ

theorem frame_pi : Cert.quiescent_MixIdeal := fun m ρ _ => Cert.MixIdeal.Gen.frame m ρ

theorem frame_ri : Cert.quiescent_MixRefIdeal := fun m ρ _ =>
  (θ_run Cert.MixRefIdeal.defs _ _).mono
    (fun r h => ⟨fun c => (h c).2.2, Idealize.ShloMosaic.sem_eq_zero_of_no_sems (by decide) r.2⟩)
    (Cert.MixRefIdeal.Value.run m ρ)

theorem preserves : Cert.preserves_Mix_MixIdeal := trivial

/-- From the same arguments the two programs end with the same residual stream and the same norm of it. -/
theorem algebraic : Cert.algebraic_MixIdeal_MixRefIdeal := by
  intro m g m' g' _ hag
  refine ⟨fun c => rX1 (F := Ideal) (m ((c.tc : Thread _ _).loc Cert.MixIdeal.main_arg0)) (m ((c.tc : Thread _ _).loc Cert.MixIdeal.main_arg1)) (m ((c.tc : Thread _ _).loc Cert.MixIdeal.main_arg2)) (m ((c.tc : Thread _ _).loc Cert.MixIdeal.main_arg3)) (m ((c.tc : Thread _ _).loc Cert.MixIdeal.main_arg4)) (m ((c.tc : Thread _ _).loc Cert.MixIdeal.main_arg5)) (m ((c.tc : Thread _ _).loc Cert.MixIdeal.main_arg6)), fun c => rHm (F := Ideal) (rX1 (F := Ideal) (m ((c.tc : Thread _ _).loc Cert.MixIdeal.main_arg0)) (m ((c.tc : Thread _ _).loc Cert.MixIdeal.main_arg1)) (m ((c.tc : Thread _ _).loc Cert.MixIdeal.main_arg2)) (m ((c.tc : Thread _ _).loc Cert.MixIdeal.main_arg3)) (m ((c.tc : Thread _ _).loc Cert.MixIdeal.main_arg4)) (m ((c.tc : Thread _ _).loc Cert.MixIdeal.main_arg5)) (m ((c.tc : Thread _ _).loc Cert.MixIdeal.main_arg6))) (m ((c.tc : Thread _ _).loc Cert.MixIdeal.main_arg7)), ?_, ?_⟩
  · refine (θ_run Cert.MixIdeal.defs _ _).mono (fun r h c => ?_) (Cert.MixIdeal.Value.run_blocks m g)
    obtain ⟨e1, e2, _, _, _, hargs⟩ := h c
    exact ⟨e1.trans (Cert.MixX.f_x1 m c), e2.trans (Cert.MixX.f_hm m c), hargs⟩
  · refine (θ_run Cert.MixRefIdeal.defs _ _).mono (fun r h c => ?_) (Cert.MixRefIdeal.Value.run m' g')
    obtain ⟨h0, h1, h2, h3, h4, h5, h6, h7, _⟩ := hag c
    obtain ⟨e1, e2, hargs⟩ := h c
    refine ⟨e1.trans ?_, e2.trans ((Cert.MixR.hm_res m' c).trans ?_), hargs⟩
    · rw [h0, h1, h2, h3, h4, h5, h6]
      rfl
    · rw [h0, h1, h2, h3, h4, h5, h6, h7]

end Cert.MixC

end
-- ==== Proof.lean ====
/- The certificate: the witnesses of the programs' stated facts, then the claims, each proved in a module of its own. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.KernelIdeal.Value
public import proofs.«01_k».proof.Proof.Gen.ReferenceIdeal.Run
public import proofs.«01_k».proof.Proof.Claims
public import proofs.«01_k».proof.Proof.ProjClaims
public import proofs.«01_k».proof.Proof.NextClaims
public import proofs.«01_k».proof.Proof.GlaClaims
public import proofs.«01_k».proof.Proof.MixClaims
public import proofs.«01_k».proof.Proof.Gen.Proj
public import proofs.«01_k».proof.Proof.Gen.ProjIdeal
public import proofs.«01_k».proof.Proof.Gen.ProjRefIdeal
public import proofs.«01_k».proof.Proof.Gen.Next
public import proofs.«01_k».proof.Proof.Gen.NextIdeal
public import proofs.«01_k».proof.Proof.Gen.NextRefIdeal
public import proofs.«01_k».proof.Proof.Gen.Gla
public import proofs.«01_k».proof.Proof.Gen.GlaIdeal
public import proofs.«01_k».proof.Proof.Gen.GlaRefIdeal
public import proofs.«01_k».proof.Proof.Gen.Mix
public import proofs.«01_k».proof.Proof.Gen.MixIdeal
public import proofs.«01_k».proof.Proof.Gen.MixRefIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Proj.Gen.facts, Cert.ProjIdeal.Gen.facts,
  Cert.ProjRefIdeal.Gen.facts, Cert.Next.Gen.facts, Cert.NextIdeal.Gen.facts, Cert.NextRefIdeal.Gen.facts, Cert.Gla.Gen.facts, Cert.GlaIdeal.Gen.facts,
  Cert.GlaRefIdeal.Gen.facts, Cert.Mix.Gen.facts, Cert.MixIdeal.Gen.facts, Cert.MixRefIdeal.Gen.facts, Cert.Pre_finite_qk.Gen.facts,
  Cert.Flash.frame_p, Cert.Flash.frame_pi, Cert.Flash.frame_pi_pre, Cert.Flash.frame_ri, Cert.Flash.frame_ri_pre,
  Cert.ProjC.frame_p, Cert.ProjC.frame_pi, Cert.ProjC.frame_ri, Cert.NextC.frame_p, Cert.NextC.frame_pi, Cert.NextC.frame_ri,
  Cert.GlaC.frame_p, Cert.GlaC.frame_pi, Cert.GlaC.frame_ri, Cert.MixC.frame_p, Cert.MixC.frame_pi, Cert.MixC.frame_ri,
  Cert.Flash.preserves, Cert.Flash.algebraic, Cert.ProjC.preserves, Cert.ProjC.algebraic, Cert.NextC.preserves, Cert.NextC.algebraic,
  Cert.GlaC.preserves, Cert.GlaC.algebraic, Cert.MixC.preserves, Cert.MixC.algebraic⟩

end Cert.Proof

end
